-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelDff2 (m : (ℓ : Loc Cert.KernelDff2.nD Cert.KernelDff2.τ Cert.KernelDff2.sig) → Buf (Elt Bits) ℓ) : Prop :=
  True

def Pre_KernelDff2Ideal (m : (ℓ : Loc Cert.KernelDff2Ideal.nD Cert.KernelDff2Ideal.τ Cert.KernelDff2Ideal.sig) → Buf (Elt Ideal) ℓ) : Prop :=
  True

def Pre_ReferenceDff2Ideal (m : (ℓ : Loc Cert.ReferenceDff2Ideal.nD Cert.ReferenceDff2Ideal.τ Cert.ReferenceDff2Ideal.sig) → Buf (Elt Ideal) ℓ) : Prop :=
  True

def Pre_KernelGwFf2 (m : (ℓ : Loc Cert.KernelGwFf2.nD Cert.KernelGwFf2.τ Cert.KernelGwFf2.sig) → Buf (Elt Bits) ℓ) : Prop :=
  True

def Pre_KernelGwFf2Ideal (m : (ℓ : Loc Cert.KernelGwFf2Ideal.nD Cert.KernelGwFf2Ideal.τ Cert.KernelGwFf2Ideal.sig) → Buf (Elt Ideal) ℓ) : Prop :=
  True

def Pre_ReferenceGwFf2Ideal (m : (ℓ : Loc Cert.ReferenceGwFf2Ideal.nD Cert.ReferenceGwFf2Ideal.τ Cert.ReferenceGwFf2Ideal.sig) → Buf (Elt Ideal) ℓ) : Prop :=
  True

def Pre_KernelGwFf1 (m : (ℓ : Loc Cert.KernelGwFf1.nD Cert.KernelGwFf1.τ Cert.KernelGwFf1.sig) → Buf (Elt Bits) ℓ) : Prop :=
  True

def Pre_KernelGwFf1Ideal (m : (ℓ : Loc Cert.KernelGwFf1Ideal.nD Cert.KernelGwFf1Ideal.τ Cert.KernelGwFf1Ideal.sig) → Buf (Elt Ideal) ℓ) : Prop :=
  True

def Pre_ReferenceGwFf1Ideal (m : (ℓ : Loc Cert.ReferenceGwFf1Ideal.nD Cert.ReferenceGwFf1Ideal.τ Cert.ReferenceGwFf1Ideal.sig) → Buf (Elt Ideal) ℓ) : Prop :=
  True

def Pre_KernelDff1 (m : (ℓ : Loc Cert.KernelDff1.nD Cert.KernelDff1.τ Cert.KernelDff1.sig) → Buf (Elt Bits) ℓ) : Prop :=
  True

def Pre_KernelDff1Ideal (m : (ℓ : Loc Cert.KernelDff1Ideal.nD Cert.KernelDff1Ideal.τ Cert.KernelDff1Ideal.sig) → Buf (Elt Ideal) ℓ) : Prop :=
  True

def Pre_ReferenceDff1Ideal (m : (ℓ : Loc Cert.ReferenceDff1Ideal.nD Cert.ReferenceDff1Ideal.τ Cert.ReferenceDff1Ideal.sig) → Buf (Elt Ideal) ℓ) : Prop :=
  True

def Pre_KernelNorm1 (m : (ℓ : Loc Cert.KernelNorm1.nD Cert.KernelNorm1.τ Cert.KernelNorm1.sig) → Buf (Elt Bits) ℓ) : Prop :=
  True

def Pre_KernelNorm1Ideal (m : (ℓ : Loc Cert.KernelNorm1Ideal.nD Cert.KernelNorm1Ideal.τ Cert.KernelNorm1Ideal.sig) → Buf (Elt Ideal) ℓ) : Prop :=
  True

def Pre_ReferenceNorm1Ideal (m : (ℓ : Loc Cert.ReferenceNorm1Ideal.nD Cert.ReferenceNorm1Ideal.τ Cert.ReferenceNorm1Ideal.sig) → Buf (Elt Ideal) ℓ) : Prop :=
  True

def Pre_KernelNorm2 (m : (ℓ : Loc Cert.KernelNorm2.nD Cert.KernelNorm2.τ Cert.KernelNorm2.sig) → Buf (Elt Bits) ℓ) : Prop :=
  True

def Pre_KernelNorm2Ideal (m : (ℓ : Loc Cert.KernelNorm2Ideal.nD Cert.KernelNorm2Ideal.τ Cert.KernelNorm2Ideal.sig) → Buf (Elt Ideal) ℓ) : Prop :=
  True

def Pre_ReferenceNorm2Ideal (m : (ℓ : Loc Cert.ReferenceNorm2Ideal.nD Cert.ReferenceNorm2Ideal.τ Cert.ReferenceNorm2Ideal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_ReferenceDoutIdeal (m : (ℓ : Loc Cert.ReferenceDoutIdeal.nD Cert.ReferenceDoutIdeal.τ Cert.ReferenceDoutIdeal.sig) → Buf (Elt Ideal) ℓ) : Prop :=
  True

def Pre_KernelGwOut (m : (ℓ : Loc Cert.KernelGwOut.nD Cert.KernelGwOut.τ Cert.KernelGwOut.sig) → Buf (Elt Bits) ℓ) : Prop :=
  True

def Pre_KernelGwOutIdeal (m : (ℓ : Loc Cert.KernelGwOutIdeal.nD Cert.KernelGwOutIdeal.τ Cert.KernelGwOutIdeal.sig) → Buf (Elt Ideal) ℓ) : Prop :=
  True

def Pre_ReferenceGwOutIdeal (m : (ℓ : Loc Cert.ReferenceGwOutIdeal.nD Cert.ReferenceGwOutIdeal.τ Cert.ReferenceGwOutIdeal.sig) → Buf (Elt Ideal) ℓ) : Prop :=
  True

def Pre_KernelGwIn (m : (ℓ : Loc Cert.KernelGwIn.nD Cert.KernelGwIn.τ Cert.KernelGwIn.sig) → Buf (Elt Bits) ℓ) : Prop :=
  True

def Pre_KernelGwInIdeal (m : (ℓ : Loc Cert.KernelGwInIdeal.nD Cert.KernelGwInIdeal.τ Cert.KernelGwInIdeal.sig) → Buf (Elt Ideal) ℓ) : Prop :=
  True

def Pre_ReferenceGwInIdeal (m : (ℓ : Loc Cert.ReferenceGwInIdeal.nD Cert.ReferenceGwInIdeal.τ Cert.ReferenceGwInIdeal.sig) → Buf (Elt Ideal) ℓ) : Prop :=
  True

def Pre_KernelDin (m : (ℓ : Loc Cert.KernelDin.nD Cert.KernelDin.τ Cert.KernelDin.sig) → Buf (Elt Bits) ℓ) : Prop :=
  True

def Pre_KernelDinIdeal (m : (ℓ : Loc Cert.KernelDinIdeal.nD Cert.KernelDinIdeal.τ Cert.KernelDinIdeal.sig) → Buf (Elt Ideal) ℓ) : Prop :=
  True

def Pre_ReferenceDinIdeal (m : (ℓ : Loc Cert.ReferenceDinIdeal.nD Cert.ReferenceDinIdeal.τ Cert.ReferenceDinIdeal.sig) → Buf (Elt Ideal) ℓ) : Prop :=
  True

def Pre_KernelGwGlu (m : (ℓ : Loc Cert.KernelGwGlu.nD Cert.KernelGwGlu.τ Cert.KernelGwGlu.sig) → Buf (Elt Bits) ℓ) : Prop :=
  True

def Pre_KernelGwGluIdeal (m : (ℓ : Loc Cert.KernelGwGluIdeal.nD Cert.KernelGwGluIdeal.τ Cert.KernelGwGluIdeal.sig) → Buf (Elt Ideal) ℓ) : Prop :=
  True

def Pre_ReferenceGwGluIdeal (m : (ℓ : Loc Cert.ReferenceGwGluIdeal.nD Cert.ReferenceGwGluIdeal.τ Cert.ReferenceGwGluIdeal.sig) → Buf (Elt Ideal) ℓ) : Prop :=
  True

def Pre_KernelFf1 (m : (ℓ : Loc Cert.KernelFf1.nD Cert.KernelFf1.τ Cert.KernelFf1.sig) → Buf (Elt Bits) ℓ) : Prop :=
  True

def Pre_KernelFf1Ideal (m : (ℓ : Loc Cert.KernelFf1Ideal.nD Cert.KernelFf1Ideal.τ Cert.KernelFf1Ideal.sig) → Buf (Elt Ideal) ℓ) : Prop :=
  True

def Pre_ReferenceFf1Ideal (m : (ℓ : Loc Cert.ReferenceFf1Ideal.nD Cert.ReferenceFf1Ideal.τ Cert.ReferenceFf1Ideal.sig) → Buf (Elt Ideal) ℓ) : Prop :=
  True

def Pre_KernelFf2 (m : (ℓ : Loc Cert.KernelFf2.nD Cert.KernelFf2.τ Cert.KernelFf2.sig) → Buf (Elt Bits) ℓ) : Prop :=
  True

def Pre_KernelFf2Ideal (m : (ℓ : Loc Cert.KernelFf2Ideal.nD Cert.KernelFf2Ideal.τ Cert.KernelFf2Ideal.sig) → Buf (Elt Ideal) ℓ) : Prop :=
  True

def Pre_ReferenceFf2Ideal (m : (ℓ : Loc Cert.ReferenceFf2Ideal.nD Cert.ReferenceFf2Ideal.τ Cert.ReferenceFf2Ideal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelResNorm (m : (ℓ : Loc Cert.KernelResNorm.nD Cert.KernelResNorm.τ Cert.KernelResNorm.sig) → Buf (Elt Bits) ℓ) : Prop :=
  True

def Pre_KernelResNormIdeal (m : (ℓ : Loc Cert.KernelResNormIdeal.nD Cert.KernelResNormIdeal.τ Cert.KernelResNormIdeal.sig) → Buf (Elt Ideal) ℓ) : Prop :=
  True

def Pre_ReferenceResNormIdeal (m : (ℓ : Loc Cert.ReferenceResNormIdeal.nD Cert.ReferenceResNormIdeal.τ Cert.ReferenceResNormIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDff2 [hKernelDff2 : Cert.KernelDff2.Facts] : Prop :=
  ∀ (m : (ℓ : Loc Cert.KernelDff2.nD Cert.KernelDff2.τ Cert.KernelDff2.sig) → Buf (Elt Bits) ℓ) (g : Dev Cert.KernelDff2.nD → PrngReg), Pre_KernelDff2 m →
    θ_run (Cert.KernelDff2.defs (F := Bits)) (onTc (τ := Cert.KernelDff2.τ) (Cert.KernelDff2.main (F := Bits))) ⟨m, fun _ => 0, g⟩ (fun r => (∀ c : Dev Cert.KernelDff2.nD,
      r.2.mem ((c.tc : Thread Cert.KernelDff2.nD Cert.KernelDff2.τ).loc Cert.KernelDff2.main_arg0) = m ((c.tc : Thread Cert.KernelDff2.nD Cert.KernelDff2.τ).loc Cert.KernelDff2.main_arg0)
      ∧ r.2.mem ((c.tc : Thread Cert.KernelDff2.nD Cert.KernelDff2.τ).loc Cert.KernelDff2.main_arg1) = m ((c.tc : Thread Cert.KernelDff2.nD Cert.KernelDff2.τ).loc Cert.KernelDff2.main_arg1)
      ∧ r.2.mem ((c.tc : Thread Cert.KernelDff2.nD Cert.KernelDff2.τ).loc Cert.KernelDff2.main_arg2) = m ((c.tc : Thread Cert.KernelDff2.nD Cert.KernelDff2.τ).loc Cert.KernelDff2.main_arg2))
      ∧ r.2.sem = fun _ => 0)

def quiescent_KernelDff2Ideal [hKernelDff2Ideal : Cert.KernelDff2Ideal.Facts] : Prop :=
  ∀ (m : (ℓ : Loc Cert.KernelDff2Ideal.nD Cert.KernelDff2Ideal.τ Cert.KernelDff2Ideal.sig) → Buf (Elt Ideal) ℓ) (g : Dev Cert.KernelDff2Ideal.nD → PrngReg), Pre_KernelDff2Ideal m →
    θ_run (Cert.KernelDff2Ideal.defs (F := Ideal)) (onTc (τ := Cert.KernelDff2Ideal.τ) (Cert.KernelDff2Ideal.main (F := Ideal))) ⟨m, fun _ => 0, g⟩ (fun r => (∀ c : Dev Cert.KernelDff2Ideal.nD,
      r.2.mem ((c.tc : Thread Cert.KernelDff2Ideal.nD Cert.KernelDff2Ideal.τ).loc Cert.KernelDff2Ideal.main_arg0) = m ((c.tc : Thread Cert.KernelDff2Ideal.nD Cert.KernelDff2Ideal.τ).loc Cert.KernelDff2Ideal.main_arg0)
      ∧ r.2.mem ((c.tc : Thread Cert.KernelDff2Ideal.nD Cert.KernelDff2Ideal.τ).loc Cert.KernelDff2Ideal.main_arg1) = m ((c.tc : Thread Cert.KernelDff2Ideal.nD Cert.KernelDff2Ideal.τ).loc Cert.KernelDff2Ideal.main_arg1)
      ∧ r.2.mem ((c.tc : Thread Cert.KernelDff2Ideal.nD Cert.KernelDff2Ideal.τ).loc Cert.KernelDff2Ideal.main_arg2) = m ((c.tc : Thread Cert.KernelDff2Ideal.nD Cert.KernelDff2Ideal.τ).loc Cert.KernelDff2Ideal.main_arg2))
      ∧ r.2.sem = fun _ => 0)

def quiescent_ReferenceDff2Ideal [hReferenceDff2Ideal : Cert.ReferenceDff2Ideal.Facts] : Prop :=
  ∀ (m : (ℓ : Loc Cert.ReferenceDff2Ideal.nD Cert.ReferenceDff2Ideal.τ Cert.ReferenceDff2Ideal.sig) → Buf (Elt Ideal) ℓ) (g : Dev Cert.ReferenceDff2Ideal.nD → PrngReg), Pre_ReferenceDff2Ideal m →
    θ_run (Cert.ReferenceDff2Ideal.defs (F := Ideal)) (onTc (τ := Cert.ReferenceDff2Ideal.τ) (Cert.ReferenceDff2Ideal.main (F := Ideal))) ⟨m, fun _ => 0, g⟩ (fun r => (∀ c : Dev Cert.ReferenceDff2Ideal.nD,
      r.2.mem ((c.tc : Thread Cert.ReferenceDff2Ideal.nD Cert.ReferenceDff2Ideal.τ).loc Cert.ReferenceDff2Ideal.main_arg0) = m ((c.tc : Thread Cert.ReferenceDff2Ideal.nD Cert.ReferenceDff2Ideal.τ).loc Cert.ReferenceDff2Ideal.main_arg0)
      ∧ r.2.mem ((c.tc : Thread Cert.ReferenceDff2Ideal.nD Cert.ReferenceDff2Ideal.τ).loc Cert.ReferenceDff2Ideal.main_arg1) = m ((c.tc : Thread Cert.ReferenceDff2Ideal.nD Cert.ReferenceDff2Ideal.τ).loc Cert.ReferenceDff2Ideal.main_arg1)
      ∧ r.2.mem ((c.tc : Thread Cert.ReferenceDff2Ideal.nD Cert.ReferenceDff2Ideal.τ).loc Cert.ReferenceDff2Ideal.main_arg2) = m ((c.tc : Thread Cert.ReferenceDff2Ideal.nD Cert.ReferenceDff2Ideal.τ).loc Cert.ReferenceDff2Ideal.main_arg2))
      ∧ r.2.sem = fun _ => 0)

def quiescent_KernelGwFf2 [hKernelGwFf2 : Cert.KernelGwFf2.Facts] : Prop :=
  ∀ (m : (ℓ : Loc Cert.KernelGwFf2.nD Cert.KernelGwFf2.τ Cert.KernelGwFf2.sig) → Buf (Elt Bits) ℓ) (g : Dev Cert.KernelGwFf2.nD → PrngReg), Pre_KernelGwFf2 m →
    θ_run (Cert.KernelGwFf2.defs (F := Bits)) (onTc (τ := Cert.KernelGwFf2.τ) (Cert.KernelGwFf2.main (F := Bits))) ⟨m, fun _ => 0, g⟩ (fun r => (∀ c : Dev Cert.KernelGwFf2.nD,
      r.2.mem ((c.tc : Thread Cert.KernelGwFf2.nD Cert.KernelGwFf2.τ).loc Cert.KernelGwFf2.main_arg0) = m ((c.tc : Thread Cert.KernelGwFf2.nD Cert.KernelGwFf2.τ).loc Cert.KernelGwFf2.main_arg0)
      ∧ r.2.mem ((c.tc : Thread Cert.KernelGwFf2.nD Cert.KernelGwFf2.τ).loc Cert.KernelGwFf2.main_arg1) = m ((c.tc : Thread Cert.KernelGwFf2.nD Cert.KernelGwFf2.τ).loc Cert.KernelGwFf2.main_arg1)
      ∧ r.2.mem ((c.tc : Thread Cert.KernelGwFf2.nD Cert.KernelGwFf2.τ).loc Cert.KernelGwFf2.main_arg2) = m ((c.tc : Thread Cert.KernelGwFf2.nD Cert.KernelGwFf2.τ).loc Cert.KernelGwFf2.main_arg2))
      ∧ r.2.sem = fun _ => 0)

def quiescent_KernelGwFf2Ideal [hKernelGwFf2Ideal : Cert.KernelGwFf2Ideal.Facts] : Prop :=
  ∀ (m : (ℓ : Loc Cert.KernelGwFf2Ideal.nD Cert.KernelGwFf2Ideal.τ Cert.KernelGwFf2Ideal.sig) → Buf (Elt Ideal) ℓ) (g : Dev Cert.KernelGwFf2Ideal.nD → PrngReg), Pre_KernelGwFf2Ideal m →
    θ_run (Cert.KernelGwFf2Ideal.defs (F := Ideal)) (onTc (τ := Cert.KernelGwFf2Ideal.τ) (Cert.KernelGwFf2Ideal.main (F := Ideal))) ⟨m, fun _ => 0, g⟩ (fun r => (∀ c : Dev Cert.KernelGwFf2Ideal.nD,
      r.2.mem ((c.tc : Thread Cert.KernelGwFf2Ideal.nD Cert.KernelGwFf2Ideal.τ).loc Cert.KernelGwFf2Ideal.main_arg0) = m ((c.tc : Thread Cert.KernelGwFf2Ideal.nD Cert.KernelGwFf2Ideal.τ).loc Cert.KernelGwFf2Ideal.main_arg0)
      ∧ r.2.mem ((c.tc : Thread Cert.KernelGwFf2Ideal.nD Cert.KernelGwFf2Ideal.τ).loc Cert.KernelGwFf2Ideal.main_arg1) = m ((c.tc : Thread Cert.KernelGwFf2Ideal.nD Cert.KernelGwFf2Ideal.τ).loc Cert.KernelGwFf2Ideal.main_arg1)
      ∧ r.2.mem ((c.tc : Thread Cert.KernelGwFf2Ideal.nD Cert.KernelGwFf2Ideal.τ).loc Cert.KernelGwFf2Ideal.main_arg2) = m ((c.tc : Thread Cert.KernelGwFf2Ideal.nD Cert.KernelGwFf2Ideal.τ).loc Cert.KernelGwFf2Ideal.main_arg2))
      ∧ r.2.sem = fun _ => 0)

def quiescent_ReferenceGwFf2Ideal [hReferenceGwFf2Ideal : Cert.ReferenceGwFf2Ideal.Facts] : Prop :=
  ∀ (m : (ℓ : Loc Cert.ReferenceGwFf2Ideal.nD Cert.ReferenceGwFf2Ideal.τ Cert.ReferenceGwFf2Ideal.sig) → Buf (Elt Ideal) ℓ) (g : Dev Cert.ReferenceGwFf2Ideal.nD → PrngReg), Pre_ReferenceGwFf2Ideal m →
    θ_run (Cert.ReferenceGwFf2Ideal.defs (F := Ideal)) (onTc (τ := Cert.ReferenceGwFf2Ideal.τ) (Cert.ReferenceGwFf2Ideal.main (F := Ideal))) ⟨m, fun _ => 0, g⟩ (fun r => (∀ c : Dev Cert.ReferenceGwFf2Ideal.nD,
      r.2.mem ((c.tc : Thread Cert.ReferenceGwFf2Ideal.nD Cert.ReferenceGwFf2Ideal.τ).loc Cert.ReferenceGwFf2Ideal.main_arg0) = m ((c.tc : Thread Cert.ReferenceGwFf2Ideal.nD Cert.ReferenceGwFf2Ideal.τ).loc Cert.ReferenceGwFf2Ideal.main_arg0)
      ∧ r.2.mem ((c.tc : Thread Cert.ReferenceGwFf2Ideal.nD Cert.ReferenceGwFf2Ideal.τ).loc Cert.ReferenceGwFf2Ideal.main_arg1) = m ((c.tc : Thread Cert.ReferenceGwFf2Ideal.nD Cert.ReferenceGwFf2Ideal.τ).loc Cert.ReferenceGwFf2Ideal.main_arg1)
      ∧ r.2.mem ((c.tc : Thread Cert.ReferenceGwFf2Ideal.nD Cert.ReferenceGwFf2Ideal.τ).loc Cert.ReferenceGwFf2Ideal.main_arg2) = m ((c.tc : Thread Cert.ReferenceGwFf2Ideal.nD Cert.ReferenceGwFf2Ideal.τ).loc Cert.ReferenceGwFf2Ideal.main_arg2))
      ∧ r.2.sem = fun _ => 0)

def quiescent_KernelGwFf1 [hKernelGwFf1 : Cert.KernelGwFf1.Facts] : Prop :=
  ∀ (m : (ℓ : Loc Cert.KernelGwFf1.nD Cert.KernelGwFf1.τ Cert.KernelGwFf1.sig) → Buf (Elt Bits) ℓ) (g : Dev Cert.KernelGwFf1.nD → PrngReg), Pre_KernelGwFf1 m →
    θ_run (Cert.KernelGwFf1.defs (F := Bits)) (onTc (τ := Cert.KernelGwFf1.τ) (Cert.KernelGwFf1.main (F := Bits))) ⟨m, fun _ => 0, g⟩ (fun r => (∀ c : Dev Cert.KernelGwFf1.nD,
      r.2.mem ((c.tc : Thread Cert.KernelGwFf1.nD Cert.KernelGwFf1.τ).loc Cert.KernelGwFf1.main_arg0) = m ((c.tc : Thread Cert.KernelGwFf1.nD Cert.KernelGwFf1.τ).loc Cert.KernelGwFf1.main_arg0)
      ∧ r.2.mem ((c.tc : Thread Cert.KernelGwFf1.nD Cert.KernelGwFf1.τ).loc Cert.KernelGwFf1.main_arg1) = m ((c.tc : Thread Cert.KernelGwFf1.nD Cert.KernelGwFf1.τ).loc Cert.KernelGwFf1.main_arg1)
      ∧ r.2.mem ((c.tc : Thread Cert.KernelGwFf1.nD Cert.KernelGwFf1.τ).loc Cert.KernelGwFf1.main_arg2) = m ((c.tc : Thread Cert.KernelGwFf1.nD Cert.KernelGwFf1.τ).loc Cert.KernelGwFf1.main_arg2))
      ∧ r.2.sem = fun _ => 0)

def quiescent_KernelGwFf1Ideal [hKernelGwFf1Ideal : Cert.KernelGwFf1Ideal.Facts] : Prop :=
  ∀ (m : (ℓ : Loc Cert.KernelGwFf1Ideal.nD Cert.KernelGwFf1Ideal.τ Cert.KernelGwFf1Ideal.sig) → Buf (Elt Ideal) ℓ) (g : Dev Cert.KernelGwFf1Ideal.nD → PrngReg), Pre_KernelGwFf1Ideal m →
    θ_run (Cert.KernelGwFf1Ideal.defs (F := Ideal)) (onTc (τ := Cert.KernelGwFf1Ideal.τ) (Cert.KernelGwFf1Ideal.main (F := Ideal))) ⟨m, fun _ => 0, g⟩ (fun r => (∀ c : Dev Cert.KernelGwFf1Ideal.nD,
      r.2.mem ((c.tc : Thread Cert.KernelGwFf1Ideal.nD Cert.KernelGwFf1Ideal.τ).loc Cert.KernelGwFf1Ideal.main_arg0) = m ((c.tc : Thread Cert.KernelGwFf1Ideal.nD Cert.KernelGwFf1Ideal.τ).loc Cert.KernelGwFf1Ideal.main_arg0)
      ∧ r.2.mem ((c.tc : Thread Cert.KernelGwFf1Ideal.nD Cert.KernelGwFf1Ideal.τ).loc Cert.KernelGwFf1Ideal.main_arg1) = m ((c.tc : Thread Cert.KernelGwFf1Ideal.nD Cert.KernelGwFf1Ideal.τ).loc Cert.KernelGwFf1Ideal.main_arg1)
      ∧ r.2.mem ((c.tc : Thread Cert.KernelGwFf1Ideal.nD Cert.KernelGwFf1Ideal.τ).loc Cert.KernelGwFf1Ideal.main_arg2) = m ((c.tc : Thread Cert.KernelGwFf1Ideal.nD Cert.KernelGwFf1Ideal.τ).loc Cert.KernelGwFf1Ideal.main_arg2))
      ∧ r.2.sem = fun _ => 0)

def quiescent_ReferenceGwFf1Ideal [hReferenceGwFf1Ideal : Cert.ReferenceGwFf1Ideal.Facts] : Prop :=
  ∀ (m : (ℓ : Loc Cert.ReferenceGwFf1Ideal.nD Cert.ReferenceGwFf1Ideal.τ Cert.ReferenceGwFf1Ideal.sig) → Buf (Elt Ideal) ℓ) (g : Dev Cert.ReferenceGwFf1Ideal.nD → PrngReg), Pre_ReferenceGwFf1Ideal m →
    θ_run (Cert.ReferenceGwFf1Ideal.defs (F := Ideal)) (onTc (τ := Cert.ReferenceGwFf1Ideal.τ) (Cert.ReferenceGwFf1Ideal.main (F := Ideal))) ⟨m, fun _ => 0, g⟩ (fun r => (∀ c : Dev Cert.ReferenceGwFf1Ideal.nD,
      r.2.mem ((c.tc : Thread Cert.ReferenceGwFf1Ideal.nD Cert.ReferenceGwFf1Ideal.τ).loc Cert.ReferenceGwFf1Ideal.main_arg0) = m ((c.tc : Thread Cert.ReferenceGwFf1Ideal.nD Cert.ReferenceGwFf1Ideal.τ).loc Cert.ReferenceGwFf1Ideal.main_arg0)
      ∧ r.2.mem ((c.tc : Thread Cert.ReferenceGwFf1Ideal.nD Cert.ReferenceGwFf1Ideal.τ).loc Cert.ReferenceGwFf1Ideal.main_arg1) = m ((c.tc : Thread Cert.ReferenceGwFf1Ideal.nD Cert.ReferenceGwFf1Ideal.τ).loc Cert.ReferenceGwFf1Ideal.main_arg1)
      ∧ r.2.mem ((c.tc : Thread Cert.ReferenceGwFf1Ideal.nD Cert.ReferenceGwFf1Ideal.τ).loc Cert.ReferenceGwFf1Ideal.main_arg2) = m ((c.tc : Thread Cert.ReferenceGwFf1Ideal.nD Cert.ReferenceGwFf1Ideal.τ).loc Cert.ReferenceGwFf1Ideal.main_arg2))
      ∧ r.2.sem = fun _ => 0)

def quiescent_KernelDff1 [hKernelDff1 : Cert.KernelDff1.Facts] : Prop :=
  ∀ (m : (ℓ : Loc Cert.KernelDff1.nD Cert.KernelDff1.τ Cert.KernelDff1.sig) → Buf (Elt Bits) ℓ) (g : Dev Cert.KernelDff1.nD → PrngReg), Pre_KernelDff1 m →
    θ_run (Cert.KernelDff1.defs (F := Bits)) (onTc (τ := Cert.KernelDff1.τ) (Cert.KernelDff1.main (F := Bits))) ⟨m, fun _ => 0, g⟩ (fun r => (∀ c : Dev Cert.KernelDff1.nD,
      r.2.mem ((c.tc : Thread Cert.KernelDff1.nD Cert.KernelDff1.τ).loc Cert.KernelDff1.main_arg0) = m ((c.tc : Thread Cert.KernelDff1.nD Cert.KernelDff1.τ).loc Cert.KernelDff1.main_arg0)
      ∧ r.2.mem ((c.tc : Thread Cert.KernelDff1.nD Cert.KernelDff1.τ).loc Cert.KernelDff1.main_arg1) = m ((c.tc : Thread Cert.KernelDff1.nD Cert.KernelDff1.τ).loc Cert.KernelDff1.main_arg1)
      ∧ r.2.mem ((c.tc : Thread Cert.KernelDff1.nD Cert.KernelDff1.τ).loc Cert.KernelDff1.main_arg2) = m ((c.tc : Thread Cert.KernelDff1.nD Cert.KernelDff1.τ).loc Cert.KernelDff1.main_arg2))
      ∧ r.2.sem = fun _ => 0)

def quiescent_KernelDff1Ideal [hKernelDff1Ideal : Cert.KernelDff1Ideal.Facts] : Prop :=
  ∀ (m : (ℓ : Loc Cert.KernelDff1Ideal.nD Cert.KernelDff1Ideal.τ Cert.KernelDff1Ideal.sig) → Buf (Elt Ideal) ℓ) (g : Dev Cert.KernelDff1Ideal.nD → PrngReg), Pre_KernelDff1Ideal m →
    θ_run (Cert.KernelDff1Ideal.defs (F := Ideal)) (onTc (τ := Cert.KernelDff1Ideal.τ) (Cert.KernelDff1Ideal.main (F := Ideal))) ⟨m, fun _ => 0, g⟩ (fun r => (∀ c : Dev Cert.KernelDff1Ideal.nD,
      r.2.mem ((c.tc : Thread Cert.KernelDff1Ideal.nD Cert.KernelDff1Ideal.τ).loc Cert.KernelDff1Ideal.main_arg0) = m ((c.tc : Thread Cert.KernelDff1Ideal.nD Cert.KernelDff1Ideal.τ).loc Cert.KernelDff1Ideal.main_arg0)
      ∧ r.2.mem ((c.tc : Thread Cert.KernelDff1Ideal.nD Cert.KernelDff1Ideal.τ).loc Cert.KernelDff1Ideal.main_arg1) = m ((c.tc : Thread Cert.KernelDff1Ideal.nD Cert.KernelDff1Ideal.τ).loc Cert.KernelDff1Ideal.main_arg1)
      ∧ r.2.mem ((c.tc : Thread Cert.KernelDff1Ideal.nD Cert.KernelDff1Ideal.τ).loc Cert.KernelDff1Ideal.main_arg2) = m ((c.tc : Thread Cert.KernelDff1Ideal.nD Cert.KernelDff1Ideal.τ).loc Cert.KernelDff1Ideal.main_arg2))
      ∧ r.2.sem = fun _ => 0)

def quiescent_ReferenceDff1Ideal [hReferenceDff1Ideal : Cert.ReferenceDff1Ideal.Facts] : Prop :=
  ∀ (m : (ℓ : Loc Cert.ReferenceDff1Ideal.nD Cert.ReferenceDff1Ideal.τ Cert.ReferenceDff1Ideal.sig) → Buf (Elt Ideal) ℓ) (g : Dev Cert.ReferenceDff1Ideal.nD → PrngReg), Pre_ReferenceDff1Ideal m →
    θ_run (Cert.ReferenceDff1Ideal.defs (F := Ideal)) (onTc (τ := Cert.ReferenceDff1Ideal.τ) (Cert.ReferenceDff1Ideal.main (F := Ideal))) ⟨m, fun _ => 0, g⟩ (fun r => (∀ c : Dev Cert.ReferenceDff1Ideal.nD,
      r.2.mem ((c.tc : Thread Cert.ReferenceDff1Ideal.nD Cert.ReferenceDff1Ideal.τ).loc Cert.ReferenceDff1Ideal.main_arg0) = m ((c.tc : Thread Cert.ReferenceDff1Ideal.nD Cert.ReferenceDff1Ideal.τ).loc Cert.ReferenceDff1Ideal.main_arg0)
      ∧ r.2.mem ((c.tc : Thread Cert.ReferenceDff1Ideal.nD Cert.ReferenceDff1Ideal.τ).loc Cert.ReferenceDff1Ideal.main_arg1) = m ((c.tc : Thread Cert.ReferenceDff1Ideal.nD Cert.ReferenceDff1Ideal.τ).loc Cert.ReferenceDff1Ideal.main_arg1)
      ∧ r.2.mem ((c.tc : Thread Cert.ReferenceDff1Ideal.nD Cert.ReferenceDff1Ideal.τ).loc Cert.ReferenceDff1Ideal.main_arg2) = m ((c.tc : Thread Cert.ReferenceDff1Ideal.nD Cert.ReferenceDff1Ideal.τ).loc Cert.ReferenceDff1Ideal.main_arg2))
      ∧ r.2.sem = fun _ => 0)

def quiescent_KernelNorm1 [hKernelNorm1 : Cert.KernelNorm1.Facts] : Prop :=
  ∀ (m : (ℓ : Loc Cert.KernelNorm1.nD Cert.KernelNorm1.τ Cert.KernelNorm1.sig) → Buf (Elt Bits) ℓ) (g : Dev Cert.KernelNorm1.nD → PrngReg), Pre_KernelNorm1 m →
    θ_run (Cert.KernelNorm1.defs (F := Bits)) (onTc (τ := Cert.KernelNorm1.τ) (Cert.KernelNorm1.main (F := Bits))) ⟨m, fun _ => 0, g⟩ (fun r => (∀ c : Dev Cert.KernelNorm1.nD,
      r.2.mem ((c.tc : Thread Cert.KernelNorm1.nD Cert.KernelNorm1.τ).loc Cert.KernelNorm1.main_arg0) = m ((c.tc : Thread Cert.KernelNorm1.nD Cert.KernelNorm1.τ).loc Cert.KernelNorm1.main_arg0)
      ∧ r.2.mem ((c.tc : Thread Cert.KernelNorm1.nD Cert.KernelNorm1.τ).loc Cert.KernelNorm1.main_arg1) = m ((c.tc : Thread Cert.KernelNorm1.nD Cert.KernelNorm1.τ).loc Cert.KernelNorm1.main_arg1)
      ∧ r.2.mem ((c.tc : Thread Cert.KernelNorm1.nD Cert.KernelNorm1.τ).loc Cert.KernelNorm1.main_arg2) = m ((c.tc : Thread Cert.KernelNorm1.nD Cert.KernelNorm1.τ).loc Cert.KernelNorm1.main_arg2)
      ∧ r.2.mem ((c.tc : Thread Cert.KernelNorm1.nD Cert.KernelNorm1.τ).loc Cert.KernelNorm1.main_arg3) = m ((c.tc : Thread Cert.KernelNorm1.nD Cert.KernelNorm1.τ).loc Cert.KernelNorm1.main_arg3)
      ∧ r.2.mem ((c.tc : Thread Cert.KernelNorm1.nD Cert.KernelNorm1.τ).loc Cert.KernelNorm1.main_arg4) = m ((c.tc : Thread Cert.KernelNorm1.nD Cert.KernelNorm1.τ).loc Cert.KernelNorm1.main_arg4))
      ∧ r.2.sem = fun _ => 0)

def quiescent_KernelNorm1Ideal [hKernelNorm1Ideal : Cert.KernelNorm1Ideal.Facts] : Prop :=
  ∀ (m : (ℓ : Loc Cert.KernelNorm1Ideal.nD Cert.KernelNorm1Ideal.τ Cert.KernelNorm1Ideal.sig) → Buf (Elt Ideal) ℓ) (g : Dev Cert.KernelNorm1Ideal.nD → PrngReg), Pre_KernelNorm1Ideal m →
    θ_run (Cert.KernelNorm1Ideal.defs (F := Ideal)) (onTc (τ := Cert.KernelNorm1Ideal.τ) (Cert.KernelNorm1Ideal.main (F := Ideal))) ⟨m, fun _ => 0, g⟩ (fun r => (∀ c : Dev Cert.KernelNorm1Ideal.nD,
      r.2.mem ((c.tc : Thread Cert.KernelNorm1Ideal.nD Cert.KernelNorm1Ideal.τ).loc Cert.KernelNorm1Ideal.main_arg0) = m ((c.tc : Thread Cert.KernelNorm1Ideal.nD Cert.KernelNorm1Ideal.τ).loc Cert.KernelNorm1Ideal.main_arg0)
      ∧ r.2.mem ((c.tc : Thread Cert.KernelNorm1Ideal.nD Cert.KernelNorm1Ideal.τ).loc Cert.KernelNorm1Ideal.main_arg1) = m ((c.tc : Thread Cert.KernelNorm1Ideal.nD Cert.KernelNorm1Ideal.τ).loc Cert.KernelNorm1Ideal.main_arg1)
      ∧ r.2.mem ((c.tc : Thread Cert.KernelNorm1Ideal.nD Cert.KernelNorm1Ideal.τ).loc Cert.KernelNorm1Ideal.main_arg2) = m ((c.tc : Thread Cert.KernelNorm1Ideal.nD Cert.KernelNorm1Ideal.τ).loc Cert.KernelNorm1Ideal.main_arg2)
      ∧ r.2.mem ((c.tc : Thread Cert.KernelNorm1Ideal.nD Cert.KernelNorm1Ideal.τ).loc Cert.KernelNorm1Ideal.main_arg3) = m ((c.tc : Thread Cert.KernelNorm1Ideal.nD Cert.KernelNorm1Ideal.τ).loc Cert.KernelNorm1Ideal.main_arg3)
      ∧ r.2.mem ((c.tc : Thread Cert.KernelNorm1Ideal.nD Cert.KernelNorm1Ideal.τ).loc Cert.KernelNorm1Ideal.main_arg4) = m ((c.tc : Thread Cert.KernelNorm1Ideal.nD Cert.KernelNorm1Ideal.τ).loc Cert.KernelNorm1Ideal.main_arg4))
      ∧ r.2.sem = fun _ => 0)

def quiescent_ReferenceNorm1Ideal [hReferenceNorm1Ideal : Cert.ReferenceNorm1Ideal.Facts] : Prop :=
  ∀ (m : (ℓ : Loc Cert.ReferenceNorm1Ideal.nD Cert.ReferenceNorm1Ideal.τ Cert.ReferenceNorm1Ideal.sig) → Buf (Elt Ideal) ℓ) (g : Dev Cert.ReferenceNorm1Ideal.nD → PrngReg), Pre_ReferenceNorm1Ideal m →
    θ_run (Cert.ReferenceNorm1Ideal.defs (F := Ideal)) (onTc (τ := Cert.ReferenceNorm1Ideal.τ) (Cert.ReferenceNorm1Ideal.main (F := Ideal))) ⟨m, fun _ => 0, g⟩ (fun r => (∀ c : Dev Cert.ReferenceNorm1Ideal.nD,
      r.2.mem ((c.tc : Thread Cert.ReferenceNorm1Ideal.nD Cert.ReferenceNorm1Ideal.τ).loc Cert.ReferenceNorm1Ideal.main_arg0) = m ((c.tc : Thread Cert.ReferenceNorm1Ideal.nD Cert.ReferenceNorm1Ideal.τ).loc Cert.ReferenceNorm1Ideal.main_arg0)
      ∧ r.2.mem ((c.tc : Thread Cert.ReferenceNorm1Ideal.nD Cert.ReferenceNorm1Ideal.τ).loc Cert.ReferenceNorm1Ideal.main_arg1) = m ((c.tc : Thread Cert.ReferenceNorm1Ideal.nD Cert.ReferenceNorm1Ideal.τ).loc Cert.ReferenceNorm1Ideal.main_arg1)
      ∧ r.2.mem ((c.tc : Thread Cert.ReferenceNorm1Ideal.nD Cert.ReferenceNorm1Ideal.τ).loc Cert.ReferenceNorm1Ideal.main_arg2) = m ((c.tc : Thread Cert.ReferenceNorm1Ideal.nD Cert.ReferenceNorm1Ideal.τ).loc Cert.ReferenceNorm1Ideal.main_arg2)
      ∧ r.2.mem ((c.tc : Thread Cert.ReferenceNorm1Ideal.nD Cert.ReferenceNorm1Ideal.τ).loc Cert.ReferenceNorm1Ideal.main_arg3) = m ((c.tc : Thread Cert.ReferenceNorm1Ideal.nD Cert.ReferenceNorm1Ideal.τ).loc Cert.ReferenceNorm1Ideal.main_arg3)
      ∧ r.2.mem ((c.tc : Thread Cert.ReferenceNorm1Ideal.nD Cert.ReferenceNorm1Ideal.τ).loc Cert.ReferenceNorm1Ideal.main_arg4) = m ((c.tc : Thread Cert.ReferenceNorm1Ideal.nD Cert.ReferenceNorm1Ideal.τ).loc Cert.ReferenceNorm1Ideal.main_arg4))
      ∧ r.2.sem = fun _ => 0)

def quiescent_KernelNorm2 [hKernelNorm2 : Cert.KernelNorm2.Facts] : Prop :=
  ∀ (m : (ℓ : Loc Cert.KernelNorm2.nD Cert.KernelNorm2.τ Cert.KernelNorm2.sig) → Buf (Elt Bits) ℓ) (g : Dev Cert.KernelNorm2.nD → PrngReg), Pre_KernelNorm2 m →
    θ_run (Cert.KernelNorm2.defs (F := Bits)) (onTc (τ := Cert.KernelNorm2.τ) (Cert.KernelNorm2.main (F := Bits))) ⟨m, fun _ => 0, g⟩ (fun r => (∀ c : Dev Cert.KernelNorm2.nD,
      r.2.mem ((c.tc : Thread Cert.KernelNorm2.nD Cert.KernelNorm2.τ).loc Cert.KernelNorm2.main_arg0) = m ((c.tc : Thread Cert.KernelNorm2.nD Cert.KernelNorm2.τ).loc Cert.KernelNorm2.main_arg0)
      ∧ r.2.mem ((c.tc : Thread Cert.KernelNorm2.nD Cert.KernelNorm2.τ).loc Cert.KernelNorm2.main_arg1) = m ((c.tc : Thread Cert.KernelNorm2.nD Cert.KernelNorm2.τ).loc Cert.KernelNorm2.main_arg1)
      ∧ r.2.mem ((c.tc : Thread Cert.KernelNorm2.nD Cert.KernelNorm2.τ).loc Cert.KernelNorm2.main_arg2) = m ((c.tc : Thread Cert.KernelNorm2.nD Cert.KernelNorm2.τ).loc Cert.KernelNorm2.main_arg2)
      ∧ r.2.mem ((c.tc : Thread Cert.KernelNorm2.nD Cert.KernelNorm2.τ).loc Cert.KernelNorm2.main_arg3) = m ((c.tc : Thread Cert.KernelNorm2.nD Cert.KernelNorm2.τ).loc Cert.KernelNorm2.main_arg3)
      ∧ r.2.mem ((c.tc : Thread Cert.KernelNorm2.nD Cert.KernelNorm2.τ).loc Cert.KernelNorm2.main_arg4) = m ((c.tc : Thread Cert.KernelNorm2.nD Cert.KernelNorm2.τ).loc Cert.KernelNorm2.main_arg4)
      ∧ r.2.mem ((c.tc : Thread Cert.KernelNorm2.nD Cert.KernelNorm2.τ).loc Cert.KernelNorm2.main_arg5) = m ((c.tc : Thread Cert.KernelNorm2.nD Cert.KernelNorm2.τ).loc Cert.KernelNorm2.main_arg5)
      ∧ r.2.mem ((c.tc : Thread Cert.KernelNorm2.nD Cert.KernelNorm2.τ).loc Cert.KernelNorm2.main_arg6) = m ((c.tc : Thread Cert.KernelNorm2.nD Cert.KernelNorm2.τ).loc Cert.KernelNorm2.main_arg6))
      ∧ r.2.sem = fun _ => 0)

def quiescent_KernelNorm2Ideal [hKernelNorm2Ideal : Cert.KernelNorm2Ideal.Facts] : Prop :=
  ∀ (m : (ℓ : Loc Cert.KernelNorm2Ideal.nD Cert.KernelNorm2Ideal.τ Cert.KernelNorm2Ideal.sig) → Buf (Elt Ideal) ℓ) (g : Dev Cert.KernelNorm2Ideal.nD → PrngReg), Pre_KernelNorm2Ideal m →
    θ_run (Cert.KernelNorm2Ideal.defs (F := Ideal)) (onTc (τ := Cert.KernelNorm2Ideal.τ) (Cert.KernelNorm2Ideal.main (F := Ideal))) ⟨m, fun _ => 0, g⟩ (fun r => (∀ c : Dev Cert.KernelNorm2Ideal.nD,
      r.2.mem ((c.tc : Thread Cert.KernelNorm2Ideal.nD Cert.KernelNorm2Ideal.τ).loc Cert.KernelNorm2Ideal.main_arg0) = m ((c.tc : Thread Cert.KernelNorm2Ideal.nD Cert.KernelNorm2Ideal.τ).loc Cert.KernelNorm2Ideal.main_arg0)
      ∧ r.2.mem ((c.tc : Thread Cert.KernelNorm2Ideal.nD Cert.KernelNorm2Ideal.τ).loc Cert.KernelNorm2Ideal.main_arg1) = m ((c.tc : Thread Cert.KernelNorm2Ideal.nD Cert.KernelNorm2Ideal.τ).loc Cert.KernelNorm2Ideal.main_arg1)
      ∧ r.2.mem ((c.tc : Thread Cert.KernelNorm2Ideal.nD Cert.KernelNorm2Ideal.τ).loc Cert.KernelNorm2Ideal.main_arg2) = m ((c.tc : Thread Cert.KernelNorm2Ideal.nD Cert.KernelNorm2Ideal.τ).loc Cert.KernelNorm2Ideal.main_arg2)
      ∧ r.2.mem ((c.tc : Thread Cert.KernelNorm2Ideal.nD Cert.KernelNorm2Ideal.τ).loc Cert.KernelNorm2Ideal.main_arg3) = m ((c.tc : Thread Cert.KernelNorm2Ideal.nD Cert.KernelNorm2Ideal.τ).loc Cert.KernelNorm2Ideal.main_arg3)
      ∧ r.2.mem ((c.tc : Thread Cert.KernelNorm2Ideal.nD Cert.KernelNorm2Ideal.τ).loc Cert.KernelNorm2Ideal.main_arg4) = m ((c.tc : Thread Cert.KernelNorm2Ideal.nD Cert.KernelNorm2Ideal.τ).loc Cert.KernelNorm2Ideal.main_arg4)
      ∧ r.2.mem ((c.tc : Thread Cert.KernelNorm2Ideal.nD Cert.KernelNorm2Ideal.τ).loc Cert.KernelNorm2Ideal.main_arg5) = m ((c.tc : Thread Cert.KernelNorm2Ideal.nD Cert.KernelNorm2Ideal.τ).loc Cert.KernelNorm2Ideal.main_arg5)
      ∧ r.2.mem ((c.tc : Thread Cert.KernelNorm2Ideal.nD Cert.KernelNorm2Ideal.τ).loc Cert.KernelNorm2Ideal.main_arg6) = m ((c.tc : Thread Cert.KernelNorm2Ideal.nD Cert.KernelNorm2Ideal.τ).loc Cert.KernelNorm2Ideal.main_arg6))
      ∧ r.2.sem = fun _ => 0)

def quiescent_ReferenceNorm2Ideal [hReferenceNorm2Ideal : Cert.ReferenceNorm2Ideal.Facts] : Prop :=
  ∀ (m : (ℓ : Loc Cert.ReferenceNorm2Ideal.nD Cert.ReferenceNorm2Ideal.τ Cert.ReferenceNorm2Ideal.sig) → Buf (Elt Ideal) ℓ) (g : Dev Cert.ReferenceNorm2Ideal.nD → PrngReg), Pre_ReferenceNorm2Ideal m →
    θ_run (Cert.ReferenceNorm2Ideal.defs (F := Ideal)) (onTc (τ := Cert.ReferenceNorm2Ideal.τ) (Cert.ReferenceNorm2Ideal.main (F := Ideal))) ⟨m, fun _ => 0, g⟩ (fun r => (∀ c : Dev Cert.ReferenceNorm2Ideal.nD,
      r.2.mem ((c.tc : Thread Cert.ReferenceNorm2Ideal.nD Cert.ReferenceNorm2Ideal.τ).loc Cert.ReferenceNorm2Ideal.main_arg0) = m ((c.tc : Thread Cert.ReferenceNorm2Ideal.nD Cert.ReferenceNorm2Ideal.τ).loc Cert.ReferenceNorm2Ideal.main_arg0)
      ∧ r.2.mem ((c.tc : Thread Cert.ReferenceNorm2Ideal.nD Cert.ReferenceNorm2Ideal.τ).loc Cert.ReferenceNorm2Ideal.main_arg1) = m ((c.tc : Thread Cert.ReferenceNorm2Ideal.nD Cert.ReferenceNorm2Ideal.τ).loc Cert.ReferenceNorm2Ideal.main_arg1)
      ∧ r.2.mem ((c.tc : Thread Cert.ReferenceNorm2Ideal.nD Cert.ReferenceNorm2Ideal.τ).loc Cert.ReferenceNorm2Ideal.main_arg2) = m ((c.tc : Thread Cert.ReferenceNorm2Ideal.nD Cert.ReferenceNorm2Ideal.τ).loc Cert.ReferenceNorm2Ideal.main_arg2)
      ∧ r.2.mem ((c.tc : Thread Cert.ReferenceNorm2Ideal.nD Cert.ReferenceNorm2Ideal.τ).loc Cert.ReferenceNorm2Ideal.main_arg3) = m ((c.tc : Thread Cert.ReferenceNorm2Ideal.nD Cert.ReferenceNorm2Ideal.τ).loc Cert.ReferenceNorm2Ideal.main_arg3)
      ∧ r.2.mem ((c.tc : Thread Cert.ReferenceNorm2Ideal.nD Cert.ReferenceNorm2Ideal.τ).loc Cert.ReferenceNorm2Ideal.main_arg4) = m ((c.tc : Thread Cert.ReferenceNorm2Ideal.nD Cert.ReferenceNorm2Ideal.τ).loc Cert.ReferenceNorm2Ideal.main_arg4)
      ∧ r.2.mem ((c.tc : Thread Cert.ReferenceNorm2Ideal.nD Cert.ReferenceNorm2Ideal.τ).loc Cert.ReferenceNorm2Ideal.main_arg5) = m ((c.tc : Thread Cert.ReferenceNorm2Ideal.nD Cert.ReferenceNorm2Ideal.τ).loc Cert.ReferenceNorm2Ideal.main_arg5)
      ∧ r.2.mem ((c.tc : Thread Cert.ReferenceNorm2Ideal.nD Cert.ReferenceNorm2Ideal.τ).loc Cert.ReferenceNorm2Ideal.main_arg6) = m ((c.tc : Thread Cert.ReferenceNorm2Ideal.nD Cert.ReferenceNorm2Ideal.τ).loc Cert.ReferenceNorm2Ideal.main_arg6))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1)
      ∧ r.2.mem ((c.tc : Thread Cert.KernelDout.nD Cert.KernelDout.τ).loc Cert.KernelDout.main_arg2) = m ((c.tc : Thread Cert.KernelDout.nD Cert.KernelDout.τ).loc Cert.KernelDout.main_arg2))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1)
      ∧ r.2.mem ((c.tc : Thread Cert.KernelDoutIdeal.nD Cert.KernelDoutIdeal.τ).loc Cert.KernelDoutIdeal.main_arg2) = m ((c.tc : Thread Cert.KernelDoutIdeal.nD Cert.KernelDoutIdeal.τ).loc Cert.KernelDoutIdeal.main_arg2))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1)
      ∧ r.2.mem ((c.tc : Thread Cert.ReferenceDoutIdeal.nD Cert.ReferenceDoutIdeal.τ).loc Cert.ReferenceDoutIdeal.main_arg2) = m ((c.tc : Thread Cert.ReferenceDoutIdeal.nD Cert.ReferenceDoutIdeal.τ).loc Cert.ReferenceDoutIdeal.main_arg2))
      ∧ r.2.sem = fun _ => 0)

def quiescent_KernelGwOut [hKernelGwOut : Cert.KernelGwOut.Facts] : Prop :=
  ∀ (m : (ℓ : Loc Cert.KernelGwOut.nD Cert.KernelGwOut.τ Cert.KernelGwOut.sig) → Buf (Elt Bits) ℓ) (g : Dev Cert.KernelGwOut.nD → PrngReg), Pre_KernelGwOut m →
    θ_run (Cert.KernelGwOut.defs (F := Bits)) (onTc (τ := Cert.KernelGwOut.τ) (Cert.KernelGwOut.main (F := Bits))) ⟨m, fun _ => 0, g⟩ (fun r => (∀ c : Dev Cert.KernelGwOut.nD,
      r.2.mem ((c.tc : Thread Cert.KernelGwOut.nD Cert.KernelGwOut.τ).loc Cert.KernelGwOut.main_arg0) = m ((c.tc : Thread Cert.KernelGwOut.nD Cert.KernelGwOut.τ).loc Cert.KernelGwOut.main_arg0)
      ∧ r.2.mem ((c.tc : Thread Cert.KernelGwOut.nD Cert.KernelGwOut.τ).loc Cert.KernelGwOut.main_arg1) = m ((c.tc : Thread Cert.KernelGwOut.nD Cert.KernelGwOut.τ).loc Cert.KernelGwOut.main_arg1)
      ∧ r.2.mem ((c.tc : Thread Cert.KernelGwOut.nD Cert.KernelGwOut.τ).loc Cert.KernelGwOut.main_arg2) = m ((c.tc : Thread Cert.KernelGwOut.nD Cert.KernelGwOut.τ).loc Cert.KernelGwOut.main_arg2))
      ∧ r.2.sem = fun _ => 0)

def quiescent_KernelGwOutIdeal [hKernelGwOutIdeal : Cert.KernelGwOutIdeal.Facts] : Prop :=
  ∀ (m : (ℓ : Loc Cert.KernelGwOutIdeal.nD Cert.KernelGwOutIdeal.τ Cert.KernelGwOutIdeal.sig) → Buf (Elt Ideal) ℓ) (g : Dev Cert.KernelGwOutIdeal.nD → PrngReg), Pre_KernelGwOutIdeal m →
    θ_run (Cert.KernelGwOutIdeal.defs (F := Ideal)) (onTc (τ := Cert.KernelGwOutIdeal.τ) (Cert.KernelGwOutIdeal.main (F := Ideal))) ⟨m, fun _ => 0, g⟩ (fun r => (∀ c : Dev Cert.KernelGwOutIdeal.nD,
      r.2.mem ((c.tc : Thread Cert.KernelGwOutIdeal.nD Cert.KernelGwOutIdeal.τ).loc Cert.KernelGwOutIdeal.main_arg0) = m ((c.tc : Thread Cert.KernelGwOutIdeal.nD Cert.KernelGwOutIdeal.τ).loc Cert.KernelGwOutIdeal.main_arg0)
      ∧ r.2.mem ((c.tc : Thread Cert.KernelGwOutIdeal.nD Cert.KernelGwOutIdeal.τ).loc Cert.KernelGwOutIdeal.main_arg1) = m ((c.tc : Thread Cert.KernelGwOutIdeal.nD Cert.KernelGwOutIdeal.τ).loc Cert.KernelGwOutIdeal.main_arg1)
      ∧ r.2.mem ((c.tc : Thread Cert.KernelGwOutIdeal.nD Cert.KernelGwOutIdeal.τ).loc Cert.KernelGwOutIdeal.main_arg2) = m ((c.tc : Thread Cert.KernelGwOutIdeal.nD Cert.KernelGwOutIdeal.τ).loc Cert.KernelGwOutIdeal.main_arg2))
      ∧ r.2.sem = fun _ => 0)

def quiescent_ReferenceGwOutIdeal [hReferenceGwOutIdeal : Cert.ReferenceGwOutIdeal.Facts] : Prop :=
  ∀ (m : (ℓ : Loc Cert.ReferenceGwOutIdeal.nD Cert.ReferenceGwOutIdeal.τ Cert.ReferenceGwOutIdeal.sig) → Buf (Elt Ideal) ℓ) (g : Dev Cert.ReferenceGwOutIdeal.nD → PrngReg), Pre_ReferenceGwOutIdeal m →
    θ_run (Cert.ReferenceGwOutIdeal.defs (F := Ideal)) (onTc (τ := Cert.ReferenceGwOutIdeal.τ) (Cert.ReferenceGwOutIdeal.main (F := Ideal))) ⟨m, fun _ => 0, g⟩ (fun r => (∀ c : Dev Cert.ReferenceGwOutIdeal.nD,
      r.2.mem ((c.tc : Thread Cert.ReferenceGwOutIdeal.nD Cert.ReferenceGwOutIdeal.τ).loc Cert.ReferenceGwOutIdeal.main_arg0) = m ((c.tc : Thread Cert.ReferenceGwOutIdeal.nD Cert.ReferenceGwOutIdeal.τ).loc Cert.ReferenceGwOutIdeal.main_arg0)
      ∧ r.2.mem ((c.tc : Thread Cert.ReferenceGwOutIdeal.nD Cert.ReferenceGwOutIdeal.τ).loc Cert.ReferenceGwOutIdeal.main_arg1) = m ((c.tc : Thread Cert.ReferenceGwOutIdeal.nD Cert.ReferenceGwOutIdeal.τ).loc Cert.ReferenceGwOutIdeal.main_arg1)
      ∧ r.2.mem ((c.tc : Thread Cert.ReferenceGwOutIdeal.nD Cert.ReferenceGwOutIdeal.τ).loc Cert.ReferenceGwOutIdeal.main_arg2) = m ((c.tc : Thread Cert.ReferenceGwOutIdeal.nD Cert.ReferenceGwOutIdeal.τ).loc Cert.ReferenceGwOutIdeal.main_arg2))
      ∧ r.2.sem = fun _ => 0)

def quiescent_KernelGwIn [hKernelGwIn : Cert.KernelGwIn.Facts] : Prop :=
  ∀ (m : (ℓ : Loc Cert.KernelGwIn.nD Cert.KernelGwIn.τ Cert.KernelGwIn.sig) → Buf (Elt Bits) ℓ) (g : Dev Cert.KernelGwIn.nD → PrngReg), Pre_KernelGwIn m →
    θ_run (Cert.KernelGwIn.defs (F := Bits)) (onTc (τ := Cert.KernelGwIn.τ) (Cert.KernelGwIn.main (F := Bits))) ⟨m, fun _ => 0, g⟩ (fun r => (∀ c : Dev Cert.KernelGwIn.nD,
      r.2.mem ((c.tc : Thread Cert.KernelGwIn.nD Cert.KernelGwIn.τ).loc Cert.KernelGwIn.main_arg0) = m ((c.tc : Thread Cert.KernelGwIn.nD Cert.KernelGwIn.τ).loc Cert.KernelGwIn.main_arg0)
      ∧ r.2.mem ((c.tc : Thread Cert.KernelGwIn.nD Cert.KernelGwIn.τ).loc Cert.KernelGwIn.main_arg1) = m ((c.tc : Thread Cert.KernelGwIn.nD Cert.KernelGwIn.τ).loc Cert.KernelGwIn.main_arg1)
      ∧ r.2.mem ((c.tc : Thread Cert.KernelGwIn.nD Cert.KernelGwIn.τ).loc Cert.KernelGwIn.main_arg2) = m ((c.tc : Thread Cert.KernelGwIn.nD Cert.KernelGwIn.τ).loc Cert.KernelGwIn.main_arg2))
      ∧ r.2.sem = fun _ => 0)

def quiescent_KernelGwInIdeal [hKernelGwInIdeal : Cert.KernelGwInIdeal.Facts] : Prop :=
  ∀ (m : (ℓ : Loc Cert.KernelGwInIdeal.nD Cert.KernelGwInIdeal.τ Cert.KernelGwInIdeal.sig) → Buf (Elt Ideal) ℓ) (g : Dev Cert.KernelGwInIdeal.nD → PrngReg), Pre_KernelGwInIdeal m →
    θ_run (Cert.KernelGwInIdeal.defs (F := Ideal)) (onTc (τ := Cert.KernelGwInIdeal.τ) (Cert.KernelGwInIdeal.main (F := Ideal))) ⟨m, fun _ => 0, g⟩ (fun r => (∀ c : Dev Cert.KernelGwInIdeal.nD,
      r.2.mem ((c.tc : Thread Cert.KernelGwInIdeal.nD Cert.KernelGwInIdeal.τ).loc Cert.KernelGwInIdeal.main_arg0) = m ((c.tc : Thread Cert.KernelGwInIdeal.nD Cert.KernelGwInIdeal.τ).loc Cert.KernelGwInIdeal.main_arg0)
      ∧ r.2.mem ((c.tc : Thread Cert.KernelGwInIdeal.nD Cert.KernelGwInIdeal.τ).loc Cert.KernelGwInIdeal.main_arg1) = m ((c.tc : Thread Cert.KernelGwInIdeal.nD Cert.KernelGwInIdeal.τ).loc Cert.KernelGwInIdeal.main_arg1)
      ∧ r.2.mem ((c.tc : Thread Cert.KernelGwInIdeal.nD Cert.KernelGwInIdeal.τ).loc Cert.KernelGwInIdeal.main_arg2) = m ((c.tc : Thread Cert.KernelGwInIdeal.nD Cert.KernelGwInIdeal.τ).loc Cert.KernelGwInIdeal.main_arg2))
      ∧ r.2.sem = fun _ => 0)

def quiescent_ReferenceGwInIdeal [hReferenceGwInIdeal : Cert.ReferenceGwInIdeal.Facts] : Prop :=
  ∀ (m : (ℓ : Loc Cert.ReferenceGwInIdeal.nD Cert.ReferenceGwInIdeal.τ Cert.ReferenceGwInIdeal.sig) → Buf (Elt Ideal) ℓ) (g : Dev Cert.ReferenceGwInIdeal.nD → PrngReg), Pre_ReferenceGwInIdeal m →
    θ_run (Cert.ReferenceGwInIdeal.defs (F := Ideal)) (onTc (τ := Cert.ReferenceGwInIdeal.τ) (Cert.ReferenceGwInIdeal.main (F := Ideal))) ⟨m, fun _ => 0, g⟩ (fun r => (∀ c : Dev Cert.ReferenceGwInIdeal.nD,
      r.2.mem ((c.tc : Thread Cert.ReferenceGwInIdeal.nD Cert.ReferenceGwInIdeal.τ).loc Cert.ReferenceGwInIdeal.main_arg0) = m ((c.tc : Thread Cert.ReferenceGwInIdeal.nD Cert.ReferenceGwInIdeal.τ).loc Cert.ReferenceGwInIdeal.main_arg0)
      ∧ r.2.mem ((c.tc : Thread Cert.ReferenceGwInIdeal.nD Cert.ReferenceGwInIdeal.τ).loc Cert.ReferenceGwInIdeal.main_arg1) = m ((c.tc : Thread Cert.ReferenceGwInIdeal.nD Cert.ReferenceGwInIdeal.τ).loc Cert.ReferenceGwInIdeal.main_arg1)
      ∧ r.2.mem ((c.tc : Thread Cert.ReferenceGwInIdeal.nD Cert.ReferenceGwInIdeal.τ).loc Cert.ReferenceGwInIdeal.main_arg2) = m ((c.tc : Thread Cert.ReferenceGwInIdeal.nD Cert.ReferenceGwInIdeal.τ).loc Cert.ReferenceGwInIdeal.main_arg2))
      ∧ r.2.sem = fun _ => 0)

def quiescent_KernelDin [hKernelDin : Cert.KernelDin.Facts] : Prop :=
  ∀ (m : (ℓ : Loc Cert.KernelDin.nD Cert.KernelDin.τ Cert.KernelDin.sig) → Buf (Elt Bits) ℓ) (g : Dev Cert.KernelDin.nD → PrngReg), Pre_KernelDin m →
    θ_run (Cert.KernelDin.defs (F := Bits)) (onTc (τ := Cert.KernelDin.τ) (Cert.KernelDin.main (F := Bits))) ⟨m, fun _ => 0, g⟩ (fun r => (∀ c : Dev Cert.KernelDin.nD,
      r.2.mem ((c.tc : Thread Cert.KernelDin.nD Cert.KernelDin.τ).loc Cert.KernelDin.main_arg0) = m ((c.tc : Thread Cert.KernelDin.nD Cert.KernelDin.τ).loc Cert.KernelDin.main_arg0)
      ∧ r.2.mem ((c.tc : Thread Cert.KernelDin.nD Cert.KernelDin.τ).loc Cert.KernelDin.main_arg1) = m ((c.tc : Thread Cert.KernelDin.nD Cert.KernelDin.τ).loc Cert.KernelDin.main_arg1)
      ∧ r.2.mem ((c.tc : Thread Cert.KernelDin.nD Cert.KernelDin.τ).loc Cert.KernelDin.main_arg2) = m ((c.tc : Thread Cert.KernelDin.nD Cert.KernelDin.τ).loc Cert.KernelDin.main_arg2))
      ∧ r.2.sem = fun _ => 0)

def quiescent_KernelDinIdeal [hKernelDinIdeal : Cert.KernelDinIdeal.Facts] : Prop :=
  ∀ (m : (ℓ : Loc Cert.KernelDinIdeal.nD Cert.KernelDinIdeal.τ Cert.KernelDinIdeal.sig) → Buf (Elt Ideal) ℓ) (g : Dev Cert.KernelDinIdeal.nD → PrngReg), Pre_KernelDinIdeal m →
    θ_run (Cert.KernelDinIdeal.defs (F := Ideal)) (onTc (τ := Cert.KernelDinIdeal.τ) (Cert.KernelDinIdeal.main (F := Ideal))) ⟨m, fun _ => 0, g⟩ (fun r => (∀ c : Dev Cert.KernelDinIdeal.nD,
      r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
      ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1)
      ∧ r.2.mem ((c.tc : Thread Cert.KernelDinIdeal.nD Cert.KernelDinIdeal.τ).loc Cert.KernelDinIdeal.main_arg2) = m ((c.tc : Thread Cert.KernelDinIdeal.nD Cert.KernelDinIdeal.τ).loc Cert.KernelDinIdeal.main_arg2))
      ∧ r.2.sem = fun _ => 0)

def quiescent_ReferenceDinIdeal [hReferenceDinIdeal : Cert.ReferenceDinIdeal.Facts] : Prop :=
  ∀ (m : (ℓ : Loc Cert.ReferenceDinIdeal.nD Cert.ReferenceDinIdeal.τ Cert.ReferenceDinIdeal.sig) → Buf (Elt Ideal) ℓ) (g : Dev Cert.ReferenceDinIdeal.nD → PrngReg), Pre_ReferenceDinIdeal m →
    θ_run (Cert.ReferenceDinIdeal.defs (F := Ideal)) (onTc (τ := Cert.ReferenceDinIdeal.τ) (Cert.ReferenceDinIdeal.main (F := Ideal))) ⟨m, fun _ => 0, g⟩ (fun r => (∀ c : Dev Cert.ReferenceDinIdeal.nD,
      r.2.mem ((c.tc : Thread Cert.ReferenceDinIdeal.nD Cert.ReferenceDinIdeal.τ).loc Cert.ReferenceDinIdeal.main_arg0) = m ((c.tc : Thread Cert.ReferenceDinIdeal.nD Cert.ReferenceDinIdeal.τ).loc Cert.ReferenceDinIdeal.main_arg0)
      ∧ r.2.mem ((c.tc : Thread Cert.ReferenceDinIdeal.nD Cert.ReferenceDinIdeal.τ).loc Cert.ReferenceDinIdeal.main_arg1) = m ((c.tc : Thread Cert.ReferenceDinIdeal.nD Cert.ReferenceDinIdeal.τ).loc Cert.ReferenceDinIdeal.main_arg1)
      ∧ r.2.mem ((c.tc : Thread Cert.ReferenceDinIdeal.nD Cert.ReferenceDinIdeal.τ).loc Cert.ReferenceDinIdeal.main_arg2) = m ((c.tc : Thread Cert.ReferenceDinIdeal.nD Cert.ReferenceDinIdeal.τ).loc Cert.ReferenceDinIdeal.main_arg2))
      ∧ r.2.sem = fun _ => 0)

def quiescent_KernelGwGlu [hKernelGwGlu : Cert.KernelGwGlu.Facts] : Prop :=
  ∀ (m : (ℓ : Loc Cert.KernelGwGlu.nD Cert.KernelGwGlu.τ Cert.KernelGwGlu.sig) → Buf (Elt Bits) ℓ) (g : Dev Cert.KernelGwGlu.nD → PrngReg), Pre_KernelGwGlu m →
    θ_run (Cert.KernelGwGlu.defs (F := Bits)) (onTc (τ := Cert.KernelGwGlu.τ) (Cert.KernelGwGlu.main (F := Bits))) ⟨m, fun _ => 0, g⟩ (fun r => (∀ c : Dev Cert.KernelGwGlu.nD,
      r.2.mem ((c.tc : Thread Cert.KernelGwGlu.nD Cert.KernelGwGlu.τ).loc Cert.KernelGwGlu.main_arg0) = m ((c.tc : Thread Cert.KernelGwGlu.nD Cert.KernelGwGlu.τ).loc Cert.KernelGwGlu.main_arg0)
      ∧ r.2.mem ((c.tc : Thread Cert.KernelGwGlu.nD Cert.KernelGwGlu.τ).loc Cert.KernelGwGlu.main_arg1) = m ((c.tc : Thread Cert.KernelGwGlu.nD Cert.KernelGwGlu.τ).loc Cert.KernelGwGlu.main_arg1)
      ∧ r.2.mem ((c.tc : Thread Cert.KernelGwGlu.nD Cert.KernelGwGlu.τ).loc Cert.KernelGwGlu.main_arg2) = m ((c.tc : Thread Cert.KernelGwGlu.nD Cert.KernelGwGlu.τ).loc Cert.KernelGwGlu.main_arg2))
      ∧ r.2.sem = fun _ => 0)

def quiescent_KernelGwGluIdeal [hKernelGwGluIdeal : Cert.KernelGwGluIdeal.Facts] : Prop :=
  ∀ (m : (ℓ : Loc Cert.KernelGwGluIdeal.nD Cert.KernelGwGluIdeal.τ Cert.KernelGwGluIdeal.sig) → Buf (Elt Ideal) ℓ) (g : Dev Cert.KernelGwGluIdeal.nD → PrngReg), Pre_KernelGwGluIdeal m →
    θ_run (Cert.KernelGwGluIdeal.defs (F := Ideal)) (onTc (τ := Cert.KernelGwGluIdeal.τ) (Cert.KernelGwGluIdeal.main (F := Ideal))) ⟨m, fun _ => 0, g⟩ (fun r => (∀ c : Dev Cert.KernelGwGluIdeal.nD,
      r.2.mem ((c.tc : Thread Cert.KernelGwGluIdeal.nD Cert.KernelGwGluIdeal.τ).loc Cert.KernelGwGluIdeal.main_arg0) = m ((c.tc : Thread Cert.KernelGwGluIdeal.nD Cert.KernelGwGluIdeal.τ).loc Cert.KernelGwGluIdeal.main_arg0)
      ∧ r.2.mem ((c.tc : Thread Cert.KernelGwGluIdeal.nD Cert.KernelGwGluIdeal.τ).loc Cert.KernelGwGluIdeal.main_arg1) = m ((c.tc : Thread Cert.KernelGwGluIdeal.nD Cert.KernelGwGluIdeal.τ).loc Cert.KernelGwGluIdeal.main_arg1)
      ∧ r.2.mem ((c.tc : Thread Cert.KernelGwGluIdeal.nD Cert.KernelGwGluIdeal.τ).loc Cert.KernelGwGluIdeal.main_arg2) = m ((c.tc : Thread Cert.KernelGwGluIdeal.nD Cert.KernelGwGluIdeal.τ).loc Cert.KernelGwGluIdeal.main_arg2))
      ∧ r.2.sem = fun _ => 0)

def quiescent_ReferenceGwGluIdeal [hReferenceGwGluIdeal : Cert.ReferenceGwGluIdeal.Facts] : Prop :=
  ∀ (m : (ℓ : Loc Cert.ReferenceGwGluIdeal.nD Cert.ReferenceGwGluIdeal.τ Cert.ReferenceGwGluIdeal.sig) → Buf (Elt Ideal) ℓ) (g : Dev Cert.ReferenceGwGluIdeal.nD → PrngReg), Pre_ReferenceGwGluIdeal m →
    θ_run (Cert.ReferenceGwGluIdeal.defs (F := Ideal)) (onTc (τ := Cert.ReferenceGwGluIdeal.τ) (Cert.ReferenceGwGluIdeal.main (F := Ideal))) ⟨m, fun _ => 0, g⟩ (fun r => (∀ c : Dev Cert.ReferenceGwGluIdeal.nD,
      r.2.mem ((c.tc : Thread Cert.ReferenceGwGluIdeal.nD Cert.ReferenceGwGluIdeal.τ).loc Cert.ReferenceGwGluIdeal.main_arg0) = m ((c.tc : Thread Cert.ReferenceGwGluIdeal.nD Cert.ReferenceGwGluIdeal.τ).loc Cert.ReferenceGwGluIdeal.main_arg0)
      ∧ r.2.mem ((c.tc : Thread Cert.ReferenceGwGluIdeal.nD Cert.ReferenceGwGluIdeal.τ).loc Cert.ReferenceGwGluIdeal.main_arg1) = m ((c.tc : Thread Cert.ReferenceGwGluIdeal.nD Cert.ReferenceGwGluIdeal.τ).loc Cert.ReferenceGwGluIdeal.main_arg1)
      ∧ r.2.mem ((c.tc : Thread Cert.ReferenceGwGluIdeal.nD Cert.ReferenceGwGluIdeal.τ).loc Cert.ReferenceGwGluIdeal.main_arg2) = m ((c.tc : Thread Cert.ReferenceGwGluIdeal.nD Cert.ReferenceGwGluIdeal.τ).loc Cert.ReferenceGwGluIdeal.main_arg2))
      ∧ r.2.sem = fun _ => 0)

def quiescent_KernelFf1 [hKernelFf1 : Cert.KernelFf1.Facts] : Prop :=
  ∀ (m : (ℓ : Loc Cert.KernelFf1.nD Cert.KernelFf1.τ Cert.KernelFf1.sig) → Buf (Elt Bits) ℓ) (g : Dev Cert.KernelFf1.nD → PrngReg), Pre_KernelFf1 m →
    θ_run (Cert.KernelFf1.defs (F := Bits)) (onTc (τ := Cert.KernelFf1.τ) (Cert.KernelFf1.main (F := Bits))) ⟨m, fun _ => 0, g⟩ (fun r => (∀ c : Dev Cert.KernelFf1.nD,
      r.2.mem ((c.tc : Thread Cert.KernelFf1.nD Cert.KernelFf1.τ).loc Cert.KernelFf1.main_arg0) = m ((c.tc : Thread Cert.KernelFf1.nD Cert.KernelFf1.τ).loc Cert.KernelFf1.main_arg0)
      ∧ r.2.mem ((c.tc : Thread Cert.KernelFf1.nD Cert.KernelFf1.τ).loc Cert.KernelFf1.main_arg1) = m ((c.tc : Thread Cert.KernelFf1.nD Cert.KernelFf1.τ).loc Cert.KernelFf1.main_arg1))
      ∧ r.2.sem = fun _ => 0)

def quiescent_KernelFf1Ideal [hKernelFf1Ideal : Cert.KernelFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg), Pre_KernelFf1Ideal m →
    θ_run (Cert.KernelFf1Ideal.defs (F := Ideal)) (onTc (τ := Cert.KernelFf1Ideal.τ) (Cert.KernelFf1Ideal.main (F := Ideal))) ⟨m, fun _ => 0, g⟩ (fun r => (∀ c : Dev Cert.KernelFf1Ideal.nD,
      r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
      ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ r.2.sem = fun _ => 0)

def quiescent_ReferenceFf1Ideal [hReferenceFf1Ideal : Cert.ReferenceFf1Ideal.Facts] : Prop :=
  ∀ (m : (ℓ : Loc Cert.ReferenceFf1Ideal.nD Cert.ReferenceFf1Ideal.τ Cert.ReferenceFf1Ideal.sig) → Buf (Elt Ideal) ℓ) (g : Dev Cert.ReferenceFf1Ideal.nD → PrngReg), Pre_ReferenceFf1Ideal m →
    θ_run (Cert.ReferenceFf1Ideal.defs (F := Ideal)) (onTc (τ := Cert.ReferenceFf1Ideal.τ) (Cert.ReferenceFf1Ideal.main (F := Ideal))) ⟨m, fun _ => 0, g⟩ (fun r => (∀ c : Dev Cert.ReferenceFf1Ideal.nD,
      r.2.mem ((c.tc : Thread Cert.ReferenceFf1Ideal.nD Cert.ReferenceFf1Ideal.τ).loc Cert.ReferenceFf1Ideal.main_arg0) = m ((c.tc : Thread Cert.ReferenceFf1Ideal.nD Cert.ReferenceFf1Ideal.τ).loc Cert.ReferenceFf1Ideal.main_arg0)
      ∧ r.2.mem ((c.tc : Thread Cert.ReferenceFf1Ideal.nD Cert.ReferenceFf1Ideal.τ).loc Cert.ReferenceFf1Ideal.main_arg1) = m ((c.tc : Thread Cert.ReferenceFf1Ideal.nD Cert.ReferenceFf1Ideal.τ).loc Cert.ReferenceFf1Ideal.main_arg1))
      ∧ r.2.sem = fun _ => 0)

def quiescent_KernelFf2 [hKernelFf2 : Cert.KernelFf2.Facts] : Prop :=
  ∀ (m : (ℓ : Loc Cert.KernelFf2.nD Cert.KernelFf2.τ Cert.KernelFf2.sig) → Buf (Elt Bits) ℓ) (g : Dev Cert.KernelFf2.nD → PrngReg), Pre_KernelFf2 m →
    θ_run (Cert.KernelFf2.defs (F := Bits)) (onTc (τ := Cert.KernelFf2.τ) (Cert.KernelFf2.main (F := Bits))) ⟨m, fun _ => 0, g⟩ (fun r => (∀ c : Dev Cert.KernelFf2.nD,
      r.2.mem ((c.tc : Thread Cert.KernelFf2.nD Cert.KernelFf2.τ).loc Cert.KernelFf2.main_arg0) = m ((c.tc : Thread Cert.KernelFf2.nD Cert.KernelFf2.τ).loc Cert.KernelFf2.main_arg0)
      ∧ r.2.mem ((c.tc : Thread Cert.KernelFf2.nD Cert.KernelFf2.τ).loc Cert.KernelFf2.main_arg1) = m ((c.tc : Thread Cert.KernelFf2.nD Cert.KernelFf2.τ).loc Cert.KernelFf2.main_arg1))
      ∧ r.2.sem = fun _ => 0)

def quiescent_KernelFf2Ideal [hKernelFf2Ideal : Cert.KernelFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg), Pre_KernelFf2Ideal m →
    θ_run (Cert.KernelFf2Ideal.defs (F := Ideal)) (onTc (τ := Cert.KernelFf2Ideal.τ) (Cert.KernelFf2Ideal.main (F := Ideal))) ⟨m, fun _ => 0, g⟩ (fun r => (∀ c : Dev Cert.KernelFf2Ideal.nD,
      r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
      ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ r.2.sem = fun _ => 0)

def quiescent_ReferenceFf2Ideal [hReferenceFf2Ideal : Cert.ReferenceFf2Ideal.Facts] : Prop :=
  ∀ (m : (ℓ : Loc Cert.ReferenceFf2Ideal.nD Cert.ReferenceFf2Ideal.τ Cert.ReferenceFf2Ideal.sig) → Buf (Elt Ideal) ℓ) (g : Dev Cert.ReferenceFf2Ideal.nD → PrngReg), Pre_ReferenceFf2Ideal m →
    θ_run (Cert.ReferenceFf2Ideal.defs (F := Ideal)) (onTc (τ := Cert.ReferenceFf2Ideal.τ) (Cert.ReferenceFf2Ideal.main (F := Ideal))) ⟨m, fun _ => 0, g⟩ (fun r => (∀ c : Dev Cert.ReferenceFf2Ideal.nD,
      r.2.mem ((c.tc : Thread Cert.ReferenceFf2Ideal.nD Cert.ReferenceFf2Ideal.τ).loc Cert.ReferenceFf2Ideal.main_arg0) = m ((c.tc : Thread Cert.ReferenceFf2Ideal.nD Cert.ReferenceFf2Ideal.τ).loc Cert.ReferenceFf2Ideal.main_arg0)
      ∧ r.2.mem ((c.tc : Thread Cert.ReferenceFf2Ideal.nD Cert.ReferenceFf2Ideal.τ).loc Cert.ReferenceFf2Ideal.main_arg1) = m ((c.tc : Thread Cert.ReferenceFf2Ideal.nD Cert.ReferenceFf2Ideal.τ).loc Cert.ReferenceFf2Ideal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4))
      ∧ r.2.sem = fun _ => 0)

def quiescent_KernelResNorm [hKernelResNorm : Cert.KernelResNorm.Facts] : Prop :=
  ∀ (m : (ℓ : Loc Cert.KernelResNorm.nD Cert.KernelResNorm.τ Cert.KernelResNorm.sig) → Buf (Elt Bits) ℓ) (g : Dev Cert.KernelResNorm.nD → PrngReg), Pre_KernelResNorm m →
    θ_run (Cert.KernelResNorm.defs (F := Bits)) (onTc (τ := Cert.KernelResNorm.τ) (Cert.KernelResNorm.main (F := Bits))) ⟨m, fun _ => 0, g⟩ (fun r => (∀ c : Dev Cert.KernelResNorm.nD,
      r.2.mem ((c.tc : Thread Cert.KernelResNorm.nD Cert.KernelResNorm.τ).loc Cert.KernelResNorm.main_arg0) = m ((c.tc : Thread Cert.KernelResNorm.nD Cert.KernelResNorm.τ).loc Cert.KernelResNorm.main_arg0)
      ∧ r.2.mem ((c.tc : Thread Cert.KernelResNorm.nD Cert.KernelResNorm.τ).loc Cert.KernelResNorm.main_arg1) = m ((c.tc : Thread Cert.KernelResNorm.nD Cert.KernelResNorm.τ).loc Cert.KernelResNorm.main_arg1)
      ∧ r.2.mem ((c.tc : Thread Cert.KernelResNorm.nD Cert.KernelResNorm.τ).loc Cert.KernelResNorm.main_arg2) = m ((c.tc : Thread Cert.KernelResNorm.nD Cert.KernelResNorm.τ).loc Cert.KernelResNorm.main_arg2)
      ∧ r.2.mem ((c.tc : Thread Cert.KernelResNorm.nD Cert.KernelResNorm.τ).loc Cert.KernelResNorm.main_arg3) = m ((c.tc : Thread Cert.KernelResNorm.nD Cert.KernelResNorm.τ).loc Cert.KernelResNorm.main_arg3)
      ∧ r.2.mem ((c.tc : Thread Cert.KernelResNorm.nD Cert.KernelResNorm.τ).loc Cert.KernelResNorm.main_arg4) = m ((c.tc : Thread Cert.KernelResNorm.nD Cert.KernelResNorm.τ).loc Cert.KernelResNorm.main_arg4)
      ∧ r.2.mem ((c.tc : Thread Cert.KernelResNorm.nD Cert.KernelResNorm.τ).loc Cert.KernelResNorm.main_arg5) = m ((c.tc : Thread Cert.KernelResNorm.nD Cert.KernelResNorm.τ).loc Cert.KernelResNorm.main_arg5))
      ∧ r.2.sem = fun _ => 0)

def quiescent_KernelResNormIdeal [hKernelResNormIdeal : Cert.KernelResNormIdeal.Facts] : Prop :=
  ∀ (m : (ℓ : Loc Cert.KernelResNormIdeal.nD Cert.KernelResNormIdeal.τ Cert.KernelResNormIdeal.sig) → Buf (Elt Ideal) ℓ) (g : Dev Cert.KernelResNormIdeal.nD → PrngReg), Pre_KernelResNormIdeal m →
    θ_run (Cert.KernelResNormIdeal.defs (F := Ideal)) (onTc (τ := Cert.KernelResNormIdeal.τ) (Cert.KernelResNormIdeal.main (F := Ideal))) ⟨m, fun _ => 0, g⟩ (fun r => (∀ c : Dev Cert.KernelResNormIdeal.nD,
      r.2.mem ((c.tc : Thread Cert.KernelResNormIdeal.nD Cert.KernelResNormIdeal.τ).loc Cert.KernelResNormIdeal.main_arg0) = m ((c.tc : Thread Cert.KernelResNormIdeal.nD Cert.KernelResNormIdeal.τ).loc Cert.KernelResNormIdeal.main_arg0)
      ∧ r.2.mem ((c.tc : Thread Cert.KernelResNormIdeal.nD Cert.KernelResNormIdeal.τ).loc Cert.KernelResNormIdeal.main_arg1) = m ((c.tc : Thread Cert.KernelResNormIdeal.nD Cert.KernelResNormIdeal.τ).loc Cert.KernelResNormIdeal.main_arg1)
      ∧ r.2.mem ((c.tc : Thread Cert.KernelResNormIdeal.nD Cert.KernelResNormIdeal.τ).loc Cert.KernelResNormIdeal.main_arg2) = m ((c.tc : Thread Cert.KernelResNormIdeal.nD Cert.KernelResNormIdeal.τ).loc Cert.KernelResNormIdeal.main_arg2)
      ∧ r.2.mem ((c.tc : Thread Cert.KernelResNormIdeal.nD Cert.KernelResNormIdeal.τ).loc Cert.KernelResNormIdeal.main_arg3) = m ((c.tc : Thread Cert.KernelResNormIdeal.nD Cert.KernelResNormIdeal.τ).loc Cert.KernelResNormIdeal.main_arg3)
      ∧ r.2.mem ((c.tc : Thread Cert.KernelResNormIdeal.nD Cert.KernelResNormIdeal.τ).loc Cert.KernelResNormIdeal.main_arg4) = m ((c.tc : Thread Cert.KernelResNormIdeal.nD Cert.KernelResNormIdeal.τ).loc Cert.KernelResNormIdeal.main_arg4)
      ∧ r.2.mem ((c.tc : Thread Cert.KernelResNormIdeal.nD Cert.KernelResNormIdeal.τ).loc Cert.KernelResNormIdeal.main_arg5) = m ((c.tc : Thread Cert.KernelResNormIdeal.nD Cert.KernelResNormIdeal.τ).loc Cert.KernelResNormIdeal.main_arg5))
      ∧ r.2.sem = fun _ => 0)

def quiescent_ReferenceResNormIdeal [hReferenceResNormIdeal : Cert.ReferenceResNormIdeal.Facts] : Prop :=
  ∀ (m : (ℓ : Loc Cert.ReferenceResNormIdeal.nD Cert.ReferenceResNormIdeal.τ Cert.ReferenceResNormIdeal.sig) → Buf (Elt Ideal) ℓ) (g : Dev Cert.ReferenceResNormIdeal.nD → PrngReg), Pre_ReferenceResNormIdeal m →
    θ_run (Cert.ReferenceResNormIdeal.defs (F := Ideal)) (onTc (τ := Cert.ReferenceResNormIdeal.τ) (Cert.ReferenceResNormIdeal.main (F := Ideal))) ⟨m, fun _ => 0, g⟩ (fun r => (∀ c : Dev Cert.ReferenceResNormIdeal.nD,
      r.2.mem ((c.tc : Thread Cert.ReferenceResNormIdeal.nD Cert.ReferenceResNormIdeal.τ).loc Cert.ReferenceResNormIdeal.main_arg0) = m ((c.tc : Thread Cert.ReferenceResNormIdeal.nD Cert.ReferenceResNormIdeal.τ).loc Cert.ReferenceResNormIdeal.main_arg0)
      ∧ r.2.mem ((c.tc : Thread Cert.ReferenceResNormIdeal.nD Cert.ReferenceResNormIdeal.τ).loc Cert.ReferenceResNormIdeal.main_arg1) = m ((c.tc : Thread Cert.ReferenceResNormIdeal.nD Cert.ReferenceResNormIdeal.τ).loc Cert.ReferenceResNormIdeal.main_arg1)
      ∧ r.2.mem ((c.tc : Thread Cert.ReferenceResNormIdeal.nD Cert.ReferenceResNormIdeal.τ).loc Cert.ReferenceResNormIdeal.main_arg2) = m ((c.tc : Thread Cert.ReferenceResNormIdeal.nD Cert.ReferenceResNormIdeal.τ).loc Cert.ReferenceResNormIdeal.main_arg2)
      ∧ r.2.mem ((c.tc : Thread Cert.ReferenceResNormIdeal.nD Cert.ReferenceResNormIdeal.τ).loc Cert.ReferenceResNormIdeal.main_arg3) = m ((c.tc : Thread Cert.ReferenceResNormIdeal.nD Cert.ReferenceResNormIdeal.τ).loc Cert.ReferenceResNormIdeal.main_arg3)
      ∧ r.2.mem ((c.tc : Thread Cert.ReferenceResNormIdeal.nD Cert.ReferenceResNormIdeal.τ).loc Cert.ReferenceResNormIdeal.main_arg4) = m ((c.tc : Thread Cert.ReferenceResNormIdeal.nD Cert.ReferenceResNormIdeal.τ).loc Cert.ReferenceResNormIdeal.main_arg4)
      ∧ r.2.mem ((c.tc : Thread Cert.ReferenceResNormIdeal.nD Cert.ReferenceResNormIdeal.τ).loc Cert.ReferenceResNormIdeal.main_arg5) = m ((c.tc : Thread Cert.ReferenceResNormIdeal.nD Cert.ReferenceResNormIdeal.τ).loc Cert.ReferenceResNormIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)) (v2 : (c : Dev Cert.KernelIdeal.nD) → Buf (Elt Ideal) ((c.tc : Thread Cert.KernelIdeal.nD Cert.KernelIdeal.τ).loc Cert.KernelIdeal.main_v79_2)) (v3 : (c : Dev Cert.KernelIdeal.nD) → Buf (Elt Ideal) ((c.tc : Thread Cert.KernelIdeal.nD Cert.KernelIdeal.τ).loc Cert.KernelIdeal.main_v79_3)) (v4 : (c : Dev Cert.KernelIdeal.nD) → Buf (Elt Ideal) ((c.tc : Thread Cert.KernelIdeal.nD Cert.KernelIdeal.τ).loc Cert.KernelIdeal.main_v79_4)) (v5 : (c : Dev Cert.KernelIdeal.nD) → Buf (Elt Ideal) ((c.tc : Thread Cert.KernelIdeal.nD Cert.KernelIdeal.τ).loc Cert.KernelIdeal.main_v79_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_v79_2) = v2 c
          ∧ r.2.mem ((c.tc : Thread Cert.KernelIdeal.nD Cert.KernelIdeal.τ).loc Cert.KernelIdeal.main_v79_3) = v3 c
          ∧ r.2.mem ((c.tc : Thread Cert.KernelIdeal.nD Cert.KernelIdeal.τ).loc Cert.KernelIdeal.main_v79_4) = v4 c
          ∧ r.2.mem ((c.tc : Thread Cert.KernelIdeal.nD Cert.KernelIdeal.τ).loc Cert.KernelIdeal.main_v79_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v148) = v4 c
          ∧ r.2.mem ((c.tc : Thread Cert.ReferenceIdeal.nD Cert.ReferenceIdeal.τ).loc Cert.ReferenceIdeal.main_v149) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDff2_KernelDff2Ideal : Prop :=
  True

def algebraic_KernelDff2Ideal_ReferenceDff2Ideal [hKernelDff2Ideal : Cert.KernelDff2Ideal.Facts] [hReferenceDff2Ideal : Cert.ReferenceDff2Ideal.Facts] : Prop :=
  ∀ (m : (ℓ : Loc Cert.KernelDff2Ideal.nD Cert.KernelDff2Ideal.τ Cert.KernelDff2Ideal.sig) → Buf (Elt Ideal) ℓ) (g : Dev Cert.KernelDff2Ideal.nD → PrngReg)
    (m' : (ℓ : Loc Cert.ReferenceDff2Ideal.nD Cert.ReferenceDff2Ideal.τ Cert.ReferenceDff2Ideal.sig) → Buf (Elt Ideal) ℓ) (g' : Dev Cert.ReferenceDff2Ideal.nD → PrngReg), Pre_KernelDff2Ideal m →
    (∀ c : Dev Cert.KernelDff2Ideal.nD,
      m' ((c.tc : Thread Cert.ReferenceDff2Ideal.nD Cert.ReferenceDff2Ideal.τ).loc Cert.ReferenceDff2Ideal.main_arg0) = m ((c.tc : Thread Cert.KernelDff2Ideal.nD Cert.KernelDff2Ideal.τ).loc Cert.KernelDff2Ideal.main_arg0)
      ∧ m' ((c.tc : Thread Cert.ReferenceDff2Ideal.nD Cert.ReferenceDff2Ideal.τ).loc Cert.ReferenceDff2Ideal.main_arg1) = m ((c.tc : Thread Cert.KernelDff2Ideal.nD Cert.KernelDff2Ideal.τ).loc Cert.KernelDff2Ideal.main_arg1)
      ∧ m' ((c.tc : Thread Cert.ReferenceDff2Ideal.nD Cert.ReferenceDff2Ideal.τ).loc Cert.ReferenceDff2Ideal.main_arg2) = m ((c.tc : Thread Cert.KernelDff2Ideal.nD Cert.KernelDff2Ideal.τ).loc Cert.KernelDff2Ideal.main_arg2)) →
    ∃ (v0 : (c : Dev Cert.KernelDff2Ideal.nD) → Buf (Elt Ideal) ((c.tc : Thread Cert.KernelDff2Ideal.nD Cert.KernelDff2Ideal.τ).loc Cert.KernelDff2Ideal.main_v3)),
      θ_run (Cert.KernelDff2Ideal.defs (F := Ideal)) (onTc (τ := Cert.KernelDff2Ideal.τ) (Cert.KernelDff2Ideal.main (F := Ideal))) ⟨m, fun _ => 0, g⟩ (fun r => ∀ c : Dev Cert.KernelDff2Ideal.nD,
          r.2.mem ((c.tc : Thread Cert.KernelDff2Ideal.nD Cert.KernelDff2Ideal.τ).loc Cert.KernelDff2Ideal.main_v3) = v0 c
          ∧ r.2.mem ((c.tc : Thread Cert.KernelDff2Ideal.nD Cert.KernelDff2Ideal.τ).loc Cert.KernelDff2Ideal.main_arg0) = m ((c.tc : Thread Cert.KernelDff2Ideal.nD Cert.KernelDff2Ideal.τ).loc Cert.KernelDff2Ideal.main_arg0)
          ∧ r.2.mem ((c.tc : Thread Cert.KernelDff2Ideal.nD Cert.KernelDff2Ideal.τ).loc Cert.KernelDff2Ideal.main_arg1) = m ((c.tc : Thread Cert.KernelDff2Ideal.nD Cert.KernelDff2Ideal.τ).loc Cert.KernelDff2Ideal.main_arg1)
          ∧ r.2.mem ((c.tc : Thread Cert.KernelDff2Ideal.nD Cert.KernelDff2Ideal.τ).loc Cert.KernelDff2Ideal.main_arg2) = m ((c.tc : Thread Cert.KernelDff2Ideal.nD Cert.KernelDff2Ideal.τ).loc Cert.KernelDff2Ideal.main_arg2))
      ∧ θ_run (Cert.ReferenceDff2Ideal.defs (F := Ideal)) (onTc (τ := Cert.ReferenceDff2Ideal.τ) (Cert.ReferenceDff2Ideal.main (F := Ideal))) ⟨m', fun _ => 0, g'⟩ (fun r => ∀ c : Dev Cert.ReferenceDff2Ideal.nD,
          r.2.mem ((c.tc : Thread Cert.ReferenceDff2Ideal.nD Cert.ReferenceDff2Ideal.τ).loc Cert.ReferenceDff2Ideal.main_v12) = v0 c
          ∧ r.2.mem ((c.tc : Thread Cert.ReferenceDff2Ideal.nD Cert.ReferenceDff2Ideal.τ).loc Cert.ReferenceDff2Ideal.main_arg0) = m' ((c.tc : Thread Cert.ReferenceDff2Ideal.nD Cert.ReferenceDff2Ideal.τ).loc Cert.ReferenceDff2Ideal.main_arg0)
          ∧ r.2.mem ((c.tc : Thread Cert.ReferenceDff2Ideal.nD Cert.ReferenceDff2Ideal.τ).loc Cert.ReferenceDff2Ideal.main_arg1) = m' ((c.tc : Thread Cert.ReferenceDff2Ideal.nD Cert.ReferenceDff2Ideal.τ).loc Cert.ReferenceDff2Ideal.main_arg1)
          ∧ r.2.mem ((c.tc : Thread Cert.ReferenceDff2Ideal.nD Cert.ReferenceDff2Ideal.τ).loc Cert.ReferenceDff2Ideal.main_arg2) = m' ((c.tc : Thread Cert.ReferenceDff2Ideal.nD Cert.ReferenceDff2Ideal.τ).loc Cert.ReferenceDff2Ideal.main_arg2))

def preserves_KernelGwFf2_KernelGwFf2Ideal : Prop :=
  True

def algebraic_KernelGwFf2Ideal_ReferenceGwFf2Ideal [hKernelGwFf2Ideal : Cert.KernelGwFf2Ideal.Facts] [hReferenceGwFf2Ideal : Cert.ReferenceGwFf2Ideal.Facts] : Prop :=
  ∀ (m : (ℓ : Loc Cert.KernelGwFf2Ideal.nD Cert.KernelGwFf2Ideal.τ Cert.KernelGwFf2Ideal.sig) → Buf (Elt Ideal) ℓ) (g : Dev Cert.KernelGwFf2Ideal.nD → PrngReg)
    (m' : (ℓ : Loc Cert.ReferenceGwFf2Ideal.nD Cert.ReferenceGwFf2Ideal.τ Cert.ReferenceGwFf2Ideal.sig) → Buf (Elt Ideal) ℓ) (g' : Dev Cert.ReferenceGwFf2Ideal.nD → PrngReg), Pre_KernelGwFf2Ideal m →
    (∀ c : Dev Cert.KernelGwFf2Ideal.nD,
      m' ((c.tc : Thread Cert.ReferenceGwFf2Ideal.nD Cert.ReferenceGwFf2Ideal.τ).loc Cert.ReferenceGwFf2Ideal.main_arg0) = m ((c.tc : Thread Cert.KernelGwFf2Ideal.nD Cert.KernelGwFf2Ideal.τ).loc Cert.KernelGwFf2Ideal.main_arg0)
      ∧ m' ((c.tc : Thread Cert.ReferenceGwFf2Ideal.nD Cert.ReferenceGwFf2Ideal.τ).loc Cert.ReferenceGwFf2Ideal.main_arg1) = m ((c.tc : Thread Cert.KernelGwFf2Ideal.nD Cert.KernelGwFf2Ideal.τ).loc Cert.KernelGwFf2Ideal.main_arg1)
      ∧ m' ((c.tc : Thread Cert.ReferenceGwFf2Ideal.nD Cert.ReferenceGwFf2Ideal.τ).loc Cert.ReferenceGwFf2Ideal.main_arg2) = m ((c.tc : Thread Cert.KernelGwFf2Ideal.nD Cert.KernelGwFf2Ideal.τ).loc Cert.KernelGwFf2Ideal.main_arg2)) →
    ∃ (v0 : (c : Dev Cert.KernelGwFf2Ideal.nD) → Buf (Elt Ideal) ((c.tc : Thread Cert.KernelGwFf2Ideal.nD Cert.KernelGwFf2Ideal.τ).loc Cert.KernelGwFf2Ideal.main_v4)),
      θ_run (Cert.KernelGwFf2Ideal.defs (F := Ideal)) (onTc (τ := Cert.KernelGwFf2Ideal.τ) (Cert.KernelGwFf2Ideal.main (F := Ideal))) ⟨m, fun _ => 0, g⟩ (fun r => ∀ c : Dev Cert.KernelGwFf2Ideal.nD,
          r.2.mem ((c.tc : Thread Cert.KernelGwFf2Ideal.nD Cert.KernelGwFf2Ideal.τ).loc Cert.KernelGwFf2Ideal.main_v4) = v0 c
          ∧ r.2.mem ((c.tc : Thread Cert.KernelGwFf2Ideal.nD Cert.KernelGwFf2Ideal.τ).loc Cert.KernelGwFf2Ideal.main_arg0) = m ((c.tc : Thread Cert.KernelGwFf2Ideal.nD Cert.KernelGwFf2Ideal.τ).loc Cert.KernelGwFf2Ideal.main_arg0)
          ∧ r.2.mem ((c.tc : Thread Cert.KernelGwFf2Ideal.nD Cert.KernelGwFf2Ideal.τ).loc Cert.KernelGwFf2Ideal.main_arg1) = m ((c.tc : Thread Cert.KernelGwFf2Ideal.nD Cert.KernelGwFf2Ideal.τ).loc Cert.KernelGwFf2Ideal.main_arg1)
          ∧ r.2.mem ((c.tc : Thread Cert.KernelGwFf2Ideal.nD Cert.KernelGwFf2Ideal.τ).loc Cert.KernelGwFf2Ideal.main_arg2) = m ((c.tc : Thread Cert.KernelGwFf2Ideal.nD Cert.KernelGwFf2Ideal.τ).loc Cert.KernelGwFf2Ideal.main_arg2))
      ∧ θ_run (Cert.ReferenceGwFf2Ideal.defs (F := Ideal)) (onTc (τ := Cert.ReferenceGwFf2Ideal.τ) (Cert.ReferenceGwFf2Ideal.main (F := Ideal))) ⟨m', fun _ => 0, g'⟩ (fun r => ∀ c : Dev Cert.ReferenceGwFf2Ideal.nD,
          r.2.mem ((c.tc : Thread Cert.ReferenceGwFf2Ideal.nD Cert.ReferenceGwFf2Ideal.τ).loc Cert.ReferenceGwFf2Ideal.main_v5) = v0 c
          ∧ r.2.mem ((c.tc : Thread Cert.ReferenceGwFf2Ideal.nD Cert.ReferenceGwFf2Ideal.τ).loc Cert.ReferenceGwFf2Ideal.main_arg0) = m' ((c.tc : Thread Cert.ReferenceGwFf2Ideal.nD Cert.ReferenceGwFf2Ideal.τ).loc Cert.ReferenceGwFf2Ideal.main_arg0)
          ∧ r.2.mem ((c.tc : Thread Cert.ReferenceGwFf2Ideal.nD Cert.ReferenceGwFf2Ideal.τ).loc Cert.ReferenceGwFf2Ideal.main_arg1) = m' ((c.tc : Thread Cert.ReferenceGwFf2Ideal.nD Cert.ReferenceGwFf2Ideal.τ).loc Cert.ReferenceGwFf2Ideal.main_arg1)
          ∧ r.2.mem ((c.tc : Thread Cert.ReferenceGwFf2Ideal.nD Cert.ReferenceGwFf2Ideal.τ).loc Cert.ReferenceGwFf2Ideal.main_arg2) = m' ((c.tc : Thread Cert.ReferenceGwFf2Ideal.nD Cert.ReferenceGwFf2Ideal.τ).loc Cert.ReferenceGwFf2Ideal.main_arg2))

def preserves_KernelGwFf1_KernelGwFf1Ideal : Prop :=
  True

def algebraic_KernelGwFf1Ideal_ReferenceGwFf1Ideal [hKernelGwFf1Ideal : Cert.KernelGwFf1Ideal.Facts] [hReferenceGwFf1Ideal : Cert.ReferenceGwFf1Ideal.Facts] : Prop :=
  ∀ (m : (ℓ : Loc Cert.KernelGwFf1Ideal.nD Cert.KernelGwFf1Ideal.τ Cert.KernelGwFf1Ideal.sig) → Buf (Elt Ideal) ℓ) (g : Dev Cert.KernelGwFf1Ideal.nD → PrngReg)
    (m' : (ℓ : Loc Cert.ReferenceGwFf1Ideal.nD Cert.ReferenceGwFf1Ideal.τ Cert.ReferenceGwFf1Ideal.sig) → Buf (Elt Ideal) ℓ) (g' : Dev Cert.ReferenceGwFf1Ideal.nD → PrngReg), Pre_KernelGwFf1Ideal m →
    (∀ c : Dev Cert.KernelGwFf1Ideal.nD,
      m' ((c.tc : Thread Cert.ReferenceGwFf1Ideal.nD Cert.ReferenceGwFf1Ideal.τ).loc Cert.ReferenceGwFf1Ideal.main_arg0) = m ((c.tc : Thread Cert.KernelGwFf1Ideal.nD Cert.KernelGwFf1Ideal.τ).loc Cert.KernelGwFf1Ideal.main_arg0)
      ∧ m' ((c.tc : Thread Cert.ReferenceGwFf1Ideal.nD Cert.ReferenceGwFf1Ideal.τ).loc Cert.ReferenceGwFf1Ideal.main_arg1) = m ((c.tc : Thread Cert.KernelGwFf1Ideal.nD Cert.KernelGwFf1Ideal.τ).loc Cert.KernelGwFf1Ideal.main_arg1)
      ∧ m' ((c.tc : Thread Cert.ReferenceGwFf1Ideal.nD Cert.ReferenceGwFf1Ideal.τ).loc Cert.ReferenceGwFf1Ideal.main_arg2) = m ((c.tc : Thread Cert.KernelGwFf1Ideal.nD Cert.KernelGwFf1Ideal.τ).loc Cert.KernelGwFf1Ideal.main_arg2)) →
    ∃ (v0 : (c : Dev Cert.KernelGwFf1Ideal.nD) → Buf (Elt Ideal) ((c.tc : Thread Cert.KernelGwFf1Ideal.nD Cert.KernelGwFf1Ideal.τ).loc Cert.KernelGwFf1Ideal.main_v2)),
      θ_run (Cert.KernelGwFf1Ideal.defs (F := Ideal)) (onTc (τ := Cert.KernelGwFf1Ideal.τ) (Cert.KernelGwFf1Ideal.main (F := Ideal))) ⟨m, fun _ => 0, g⟩ (fun r => ∀ c : Dev Cert.KernelGwFf1Ideal.nD,
          r.2.mem ((c.tc : Thread Cert.KernelGwFf1Ideal.nD Cert.KernelGwFf1Ideal.τ).loc Cert.KernelGwFf1Ideal.main_v2) = v0 c
          ∧ r.2.mem ((c.tc : Thread Cert.KernelGwFf1Ideal.nD Cert.KernelGwFf1Ideal.τ).loc Cert.KernelGwFf1Ideal.main_arg0) = m ((c.tc : Thread Cert.KernelGwFf1Ideal.nD Cert.KernelGwFf1Ideal.τ).loc Cert.KernelGwFf1Ideal.main_arg0)
          ∧ r.2.mem ((c.tc : Thread Cert.KernelGwFf1Ideal.nD Cert.KernelGwFf1Ideal.τ).loc Cert.KernelGwFf1Ideal.main_arg1) = m ((c.tc : Thread Cert.KernelGwFf1Ideal.nD Cert.KernelGwFf1Ideal.τ).loc Cert.KernelGwFf1Ideal.main_arg1)
          ∧ r.2.mem ((c.tc : Thread Cert.KernelGwFf1Ideal.nD Cert.KernelGwFf1Ideal.τ).loc Cert.KernelGwFf1Ideal.main_arg2) = m ((c.tc : Thread Cert.KernelGwFf1Ideal.nD Cert.KernelGwFf1Ideal.τ).loc Cert.KernelGwFf1Ideal.main_arg2))
      ∧ θ_run (Cert.ReferenceGwFf1Ideal.defs (F := Ideal)) (onTc (τ := Cert.ReferenceGwFf1Ideal.τ) (Cert.ReferenceGwFf1Ideal.main (F := Ideal))) ⟨m', fun _ => 0, g'⟩ (fun r => ∀ c : Dev Cert.ReferenceGwFf1Ideal.nD,
          r.2.mem ((c.tc : Thread Cert.ReferenceGwFf1Ideal.nD Cert.ReferenceGwFf1Ideal.τ).loc Cert.ReferenceGwFf1Ideal.main_v5) = v0 c
          ∧ r.2.mem ((c.tc : Thread Cert.ReferenceGwFf1Ideal.nD Cert.ReferenceGwFf1Ideal.τ).loc Cert.ReferenceGwFf1Ideal.main_arg0) = m' ((c.tc : Thread Cert.ReferenceGwFf1Ideal.nD Cert.ReferenceGwFf1Ideal.τ).loc Cert.ReferenceGwFf1Ideal.main_arg0)
          ∧ r.2.mem ((c.tc : Thread Cert.ReferenceGwFf1Ideal.nD Cert.ReferenceGwFf1Ideal.τ).loc Cert.ReferenceGwFf1Ideal.main_arg1) = m' ((c.tc : Thread Cert.ReferenceGwFf1Ideal.nD Cert.ReferenceGwFf1Ideal.τ).loc Cert.ReferenceGwFf1Ideal.main_arg1)
          ∧ r.2.mem ((c.tc : Thread Cert.ReferenceGwFf1Ideal.nD Cert.ReferenceGwFf1Ideal.τ).loc Cert.ReferenceGwFf1Ideal.main_arg2) = m' ((c.tc : Thread Cert.ReferenceGwFf1Ideal.nD Cert.ReferenceGwFf1Ideal.τ).loc Cert.ReferenceGwFf1Ideal.main_arg2))

def preserves_KernelDff1_KernelDff1Ideal : Prop :=
  True

def algebraic_KernelDff1Ideal_ReferenceDff1Ideal [hKernelDff1Ideal : Cert.KernelDff1Ideal.Facts] [hReferenceDff1Ideal : Cert.ReferenceDff1Ideal.Facts] : Prop :=
  ∀ (m : (ℓ : Loc Cert.KernelDff1Ideal.nD Cert.KernelDff1Ideal.τ Cert.KernelDff1Ideal.sig) → Buf (Elt Ideal) ℓ) (g : Dev Cert.KernelDff1Ideal.nD → PrngReg)
    (m' : (ℓ : Loc Cert.ReferenceDff1Ideal.nD Cert.ReferenceDff1Ideal.τ Cert.ReferenceDff1Ideal.sig) → Buf (Elt Ideal) ℓ) (g' : Dev Cert.ReferenceDff1Ideal.nD → PrngReg), Pre_KernelDff1Ideal m →
    (∀ c : Dev Cert.KernelDff1Ideal.nD,
      m' ((c.tc : Thread Cert.ReferenceDff1Ideal.nD Cert.ReferenceDff1Ideal.τ).loc Cert.ReferenceDff1Ideal.main_arg0) = m ((c.tc : Thread Cert.KernelDff1Ideal.nD Cert.KernelDff1Ideal.τ).loc Cert.KernelDff1Ideal.main_arg0)
      ∧ m' ((c.tc : Thread Cert.ReferenceDff1Ideal.nD Cert.ReferenceDff1Ideal.τ).loc Cert.ReferenceDff1Ideal.main_arg1) = m ((c.tc : Thread Cert.KernelDff1Ideal.nD Cert.KernelDff1Ideal.τ).loc Cert.KernelDff1Ideal.main_arg1)
      ∧ m' ((c.tc : Thread Cert.ReferenceDff1Ideal.nD Cert.ReferenceDff1Ideal.τ).loc Cert.ReferenceDff1Ideal.main_arg2) = m ((c.tc : Thread Cert.KernelDff1Ideal.nD Cert.KernelDff1Ideal.τ).loc Cert.KernelDff1Ideal.main_arg2)) →
    ∃ (v0 : (c : Dev Cert.KernelDff1Ideal.nD) → Buf (Elt Ideal) ((c.tc : Thread Cert.KernelDff1Ideal.nD Cert.KernelDff1Ideal.τ).loc Cert.KernelDff1Ideal.main_v4)),
      θ_run (Cert.KernelDff1Ideal.defs (F := Ideal)) (onTc (τ := Cert.KernelDff1Ideal.τ) (Cert.KernelDff1Ideal.main (F := Ideal))) ⟨m, fun _ => 0, g⟩ (fun r => ∀ c : Dev Cert.KernelDff1Ideal.nD,
          r.2.mem ((c.tc : Thread Cert.KernelDff1Ideal.nD Cert.KernelDff1Ideal.τ).loc Cert.KernelDff1Ideal.main_v4) = v0 c
          ∧ r.2.mem ((c.tc : Thread Cert.KernelDff1Ideal.nD Cert.KernelDff1Ideal.τ).loc Cert.KernelDff1Ideal.main_arg0) = m ((c.tc : Thread Cert.KernelDff1Ideal.nD Cert.KernelDff1Ideal.τ).loc Cert.KernelDff1Ideal.main_arg0)
          ∧ r.2.mem ((c.tc : Thread Cert.KernelDff1Ideal.nD Cert.KernelDff1Ideal.τ).loc Cert.KernelDff1Ideal.main_arg1) = m ((c.tc : Thread Cert.KernelDff1Ideal.nD Cert.KernelDff1Ideal.τ).loc Cert.KernelDff1Ideal.main_arg1)
          ∧ r.2.mem ((c.tc : Thread Cert.KernelDff1Ideal.nD Cert.KernelDff1Ideal.τ).loc Cert.KernelDff1Ideal.main_arg2) = m ((c.tc : Thread Cert.KernelDff1Ideal.nD Cert.KernelDff1Ideal.τ).loc Cert.KernelDff1Ideal.main_arg2))
      ∧ θ_run (Cert.ReferenceDff1Ideal.defs (F := Ideal)) (onTc (τ := Cert.ReferenceDff1Ideal.τ) (Cert.ReferenceDff1Ideal.main (F := Ideal))) ⟨m', fun _ => 0, g'⟩ (fun r => ∀ c : Dev Cert.ReferenceDff1Ideal.nD,
          r.2.mem ((c.tc : Thread Cert.ReferenceDff1Ideal.nD Cert.ReferenceDff1Ideal.τ).loc Cert.ReferenceDff1Ideal.main_v1) = v0 c
          ∧ r.2.mem ((c.tc : Thread Cert.ReferenceDff1Ideal.nD Cert.ReferenceDff1Ideal.τ).loc Cert.ReferenceDff1Ideal.main_arg0) = m' ((c.tc : Thread Cert.ReferenceDff1Ideal.nD Cert.ReferenceDff1Ideal.τ).loc Cert.ReferenceDff1Ideal.main_arg0)
          ∧ r.2.mem ((c.tc : Thread Cert.ReferenceDff1Ideal.nD Cert.ReferenceDff1Ideal.τ).loc Cert.ReferenceDff1Ideal.main_arg1) = m' ((c.tc : Thread Cert.ReferenceDff1Ideal.nD Cert.ReferenceDff1Ideal.τ).loc Cert.ReferenceDff1Ideal.main_arg1)
          ∧ r.2.mem ((c.tc : Thread Cert.ReferenceDff1Ideal.nD Cert.ReferenceDff1Ideal.τ).loc Cert.ReferenceDff1Ideal.main_arg2) = m' ((c.tc : Thread Cert.ReferenceDff1Ideal.nD Cert.ReferenceDff1Ideal.τ).loc Cert.ReferenceDff1Ideal.main_arg2))

def preserves_KernelNorm1_KernelNorm1Ideal : Prop :=
  True

def algebraic_KernelNorm1Ideal_ReferenceNorm1Ideal [hKernelNorm1Ideal : Cert.KernelNorm1Ideal.Facts] [hReferenceNorm1Ideal : Cert.ReferenceNorm1Ideal.Facts] : Prop :=
  ∀ (m : (ℓ : Loc Cert.KernelNorm1Ideal.nD Cert.KernelNorm1Ideal.τ Cert.KernelNorm1Ideal.sig) → Buf (Elt Ideal) ℓ) (g : Dev Cert.KernelNorm1Ideal.nD → PrngReg)
    (m' : (ℓ : Loc Cert.ReferenceNorm1Ideal.nD Cert.ReferenceNorm1Ideal.τ Cert.ReferenceNorm1Ideal.sig) → Buf (Elt Ideal) ℓ) (g' : Dev Cert.ReferenceNorm1Ideal.nD → PrngReg), Pre_KernelNorm1Ideal m →
    (∀ c : Dev Cert.KernelNorm1Ideal.nD,
      m' ((c.tc : Thread Cert.ReferenceNorm1Ideal.nD Cert.ReferenceNorm1Ideal.τ).loc Cert.ReferenceNorm1Ideal.main_arg0) = m ((c.tc : Thread Cert.KernelNorm1Ideal.nD Cert.KernelNorm1Ideal.τ).loc Cert.KernelNorm1Ideal.main_arg0)
      ∧ m' ((c.tc : Thread Cert.ReferenceNorm1Ideal.nD Cert.ReferenceNorm1Ideal.τ).loc Cert.ReferenceNorm1Ideal.main_arg1) = m ((c.tc : Thread Cert.KernelNorm1Ideal.nD Cert.KernelNorm1Ideal.τ).loc Cert.KernelNorm1Ideal.main_arg1)
      ∧ m' ((c.tc : Thread Cert.ReferenceNorm1Ideal.nD Cert.ReferenceNorm1Ideal.τ).loc Cert.ReferenceNorm1Ideal.main_arg2) = m ((c.tc : Thread Cert.KernelNorm1Ideal.nD Cert.KernelNorm1Ideal.τ).loc Cert.KernelNorm1Ideal.main_arg2)
      ∧ m' ((c.tc : Thread Cert.ReferenceNorm1Ideal.nD Cert.ReferenceNorm1Ideal.τ).loc Cert.ReferenceNorm1Ideal.main_arg3) = m ((c.tc : Thread Cert.KernelNorm1Ideal.nD Cert.KernelNorm1Ideal.τ).loc Cert.KernelNorm1Ideal.main_arg3)
      ∧ m' ((c.tc : Thread Cert.ReferenceNorm1Ideal.nD Cert.ReferenceNorm1Ideal.τ).loc Cert.ReferenceNorm1Ideal.main_arg4) = m ((c.tc : Thread Cert.KernelNorm1Ideal.nD Cert.KernelNorm1Ideal.τ).loc Cert.KernelNorm1Ideal.main_arg4)) →
    ∃ (v0 : (c : Dev Cert.KernelNorm1Ideal.nD) → Buf (Elt Ideal) ((c.tc : Thread Cert.KernelNorm1Ideal.nD Cert.KernelNorm1Ideal.τ).loc Cert.KernelNorm1Ideal.main_v0_0)) (v1 : (c : Dev Cert.KernelNorm1Ideal.nD) → Buf (Elt Ideal) ((c.tc : Thread Cert.KernelNorm1Ideal.nD Cert.KernelNorm1Ideal.τ).loc Cert.KernelNorm1Ideal.main_v0_1)) (v2 : (c : Dev Cert.KernelNorm1Ideal.nD) → Buf (Elt Ideal) ((c.tc : Thread Cert.KernelNorm1Ideal.nD Cert.KernelNorm1Ideal.τ).loc Cert.KernelNorm1Ideal.main_v0_2)) (v3 : (c : Dev Cert.KernelNorm1Ideal.nD) → Buf (Elt Ideal) ((c.tc : Thread Cert.KernelNorm1Ideal.nD Cert.KernelNorm1Ideal.τ).loc Cert.KernelNorm1Ideal.main_v0_3)),
      θ_run (Cert.KernelNorm1Ideal.defs (F := Ideal)) (onTc (τ := Cert.KernelNorm1Ideal.τ) (Cert.KernelNorm1Ideal.main (F := Ideal))) ⟨m, fun _ => 0, g⟩ (fun r => ∀ c : Dev Cert.KernelNorm1Ideal.nD,
          r.2.mem ((c.tc : Thread Cert.KernelNorm1Ideal.nD Cert.KernelNorm1Ideal.τ).loc Cert.KernelNorm1Ideal.main_v0_0) = v0 c
          ∧ r.2.mem ((c.tc : Thread Cert.KernelNorm1Ideal.nD Cert.KernelNorm1Ideal.τ).loc Cert.KernelNorm1Ideal.main_v0_1) = v1 c
          ∧ r.2.mem ((c.tc : Thread Cert.KernelNorm1Ideal.nD Cert.KernelNorm1Ideal.τ).loc Cert.KernelNorm1Ideal.main_v0_2) = v2 c
          ∧ r.2.mem ((c.tc : Thread Cert.KernelNorm1Ideal.nD Cert.KernelNorm1Ideal.τ).loc Cert.KernelNorm1Ideal.main_v0_3) = v3 c
          ∧ r.2.mem ((c.tc : Thread Cert.KernelNorm1Ideal.nD Cert.KernelNorm1Ideal.τ).loc Cert.KernelNorm1Ideal.main_arg0) = m ((c.tc : Thread Cert.KernelNorm1Ideal.nD Cert.KernelNorm1Ideal.τ).loc Cert.KernelNorm1Ideal.main_arg0)
          ∧ r.2.mem ((c.tc : Thread Cert.KernelNorm1Ideal.nD Cert.KernelNorm1Ideal.τ).loc Cert.KernelNorm1Ideal.main_arg1) = m ((c.tc : Thread Cert.KernelNorm1Ideal.nD Cert.KernelNorm1Ideal.τ).loc Cert.KernelNorm1Ideal.main_arg1)
          ∧ r.2.mem ((c.tc : Thread Cert.KernelNorm1Ideal.nD Cert.KernelNorm1Ideal.τ).loc Cert.KernelNorm1Ideal.main_arg2) = m ((c.tc : Thread Cert.KernelNorm1Ideal.nD Cert.KernelNorm1Ideal.τ).loc Cert.KernelNorm1Ideal.main_arg2)
          ∧ r.2.mem ((c.tc : Thread Cert.KernelNorm1Ideal.nD Cert.KernelNorm1Ideal.τ).loc Cert.KernelNorm1Ideal.main_arg3) = m ((c.tc : Thread Cert.KernelNorm1Ideal.nD Cert.KernelNorm1Ideal.τ).loc Cert.KernelNorm1Ideal.main_arg3)
          ∧ r.2.mem ((c.tc : Thread Cert.KernelNorm1Ideal.nD Cert.KernelNorm1Ideal.τ).loc Cert.KernelNorm1Ideal.main_arg4) = m ((c.tc : Thread Cert.KernelNorm1Ideal.nD Cert.KernelNorm1Ideal.τ).loc Cert.KernelNorm1Ideal.main_arg4))
      ∧ θ_run (Cert.ReferenceNorm1Ideal.defs (F := Ideal)) (onTc (τ := Cert.ReferenceNorm1Ideal.τ) (Cert.ReferenceNorm1Ideal.main (F := Ideal))) ⟨m', fun _ => 0, g'⟩ (fun r => ∀ c : Dev Cert.ReferenceNorm1Ideal.nD,
          r.2.mem ((c.tc : Thread Cert.ReferenceNorm1Ideal.nD Cert.ReferenceNorm1Ideal.τ).loc Cert.ReferenceNorm1Ideal.main_v49) = v0 c
          ∧ r.2.mem ((c.tc : Thread Cert.ReferenceNorm1Ideal.nD Cert.ReferenceNorm1Ideal.τ).loc Cert.ReferenceNorm1Ideal.main_v24) = v1 c
          ∧ r.2.mem ((c.tc : Thread Cert.ReferenceNorm1Ideal.nD Cert.ReferenceNorm1Ideal.τ).loc Cert.ReferenceNorm1Ideal.main_v27) = v2 c
          ∧ r.2.mem ((c.tc : Thread Cert.ReferenceNorm1Ideal.nD Cert.ReferenceNorm1Ideal.τ).loc Cert.ReferenceNorm1Ideal.main_v32) = v3 c
          ∧ r.2.mem ((c.tc : Thread Cert.ReferenceNorm1Ideal.nD Cert.ReferenceNorm1Ideal.τ).loc Cert.ReferenceNorm1Ideal.main_arg0) = m' ((c.tc : Thread Cert.ReferenceNorm1Ideal.nD Cert.ReferenceNorm1Ideal.τ).loc Cert.ReferenceNorm1Ideal.main_arg0)
          ∧ r.2.mem ((c.tc : Thread Cert.ReferenceNorm1Ideal.nD Cert.ReferenceNorm1Ideal.τ).loc Cert.ReferenceNorm1Ideal.main_arg1) = m' ((c.tc : Thread Cert.ReferenceNorm1Ideal.nD Cert.ReferenceNorm1Ideal.τ).loc Cert.ReferenceNorm1Ideal.main_arg1)
          ∧ r.2.mem ((c.tc : Thread Cert.ReferenceNorm1Ideal.nD Cert.ReferenceNorm1Ideal.τ).loc Cert.ReferenceNorm1Ideal.main_arg2) = m' ((c.tc : Thread Cert.ReferenceNorm1Ideal.nD Cert.ReferenceNorm1Ideal.τ).loc Cert.ReferenceNorm1Ideal.main_arg2)
          ∧ r.2.mem ((c.tc : Thread Cert.ReferenceNorm1Ideal.nD Cert.ReferenceNorm1Ideal.τ).loc Cert.ReferenceNorm1Ideal.main_arg3) = m' ((c.tc : Thread Cert.ReferenceNorm1Ideal.nD Cert.ReferenceNorm1Ideal.τ).loc Cert.ReferenceNorm1Ideal.main_arg3)
          ∧ r.2.mem ((c.tc : Thread Cert.ReferenceNorm1Ideal.nD Cert.ReferenceNorm1Ideal.τ).loc Cert.ReferenceNorm1Ideal.main_arg4) = m' ((c.tc : Thread Cert.ReferenceNorm1Ideal.nD Cert.ReferenceNorm1Ideal.τ).loc Cert.ReferenceNorm1Ideal.main_arg4))

def preserves_KernelNorm2_KernelNorm2Ideal : Prop :=
  True

def algebraic_KernelNorm2Ideal_ReferenceNorm2Ideal [hKernelNorm2Ideal : Cert.KernelNorm2Ideal.Facts] [hReferenceNorm2Ideal : Cert.ReferenceNorm2Ideal.Facts] : Prop :=
  ∀ (m : (ℓ : Loc Cert.KernelNorm2Ideal.nD Cert.KernelNorm2Ideal.τ Cert.KernelNorm2Ideal.sig) → Buf (Elt Ideal) ℓ) (g : Dev Cert.KernelNorm2Ideal.nD → PrngReg)
    (m' : (ℓ : Loc Cert.ReferenceNorm2Ideal.nD Cert.ReferenceNorm2Ideal.τ Cert.ReferenceNorm2Ideal.sig) → Buf (Elt Ideal) ℓ) (g' : Dev Cert.ReferenceNorm2Ideal.nD → PrngReg), Pre_KernelNorm2Ideal m →
    (∀ c : Dev Cert.KernelNorm2Ideal.nD,
      m' ((c.tc : Thread Cert.ReferenceNorm2Ideal.nD Cert.ReferenceNorm2Ideal.τ).loc Cert.ReferenceNorm2Ideal.main_arg0) = m ((c.tc : Thread Cert.KernelNorm2Ideal.nD Cert.KernelNorm2Ideal.τ).loc Cert.KernelNorm2Ideal.main_arg0)
      ∧ m' ((c.tc : Thread Cert.ReferenceNorm2Ideal.nD Cert.ReferenceNorm2Ideal.τ).loc Cert.ReferenceNorm2Ideal.main_arg1) = m ((c.tc : Thread Cert.KernelNorm2Ideal.nD Cert.KernelNorm2Ideal.τ).loc Cert.KernelNorm2Ideal.main_arg1)
      ∧ m' ((c.tc : Thread Cert.ReferenceNorm2Ideal.nD Cert.ReferenceNorm2Ideal.τ).loc Cert.ReferenceNorm2Ideal.main_arg2) = m ((c.tc : Thread Cert.KernelNorm2Ideal.nD Cert.KernelNorm2Ideal.τ).loc Cert.KernelNorm2Ideal.main_arg2)
      ∧ m' ((c.tc : Thread Cert.ReferenceNorm2Ideal.nD Cert.ReferenceNorm2Ideal.τ).loc Cert.ReferenceNorm2Ideal.main_arg3) = m ((c.tc : Thread Cert.KernelNorm2Ideal.nD Cert.KernelNorm2Ideal.τ).loc Cert.KernelNorm2Ideal.main_arg3)
      ∧ m' ((c.tc : Thread Cert.ReferenceNorm2Ideal.nD Cert.ReferenceNorm2Ideal.τ).loc Cert.ReferenceNorm2Ideal.main_arg4) = m ((c.tc : Thread Cert.KernelNorm2Ideal.nD Cert.KernelNorm2Ideal.τ).loc Cert.KernelNorm2Ideal.main_arg4)
      ∧ m' ((c.tc : Thread Cert.ReferenceNorm2Ideal.nD Cert.ReferenceNorm2Ideal.τ).loc Cert.ReferenceNorm2Ideal.main_arg5) = m ((c.tc : Thread Cert.KernelNorm2Ideal.nD Cert.KernelNorm2Ideal.τ).loc Cert.KernelNorm2Ideal.main_arg5)
      ∧ m' ((c.tc : Thread Cert.ReferenceNorm2Ideal.nD Cert.ReferenceNorm2Ideal.τ).loc Cert.ReferenceNorm2Ideal.main_arg6) = m ((c.tc : Thread Cert.KernelNorm2Ideal.nD Cert.KernelNorm2Ideal.τ).loc Cert.KernelNorm2Ideal.main_arg6)) →
    ∃ (v0 : (c : Dev Cert.KernelNorm2Ideal.nD) → Buf (Elt Ideal) ((c.tc : Thread Cert.KernelNorm2Ideal.nD Cert.KernelNorm2Ideal.τ).loc Cert.KernelNorm2Ideal.main_v0_0)) (v1 : (c : Dev Cert.KernelNorm2Ideal.nD) → Buf (Elt Ideal) ((c.tc : Thread Cert.KernelNorm2Ideal.nD Cert.KernelNorm2Ideal.τ).loc Cert.KernelNorm2Ideal.main_v0_1)) (v2 : (c : Dev Cert.KernelNorm2Ideal.nD) → Buf (Elt Ideal) ((c.tc : Thread Cert.KernelNorm2Ideal.nD Cert.KernelNorm2Ideal.τ).loc Cert.KernelNorm2Ideal.main_v0_2)) (v3 : (c : Dev Cert.KernelNorm2Ideal.nD) → Buf (Elt Ideal) ((c.tc : Thread Cert.KernelNorm2Ideal.nD Cert.KernelNorm2Ideal.τ).loc Cert.KernelNorm2Ideal.main_v0_3)) (v4 : (c : Dev Cert.KernelNorm2Ideal.nD) → Buf (Elt Ideal) ((c.tc : Thread Cert.KernelNorm2Ideal.nD Cert.KernelNorm2Ideal.τ).loc Cert.KernelNorm2Ideal.main_v0_4)) (v5 : (c : Dev Cert.KernelNorm2Ideal.nD) → Buf (Elt Ideal) ((c.tc : Thread Cert.KernelNorm2Ideal.nD Cert.KernelNorm2Ideal.τ).loc Cert.KernelNorm2Ideal.main_v0_5)),
      θ_run (Cert.KernelNorm2Ideal.defs (F := Ideal)) (onTc (τ := Cert.KernelNorm2Ideal.τ) (Cert.KernelNorm2Ideal.main (F := Ideal))) ⟨m, fun _ => 0, g⟩ (fun r => ∀ c : Dev Cert.KernelNorm2Ideal.nD,
          r.2.mem ((c.tc : Thread Cert.KernelNorm2Ideal.nD Cert.KernelNorm2Ideal.τ).loc Cert.KernelNorm2Ideal.main_v0_0) = v0 c
          ∧ r.2.mem ((c.tc : Thread Cert.KernelNorm2Ideal.nD Cert.KernelNorm2Ideal.τ).loc Cert.KernelNorm2Ideal.main_v0_1) = v1 c
          ∧ r.2.mem ((c.tc : Thread Cert.KernelNorm2Ideal.nD Cert.KernelNorm2Ideal.τ).loc Cert.KernelNorm2Ideal.main_v0_2) = v2 c
          ∧ r.2.mem ((c.tc : Thread Cert.KernelNorm2Ideal.nD Cert.KernelNorm2Ideal.τ).loc Cert.KernelNorm2Ideal.main_v0_3) = v3 c
          ∧ r.2.mem ((c.tc : Thread Cert.KernelNorm2Ideal.nD Cert.KernelNorm2Ideal.τ).loc Cert.KernelNorm2Ideal.main_v0_4) = v4 c
          ∧ r.2.mem ((c.tc : Thread Cert.KernelNorm2Ideal.nD Cert.KernelNorm2Ideal.τ).loc Cert.KernelNorm2Ideal.main_v0_5) = v5 c
          ∧ r.2.mem ((c.tc : Thread Cert.KernelNorm2Ideal.nD Cert.KernelNorm2Ideal.τ).loc Cert.KernelNorm2Ideal.main_arg0) = m ((c.tc : Thread Cert.KernelNorm2Ideal.nD Cert.KernelNorm2Ideal.τ).loc Cert.KernelNorm2Ideal.main_arg0)
          ∧ r.2.mem ((c.tc : Thread Cert.KernelNorm2Ideal.nD Cert.KernelNorm2Ideal.τ).loc Cert.KernelNorm2Ideal.main_arg1) = m ((c.tc : Thread Cert.KernelNorm2Ideal.nD Cert.KernelNorm2Ideal.τ).loc Cert.KernelNorm2Ideal.main_arg1)
          ∧ r.2.mem ((c.tc : Thread Cert.KernelNorm2Ideal.nD Cert.KernelNorm2Ideal.τ).loc Cert.KernelNorm2Ideal.main_arg2) = m ((c.tc : Thread Cert.KernelNorm2Ideal.nD Cert.KernelNorm2Ideal.τ).loc Cert.KernelNorm2Ideal.main_arg2)
          ∧ r.2.mem ((c.tc : Thread Cert.KernelNorm2Ideal.nD Cert.KernelNorm2Ideal.τ).loc Cert.KernelNorm2Ideal.main_arg3) = m ((c.tc : Thread Cert.KernelNorm2Ideal.nD Cert.KernelNorm2Ideal.τ).loc Cert.KernelNorm2Ideal.main_arg3)
          ∧ r.2.mem ((c.tc : Thread Cert.KernelNorm2Ideal.nD Cert.KernelNorm2Ideal.τ).loc Cert.KernelNorm2Ideal.main_arg4) = m ((c.tc : Thread Cert.KernelNorm2Ideal.nD Cert.KernelNorm2Ideal.τ).loc Cert.KernelNorm2Ideal.main_arg4)
          ∧ r.2.mem ((c.tc : Thread Cert.KernelNorm2Ideal.nD Cert.KernelNorm2Ideal.τ).loc Cert.KernelNorm2Ideal.main_arg5) = m ((c.tc : Thread Cert.KernelNorm2Ideal.nD Cert.KernelNorm2Ideal.τ).loc Cert.KernelNorm2Ideal.main_arg5)
          ∧ r.2.mem ((c.tc : Thread Cert.KernelNorm2Ideal.nD Cert.KernelNorm2Ideal.τ).loc Cert.KernelNorm2Ideal.main_arg6) = m ((c.tc : Thread Cert.KernelNorm2Ideal.nD Cert.KernelNorm2Ideal.τ).loc Cert.KernelNorm2Ideal.main_arg6))
      ∧ θ_run (Cert.ReferenceNorm2Ideal.defs (F := Ideal)) (onTc (τ := Cert.ReferenceNorm2Ideal.τ) (Cert.ReferenceNorm2Ideal.main (F := Ideal))) ⟨m', fun _ => 0, g'⟩ (fun r => ∀ c : Dev Cert.ReferenceNorm2Ideal.nD,
          r.2.mem ((c.tc : Thread Cert.ReferenceNorm2Ideal.nD Cert.ReferenceNorm2Ideal.τ).loc Cert.ReferenceNorm2Ideal.main_v49) = v0 c
          ∧ r.2.mem ((c.tc : Thread Cert.ReferenceNorm2Ideal.nD Cert.ReferenceNorm2Ideal.τ).loc Cert.ReferenceNorm2Ideal.main_v57) = v1 c
          ∧ r.2.mem ((c.tc : Thread Cert.ReferenceNorm2Ideal.nD Cert.ReferenceNorm2Ideal.τ).loc Cert.ReferenceNorm2Ideal.main_v24) = v2 c
          ∧ r.2.mem ((c.tc : Thread Cert.ReferenceNorm2Ideal.nD Cert.ReferenceNorm2Ideal.τ).loc Cert.ReferenceNorm2Ideal.main_v27) = v3 c
          ∧ r.2.mem ((c.tc : Thread Cert.ReferenceNorm2Ideal.nD Cert.ReferenceNorm2Ideal.τ).loc Cert.ReferenceNorm2Ideal.main_v32) = v4 c
          ∧ r.2.mem ((c.tc : Thread Cert.ReferenceNorm2Ideal.nD Cert.ReferenceNorm2Ideal.τ).loc Cert.ReferenceNorm2Ideal.main_v56) = v5 c
          ∧ r.2.mem ((c.tc : Thread Cert.ReferenceNorm2Ideal.nD Cert.ReferenceNorm2Ideal.τ).loc Cert.ReferenceNorm2Ideal.main_arg0) = m' ((c.tc : Thread Cert.ReferenceNorm2Ideal.nD Cert.ReferenceNorm2Ideal.τ).loc Cert.ReferenceNorm2Ideal.main_arg0)
          ∧ r.2.mem ((c.tc : Thread Cert.ReferenceNorm2Ideal.nD Cert.ReferenceNorm2Ideal.τ).loc Cert.ReferenceNorm2Ideal.main_arg1) = m' ((c.tc : Thread Cert.ReferenceNorm2Ideal.nD Cert.ReferenceNorm2Ideal.τ).loc Cert.ReferenceNorm2Ideal.main_arg1)
          ∧ r.2.mem ((c.tc : Thread Cert.ReferenceNorm2Ideal.nD Cert.ReferenceNorm2Ideal.τ).loc Cert.ReferenceNorm2Ideal.main_arg2) = m' ((c.tc : Thread Cert.ReferenceNorm2Ideal.nD Cert.ReferenceNorm2Ideal.τ).loc Cert.ReferenceNorm2Ideal.main_arg2)
          ∧ r.2.mem ((c.tc : Thread Cert.ReferenceNorm2Ideal.nD Cert.ReferenceNorm2Ideal.τ).loc Cert.ReferenceNorm2Ideal.main_arg3) = m' ((c.tc : Thread Cert.ReferenceNorm2Ideal.nD Cert.ReferenceNorm2Ideal.τ).loc Cert.ReferenceNorm2Ideal.main_arg3)
          ∧ r.2.mem ((c.tc : Thread Cert.ReferenceNorm2Ideal.nD Cert.ReferenceNorm2Ideal.τ).loc Cert.ReferenceNorm2Ideal.main_arg4) = m' ((c.tc : Thread Cert.ReferenceNorm2Ideal.nD Cert.ReferenceNorm2Ideal.τ).loc Cert.ReferenceNorm2Ideal.main_arg4)
          ∧ r.2.mem ((c.tc : Thread Cert.ReferenceNorm2Ideal.nD Cert.ReferenceNorm2Ideal.τ).loc Cert.ReferenceNorm2Ideal.main_arg5) = m' ((c.tc : Thread Cert.ReferenceNorm2Ideal.nD Cert.ReferenceNorm2Ideal.τ).loc Cert.ReferenceNorm2Ideal.main_arg5)
          ∧ r.2.mem ((c.tc : Thread Cert.ReferenceNorm2Ideal.nD Cert.ReferenceNorm2Ideal.τ).loc Cert.ReferenceNorm2Ideal.main_arg6) = m' ((c.tc : Thread Cert.ReferenceNorm2Ideal.nD Cert.ReferenceNorm2Ideal.τ).loc Cert.ReferenceNorm2Ideal.main_arg6))

def preserves_KernelDout_KernelDoutIdeal : Prop :=
  True

def algebraic_KernelDoutIdeal_ReferenceDoutIdeal [hKernelDoutIdeal : Cert.KernelDoutIdeal.Facts] [hReferenceDoutIdeal : Cert.ReferenceDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)
      ∧ m' ((c.tc : Thread Cert.ReferenceDoutIdeal.nD Cert.ReferenceDoutIdeal.τ).loc Cert.ReferenceDoutIdeal.main_arg2) = m ((c.tc : Thread Cert.KernelDoutIdeal.nD Cert.KernelDoutIdeal.τ).loc Cert.KernelDoutIdeal.main_arg2)) →
    ∃ (v0 : (c : Dev Cert.KernelDoutIdeal.nD) → Buf (Elt Ideal) ((c.tc : Thread Cert.KernelDoutIdeal.nD Cert.KernelDoutIdeal.τ).loc Cert.KernelDoutIdeal.main_v2)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v2) = v0 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1)
          ∧ r.2.mem ((c.tc : Thread Cert.KernelDoutIdeal.nD Cert.KernelDoutIdeal.τ).loc Cert.KernelDoutIdeal.main_arg2) = m ((c.tc : Thread Cert.KernelDoutIdeal.nD Cert.KernelDoutIdeal.τ).loc Cert.KernelDoutIdeal.main_arg2))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v1) = v0 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1)
          ∧ r.2.mem ((c.tc : Thread Cert.ReferenceDoutIdeal.nD Cert.ReferenceDoutIdeal.τ).loc Cert.ReferenceDoutIdeal.main_arg2) = m' ((c.tc : Thread Cert.ReferenceDoutIdeal.nD Cert.ReferenceDoutIdeal.τ).loc Cert.ReferenceDoutIdeal.main_arg2))

def preserves_KernelGwOut_KernelGwOutIdeal : Prop :=
  True

def algebraic_KernelGwOutIdeal_ReferenceGwOutIdeal [hKernelGwOutIdeal : Cert.KernelGwOutIdeal.Facts] [hReferenceGwOutIdeal : Cert.ReferenceGwOutIdeal.Facts] : Prop :=
  ∀ (m : (ℓ : Loc Cert.KernelGwOutIdeal.nD Cert.KernelGwOutIdeal.τ Cert.KernelGwOutIdeal.sig) → Buf (Elt Ideal) ℓ) (g : Dev Cert.KernelGwOutIdeal.nD → PrngReg)
    (m' : (ℓ : Loc Cert.ReferenceGwOutIdeal.nD Cert.ReferenceGwOutIdeal.τ Cert.ReferenceGwOutIdeal.sig) → Buf (Elt Ideal) ℓ) (g' : Dev Cert.ReferenceGwOutIdeal.nD → PrngReg), Pre_KernelGwOutIdeal m →
    (∀ c : Dev Cert.KernelGwOutIdeal.nD,
      m' ((c.tc : Thread Cert.ReferenceGwOutIdeal.nD Cert.ReferenceGwOutIdeal.τ).loc Cert.ReferenceGwOutIdeal.main_arg0) = m ((c.tc : Thread Cert.KernelGwOutIdeal.nD Cert.KernelGwOutIdeal.τ).loc Cert.KernelGwOutIdeal.main_arg0)
      ∧ m' ((c.tc : Thread Cert.ReferenceGwOutIdeal.nD Cert.ReferenceGwOutIdeal.τ).loc Cert.ReferenceGwOutIdeal.main_arg1) = m ((c.tc : Thread Cert.KernelGwOutIdeal.nD Cert.KernelGwOutIdeal.τ).loc Cert.KernelGwOutIdeal.main_arg1)
      ∧ m' ((c.tc : Thread Cert.ReferenceGwOutIdeal.nD Cert.ReferenceGwOutIdeal.τ).loc Cert.ReferenceGwOutIdeal.main_arg2) = m ((c.tc : Thread Cert.KernelGwOutIdeal.nD Cert.KernelGwOutIdeal.τ).loc Cert.KernelGwOutIdeal.main_arg2)) →
    ∃ (v0 : (c : Dev Cert.KernelGwOutIdeal.nD) → Buf (Elt Ideal) ((c.tc : Thread Cert.KernelGwOutIdeal.nD Cert.KernelGwOutIdeal.τ).loc Cert.KernelGwOutIdeal.main_v2)),
      θ_run (Cert.KernelGwOutIdeal.defs (F := Ideal)) (onTc (τ := Cert.KernelGwOutIdeal.τ) (Cert.KernelGwOutIdeal.main (F := Ideal))) ⟨m, fun _ => 0, g⟩ (fun r => ∀ c : Dev Cert.KernelGwOutIdeal.nD,
          r.2.mem ((c.tc : Thread Cert.KernelGwOutIdeal.nD Cert.KernelGwOutIdeal.τ).loc Cert.KernelGwOutIdeal.main_v2) = v0 c
          ∧ r.2.mem ((c.tc : Thread Cert.KernelGwOutIdeal.nD Cert.KernelGwOutIdeal.τ).loc Cert.KernelGwOutIdeal.main_arg0) = m ((c.tc : Thread Cert.KernelGwOutIdeal.nD Cert.KernelGwOutIdeal.τ).loc Cert.KernelGwOutIdeal.main_arg0)
          ∧ r.2.mem ((c.tc : Thread Cert.KernelGwOutIdeal.nD Cert.KernelGwOutIdeal.τ).loc Cert.KernelGwOutIdeal.main_arg1) = m ((c.tc : Thread Cert.KernelGwOutIdeal.nD Cert.KernelGwOutIdeal.τ).loc Cert.KernelGwOutIdeal.main_arg1)
          ∧ r.2.mem ((c.tc : Thread Cert.KernelGwOutIdeal.nD Cert.KernelGwOutIdeal.τ).loc Cert.KernelGwOutIdeal.main_arg2) = m ((c.tc : Thread Cert.KernelGwOutIdeal.nD Cert.KernelGwOutIdeal.τ).loc Cert.KernelGwOutIdeal.main_arg2))
      ∧ θ_run (Cert.ReferenceGwOutIdeal.defs (F := Ideal)) (onTc (τ := Cert.ReferenceGwOutIdeal.τ) (Cert.ReferenceGwOutIdeal.main (F := Ideal))) ⟨m', fun _ => 0, g'⟩ (fun r => ∀ c : Dev Cert.ReferenceGwOutIdeal.nD,
          r.2.mem ((c.tc : Thread Cert.ReferenceGwOutIdeal.nD Cert.ReferenceGwOutIdeal.τ).loc Cert.ReferenceGwOutIdeal.main_v3) = v0 c
          ∧ r.2.mem ((c.tc : Thread Cert.ReferenceGwOutIdeal.nD Cert.ReferenceGwOutIdeal.τ).loc Cert.ReferenceGwOutIdeal.main_arg0) = m' ((c.tc : Thread Cert.ReferenceGwOutIdeal.nD Cert.ReferenceGwOutIdeal.τ).loc Cert.ReferenceGwOutIdeal.main_arg0)
          ∧ r.2.mem ((c.tc : Thread Cert.ReferenceGwOutIdeal.nD Cert.ReferenceGwOutIdeal.τ).loc Cert.ReferenceGwOutIdeal.main_arg1) = m' ((c.tc : Thread Cert.ReferenceGwOutIdeal.nD Cert.ReferenceGwOutIdeal.τ).loc Cert.ReferenceGwOutIdeal.main_arg1)
          ∧ r.2.mem ((c.tc : Thread Cert.ReferenceGwOutIdeal.nD Cert.ReferenceGwOutIdeal.τ).loc Cert.ReferenceGwOutIdeal.main_arg2) = m' ((c.tc : Thread Cert.ReferenceGwOutIdeal.nD Cert.ReferenceGwOutIdeal.τ).loc Cert.ReferenceGwOutIdeal.main_arg2))

def preserves_KernelGwIn_KernelGwInIdeal : Prop :=
  True

def algebraic_KernelGwInIdeal_ReferenceGwInIdeal [hKernelGwInIdeal : Cert.KernelGwInIdeal.Facts] [hReferenceGwInIdeal : Cert.ReferenceGwInIdeal.Facts] : Prop :=
  ∀ (m : (ℓ : Loc Cert.KernelGwInIdeal.nD Cert.KernelGwInIdeal.τ Cert.KernelGwInIdeal.sig) → Buf (Elt Ideal) ℓ) (g : Dev Cert.KernelGwInIdeal.nD → PrngReg)
    (m' : (ℓ : Loc Cert.ReferenceGwInIdeal.nD Cert.ReferenceGwInIdeal.τ Cert.ReferenceGwInIdeal.sig) → Buf (Elt Ideal) ℓ) (g' : Dev Cert.ReferenceGwInIdeal.nD → PrngReg), Pre_KernelGwInIdeal m →
    (∀ c : Dev Cert.KernelGwInIdeal.nD,
      m' ((c.tc : Thread Cert.ReferenceGwInIdeal.nD Cert.ReferenceGwInIdeal.τ).loc Cert.ReferenceGwInIdeal.main_arg0) = m ((c.tc : Thread Cert.KernelGwInIdeal.nD Cert.KernelGwInIdeal.τ).loc Cert.KernelGwInIdeal.main_arg0)
      ∧ m' ((c.tc : Thread Cert.ReferenceGwInIdeal.nD Cert.ReferenceGwInIdeal.τ).loc Cert.ReferenceGwInIdeal.main_arg1) = m ((c.tc : Thread Cert.KernelGwInIdeal.nD Cert.KernelGwInIdeal.τ).loc Cert.KernelGwInIdeal.main_arg1)
      ∧ m' ((c.tc : Thread Cert.ReferenceGwInIdeal.nD Cert.ReferenceGwInIdeal.τ).loc Cert.ReferenceGwInIdeal.main_arg2) = m ((c.tc : Thread Cert.KernelGwInIdeal.nD Cert.KernelGwInIdeal.τ).loc Cert.KernelGwInIdeal.main_arg2)) →
    ∃ (v0 : (c : Dev Cert.KernelGwInIdeal.nD) → Buf (Elt Ideal) ((c.tc : Thread Cert.KernelGwInIdeal.nD Cert.KernelGwInIdeal.τ).loc Cert.KernelGwInIdeal.main_v2)),
      θ_run (Cert.KernelGwInIdeal.defs (F := Ideal)) (onTc (τ := Cert.KernelGwInIdeal.τ) (Cert.KernelGwInIdeal.main (F := Ideal))) ⟨m, fun _ => 0, g⟩ (fun r => ∀ c : Dev Cert.KernelGwInIdeal.nD,
          r.2.mem ((c.tc : Thread Cert.KernelGwInIdeal.nD Cert.KernelGwInIdeal.τ).loc Cert.KernelGwInIdeal.main_v2) = v0 c
          ∧ r.2.mem ((c.tc : Thread Cert.KernelGwInIdeal.nD Cert.KernelGwInIdeal.τ).loc Cert.KernelGwInIdeal.main_arg0) = m ((c.tc : Thread Cert.KernelGwInIdeal.nD Cert.KernelGwInIdeal.τ).loc Cert.KernelGwInIdeal.main_arg0)
          ∧ r.2.mem ((c.tc : Thread Cert.KernelGwInIdeal.nD Cert.KernelGwInIdeal.τ).loc Cert.KernelGwInIdeal.main_arg1) = m ((c.tc : Thread Cert.KernelGwInIdeal.nD Cert.KernelGwInIdeal.τ).loc Cert.KernelGwInIdeal.main_arg1)
          ∧ r.2.mem ((c.tc : Thread Cert.KernelGwInIdeal.nD Cert.KernelGwInIdeal.τ).loc Cert.KernelGwInIdeal.main_arg2) = m ((c.tc : Thread Cert.KernelGwInIdeal.nD Cert.KernelGwInIdeal.τ).loc Cert.KernelGwInIdeal.main_arg2))
      ∧ θ_run (Cert.ReferenceGwInIdeal.defs (F := Ideal)) (onTc (τ := Cert.ReferenceGwInIdeal.τ) (Cert.ReferenceGwInIdeal.main (F := Ideal))) ⟨m', fun _ => 0, g'⟩ (fun r => ∀ c : Dev Cert.ReferenceGwInIdeal.nD,
          r.2.mem ((c.tc : Thread Cert.ReferenceGwInIdeal.nD Cert.ReferenceGwInIdeal.τ).loc Cert.ReferenceGwInIdeal.main_v5) = v0 c
          ∧ r.2.mem ((c.tc : Thread Cert.ReferenceGwInIdeal.nD Cert.ReferenceGwInIdeal.τ).loc Cert.ReferenceGwInIdeal.main_arg0) = m' ((c.tc : Thread Cert.ReferenceGwInIdeal.nD Cert.ReferenceGwInIdeal.τ).loc Cert.ReferenceGwInIdeal.main_arg0)
          ∧ r.2.mem ((c.tc : Thread Cert.ReferenceGwInIdeal.nD Cert.ReferenceGwInIdeal.τ).loc Cert.ReferenceGwInIdeal.main_arg1) = m' ((c.tc : Thread Cert.ReferenceGwInIdeal.nD Cert.ReferenceGwInIdeal.τ).loc Cert.ReferenceGwInIdeal.main_arg1)
          ∧ r.2.mem ((c.tc : Thread Cert.ReferenceGwInIdeal.nD Cert.ReferenceGwInIdeal.τ).loc Cert.ReferenceGwInIdeal.main_arg2) = m' ((c.tc : Thread Cert.ReferenceGwInIdeal.nD Cert.ReferenceGwInIdeal.τ).loc Cert.ReferenceGwInIdeal.main_arg2))

def preserves_KernelDin_KernelDinIdeal : Prop :=
  True

def algebraic_KernelDinIdeal_ReferenceDinIdeal [hKernelDinIdeal : Cert.KernelDinIdeal.Facts] [hReferenceDinIdeal : Cert.ReferenceDinIdeal.Facts] : Prop :=
  ∀ (m : (ℓ : Loc Cert.KernelDinIdeal.nD Cert.KernelDinIdeal.τ Cert.KernelDinIdeal.sig) → Buf (Elt Ideal) ℓ) (g : Dev Cert.KernelDinIdeal.nD → PrngReg)
    (m' : (ℓ : Loc Cert.ReferenceDinIdeal.nD Cert.ReferenceDinIdeal.τ Cert.ReferenceDinIdeal.sig) → Buf (Elt Ideal) ℓ) (g' : Dev Cert.ReferenceDinIdeal.nD → PrngReg), Pre_KernelDinIdeal m →
    (∀ c : Dev Cert.KernelDinIdeal.nD,
      m' ((c.tc : Thread Cert.ReferenceDinIdeal.nD Cert.ReferenceDinIdeal.τ).loc Cert.ReferenceDinIdeal.main_arg0) = m ((c.tc : Thread Cert.KernelDinIdeal.nD Cert.KernelDinIdeal.τ).loc Cert.KernelDinIdeal.main_arg0)
      ∧ m' ((c.tc : Thread Cert.ReferenceDinIdeal.nD Cert.ReferenceDinIdeal.τ).loc Cert.ReferenceDinIdeal.main_arg1) = m ((c.tc : Thread Cert.KernelDinIdeal.nD Cert.KernelDinIdeal.τ).loc Cert.KernelDinIdeal.main_arg1)
      ∧ m' ((c.tc : Thread Cert.ReferenceDinIdeal.nD Cert.ReferenceDinIdeal.τ).loc Cert.ReferenceDinIdeal.main_arg2) = m ((c.tc : Thread Cert.KernelDinIdeal.nD Cert.KernelDinIdeal.τ).loc Cert.KernelDinIdeal.main_arg2)) →
    ∃ (v0 : (c : Dev Cert.KernelDinIdeal.nD) → Buf (Elt Ideal) ((c.tc : Thread Cert.KernelDinIdeal.nD Cert.KernelDinIdeal.τ).loc Cert.KernelDinIdeal.main_v4)),
      θ_run (Cert.KernelDinIdeal.defs (F := Ideal)) (onTc (τ := Cert.KernelDinIdeal.τ) (Cert.KernelDinIdeal.main (F := Ideal))) ⟨m, fun _ => 0, g⟩ (fun r => ∀ c : Dev Cert.KernelDinIdeal.nD,
          r.2.mem ((c.tc : Thread Cert.KernelDinIdeal.nD Cert.KernelDinIdeal.τ).loc Cert.KernelDinIdeal.main_v4) = v0 c
          ∧ r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
          ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1)
          ∧ r.2.mem ((c.tc : Thread Cert.KernelDinIdeal.nD Cert.KernelDinIdeal.τ).loc Cert.KernelDinIdeal.main_arg2) = m ((c.tc : Thread Cert.KernelDinIdeal.nD Cert.KernelDinIdeal.τ).loc Cert.KernelDinIdeal.main_arg2))
      ∧ θ_run (Cert.ReferenceDinIdeal.defs (F := Ideal)) (onTc (τ := Cert.ReferenceDinIdeal.τ) (Cert.ReferenceDinIdeal.main (F := Ideal))) ⟨m', fun _ => 0, g'⟩ (fun r => ∀ c : Dev Cert.ReferenceDinIdeal.nD,
          r.2.mem ((c.tc : Thread Cert.ReferenceDinIdeal.nD Cert.ReferenceDinIdeal.τ).loc Cert.ReferenceDinIdeal.main_v1) = v0 c
          ∧ r.2.mem ((c.tc : Thread Cert.ReferenceDinIdeal.nD Cert.ReferenceDinIdeal.τ).loc Cert.ReferenceDinIdeal.main_arg0) = m' ((c.tc : Thread Cert.ReferenceDinIdeal.nD Cert.ReferenceDinIdeal.τ).loc Cert.ReferenceDinIdeal.main_arg0)
          ∧ r.2.mem ((c.tc : Thread Cert.ReferenceDinIdeal.nD Cert.ReferenceDinIdeal.τ).loc Cert.ReferenceDinIdeal.main_arg1) = m' ((c.tc : Thread Cert.ReferenceDinIdeal.nD Cert.ReferenceDinIdeal.τ).loc Cert.ReferenceDinIdeal.main_arg1)
          ∧ r.2.mem ((c.tc : Thread Cert.ReferenceDinIdeal.nD Cert.ReferenceDinIdeal.τ).loc Cert.ReferenceDinIdeal.main_arg2) = m' ((c.tc : Thread Cert.ReferenceDinIdeal.nD Cert.ReferenceDinIdeal.τ).loc Cert.ReferenceDinIdeal.main_arg2))

def preserves_KernelGwGlu_KernelGwGluIdeal : Prop :=
  True

def algebraic_KernelGwGluIdeal_ReferenceGwGluIdeal [hKernelGwGluIdeal : Cert.KernelGwGluIdeal.Facts] [hReferenceGwGluIdeal : Cert.ReferenceGwGluIdeal.Facts] : Prop :=
  ∀ (m : (ℓ : Loc Cert.KernelGwGluIdeal.nD Cert.KernelGwGluIdeal.τ Cert.KernelGwGluIdeal.sig) → Buf (Elt Ideal) ℓ) (g : Dev Cert.KernelGwGluIdeal.nD → PrngReg)
    (m' : (ℓ : Loc Cert.ReferenceGwGluIdeal.nD Cert.ReferenceGwGluIdeal.τ Cert.ReferenceGwGluIdeal.sig) → Buf (Elt Ideal) ℓ) (g' : Dev Cert.ReferenceGwGluIdeal.nD → PrngReg), Pre_KernelGwGluIdeal m →
    (∀ c : Dev Cert.KernelGwGluIdeal.nD,
      m' ((c.tc : Thread Cert.ReferenceGwGluIdeal.nD Cert.ReferenceGwGluIdeal.τ).loc Cert.ReferenceGwGluIdeal.main_arg0) = m ((c.tc : Thread Cert.KernelGwGluIdeal.nD Cert.KernelGwGluIdeal.τ).loc Cert.KernelGwGluIdeal.main_arg0)
      ∧ m' ((c.tc : Thread Cert.ReferenceGwGluIdeal.nD Cert.ReferenceGwGluIdeal.τ).loc Cert.ReferenceGwGluIdeal.main_arg1) = m ((c.tc : Thread Cert.KernelGwGluIdeal.nD Cert.KernelGwGluIdeal.τ).loc Cert.KernelGwGluIdeal.main_arg1)
      ∧ m' ((c.tc : Thread Cert.ReferenceGwGluIdeal.nD Cert.ReferenceGwGluIdeal.τ).loc Cert.ReferenceGwGluIdeal.main_arg2) = m ((c.tc : Thread Cert.KernelGwGluIdeal.nD Cert.KernelGwGluIdeal.τ).loc Cert.KernelGwGluIdeal.main_arg2)) →
    ∃ (v0 : (c : Dev Cert.KernelGwGluIdeal.nD) → Buf (Elt Ideal) ((c.tc : Thread Cert.KernelGwGluIdeal.nD Cert.KernelGwGluIdeal.τ).loc Cert.KernelGwGluIdeal.main_v2)),
      θ_run (Cert.KernelGwGluIdeal.defs (F := Ideal)) (onTc (τ := Cert.KernelGwGluIdeal.τ) (Cert.KernelGwGluIdeal.main (F := Ideal))) ⟨m, fun _ => 0, g⟩ (fun r => ∀ c : Dev Cert.KernelGwGluIdeal.nD,
          r.2.mem ((c.tc : Thread Cert.KernelGwGluIdeal.nD Cert.KernelGwGluIdeal.τ).loc Cert.KernelGwGluIdeal.main_v2) = v0 c
          ∧ r.2.mem ((c.tc : Thread Cert.KernelGwGluIdeal.nD Cert.KernelGwGluIdeal.τ).loc Cert.KernelGwGluIdeal.main_arg0) = m ((c.tc : Thread Cert.KernelGwGluIdeal.nD Cert.KernelGwGluIdeal.τ).loc Cert.KernelGwGluIdeal.main_arg0)
          ∧ r.2.mem ((c.tc : Thread Cert.KernelGwGluIdeal.nD Cert.KernelGwGluIdeal.τ).loc Cert.KernelGwGluIdeal.main_arg1) = m ((c.tc : Thread Cert.KernelGwGluIdeal.nD Cert.KernelGwGluIdeal.τ).loc Cert.KernelGwGluIdeal.main_arg1)
          ∧ r.2.mem ((c.tc : Thread Cert.KernelGwGluIdeal.nD Cert.KernelGwGluIdeal.τ).loc Cert.KernelGwGluIdeal.main_arg2) = m ((c.tc : Thread Cert.KernelGwGluIdeal.nD Cert.KernelGwGluIdeal.τ).loc Cert.KernelGwGluIdeal.main_arg2))
      ∧ θ_run (Cert.ReferenceGwGluIdeal.defs (F := Ideal)) (onTc (τ := Cert.ReferenceGwGluIdeal.τ) (Cert.ReferenceGwGluIdeal.main (F := Ideal))) ⟨m', fun _ => 0, g'⟩ (fun r => ∀ c : Dev Cert.ReferenceGwGluIdeal.nD,
          r.2.mem ((c.tc : Thread Cert.ReferenceGwGluIdeal.nD Cert.ReferenceGwGluIdeal.τ).loc Cert.ReferenceGwGluIdeal.main_v3) = v0 c
          ∧ r.2.mem ((c.tc : Thread Cert.ReferenceGwGluIdeal.nD Cert.ReferenceGwGluIdeal.τ).loc Cert.ReferenceGwGluIdeal.main_arg0) = m' ((c.tc : Thread Cert.ReferenceGwGluIdeal.nD Cert.ReferenceGwGluIdeal.τ).loc Cert.ReferenceGwGluIdeal.main_arg0)
          ∧ r.2.mem ((c.tc : Thread Cert.ReferenceGwGluIdeal.nD Cert.ReferenceGwGluIdeal.τ).loc Cert.ReferenceGwGluIdeal.main_arg1) = m' ((c.tc : Thread Cert.ReferenceGwGluIdeal.nD Cert.ReferenceGwGluIdeal.τ).loc Cert.ReferenceGwGluIdeal.main_arg1)
          ∧ r.2.mem ((c.tc : Thread Cert.ReferenceGwGluIdeal.nD Cert.ReferenceGwGluIdeal.τ).loc Cert.ReferenceGwGluIdeal.main_arg2) = m' ((c.tc : Thread Cert.ReferenceGwGluIdeal.nD Cert.ReferenceGwGluIdeal.τ).loc Cert.ReferenceGwGluIdeal.main_arg2))

def preserves_KernelFf1_KernelFf1Ideal : Prop :=
  True

def algebraic_KernelFf1Ideal_ReferenceFf1Ideal [hKernelFf1Ideal : Cert.KernelFf1Ideal.Facts] [hReferenceFf1Ideal : Cert.ReferenceFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg)
    (m' : (ℓ : Loc Cert.ReferenceFf1Ideal.nD Cert.ReferenceFf1Ideal.τ Cert.ReferenceFf1Ideal.sig) → Buf (Elt Ideal) ℓ) (g' : Dev Cert.ReferenceFf1Ideal.nD → PrngReg), Pre_KernelFf1Ideal m →
    (∀ c : Dev Cert.KernelFf1Ideal.nD,
      m' ((c.tc : Thread Cert.ReferenceFf1Ideal.nD Cert.ReferenceFf1Ideal.τ).loc Cert.ReferenceFf1Ideal.main_arg0) = m ((c.tc : Thread Cert.KernelFf1Ideal.nD Cert.KernelFf1Ideal.τ).loc Cert.KernelFf1Ideal.main_arg0)
      ∧ m' ((c.tc : Thread Cert.ReferenceFf1Ideal.nD Cert.ReferenceFf1Ideal.τ).loc Cert.ReferenceFf1Ideal.main_arg1) = m ((c.tc : Thread Cert.KernelFf1Ideal.nD Cert.KernelFf1Ideal.τ).loc Cert.KernelFf1Ideal.main_arg1)) →
    ∃ (v0 : (c : Dev Cert.KernelFf1Ideal.nD) → Buf (Elt Ideal) ((c.tc : Thread Cert.KernelFf1Ideal.nD Cert.KernelFf1Ideal.τ).loc Cert.KernelFf1Ideal.main_v4_0)) (v1 : (c : Dev Cert.KernelFf1Ideal.nD) → Buf (Elt Ideal) ((c.tc : Thread Cert.KernelFf1Ideal.nD Cert.KernelFf1Ideal.τ).loc Cert.KernelFf1Ideal.main_v4_1)),
      θ_run (Cert.KernelFf1Ideal.defs (F := Ideal)) (onTc (τ := Cert.KernelFf1Ideal.τ) (Cert.KernelFf1Ideal.main (F := Ideal))) ⟨m, fun _ => 0, g⟩ (fun r => ∀ c : Dev Cert.KernelFf1Ideal.nD,
          r.2.mem ((c.tc : Thread Cert.KernelFf1Ideal.nD Cert.KernelFf1Ideal.τ).loc Cert.KernelFf1Ideal.main_v4_0) = v0 c
          ∧ r.2.mem ((c.tc : Thread Cert.KernelFf1Ideal.nD Cert.KernelFf1Ideal.τ).loc Cert.KernelFf1Ideal.main_v4_1) = v1 c
          ∧ r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
          ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ θ_run (Cert.ReferenceFf1Ideal.defs (F := Ideal)) (onTc (τ := Cert.ReferenceFf1Ideal.τ) (Cert.ReferenceFf1Ideal.main (F := Ideal))) ⟨m', fun _ => 0, g'⟩ (fun r => ∀ c : Dev Cert.ReferenceFf1Ideal.nD,
          r.2.mem ((c.tc : Thread Cert.ReferenceFf1Ideal.nD Cert.ReferenceFf1Ideal.τ).loc Cert.ReferenceFf1Ideal.main_v1) = v0 c
          ∧ r.2.mem ((c.tc : Thread Cert.ReferenceFf1Ideal.nD Cert.ReferenceFf1Ideal.τ).loc Cert.ReferenceFf1Ideal.main_v4) = v1 c
          ∧ r.2.mem ((c.tc : Thread Cert.ReferenceFf1Ideal.nD Cert.ReferenceFf1Ideal.τ).loc Cert.ReferenceFf1Ideal.main_arg0) = m' ((c.tc : Thread Cert.ReferenceFf1Ideal.nD Cert.ReferenceFf1Ideal.τ).loc Cert.ReferenceFf1Ideal.main_arg0)
          ∧ r.2.mem ((c.tc : Thread Cert.ReferenceFf1Ideal.nD Cert.ReferenceFf1Ideal.τ).loc Cert.ReferenceFf1Ideal.main_arg1) = m' ((c.tc : Thread Cert.ReferenceFf1Ideal.nD Cert.ReferenceFf1Ideal.τ).loc Cert.ReferenceFf1Ideal.main_arg1))

def preserves_KernelFf2_KernelFf2Ideal : Prop :=
  True

def algebraic_KernelFf2Ideal_ReferenceFf2Ideal [hKernelFf2Ideal : Cert.KernelFf2Ideal.Facts] [hReferenceFf2Ideal : Cert.ReferenceFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg)
    (m' : (ℓ : Loc Cert.ReferenceFf2Ideal.nD Cert.ReferenceFf2Ideal.τ Cert.ReferenceFf2Ideal.sig) → Buf (Elt Ideal) ℓ) (g' : Dev Cert.ReferenceFf2Ideal.nD → PrngReg), Pre_KernelFf2Ideal m →
    (∀ c : Dev Cert.KernelFf2Ideal.nD,
      m' ((c.tc : Thread Cert.ReferenceFf2Ideal.nD Cert.ReferenceFf2Ideal.τ).loc Cert.ReferenceFf2Ideal.main_arg0) = m ((c.tc : Thread Cert.KernelFf2Ideal.nD Cert.KernelFf2Ideal.τ).loc Cert.KernelFf2Ideal.main_arg0)
      ∧ m' ((c.tc : Thread Cert.ReferenceFf2Ideal.nD Cert.ReferenceFf2Ideal.τ).loc Cert.ReferenceFf2Ideal.main_arg1) = m ((c.tc : Thread Cert.KernelFf2Ideal.nD Cert.KernelFf2Ideal.τ).loc Cert.KernelFf2Ideal.main_arg1)) →
    ∃ (v0 : (c : Dev Cert.KernelFf2Ideal.nD) → Buf (Elt Ideal) ((c.tc : Thread Cert.KernelFf2Ideal.nD Cert.KernelFf2Ideal.τ).loc Cert.KernelFf2Ideal.main_v4)),
      θ_run (Cert.KernelFf2Ideal.defs (F := Ideal)) (onTc (τ := Cert.KernelFf2Ideal.τ) (Cert.KernelFf2Ideal.main (F := Ideal))) ⟨m, fun _ => 0, g⟩ (fun r => ∀ c : Dev Cert.KernelFf2Ideal.nD,
          r.2.mem ((c.tc : Thread Cert.KernelFf2Ideal.nD Cert.KernelFf2Ideal.τ).loc Cert.KernelFf2Ideal.main_v4) = v0 c
          ∧ r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
          ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ θ_run (Cert.ReferenceFf2Ideal.defs (F := Ideal)) (onTc (τ := Cert.ReferenceFf2Ideal.τ) (Cert.ReferenceFf2Ideal.main (F := Ideal))) ⟨m', fun _ => 0, g'⟩ (fun r => ∀ c : Dev Cert.ReferenceFf2Ideal.nD,
          r.2.mem ((c.tc : Thread Cert.ReferenceFf2Ideal.nD Cert.ReferenceFf2Ideal.τ).loc Cert.ReferenceFf2Ideal.main_v2) = v0 c
          ∧ r.2.mem ((c.tc : Thread Cert.ReferenceFf2Ideal.nD Cert.ReferenceFf2Ideal.τ).loc Cert.ReferenceFf2Ideal.main_arg0) = m' ((c.tc : Thread Cert.ReferenceFf2Ideal.nD Cert.ReferenceFf2Ideal.τ).loc Cert.ReferenceFf2Ideal.main_arg0)
          ∧ r.2.mem ((c.tc : Thread Cert.ReferenceFf2Ideal.nD Cert.ReferenceFf2Ideal.τ).loc Cert.ReferenceFf2Ideal.main_arg1) = m' ((c.tc : Thread Cert.ReferenceFf2Ideal.nD Cert.ReferenceFf2Ideal.τ).loc Cert.ReferenceFf2Ideal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v4)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v0) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v2)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v2) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v0) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)) →
    ∃ (v0 : (c : Dev Cert.KernelFinalIdeal.nD) → Buf (Elt Ideal) ((c.tc : Thread Cert.KernelFinalIdeal.nD Cert.KernelFinalIdeal.τ).loc Cert.KernelFinalIdeal.main_v0_0)) (v1 : (c : Dev Cert.KernelFinalIdeal.nD) → Buf (Elt Ideal) ((c.tc : Thread Cert.KernelFinalIdeal.nD Cert.KernelFinalIdeal.τ).loc Cert.KernelFinalIdeal.main_v0_1)) (v2 : (c : Dev Cert.KernelFinalIdeal.nD) → Buf (Elt Ideal) ((c.tc : Thread Cert.KernelFinalIdeal.nD Cert.KernelFinalIdeal.τ).loc Cert.KernelFinalIdeal.main_v0_2)) (v3 : (c : Dev Cert.KernelFinalIdeal.nD) → Buf (Elt Ideal) ((c.tc : Thread Cert.KernelFinalIdeal.nD Cert.KernelFinalIdeal.τ).loc Cert.KernelFinalIdeal.main_v0_3)) (v4 : (c : Dev Cert.KernelFinalIdeal.nD) → Buf (Elt Ideal) ((c.tc : Thread Cert.KernelFinalIdeal.nD Cert.KernelFinalIdeal.τ).loc Cert.KernelFinalIdeal.main_v0_4)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v0_0) = v0 c
          ∧ r.2.mem ((c.tc : Thread Cert.KernelFinalIdeal.nD Cert.KernelFinalIdeal.τ).loc Cert.KernelFinalIdeal.main_v0_1) = v1 c
          ∧ r.2.mem ((c.tc : Thread Cert.KernelFinalIdeal.nD Cert.KernelFinalIdeal.τ).loc Cert.KernelFinalIdeal.main_v0_2) = v2 c
          ∧ r.2.mem ((c.tc : Thread Cert.KernelFinalIdeal.nD Cert.KernelFinalIdeal.τ).loc Cert.KernelFinalIdeal.main_v0_3) = v3 c
          ∧ r.2.mem ((c.tc : Thread Cert.KernelFinalIdeal.nD Cert.KernelFinalIdeal.τ).loc Cert.KernelFinalIdeal.main_v0_4) = v4 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v53) = v0 c
          ∧ r.2.mem ((c.tc : Thread Cert.ReferenceFinalIdeal.nD Cert.ReferenceFinalIdeal.τ).loc Cert.ReferenceFinalIdeal.main_v59) = v1 c
          ∧ r.2.mem ((c.tc : Thread Cert.ReferenceFinalIdeal.nD Cert.ReferenceFinalIdeal.τ).loc Cert.ReferenceFinalIdeal.main_v28) = v2 c
          ∧ r.2.mem ((c.tc : Thread Cert.ReferenceFinalIdeal.nD Cert.ReferenceFinalIdeal.τ).loc Cert.ReferenceFinalIdeal.main_v37) = v3 c
          ∧ r.2.mem ((c.tc : Thread Cert.ReferenceFinalIdeal.nD Cert.ReferenceFinalIdeal.τ).loc Cert.ReferenceFinalIdeal.main_v58) = v4 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4))

def preserves_KernelResNorm_KernelResNormIdeal : Prop :=
  True

def algebraic_KernelResNormIdeal_ReferenceResNormIdeal [hKernelResNormIdeal : Cert.KernelResNormIdeal.Facts] [hReferenceResNormIdeal : Cert.ReferenceResNormIdeal.Facts] : Prop :=
  ∀ (m : (ℓ : Loc Cert.KernelResNormIdeal.nD Cert.KernelResNormIdeal.τ Cert.KernelResNormIdeal.sig) → Buf (Elt Ideal) ℓ) (g : Dev Cert.KernelResNormIdeal.nD → PrngReg)
    (m' : (ℓ : Loc Cert.ReferenceResNormIdeal.nD Cert.ReferenceResNormIdeal.τ Cert.ReferenceResNormIdeal.sig) → Buf (Elt Ideal) ℓ) (g' : Dev Cert.ReferenceResNormIdeal.nD → PrngReg), Pre_KernelResNormIdeal m →
    (∀ c : Dev Cert.KernelResNormIdeal.nD,
      m' ((c.tc : Thread Cert.ReferenceResNormIdeal.nD Cert.ReferenceResNormIdeal.τ).loc Cert.ReferenceResNormIdeal.main_arg0) = m ((c.tc : Thread Cert.KernelResNormIdeal.nD Cert.KernelResNormIdeal.τ).loc Cert.KernelResNormIdeal.main_arg0)
      ∧ m' ((c.tc : Thread Cert.ReferenceResNormIdeal.nD Cert.ReferenceResNormIdeal.τ).loc Cert.ReferenceResNormIdeal.main_arg1) = m ((c.tc : Thread Cert.KernelResNormIdeal.nD Cert.KernelResNormIdeal.τ).loc Cert.KernelResNormIdeal.main_arg1)
      ∧ m' ((c.tc : Thread Cert.ReferenceResNormIdeal.nD Cert.ReferenceResNormIdeal.τ).loc Cert.ReferenceResNormIdeal.main_arg2) = m ((c.tc : Thread Cert.KernelResNormIdeal.nD Cert.KernelResNormIdeal.τ).loc Cert.KernelResNormIdeal.main_arg2)
      ∧ m' ((c.tc : Thread Cert.ReferenceResNormIdeal.nD Cert.ReferenceResNormIdeal.τ).loc Cert.ReferenceResNormIdeal.main_arg3) = m ((c.tc : Thread Cert.KernelResNormIdeal.nD Cert.KernelResNormIdeal.τ).loc Cert.KernelResNormIdeal.main_arg3)
      ∧ m' ((c.tc : Thread Cert.ReferenceResNormIdeal.nD Cert.ReferenceResNormIdeal.τ).loc Cert.ReferenceResNormIdeal.main_arg4) = m ((c.tc : Thread Cert.KernelResNormIdeal.nD Cert.KernelResNormIdeal.τ).loc Cert.KernelResNormIdeal.main_arg4)
      ∧ m' ((c.tc : Thread Cert.ReferenceResNormIdeal.nD Cert.ReferenceResNormIdeal.τ).loc Cert.ReferenceResNormIdeal.main_arg5) = m ((c.tc : Thread Cert.KernelResNormIdeal.nD Cert.KernelResNormIdeal.τ).loc Cert.KernelResNormIdeal.main_arg5)) →
    ∃ (v0 : (c : Dev Cert.KernelResNormIdeal.nD) → Buf (Elt Ideal) ((c.tc : Thread Cert.KernelResNormIdeal.nD Cert.KernelResNormIdeal.τ).loc Cert.KernelResNormIdeal.main_v0_0)) (v1 : (c : Dev Cert.KernelResNormIdeal.nD) → Buf (Elt Ideal) ((c.tc : Thread Cert.KernelResNormIdeal.nD Cert.KernelResNormIdeal.τ).loc Cert.KernelResNormIdeal.main_v0_1)),
      θ_run (Cert.KernelResNormIdeal.defs (F := Ideal)) (onTc (τ := Cert.KernelResNormIdeal.τ) (Cert.KernelResNormIdeal.main (F := Ideal))) ⟨m, fun _ => 0, g⟩ (fun r => ∀ c : Dev Cert.KernelResNormIdeal.nD,
          r.2.mem ((c.tc : Thread Cert.KernelResNormIdeal.nD Cert.KernelResNormIdeal.τ).loc Cert.KernelResNormIdeal.main_v0_0) = v0 c
          ∧ r.2.mem ((c.tc : Thread Cert.KernelResNormIdeal.nD Cert.KernelResNormIdeal.τ).loc Cert.KernelResNormIdeal.main_v0_1) = v1 c
          ∧ r.2.mem ((c.tc : Thread Cert.KernelResNormIdeal.nD Cert.KernelResNormIdeal.τ).loc Cert.KernelResNormIdeal.main_arg0) = m ((c.tc : Thread Cert.KernelResNormIdeal.nD Cert.KernelResNormIdeal.τ).loc Cert.KernelResNormIdeal.main_arg0)
          ∧ r.2.mem ((c.tc : Thread Cert.KernelResNormIdeal.nD Cert.KernelResNormIdeal.τ).loc Cert.KernelResNormIdeal.main_arg1) = m ((c.tc : Thread Cert.KernelResNormIdeal.nD Cert.KernelResNormIdeal.τ).loc Cert.KernelResNormIdeal.main_arg1)
          ∧ r.2.mem ((c.tc : Thread Cert.KernelResNormIdeal.nD Cert.KernelResNormIdeal.τ).loc Cert.KernelResNormIdeal.main_arg2) = m ((c.tc : Thread Cert.KernelResNormIdeal.nD Cert.KernelResNormIdeal.τ).loc Cert.KernelResNormIdeal.main_arg2)
          ∧ r.2.mem ((c.tc : Thread Cert.KernelResNormIdeal.nD Cert.KernelResNormIdeal.τ).loc Cert.KernelResNormIdeal.main_arg3) = m ((c.tc : Thread Cert.KernelResNormIdeal.nD Cert.KernelResNormIdeal.τ).loc Cert.KernelResNormIdeal.main_arg3)
          ∧ r.2.mem ((c.tc : Thread Cert.KernelResNormIdeal.nD Cert.KernelResNormIdeal.τ).loc Cert.KernelResNormIdeal.main_arg4) = m ((c.tc : Thread Cert.KernelResNormIdeal.nD Cert.KernelResNormIdeal.τ).loc Cert.KernelResNormIdeal.main_arg4)
          ∧ r.2.mem ((c.tc : Thread Cert.KernelResNormIdeal.nD Cert.KernelResNormIdeal.τ).loc Cert.KernelResNormIdeal.main_arg5) = m ((c.tc : Thread Cert.KernelResNormIdeal.nD Cert.KernelResNormIdeal.τ).loc Cert.KernelResNormIdeal.main_arg5))
      ∧ θ_run (Cert.ReferenceResNormIdeal.defs (F := Ideal)) (onTc (τ := Cert.ReferenceResNormIdeal.τ) (Cert.ReferenceResNormIdeal.main (F := Ideal))) ⟨m', fun _ => 0, g'⟩ (fun r => ∀ c : Dev Cert.ReferenceResNormIdeal.nD,
          r.2.mem ((c.tc : Thread Cert.ReferenceResNormIdeal.nD Cert.ReferenceResNormIdeal.τ).loc Cert.ReferenceResNormIdeal.main_v2) = v0 c
          ∧ r.2.mem ((c.tc : Thread Cert.ReferenceResNormIdeal.nD Cert.ReferenceResNormIdeal.τ).loc Cert.ReferenceResNormIdeal.main_v21) = v1 c
          ∧ r.2.mem ((c.tc : Thread Cert.ReferenceResNormIdeal.nD Cert.ReferenceResNormIdeal.τ).loc Cert.ReferenceResNormIdeal.main_arg0) = m' ((c.tc : Thread Cert.ReferenceResNormIdeal.nD Cert.ReferenceResNormIdeal.τ).loc Cert.ReferenceResNormIdeal.main_arg0)
          ∧ r.2.mem ((c.tc : Thread Cert.ReferenceResNormIdeal.nD Cert.ReferenceResNormIdeal.τ).loc Cert.ReferenceResNormIdeal.main_arg1) = m' ((c.tc : Thread Cert.ReferenceResNormIdeal.nD Cert.ReferenceResNormIdeal.τ).loc Cert.ReferenceResNormIdeal.main_arg1)
          ∧ r.2.mem ((c.tc : Thread Cert.ReferenceResNormIdeal.nD Cert.ReferenceResNormIdeal.τ).loc Cert.ReferenceResNormIdeal.main_arg2) = m' ((c.tc : Thread Cert.ReferenceResNormIdeal.nD Cert.ReferenceResNormIdeal.τ).loc Cert.ReferenceResNormIdeal.main_arg2)
          ∧ r.2.mem ((c.tc : Thread Cert.ReferenceResNormIdeal.nD Cert.ReferenceResNormIdeal.τ).loc Cert.ReferenceResNormIdeal.main_arg3) = m' ((c.tc : Thread Cert.ReferenceResNormIdeal.nD Cert.ReferenceResNormIdeal.τ).loc Cert.ReferenceResNormIdeal.main_arg3)
          ∧ r.2.mem ((c.tc : Thread Cert.ReferenceResNormIdeal.nD Cert.ReferenceResNormIdeal.τ).loc Cert.ReferenceResNormIdeal.main_arg4) = m' ((c.tc : Thread Cert.ReferenceResNormIdeal.nD Cert.ReferenceResNormIdeal.τ).loc Cert.ReferenceResNormIdeal.main_arg4)
          ∧ r.2.mem ((c.tc : Thread Cert.ReferenceResNormIdeal.nD Cert.ReferenceResNormIdeal.τ).loc Cert.ReferenceResNormIdeal.main_arg5) = m' ((c.tc : Thread Cert.ReferenceResNormIdeal.nD Cert.ReferenceResNormIdeal.τ).loc Cert.ReferenceResNormIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v0_0)) (v1 : (c : Dev Cert.KernelMixIdeal.nD) → Buf (Elt Ideal) ((c.tc : Thread Cert.KernelMixIdeal.nD Cert.KernelMixIdeal.τ).loc Cert.KernelMixIdeal.main_v0_1)) (v2 : (c : Dev Cert.KernelMixIdeal.nD) → Buf (Elt Ideal) ((c.tc : Thread Cert.KernelMixIdeal.nD Cert.KernelMixIdeal.τ).loc Cert.KernelMixIdeal.main_v0_2)) (v3 : (c : Dev Cert.KernelMixIdeal.nD) → Buf (Elt Ideal) ((c.tc : Thread Cert.KernelMixIdeal.nD Cert.KernelMixIdeal.τ).loc Cert.KernelMixIdeal.main_v0_3)) (v4 : (c : Dev Cert.KernelMixIdeal.nD) → Buf (Elt Ideal) ((c.tc : Thread Cert.KernelMixIdeal.nD Cert.KernelMixIdeal.τ).loc Cert.KernelMixIdeal.main_v0_4)) (v5 : (c : Dev Cert.KernelMixIdeal.nD) → Buf (Elt Ideal) ((c.tc : Thread Cert.KernelMixIdeal.nD Cert.KernelMixIdeal.τ).loc Cert.KernelMixIdeal.main_v0_5)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0_0) = v0 c
          ∧ r.2.mem ((c.tc : Thread Cert.KernelMixIdeal.nD Cert.KernelMixIdeal.τ).loc Cert.KernelMixIdeal.main_v0_1) = v1 c
          ∧ r.2.mem ((c.tc : Thread Cert.KernelMixIdeal.nD Cert.KernelMixIdeal.τ).loc Cert.KernelMixIdeal.main_v0_2) = v2 c
          ∧ r.2.mem ((c.tc : Thread Cert.KernelMixIdeal.nD Cert.KernelMixIdeal.τ).loc Cert.KernelMixIdeal.main_v0_3) = v3 c
          ∧ r.2.mem ((c.tc : Thread Cert.KernelMixIdeal.nD Cert.KernelMixIdeal.τ).loc Cert.KernelMixIdeal.main_v0_4) = v4 c
          ∧ r.2.mem ((c.tc : Thread Cert.KernelMixIdeal.nD Cert.KernelMixIdeal.τ).loc Cert.KernelMixIdeal.main_v0_5) = v5 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v90) = v0 c
          ∧ r.2.mem ((c.tc : Thread Cert.ReferenceMixIdeal.nD Cert.ReferenceMixIdeal.τ).loc Cert.ReferenceMixIdeal.main_v96) = v1 c
          ∧ r.2.mem ((c.tc : Thread Cert.ReferenceMixIdeal.nD Cert.ReferenceMixIdeal.τ).loc Cert.ReferenceMixIdeal.main_v92) = v2 c
          ∧ r.2.mem ((c.tc : Thread Cert.ReferenceMixIdeal.nD Cert.ReferenceMixIdeal.τ).loc Cert.ReferenceMixIdeal.main_v74) = v3 c
          ∧ r.2.mem ((c.tc : Thread Cert.ReferenceMixIdeal.nD Cert.ReferenceMixIdeal.τ).loc Cert.ReferenceMixIdeal.main_v55) = v4 c
          ∧ r.2.mem ((c.tc : Thread Cert.ReferenceMixIdeal.nD Cert.ReferenceMixIdeal.τ).loc Cert.ReferenceMixIdeal.main_v95) = v5 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def Claim : Prop :=
  ∃ (hKernel : Cert.Kernel.Facts) (hKernelIdeal : Cert.KernelIdeal.Facts) (hReferenceIdeal : Cert.ReferenceIdeal.Facts) (hKernelDff2 : Cert.KernelDff2.Facts) (hKernelDff2Ideal : Cert.KernelDff2Ideal.Facts) (hReferenceDff2Ideal : Cert.ReferenceDff2Ideal.Facts) (hKernelGwFf2 : Cert.KernelGwFf2.Facts) (hKernelGwFf2Ideal : Cert.KernelGwFf2Ideal.Facts) (hReferenceGwFf2Ideal : Cert.ReferenceGwFf2Ideal.Facts) (hKernelGwFf1 : Cert.KernelGwFf1.Facts) (hKernelGwFf1Ideal : Cert.KernelGwFf1Ideal.Facts) (hReferenceGwFf1Ideal : Cert.ReferenceGwFf1Ideal.Facts) (hKernelDff1 : Cert.KernelDff1.Facts) (hKernelDff1Ideal : Cert.KernelDff1Ideal.Facts) (hReferenceDff1Ideal : Cert.ReferenceDff1Ideal.Facts) (hKernelNorm1 : Cert.KernelNorm1.Facts) (hKernelNorm1Ideal : Cert.KernelNorm1Ideal.Facts) (hReferenceNorm1Ideal : Cert.ReferenceNorm1Ideal.Facts) (hKernelNorm2 : Cert.KernelNorm2.Facts) (hKernelNorm2Ideal : Cert.KernelNorm2Ideal.Facts) (hReferenceNorm2Ideal : Cert.ReferenceNorm2Ideal.Facts) (hKernelDout : Cert.KernelDout.Facts) (hKernelDoutIdeal : Cert.KernelDoutIdeal.Facts) (hReferenceDoutIdeal : Cert.ReferenceDoutIdeal.Facts) (hKernelGwOut : Cert.KernelGwOut.Facts) (hKernelGwOutIdeal : Cert.KernelGwOutIdeal.Facts) (hReferenceGwOutIdeal : Cert.ReferenceGwOutIdeal.Facts) (hKernelGwIn : Cert.KernelGwIn.Facts) (hKernelGwInIdeal : Cert.KernelGwInIdeal.Facts) (hReferenceGwInIdeal : Cert.ReferenceGwInIdeal.Facts) (hKernelDin : Cert.KernelDin.Facts) (hKernelDinIdeal : Cert.KernelDinIdeal.Facts) (hReferenceDinIdeal : Cert.ReferenceDinIdeal.Facts) (hKernelGwGlu : Cert.KernelGwGlu.Facts) (hKernelGwGluIdeal : Cert.KernelGwGluIdeal.Facts) (hReferenceGwGluIdeal : Cert.ReferenceGwGluIdeal.Facts) (hKernelFf1 : Cert.KernelFf1.Facts) (hKernelFf1Ideal : Cert.KernelFf1Ideal.Facts) (hReferenceFf1Ideal : Cert.ReferenceFf1Ideal.Facts) (hKernelFf2 : Cert.KernelFf2.Facts) (hKernelFf2Ideal : Cert.KernelFf2Ideal.Facts) (hReferenceFf2Ideal : Cert.ReferenceFf2Ideal.Facts) (hKernelIn : Cert.KernelIn.Facts) (hKernelInIdeal : Cert.KernelInIdeal.Facts) (hReferenceInIdeal : Cert.ReferenceInIdeal.Facts) (hKernelGlu : Cert.KernelGlu.Facts) (hKernelGluIdeal : Cert.KernelGluIdeal.Facts) (hReferenceGluIdeal : Cert.ReferenceGluIdeal.Facts) (hKernelOut : Cert.KernelOut.Facts) (hKernelOutIdeal : Cert.KernelOutIdeal.Facts) (hReferenceOutIdeal : Cert.ReferenceOutIdeal.Facts) (hKernelFinal : Cert.KernelFinal.Facts) (hKernelFinalIdeal : Cert.KernelFinalIdeal.Facts) (hReferenceFinalIdeal : Cert.ReferenceFinalIdeal.Facts) (hKernelResNorm : Cert.KernelResNorm.Facts) (hKernelResNormIdeal : Cert.KernelResNormIdeal.Facts) (hReferenceResNormIdeal : Cert.ReferenceResNormIdeal.Facts) (hKernelMix : Cert.KernelMix.Facts) (hKernelMixIdeal : Cert.KernelMixIdeal.Facts) (hReferenceMixIdeal : Cert.ReferenceMixIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDff2 (hKernelDff2 := hKernelDff2)
    ∧ quiescent_KernelDff2Ideal (hKernelDff2Ideal := hKernelDff2Ideal)
    ∧ quiescent_ReferenceDff2Ideal (hReferenceDff2Ideal := hReferenceDff2Ideal)
    ∧ quiescent_KernelGwFf2 (hKernelGwFf2 := hKernelGwFf2)
    ∧ quiescent_KernelGwFf2Ideal (hKernelGwFf2Ideal := hKernelGwFf2Ideal)
    ∧ quiescent_ReferenceGwFf2Ideal (hReferenceGwFf2Ideal := hReferenceGwFf2Ideal)
    ∧ quiescent_KernelGwFf1 (hKernelGwFf1 := hKernelGwFf1)
    ∧ quiescent_KernelGwFf1Ideal (hKernelGwFf1Ideal := hKernelGwFf1Ideal)
    ∧ quiescent_ReferenceGwFf1Ideal (hReferenceGwFf1Ideal := hReferenceGwFf1Ideal)
    ∧ quiescent_KernelDff1 (hKernelDff1 := hKernelDff1)
    ∧ quiescent_KernelDff1Ideal (hKernelDff1Ideal := hKernelDff1Ideal)
    ∧ quiescent_ReferenceDff1Ideal (hReferenceDff1Ideal := hReferenceDff1Ideal)
    ∧ quiescent_KernelNorm1 (hKernelNorm1 := hKernelNorm1)
    ∧ quiescent_KernelNorm1Ideal (hKernelNorm1Ideal := hKernelNorm1Ideal)
    ∧ quiescent_ReferenceNorm1Ideal (hReferenceNorm1Ideal := hReferenceNorm1Ideal)
    ∧ quiescent_KernelNorm2 (hKernelNorm2 := hKernelNorm2)
    ∧ quiescent_KernelNorm2Ideal (hKernelNorm2Ideal := hKernelNorm2Ideal)
    ∧ quiescent_ReferenceNorm2Ideal (hReferenceNorm2Ideal := hReferenceNorm2Ideal)
    ∧ quiescent_KernelDout (hKernelDout := hKernelDout)
    ∧ quiescent_KernelDoutIdeal (hKernelDoutIdeal := hKernelDoutIdeal)
    ∧ quiescent_ReferenceDoutIdeal (hReferenceDoutIdeal := hReferenceDoutIdeal)
    ∧ quiescent_KernelGwOut (hKernelGwOut := hKernelGwOut)
    ∧ quiescent_KernelGwOutIdeal (hKernelGwOutIdeal := hKernelGwOutIdeal)
    ∧ quiescent_ReferenceGwOutIdeal (hReferenceGwOutIdeal := hReferenceGwOutIdeal)
    ∧ quiescent_KernelGwIn (hKernelGwIn := hKernelGwIn)
    ∧ quiescent_KernelGwInIdeal (hKernelGwInIdeal := hKernelGwInIdeal)
    ∧ quiescent_ReferenceGwInIdeal (hReferenceGwInIdeal := hReferenceGwInIdeal)
    ∧ quiescent_KernelDin (hKernelDin := hKernelDin)
    ∧ quiescent_KernelDinIdeal (hKernelDinIdeal := hKernelDinIdeal)
    ∧ quiescent_ReferenceDinIdeal (hReferenceDinIdeal := hReferenceDinIdeal)
    ∧ quiescent_KernelGwGlu (hKernelGwGlu := hKernelGwGlu)
    ∧ quiescent_KernelGwGluIdeal (hKernelGwGluIdeal := hKernelGwGluIdeal)
    ∧ quiescent_ReferenceGwGluIdeal (hReferenceGwGluIdeal := hReferenceGwGluIdeal)
    ∧ quiescent_KernelFf1 (hKernelFf1 := hKernelFf1)
    ∧ quiescent_KernelFf1Ideal (hKernelFf1Ideal := hKernelFf1Ideal)
    ∧ quiescent_ReferenceFf1Ideal (hReferenceFf1Ideal := hReferenceFf1Ideal)
    ∧ quiescent_KernelFf2 (hKernelFf2 := hKernelFf2)
    ∧ quiescent_KernelFf2Ideal (hKernelFf2Ideal := hKernelFf2Ideal)
    ∧ quiescent_ReferenceFf2Ideal (hReferenceFf2Ideal := hReferenceFf2Ideal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelResNorm (hKernelResNorm := hKernelResNorm)
    ∧ quiescent_KernelResNormIdeal (hKernelResNormIdeal := hKernelResNormIdeal)
    ∧ quiescent_ReferenceResNormIdeal (hReferenceResNormIdeal := hReferenceResNormIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDff2_KernelDff2Ideal
    ∧ algebraic_KernelDff2Ideal_ReferenceDff2Ideal (hKernelDff2Ideal := hKernelDff2Ideal) (hReferenceDff2Ideal := hReferenceDff2Ideal)
    ∧ preserves_KernelGwFf2_KernelGwFf2Ideal
    ∧ algebraic_KernelGwFf2Ideal_ReferenceGwFf2Ideal (hKernelGwFf2Ideal := hKernelGwFf2Ideal) (hReferenceGwFf2Ideal := hReferenceGwFf2Ideal)
    ∧ preserves_KernelGwFf1_KernelGwFf1Ideal
    ∧ algebraic_KernelGwFf1Ideal_ReferenceGwFf1Ideal (hKernelGwFf1Ideal := hKernelGwFf1Ideal) (hReferenceGwFf1Ideal := hReferenceGwFf1Ideal)
    ∧ preserves_KernelDff1_KernelDff1Ideal
    ∧ algebraic_KernelDff1Ideal_ReferenceDff1Ideal (hKernelDff1Ideal := hKernelDff1Ideal) (hReferenceDff1Ideal := hReferenceDff1Ideal)
    ∧ preserves_KernelNorm1_KernelNorm1Ideal
    ∧ algebraic_KernelNorm1Ideal_ReferenceNorm1Ideal (hKernelNorm1Ideal := hKernelNorm1Ideal) (hReferenceNorm1Ideal := hReferenceNorm1Ideal)
    ∧ preserves_KernelNorm2_KernelNorm2Ideal
    ∧ algebraic_KernelNorm2Ideal_ReferenceNorm2Ideal (hKernelNorm2Ideal := hKernelNorm2Ideal) (hReferenceNorm2Ideal := hReferenceNorm2Ideal)
    ∧ preserves_KernelDout_KernelDoutIdeal
    ∧ algebraic_KernelDoutIdeal_ReferenceDoutIdeal (hKernelDoutIdeal := hKernelDoutIdeal) (hReferenceDoutIdeal := hReferenceDoutIdeal)
    ∧ preserves_KernelGwOut_KernelGwOutIdeal
    ∧ algebraic_KernelGwOutIdeal_ReferenceGwOutIdeal (hKernelGwOutIdeal := hKernelGwOutIdeal) (hReferenceGwOutIdeal := hReferenceGwOutIdeal)
    ∧ preserves_KernelGwIn_KernelGwInIdeal
    ∧ algebraic_KernelGwInIdeal_ReferenceGwInIdeal (hKernelGwInIdeal := hKernelGwInIdeal) (hReferenceGwInIdeal := hReferenceGwInIdeal)
    ∧ preserves_KernelDin_KernelDinIdeal
    ∧ algebraic_KernelDinIdeal_ReferenceDinIdeal (hKernelDinIdeal := hKernelDinIdeal) (hReferenceDinIdeal := hReferenceDinIdeal)
    ∧ preserves_KernelGwGlu_KernelGwGluIdeal
    ∧ algebraic_KernelGwGluIdeal_ReferenceGwGluIdeal (hKernelGwGluIdeal := hKernelGwGluIdeal) (hReferenceGwGluIdeal := hReferenceGwGluIdeal)
    ∧ preserves_KernelFf1_KernelFf1Ideal
    ∧ algebraic_KernelFf1Ideal_ReferenceFf1Ideal (hKernelFf1Ideal := hKernelFf1Ideal) (hReferenceFf1Ideal := hReferenceFf1Ideal)
    ∧ preserves_KernelFf2_KernelFf2Ideal
    ∧ algebraic_KernelFf2Ideal_ReferenceFf2Ideal (hKernelFf2Ideal := hKernelFf2Ideal) (hReferenceFf2Ideal := hReferenceFf2Ideal)
    ∧ preserves_KernelIn_KernelInIdeal
    ∧ algebraic_KernelInIdeal_ReferenceInIdeal (hKernelInIdeal := hKernelInIdeal) (hReferenceInIdeal := hReferenceInIdeal)
    ∧ preserves_KernelGlu_KernelGluIdeal
    ∧ algebraic_KernelGluIdeal_ReferenceGluIdeal (hKernelGluIdeal := hKernelGluIdeal) (hReferenceGluIdeal := hReferenceGluIdeal)
    ∧ preserves_KernelOut_KernelOutIdeal
    ∧ algebraic_KernelOutIdeal_ReferenceOutIdeal (hKernelOutIdeal := hKernelOutIdeal) (hReferenceOutIdeal := hReferenceOutIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelResNorm_KernelResNormIdeal
    ∧ algebraic_KernelResNormIdeal_ReferenceResNormIdeal (hKernelResNormIdeal := hKernelResNormIdeal) (hReferenceResNormIdeal := hReferenceResNormIdeal)
    ∧ preserves_KernelMix_KernelMixIdeal
    ∧ algebraic_KernelMixIdeal_ReferenceMixIdeal (hKernelMixIdeal := hKernelMixIdeal) (hReferenceMixIdeal := hReferenceMixIdeal)
-- ==== Pre_finite.lean ====
abbrev S4096x32x64 : Shape := ⟨3, ![4096, 32, 64]⟩
abbrev S4096x4x64 : Shape := ⟨3, ![4096, 4, 64]⟩
abbrev S32 : Shape := ⟨1, ![32]⟩
abbrev S_ : Shape := ⟨0, ![]⟩

class Facts : Prop where
  bcast_S_S4096x32x64 : S_.BroadcastsInDim S4096x32x64 (![] : Fin 0 → Fin S4096x32x64.rank)
  bcast_S_S4096x4x64 : S_.BroadcastsInDim S4096x4x64 (![] : Fin 0 → Fin S4096x4x64.rank)
  bcast_S_S32 : S_.BroadcastsInDim S32 (![] : Fin 0 → Fin S32.rank)

variable [Facts]

def fn {F : FTy → Type} [FloatOps F] (main_arg0 : FVec F S4096x32x64 .f32) (main_arg1 : FVec F S4096x4x64 .f32) (main_arg2 : FVec F S4096x4x64 .f32) (main_arg3 : FVec F S32 .f32) (main_arg4 : FVec F S4096x32x64 .f32) : IVec S4096x32x64 1 × IVec S4096x4x64 1 × IVec S4096x4x64 1 × IVec S32 1 × IVec S4096x32x64 1 :=
  let main_v0 : FVec F S4096x32x64 .f32 := Host.absf main_arg0
  let main_cst : FVec F S_ .f32 := constant S_ .f32 0x7F800000#32
  let main_v1 : FVec F S4096x32x64 .f32 := broadcastInDim S4096x32x64 ![] bcast_S_S4096x32x64 main_cst
  let main_v2 : IVec S4096x32x64 1 := cmpf .olt main_v0 main_v1
  let main_v3 : FVec F S4096x4x64 .f32 := Host.absf main_arg1
  let main_cst_0 : FVec F S_ .f32 := constant S_ .f32 0x7F800000#32
  let main_v4 : FVec F S4096x4x64 .f32 := broadcastInDim S4096x4x64 ![] bcast_S_S4096x4x64 main_cst_0
  let main_v5 : IVec S4096x4x64 1 := cmpf .olt main_v3 main_v4
  let main_v6 : FVec F S4096x4x64 .f32 := Host.absf main_arg2
  let main_cst_1 : FVec F S_ .f32 := constant S_ .f32 0x7F800000#32
  let main_v7 : FVec F S4096x4x64 .f32 := broadcastInDim S4096x4x64 ![] bcast_S_S4096x4x64 main_cst_1
  let main_v8 : IVec S4096x4x64 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S4096x32x64 .f32 := Host.absf main_arg4
  let main_cst_3 : FVec F S_ .f32 := constant S_ .f32 0x7F800000#32
  let main_v13 : FVec F S4096x32x64 .f32 := broadcastInDim S4096x32x64 ![] bcast_S_S4096x32x64 main_cst_3
  let main_v14 : IVec S4096x32x64 1 := cmpf .olt main_v12 main_v13
  (main_v2, main_v5, main_v8, main_v11, main_v14)
-- ==== Kernel.lean ====
abbrev S4096x32x64 : Shape := ⟨3, ![4096, 32, 64]⟩
abbrev S4096x4x64 : Shape := ⟨3, ![4096, 4, 64]⟩
abbrev S32 : Shape := ⟨1, ![32]⟩
abbrev S32x128x4x8x64 : Shape := ⟨5, ![32, 128, 4, 8, 64]⟩
abbrev S_ : Shape := ⟨0, ![]⟩
abbrev S32x128x4x64 : Shape := ⟨4, ![32, 128, 4, 64]⟩
abbrev S1x4x8x1x1 : Shape := ⟨5, ![1, 4, 8, 1, 1]⟩
abbrev S1x4x8x128x1 : Shape := ⟨5, ![1, 4, 8, 128, 1]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4096x64 : Shape := ⟨3, ![32, 4096, 64]⟩
abbrev S4x4096x64 : Shape := ⟨3, ![4, 4096, 64]⟩
abbrev S4x1024x1 : Shape := ⟨3, ![4, 1024, 1]⟩
abbrev S32x128x64 : Shape := ⟨3, ![32, 128, 64]⟩
abbrev S4x128x64 : Shape := ⟨3, ![4, 128, 64]⟩
abbrev S8x128x64 : Shape := ⟨3, ![8, 128, 64]⟩
abbrev S1024x64 : Shape := ⟨2, ![1024, 64]⟩
abbrev S1x128x64 : Shape := ⟨3, ![1, 128, 64]⟩
abbrev S128x64 : Shape := ⟨2, ![128, 64]⟩
abbrev S256x64 : Shape := ⟨2, ![256, 64]⟩
abbrev S1024x256 : Shape := ⟨2, ![1024, 256]⟩
abbrev S1 : Shape := ⟨1, ![1]⟩
abbrev S1024x1 : Shape := ⟨2, ![1024, 1]⟩
abbrev S1024 : Shape := ⟨1, ![1024]⟩
abbrev S1x1024x1 : Shape := ⟨3, ![1, 1024, 1]⟩

abbrev nBuf : Space → Nat
  | .hbm => 105
  | .vmem => 25
  | .smem => 1
  | _ => 0

abbrev bufTy : (tb : Table) → Fin (tcTables nBuf tb) → BufTy
  | .hbm, ⟨0, _⟩ => ⟨S4096x32x64, .f32⟩
  | .hbm, ⟨1, _⟩ => ⟨S4096x4x64, .f32⟩
  | .hbm, ⟨2, _⟩ => ⟨S4096x4x64, .f32⟩
  | .hbm, ⟨3, _⟩ => ⟨S32, .f32⟩
  | .hbm, ⟨4, _⟩ => ⟨S4096x32x64, .f32⟩
  | .hbm, ⟨5, _⟩ => ⟨S32x128x4x8x64, .f32⟩
  | .hbm, ⟨6, _⟩ => ⟨S_, .f32⟩
  | .hbm, ⟨7, _⟩ => ⟨S32x128x4x8x64, .f32⟩
  | .hbm, ⟨8, _⟩ => ⟨S32x128x4x8x64, .f32⟩
  | .hbm, ⟨9, _⟩ => ⟨S32x128x4x64, .f32⟩
  | .hbm, ⟨10, _⟩ => ⟨S32x128x4x64, .f32⟩
  | .hbm, ⟨11, _⟩ => ⟨S1x4x8x1x1, .f32⟩
  | .hbm, ⟨12, _⟩ => ⟨S1x4x8x128x1, .f32⟩
  | .hbm, ⟨13, _⟩ => ⟨S1x128x4x64, .f32⟩
  | .hbm, ⟨14, _⟩ => ⟨S_, .f32⟩
  | .hbm, ⟨15, _⟩ => ⟨S1x128x4x64, .f32⟩
  | .hbm, ⟨16, _⟩ => ⟨S31x128x4x64, .f32⟩
  | .hbm, ⟨17, _⟩ => ⟨S32x128x4x64, .f32⟩
  | .hbm, ⟨18, _⟩ => ⟨S1x128x4x64, .f32⟩
  | .hbm, ⟨19, _⟩ => ⟨S_, .f32⟩
  | .hbm, ⟨20, _⟩ => ⟨S1x128x4x64, .f32⟩
  | .hbm, ⟨21, _⟩ => ⟨S31x128x4x64, .f32⟩
  | .hbm, ⟨22, _⟩ => ⟨S32x128x4x64, .f32⟩
  | .hbm, ⟨23, _⟩ => ⟨S32x256x4x64, .f32⟩
  | .hbm, ⟨24, _⟩ => ⟨S32x256x4x64, .f32⟩
  | .hbm, ⟨25, _⟩ => ⟨S32x4x256x128x8, .f32⟩
  | .hbm, ⟨26, _⟩ => ⟨S32x4x8x128x256, .f32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S32, .i32⟩
  | .hbm, ⟨45, _⟩ => ⟨S32x1, .i32⟩
  | .hbm, ⟨46, _⟩ => ⟨S_, .i32⟩
  | .hbm, ⟨47, _⟩ => ⟨S32x1, .i32⟩
  | .hbm, ⟨48, _⟩ => ⟨S32x1, .i1⟩
  | .hbm, ⟨49, _⟩ => ⟨S256, .i32⟩
  | .hbm, ⟨50, _⟩ => ⟨S1x256, .i32⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S32x256, .i1⟩
  | .hbm, ⟨55, _⟩ => ⟨S32x256, .i1⟩
  | .hbm, ⟨56, _⟩ => ⟨S32x256, .i1⟩
  | .hbm, ⟨57, _⟩ => ⟨S1x128x256, .i1⟩
  | .hbm, ⟨58, _⟩ => ⟨S32x1x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S32x1x1x128x256, .i1⟩
  | .hbm, ⟨63, _⟩ => ⟨S_, .f32⟩
  | .hbm, ⟨64, _⟩ => ⟨S_, .f32⟩
  | .hbm, ⟨65, _⟩ => ⟨S32x4x8x128x256, .i1⟩
  | .hbm, ⟨66, _⟩ => ⟨S32x4x8x128x256, .f32⟩
  | .hbm, ⟨67, _⟩ => ⟨S32x4x8x128x256, .f32⟩
  | .hbm, ⟨68, _⟩ => ⟨S_, .f32⟩
  | .hbm, ⟨69, _⟩ => ⟨S32x4x8x128, .f32⟩
  | .hbm, ⟨70, _⟩ => ⟨S32x4x8x128x1, .f32⟩
  | .hbm, ⟨71, _⟩ => ⟨S32x4x8x128x1, .f32⟩
  | .hbm, ⟨72, _⟩ => ⟨S32x4x8x128x1, .f32⟩
  | .hbm, ⟨73, _⟩ => ⟨S32x4x8x128x256, .f32⟩
  | .hbm, ⟨74, _⟩ => ⟨S32x4x8x128x256, .f32⟩
  | .hbm, ⟨75, _⟩ => ⟨S32x4x8x128x256, .f32⟩
  | .hbm, ⟨76, _⟩ => ⟨S_, .f32⟩
  | .hbm, ⟨77, _⟩ => ⟨S32x4x8x128, .f32⟩
  | .hbm, ⟨78, _⟩ => ⟨S32x4x8x128x1, .f32⟩
  | .hbm, ⟨79, _⟩ => ⟨S32x4x8x128x1, .f32⟩
  | .hbm, ⟨80, _⟩ => ⟨S32x4x8x128x1, .f32⟩
  | .hbm, ⟨81, _⟩ => ⟨S32x4x8x128x1, .f32⟩
  | .hbm, ⟨82, _⟩ => ⟨S32x4x8x128x1, .f32⟩
  | .hbm, ⟨83, _⟩ => ⟨S32x4x8x128x256, .f32⟩
  | .hbm, ⟨84, _⟩ => ⟨S32x4x8x128x256, .f32⟩
  | .hbm, ⟨85, _⟩ => ⟨S32x4x64x8x128, .f32⟩
  | .hbm, ⟨86, _⟩ => ⟨S32x128x4x8x64, .f32⟩
  | .hbm, ⟨87, _⟩ => ⟨S4096x32x64, .f32⟩
  | .hbm, ⟨88, _⟩ => ⟨S_, .f32⟩
  | .hbm, ⟨89, _⟩ => ⟨S4096x32x64, .f32⟩
  | .hbm, ⟨90, _⟩ => ⟨S4096x32x64, .f32⟩
  | .hbm, ⟨91, _⟩ => ⟨S32x4096x64, .f32⟩
  | .hbm, ⟨92, _⟩ => ⟨S32x4096x64, .bf16⟩
  | .hbm, ⟨93, _⟩ => ⟨S4x4096x64, .f32⟩
  | .hbm, ⟨94, _⟩ => ⟨S4x4096x64, .bf16⟩
  | .hbm, ⟨95, _⟩ => ⟨S4x4096x64, .f32⟩
  | .hbm, ⟨96, _⟩ => ⟨S4x4096x64, .bf16⟩
  | .hbm, ⟨97, _⟩ => ⟨S32x4096x64, .f32⟩
  | .hbm, ⟨98, _⟩ => ⟨S32x4096x64, .f32⟩
  | .hbm, ⟨99, _⟩ => ⟨S32x4096x64, .f32⟩
  | .hbm, ⟨100, _⟩ => ⟨S4x4096x64, .f32⟩
  | .hbm, ⟨101, _⟩ => ⟨S4x4096x64, .f32⟩
  | .hbm, ⟨102, _⟩ => ⟨S4x4096x64, .f32⟩
  | .hbm, ⟨103, _⟩ => ⟨S4x4096x64, .f32⟩
  | .hbm, ⟨104, _⟩ => ⟨S4x1024x1, .f32⟩
  | .local _ .vmem, ⟨0, _⟩ => ⟨S32x128x64, .bf16⟩
  | .local _ .vmem, ⟨1, _⟩ => ⟨S32x128x64, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S32x128x64, .f32⟩
  | .local _ .vmem, ⟨11, _⟩ => ⟨S32x128x64, .f32⟩
  | .local _ .vmem, ⟨12, _⟩ => ⟨S32x128x64, .f32⟩
  | .local _ .vmem, ⟨13, _⟩ => ⟨S32x128x64, .f32⟩
  | .local _ .vmem, ⟨14, _⟩ => ⟨S32x128x64, .f32⟩
  | .local _ .vmem, ⟨15, _⟩ => ⟨S32x128x64, .f32⟩
  | .local _ .vmem, ⟨16, _⟩ => ⟨S4x128x64, .f32⟩
  | .local _ .vmem, ⟨17, _⟩ => ⟨S4x128x64, .f32⟩
  | .local _ .vmem, ⟨18, _⟩ => ⟨S4x128x64, .f32⟩
  | .local _ .vmem, ⟨19, _⟩ => ⟨S4x128x64, .f32⟩
  | .local _ .vmem, ⟨20, _⟩ => ⟨S4x128x64, .f32⟩
  | .local _ .vmem, ⟨21, _⟩ => ⟨S4x128x64, .f32⟩
  | .local _ .vmem, ⟨22, _⟩ => ⟨S4x128x64, .f32⟩
  | .local _ .vmem, ⟨23, _⟩ => ⟨S4x128x64, .f32⟩
  | .local _ .vmem, ⟨24, _⟩ => ⟨S4x1024x1, .f32⟩
  | .local _ .smem, ⟨0, _⟩ => ⟨S32, .f32⟩
  | _, _ => ⟨S4096x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79_0 : Ref sig .tc := ⟨.hbm, 99, rfl⟩
abbrev main_v79_1 : Ref sig .tc := ⟨.hbm, 100, rfl⟩
abbrev main_v79_2 : Ref sig .tc := ⟨.hbm, 101, rfl⟩
abbrev main_v79_3 : Ref sig .tc := ⟨.hbm, 102, rfl⟩
abbrev main_v79_4 : Ref sig .tc := ⟨.hbm, 103, rfl⟩
abbrev main_v79_5 : Ref sig .tc := ⟨.hbm, 104, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x32x64 : Shape := ⟨3, ![4096, 32, 64]⟩
abbrev S4096x4x64 : Shape := ⟨3, ![4096, 4, 64]⟩
abbrev S32 : Shape := ⟨1, ![32]⟩
abbrev S32x128x4x8x64 : Shape := ⟨5, ![32, 128, 4, 8, 64]⟩
abbrev S_ : Shape := ⟨0, ![]⟩
abbrev S32x128x4x64 : Shape := ⟨4, ![32, 128, 4, 64]⟩
abbrev S1x4x8x1x1 : Shape := ⟨5, ![1, 4, 8, 1, 1]⟩
abbrev S1x4x8x128x1 : Shape := ⟨5, ![1, 4, 8, 128, 1]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4x64x256 : Shape := ⟨4, ![32, 4, 64, 256]⟩
abbrev S4x8x128x1 : Shape := ⟨4, ![4, 8, 128, 1]⟩
abbrev S32x4x128x8x64 : Shape := ⟨5, ![32, 4, 128, 8, 64]⟩
abbrev S32x4x256x64 : Shape := ⟨4, ![32, 4, 256, 64]⟩
abbrev S32x4096x64 : Shape := ⟨3, ![32, 4096, 64]⟩
abbrev S4x4096x64 : Shape := ⟨3, ![4, 4096, 64]⟩
abbrev S4x1024x1 : Shape := ⟨3, ![4, 1024, 1]⟩

abbrev nBuf : Space → Nat
  | .hbm => 187
  | .vmem => 0
  | .smem => 0
  | _ => 0

abbrev hbmTy0_0 (i : Nat) : BufTy := match i % 128 with
  | 0 => ⟨S4096x32x64, .f32⟩
  | 1 => ⟨S4096x4x64, .f32⟩
  | 2 => ⟨S4096x4x64, .f32⟩
  | 3 => ⟨S32, .f32⟩
  | 4 => ⟨S4096x32x64, .f32⟩
  | 5 => ⟨S32x128x4x8x64, .f32⟩
  | 6 => ⟨S32x128x4x8x64, .f32⟩
  | 7 => ⟨S_, .f32⟩
  | 8 => ⟨S32x128x4x8x64, .f32⟩
  | 9 => ⟨S32x128x4x8x64, .f32⟩
  | 10 => ⟨S32x128x4x64, .f32⟩
  | 11 => ⟨S32x128x4x64, .f32⟩
  | 12 => ⟨S1x4x8x1x1, .f32⟩
  | 13 => ⟨S1x4x8x128x1, .f32⟩
  | 14 => ⟨S1x128x4x64, .f32⟩
  | 15 => ⟨S_, .f32⟩
  | 16 => ⟨S1x128x4x64, .f32⟩
  | 17 => ⟨S31x128x4x64, .f32⟩
  | 18 => ⟨S32x128x4x64, .f32⟩
  | 19 => ⟨S1x128x4x64, .f32⟩
  | 20 => ⟨S_, .f32⟩
  | 21 => ⟨S1x128x4x64, .f32⟩
  | 22 => ⟨S31x128x4x64, .f32⟩
  | 23 => ⟨S32x128x4x64, .f32⟩
  | 24 => ⟨S32x256x4x64, .f32⟩
  | 25 => ⟨S32x256x4x64, .f32⟩
  | 26 => ⟨S32x4x256x128x8, .f32⟩
  | 27 => ⟨S32x4x8x128x256, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S32, .i32⟩
  | 46 => ⟨S32x1, .i32⟩
  | 47 => ⟨S_, .i32⟩
  | 48 => ⟨S32x1, .i32⟩
  | 49 => ⟨S32x1, .i1⟩
  | 50 => ⟨S256, .i32⟩
  | 51 => ⟨S1x256, .i32⟩
  | 52 => ⟨S_, .i32⟩
  | 53 => ⟨S1x256, .i32⟩
  | 54 => ⟨S1x256, .i1⟩
  | 55 => ⟨S32x256, .i1⟩
  | 56 => ⟨S32x256, .i1⟩
  | 57 => ⟨S32x256, .i1⟩
  | 58 => ⟨S1x128x256, .i1⟩
  | 59 => ⟨S32x1x256, .i1⟩
  | 60 => ⟨S32x128x256, .i1⟩
  | 61 => ⟨S32x128x256, .i1⟩
  | 62 => ⟨S32x128x256, .i1⟩
  | 63 => ⟨S32x1x1x128x256, .i1⟩
  | 64 => ⟨S_, .f32⟩
  | 65 => ⟨S_, .f32⟩
  | 66 => ⟨S32x4x8x128x256, .i1⟩
  | 67 => ⟨S32x4x8x128x256, .f32⟩
  | 68 => ⟨S32x4x8x128x256, .f32⟩
  | 69 => ⟨S_, .f32⟩
  | 70 => ⟨S32x4x8x128x256, .f32⟩
  | 71 => ⟨S_, .f32⟩
  | 72 => ⟨S32x4x8x128, .f32⟩
  | 73 => ⟨S32x4x8x128x1, .f32⟩
  | 74 => ⟨S32x4x8x128x256, .f32⟩
  | 75 => ⟨S32x4x8x128x256, .i1⟩
  | 76 => ⟨S32x4x8x128x256, .f32⟩
  | 77 => ⟨S_, .f32⟩
  | 78 => ⟨S32x4x8x128, .f32⟩
  | 79 => ⟨S32x4x8x128x1, .f32⟩
  | 80 => ⟨S32x4x8x128x1, .f32⟩
  | 81 => ⟨S32x4x8x128x1, .f32⟩
  | 82 => ⟨S32x4x8x128x1, .f32⟩
  | 83 => ⟨S32x4x8x128x1, .i1⟩
  | 84 => ⟨S32x4x8x128x1, .f32⟩
  | 85 => ⟨S32x4x8x128x1, .i1⟩
  | 86 => ⟨S_, .f32⟩
  | 87 => ⟨S32x4x8x128x1, .f32⟩
  | 88 => ⟨S_, .f32⟩
  | 89 => ⟨S32x4x8x128x1, .f32⟩
  | 90 => ⟨S_, .f32⟩
  | 91 => ⟨S32x4x8x128x1, .f32⟩
  | 92 => ⟨S32x4x8x128x1, .f32⟩
  | 93 => ⟨S32x4x8x128x1, .f32⟩
  | 94 => ⟨S32x4x8x128x1, .f32⟩
  | 95 => ⟨S32x4x8x128x1, .i1⟩
  | 96 => ⟨S32x4x8x128x1, .f32⟩
  | 97 => ⟨S32x4x8x128x1, .i1⟩
  | 98 => ⟨S_, .f32⟩
  | 99 => ⟨S32x4x8x128x1, .f32⟩
  | 100 => ⟨S_, .f32⟩
  | 101 => ⟨S32x4x8x128x1, .f32⟩
  | 102 => ⟨S_, .f32⟩
  | 103 => ⟨S32x4x8x128x1, .f32⟩
  | 104 => ⟨S32x4x8x128x1, .f32⟩
  | 105 => ⟨S32x4x8x128x1, .f32⟩
  | 106 => ⟨S32x4x8x128x256, .f32⟩
  | 107 => ⟨S32x4x8x128x256, .f32⟩
  | 108 => ⟨S32x4x8x128x256, .f32⟩
  | 109 => ⟨S_, .f32⟩
  | 110 => ⟨S32x4x8x128, .f32⟩
  | 111 => ⟨S32x4x8x128x1, .f32⟩
  | 112 => ⟨S32x4x8x128x1, .f32⟩
  | 113 => ⟨S32x4x8x128x1, .f32⟩
  | 114 => ⟨S32x4x8x128x1, .f32⟩
  | 115 => ⟨S32x4x8x128x1, .f32⟩
  | 116 => ⟨S32x4x8x128x256, .f32⟩
  | 117 => ⟨S32x4x8x128x256, .f32⟩
  | 118 => ⟨S32x4x8x128x1, .f32⟩
  | 119 => ⟨S_, .f32⟩
  | 120 => ⟨S32x4x8x128x1, .f32⟩
  | 121 => ⟨S32x4x8x128x1, .f32⟩
  | 122 => ⟨S32x4x64x8x128, .f32⟩
  | 123 => ⟨S32x128x4x8x64, .f32⟩
  | 124 => ⟨S32x4x64x8x128, .f32⟩
  | 125 => ⟨S32x4x8x128x256, .f32⟩
  | 126 => ⟨S32x4x64x256, .f32⟩
  | 127 => ⟨S32x256x4x64, .f32⟩
  | _ => ⟨S4096x32x64, .f32⟩

abbrev hbmTy0_1 (i : Nat) : BufTy := match i % 128 with
  | 0 => ⟨S32x4x8x128x256, .f32⟩
  | 1 => ⟨S32x4x8x128x256, .f32⟩
  | 2 => ⟨S32x4x8x128x256, .f32⟩
  | 3 => ⟨S_, .f32⟩
  | 4 => ⟨S32x4x8x128, .f32⟩
  | 5 => ⟨S32x4x8x128x1, .f32⟩
  | 6 => ⟨S32x4x8x128x1, .f32⟩
  | 7 => ⟨S32x4x8x128x256, .f32⟩
  | 8 => ⟨S32x4x8x128x256, .f32⟩
  | 9 => ⟨S32x4x8x128x1, .f32⟩
  | 10 => ⟨S_, .f32⟩
  | 11 => ⟨S4x8x128x1, .f32⟩
  | 12 => ⟨S1x4x8x128x1, .f32⟩
  | 13 => ⟨S32x4x8x128x1, .f32⟩
  | 14 => ⟨S_, .f32⟩
  | 15 => ⟨S32x4x8x128, .f32⟩
  | 16 => ⟨S32x4x8x128x256, .f32⟩
  | 17 => ⟨S32x4x8x128x256, .f32⟩
  | 18 => ⟨S32x4x8x128x256, .f32⟩
  | 19 => ⟨S32x4x8x128x256, .f32⟩
  | 20 => ⟨S_, .f32⟩
  | 21 => ⟨S32x4x8x128, .f32⟩
  | 22 => ⟨S32x4x8x128x1, .f32⟩
  | 23 => ⟨S32x4x8x128x1, .f32⟩
  | 24 => ⟨S32x4x8x128x1, .f32⟩
  | 25 => ⟨S_, .f32⟩
  | 26 => ⟨S4x8x128x1, .f32⟩
  | 27 => ⟨S1x4x8x128x1, .f32⟩
  | 28 => ⟨S1x4x8x128x1, .f32⟩
  | 29 => ⟨S32x4x8x128x1, .f32⟩
  | 30 => ⟨S_, .f32⟩
  | 31 => ⟨S32x4x8x128, .f32⟩
  | 32 => ⟨S32x4x8x128, .f32⟩
  | 33 => ⟨S32x4x8x128x256, .f32⟩
  | 34 => ⟨S32x4x8x128x256, .f32⟩
  | 35 => ⟨S32x4x8x128x256, .f32⟩
  | 36 => ⟨S_, .f32⟩
  | 37 => ⟨S32x4x8x128x256, .f32⟩
  | 38 => ⟨S32x4x8x128x256, .f32⟩
  | 39 => ⟨S32x4x256x128x8, .f32⟩
  | 40 => ⟨S32x4x128x8x64, .f32⟩
  | 41 => ⟨S32x128x4x8x64, .f32⟩
  | 42 => ⟨S32x4x256x64, .f32⟩
  | 43 => ⟨S32x256x4x64, .f32⟩
  | 44 => ⟨S32x128x4x64, .f32⟩
  | 45 => ⟨S32x128x4x64, .f32⟩
  | 46 => ⟨S32x128x4x64, .f32⟩
  | 47 => ⟨S32x128x4x64, .f32⟩
  | 48 => ⟨S4096x32x64, .f32⟩
  | 49 => ⟨S32x4096x64, .f32⟩
  | 50 => ⟨S4096x4x64, .f32⟩
  | 51 => ⟨S4x4096x64, .f32⟩
  | 52 => ⟨S4096x4x64, .f32⟩
  | 53 => ⟨S4x4096x64, .f32⟩
  | 54 => ⟨S4096x4x64, .f32⟩
  | 55 => ⟨S4x4096x64, .f32⟩
  | 56 => ⟨S4096x4x64, .f32⟩
  | 57 => ⟨S4x4096x64, .f32⟩
  | 58 => ⟨S4x1024x1, .f32⟩
  | _ => ⟨S4096x32x64, .f32⟩

abbrev hbmTy (i : Nat) : BufTy := match i / 128 with
  | 0 => hbmTy0_0 i
  | 1 => hbmTy0_1 i
  | _ => ⟨S4096x32x64, .f32⟩

abbrev bufTy : (tb : Table) → Fin (tcTables nBuf tb) → BufTy
  | .hbm, ⟨i, _⟩ => hbmTy i
  | _, _ => ⟨S4096x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_call0_v0 : Ref sig .tc := ⟨.hbm, 65, rfl⟩
abbrev main_v51_1 : Ref sig .tc := ⟨.hbm, 66, rfl⟩
abbrev main_call0_v2 : Ref sig .tc := ⟨.hbm, 67, rfl⟩
abbrev main_v51_0 : Ref sig .tc := ⟨.hbm, 68, rfl⟩
abbrev main_call0_cst : Ref sig .tc := ⟨.hbm, 69, rfl⟩
abbrev main_v51_2 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_15 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_17 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_18 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_19 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_20 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_21 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_22 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_call1_cst : Ref sig .tc := ⟨.hbm, 164, rfl⟩
abbrev main_call1_v0 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩

abbrev nD : Nat := 1
abbrev τ : Topo := Topo.v7x

variable {F : FTy → Type} [FloatOps F]
-- ==== KernelDff2.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S1024x1024 : Shape := ⟨2, ![1024, 1024]⟩
abbrev S8x128 : Shape := ⟨2, ![8, 128]⟩

abbrev nBuf : Space → Nat
  | .hbm => 7
  | .vmem => 9
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | .hbm, ⟨3, _⟩ => ⟨S4096x4096, .bf16⟩
  | .hbm, ⟨4, _⟩ => ⟨S16384x4096, .bf16⟩
  | .hbm, ⟨5, _⟩ => ⟨S4096x16384, .bf16⟩
  | .hbm, ⟨6, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDff2Ideal.lean ====
abbrev S4096x16384 : Shape := ⟨2, ![4096, 16384]⟩
abbrev S16384x4096 : Shape := ⟨2, ![16384, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .i1⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .f32⟩
  | .hbm, ⟨15, _⟩ => ⟨S4096x4096, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== KernelGwFf2.lean ====
abbrev S4096x16384 : Shape := ⟨2, ![4096, 16384]⟩
abbrev S16384x4096 : Shape := ⟨2, ![16384, 4096]⟩
abbrev S4096x4096 : Shape := ⟨2, ![4096, 4096]⟩
abbrev S_ : Shape := ⟨0, ![]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 10
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S4096x16384, .bf16⟩
  | .hbm, ⟨8, _⟩ => ⟨S4096x4096, .bf16⟩
  | .hbm, ⟨9, _⟩ => ⟨S16384x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwFf2Ideal.lean ====
abbrev S4096x16384 : Shape := ⟨2, ![4096, 16384]⟩
abbrev S16384x4096 : Shape := ⟨2, ![16384, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S4096x4096, .f32⟩
  | .hbm, ⟨3, _⟩ => ⟨S_, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S4096x4096, .f32⟩
  | .hbm, ⟨8, _⟩ => ⟨S4096x16384, .f32⟩
  | .hbm, ⟨9, _⟩ => ⟨S16384x4096, .f32⟩
  | .hbm, ⟨10, _⟩ => ⟨S16384x4096, .bf16⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelGwFf1.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S4096x4096, .bf16⟩
  | .hbm, ⟨4, _⟩ => ⟨S4096x16384, .bf16⟩
  | .hbm, ⟨5, _⟩ => ⟨S4x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwFf1Ideal.lean ====
abbrev S4096x4096 : Shape := ⟨2, ![4096, 4096]⟩
abbrev S4096x16384 : Shape := ⟨2, ![4096, 16384]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S16384x4096, .f32⟩
  | .hbm, ⟨5, _⟩ => ⟨S4096x16384, .f32⟩
  | .hbm, ⟨6, _⟩ => ⟨S4096x4x4096, .f32⟩
  | .hbm, ⟨7, _⟩ => ⟨S4x4096x4096, .f32⟩
  | .hbm, ⟨8, _⟩ => ⟨S4x4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDff1.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S4096x16384, .bf16⟩
  | .hbm, ⟨4, _⟩ => ⟨S4096x4x4096, .f32⟩
  | .hbm, ⟨5, _⟩ => ⟨S4x4096x4096, .f32⟩
  | .hbm, ⟨6, _⟩ => ⟨S4x4096x4096, .bf16⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDff1Ideal.lean ====
abbrev S4096x4096 : Shape := ⟨2, ![4096, 4096]⟩
abbrev S4096x16384 : Shape := ⟨2, ![4096, 16384]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelNorm1.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceNorm1Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S1x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== KernelNorm2.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 13
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .bf16⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .bf16⟩
  | .local _ .vmem, ⟨14, _⟩ => ⟨S128x4096, .bf16⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | .local _ .vmem, ⟨18, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceNorm2Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S1x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== KernelDout.lean ====
abbrev S4096x4096 : Shape := ⟨2, ![4096, 4096]⟩
abbrev S1024x4096 : Shape := ⟨2, ![1024, 4096]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoutIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelGwOut.lean ====
abbrev S4096x4096 : Shape := ⟨2, ![4096, 4096]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwOutIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGwIn.lean ====
abbrev S4096x4096 : Shape := ⟨2, ![4096, 4096]⟩
abbrev S4096x4608 : Shape := ⟨2, ![4096, 4608]⟩
abbrev S4x4096x1152 : Shape := ⟨3, ![4, 4096, 1152]⟩
abbrev S4096x1024 : Shape := ⟨2, ![4096, 1024]⟩
abbrev S4096x1152 : Shape := ⟨2, ![4096, 1152]⟩
abbrev S1x1024x1152 : Shape := ⟨3, ![1, 1024, 1152]⟩
abbrev S8x128 : Shape := ⟨2, ![8, 128]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4608, .f32⟩
  | .hbm, ⟨2, _⟩ => ⟨S4096x4608, .f32⟩
  | .hbm, ⟨3, _⟩ => ⟨S4096x4096, .bf16⟩
  | .hbm, ⟨4, _⟩ => ⟨S4096x4608, .bf16⟩
  | .hbm, ⟨5, _⟩ => ⟨S4x4096x1152, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1152, .bf16⟩
  | .local _ .vmem, ⟨3, _⟩ => ⟨S4096x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwInIdeal.lean ====
abbrev S4096x4096 : Shape := ⟨2, ![4096, 4096]⟩
abbrev S4096x4608 : Shape := ⟨2, ![4096, 4608]⟩
abbrev S4608x4096 : Shape := ⟨2, ![4608, 4096]⟩
abbrev S4096x4x1152 : Shape := ⟨3, ![4096, 4, 1152]⟩
abbrev S4x4096x1152 : Shape := ⟨3, ![4, 4096, 1152]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4608, .f32⟩
  | .hbm, ⟨2, _⟩ => ⟨S4096x4608, .f32⟩
  | .hbm, ⟨3, _⟩ => ⟨S4096x4608, .f32⟩
  | .hbm, ⟨4, _⟩ => ⟨S4608x4096, .f32⟩
  | .hbm, ⟨5, _⟩ => ⟨S4096x4608, .f32⟩
  | .hbm, ⟨6, _⟩ => ⟨S4096x4x1152, .f32⟩
  | .hbm, ⟨7, _⟩ => ⟨S4x4096x1152, .f32⟩
  | .hbm, ⟨8, _⟩ => ⟨S4x4096x1152, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDin.lean ====
abbrev S4096x4096 : Shape := ⟨2, ![4096, 4096]⟩
abbrev S4096x4608 : Shape := ⟨2, ![4096, 4608]⟩
abbrev S4096x4x1152 : Shape := ⟨3, ![4096, 4, 1152]⟩
abbrev S4x4096x1152 : Shape := ⟨3, ![4, 4096, 1152]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4608, .f32⟩
  | .hbm, ⟨2, _⟩ => ⟨S4096x4608, .f32⟩
  | .hbm, ⟨3, _⟩ => ⟨S4096x4608, .bf16⟩
  | .hbm, ⟨4, _⟩ => ⟨S4096x4x1152, .f32⟩
  | .hbm, ⟨5, _⟩ => ⟨S4x4096x1152, .f32⟩
  | .hbm, ⟨6, _⟩ => ⟨S4x4096x1152, .bf16⟩
  | .hbm, ⟨7, _⟩ => ⟨S4096x4096, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDinIdeal.lean ====
abbrev S4096x4096 : Shape := ⟨2, ![4096, 4096]⟩
abbrev S4096x4608 : Shape := ⟨2, ![4096, 4608]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4608, .f32⟩
  | .hbm, ⟨2, _⟩ => ⟨S4096x4608, .f32⟩
  | .hbm, ⟨3, _⟩ => ⟨S4096x4608, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelGwGlu.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwGluIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFf1.lean ====
abbrev S4096x4096 : Shape := ⟨2, ![4096, 4096]⟩
abbrev S4096x16384 : Shape := ⟨2, ![4096, 16384]⟩
abbrev S4096x4x4096 : Shape := ⟨3, ![4096, 4, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S8x128 : Shape := ⟨2, ![8, 128]⟩
abbrev S4096x1024 : Shape := ⟨2, ![4096, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x4x4096, .f32⟩
  | .hbm, ⟨4, _⟩ => ⟨S4x4096x4096, .f32⟩
  | .hbm, ⟨5, _⟩ => ⟨S4x4096x4096, .bf16⟩
  | .hbm, ⟨6, _⟩ => ⟨S4096x16384, .bf16⟩
  | .hbm, ⟨7, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFf1Ideal.lean ====
abbrev S4096x4096 : Shape := ⟨2, ![4096, 4096]⟩
abbrev S4096x16384 : Shape := ⟨2, ![4096, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x16384, .f32⟩
  | .hbm, ⟨3, _⟩ => ⟨S4096x16384, .bf16⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S4096x16384, .f32⟩
  | .hbm, ⟨8, _⟩ => ⟨S4096x16384, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelFf2.lean ====
abbrev S4096x16384 : Shape := ⟨2, ![4096, 16384]⟩
abbrev S16384x4096 : Shape := ⟨2, ![16384, 4096]⟩
abbrev S_ : Shape := ⟨0, ![]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S_, .f32⟩
  | .hbm, ⟨3, _⟩ => ⟨S4096x16384, .f32⟩
  | .hbm, ⟨4, _⟩ => ⟨S4096x16384, .f32⟩
  | .hbm, ⟨5, _⟩ => ⟨S4096x16384, .f32⟩
  | .hbm, ⟨6, _⟩ => ⟨S4096x16384, .bf16⟩
  | .hbm, ⟨7, _⟩ => ⟨S16384x4096, .bf16⟩
  | .hbm, ⟨8, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf2Ideal.lean ====
abbrev S4096x16384 : Shape := ⟨2, ![4096, 16384]⟩
abbrev S16384x4096 : Shape := ⟨2, ![16384, 4096]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x4096, .f32⟩
  | .hbm, ⟨2, _⟩ => ⟨S_, .f32⟩
  | .hbm, ⟨3, _⟩ => ⟨S4096x16384, .f32⟩
  | .hbm, ⟨4, _⟩ => ⟨S4096x16384, .f32⟩
  | .hbm, ⟨5, _⟩ => ⟨S4096x16384, .f32⟩
  | .hbm, ⟨6, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelIn.lean ====
abbrev S4096x4096 : Shape := ⟨2, ![4096, 4096]⟩
abbrev S4096x4608 : Shape := ⟨2, ![4096, 4608]⟩
abbrev S4096x4x1152 : Shape := ⟨3, ![4096, 4, 1152]⟩
abbrev S4x4096x1152 : Shape := ⟨3, ![4, 4096, 1152]⟩
abbrev S1024x4096 : Shape := ⟨2, ![1024, 4096]⟩
abbrev S1x4096x1152 : Shape := ⟨3, ![1, 4096, 1152]⟩
abbrev S1024x1152 : Shape := ⟨2, ![1024, 1152]⟩
abbrev S8x128 : Shape := ⟨2, ![8, 128]⟩
abbrev S4096x1152 : Shape := ⟨2, ![4096, 1152]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4608, .f32⟩
  | .hbm, ⟨2, _⟩ => ⟨S4096x4096, .bf16⟩
  | .hbm, ⟨3, _⟩ => ⟨S4096x4x1152, .f32⟩
  | .hbm, ⟨4, _⟩ => ⟨S4x4096x1152, .f32⟩
  | .hbm, ⟨5, _⟩ => ⟨S4x4096x1152, .bf16⟩
  | .hbm, ⟨6, _⟩ => ⟨S4096x4608, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1152, .bf16⟩
  | .local _ .vmem, ⟨3, _⟩ => ⟨S1x4096x1152, .bf16⟩
  | .local _ .vmem, ⟨4, _⟩ => ⟨S1024x1152, .f32⟩
  | .local _ .vmem, ⟨5, _⟩ => ⟨S1024x1152, .f32⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x4096 : Shape := ⟨2, ![4096, 4096]⟩
abbrev S4096x4608 : Shape := ⟨2, ![4096, 4608]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4608, .f32⟩
  | .hbm, ⟨2, _⟩ => ⟨S4096x4608, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGlu.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOut.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelFinal.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 10
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceFinalIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S1x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S1x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096, .f32⟩
  | .hbm, ⟨81, _⟩ => ⟨S1x4096, .f32⟩
  | .hbm, ⟨82, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== KernelResNorm.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceResNormIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== KernelMix.lean ====
abbrev S4096x4096 : Shape := ⟨2, ![4096, 4096]⟩
abbrev S4096x2048 : Shape := ⟨2, ![4096, 2048]⟩
abbrev S1x2048 : Shape := ⟨2, ![1, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 13
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .bf16⟩
  | .local _ .vmem, ⟨14, _⟩ => ⟨S128x2048, .bf16⟩
  | .local _ .vmem, ⟨15, _⟩ => ⟨S128x2048, .f32⟩
  | .local _ .vmem, ⟨16, _⟩ => ⟨S128x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceMixIdeal.lean ====
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 127
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x2048, .f32⟩
  | .hbm, ⟨85, _⟩ => ⟨S4096x2048, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S_, .f32⟩
  | .hbm, ⟨99, _⟩ => ⟨S2048, .f32⟩
  | .hbm, ⟨100, _⟩ => ⟨S1x2048, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x2048, .f32⟩
  | .hbm, ⟨108, _⟩ => ⟨S4096x2048, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096, .f32⟩
  | .hbm, ⟨115, _⟩ => ⟨S4096x2048, .f32⟩
  | .hbm, ⟨116, _⟩ => ⟨S4096x2048, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .f32⟩
  | .hbm, ⟨121, _⟩ => ⟨S4096x2048, .f32⟩
  | .hbm, ⟨122, _⟩ => ⟨S4096x2048, .f32⟩
  | .hbm, ⟨123, _⟩ => ⟨S_, .f32⟩
  | .hbm, ⟨124, _⟩ => ⟨S2048, .f32⟩
  | .hbm, ⟨125, _⟩ => ⟨S1x2048, .f32⟩
  | .hbm, ⟨126, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_19 : Ref sig .tc := ⟨.hbm, 110, rfl⟩
abbrev main_v83 : Ref sig .tc := ⟨.hbm, 111, rfl⟩
abbrev main_v84 : Ref sig .tc := ⟨.hbm, 112, rfl⟩
abbrev main_cst_20 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]
-- ==== Proof.Row.lean ====
/-
  The mathematics of ONE ROW of a windowed attention with a sink, and of its derivative: no program here.

  A row has scores `s j` over the keys `j`, of which those outside `mask` are left out (their score is `⊥`), and the
  score `σ` of the sink, which has no value. Its softmax divides by `∑ exp (s j - m) + exp (σ - m)`, where `m` is the
  largest of them all. Everything is stated over the extended reals, as the two programs compute it, and equal to a real
  number: `prob` (a probability), `sinkProb` (the sink's) and `gradScore` (the derivative by a score).
-/
module

public import Idealize.ShloMosaic.PureOps.Ideal
public import Mathlib.Tactic.Ring
public import Mathlib.Tactic.FieldSimp
public import Mathlib.Tactic.LinearCombination

@[expose] public section

noncomputable section

namespace Cert.Proof.Row

open Idealize.ShloMosaic

/-- The coercion of a finite real sum is the sum of the coercions. -/
theorem coe_sum {κ : Type} (t : Finset κ) (f : κ → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A quotient of reals by one that isn't zero. -/
theorem div_real {x y : ℝ} (h : y ≠ 0) : Ideal.div (x : EReal) (y : EReal) = ((x / y : ℝ) : EReal) := by
  rw [Ideal.div_coe h, ← EReal.coe_mul, mul_one_div]

variable {ι : Type} [Fintype ι] (mask : ι → Prop) [DecidablePred mask] (s : ι → ℝ) (σ : ℝ)

/-- The score of key `j` as the programs hold it: `⊥` outside the mask. -/
def score (j : ι) : EReal := if mask j then (s j : EReal) else ⊥

/-- The largest score. -/
def top : EReal := Finset.univ.fold max ⊥ (score mask s)

/-- What the exponents are shifted by: the largest of the scores and the sink. -/
def shift : ℝ := (max (top mask s) (σ : EReal)).toReal

/-- The exponential of a shifted score. -/
def expo (j : ι) : ℝ := if mask j then Real.exp (s j - shift mask s σ) else 0

/-- The exponential of the shifted sink. -/
def sinkExpo : ℝ := Real.exp (σ - shift mask s σ)

/-- The softmax's denominator. -/
def denom : ℝ := (∑ j, expo mask s σ j) + sinkExpo mask s σ

/-- The probability of key `j`. -/
def prob (j : ι) : ℝ := expo mask s σ j / denom mask s σ

/-- The probability of the sink. -/
def sinkProb : ℝ := sinkExpo mask s σ / denom mask s σ

/-- The mean of `gp` under the row's probabilities: what every score's derivative is less. -/
def mean (gp : ι → ℝ) : ℝ := ∑ j, prob mask s σ j * gp j

/-- The derivative by key `j`'s score, where `gp` is the derivative by the probabilities. -/
def gradScore (gp : ι → ℝ) (j : ι) : ℝ := prob mask s σ j * (gp j - mean mask s σ gp)

theorem expo_nonneg (j : ι) : 0 ≤ expo mask s σ j := by
  unfold expo; split
  · exact (Real.exp_pos _).le
  · exact le_refl _

theorem denom_pos : 0 < denom mask s σ :=
  add_pos_of_nonneg_of_pos (Finset.sum_nonneg fun j _ => expo_nonneg mask s σ j) (Real.exp_pos _)

theorem score_lt_top (j : ι) : score mask s j < ⊤ := by
  unfold score; split
  · exact EReal.coe_lt_top _
  · exact bot_lt_top

theorem top_lt_top : top mask s < ⊤ := by
  unfold top
  rw [Finset.fold_max_lt]
  exact ⟨bot_lt_top, fun j _ => score_lt_top mask s j⟩

/-- The largest of the scores and the sink is a real number. -/
theorem max_eq : max (top mask s) (σ : EReal) = (shift mask s σ : EReal) := by
  unfold shift
  rw [EReal.coe_toReal]
  · exact (max_lt (top_lt_top mask s) (EReal.coe_lt_top σ)).ne
  · exact (lt_of_lt_of_le (EReal.bot_lt_coe σ) (le_max_right _ _)).ne'

theorem exp_score (j : ι) : Ideal.exp (score mask s j - (shift mask s σ : EReal)) = (expo mask s σ j : EReal) := by
  unfold score expo; split
  · rw [← EReal.coe_sub, Ideal.exp_coe]
  · rw [EReal.bot_sub, Ideal.exp_bot, EReal.coe_zero]

theorem exp_sink : Ideal.exp ((σ : EReal) - (shift mask s σ : EReal)) = (sinkExpo mask s σ : EReal) := by
  rw [← EReal.coe_sub, Ideal.exp_coe]; rfl

theorem denom_eq : (∑ j, (expo mask s σ j : EReal)) + (sinkExpo mask s σ : EReal) = (denom mask s σ : EReal) := by
  unfold denom; rw [EReal.coe_add, coe_sum]

/-- A probability as a product with the reciprocal of the denominator. -/
theorem prob_mul (j : ι) : (expo mask s σ j : EReal) * Ideal.div 1 (denom mask s σ : EReal) = (prob mask s σ j : EReal) := by
  rw [← EReal.coe_one, div_real (denom_pos mask s σ).ne', ← EReal.coe_mul, mul_one_div]; rfl

/-- A probability as a quotient. -/
theorem prob_div (j : ι) : Ideal.div (expo mask s σ j : EReal) (denom mask s σ : EReal) = (prob mask s σ j : EReal) :=
  div_real (denom_pos mask s σ).ne'

/-- The sink's probability as a product with the reciprocal of the denominator. -/
theorem sinkProb_mul : (sinkExpo mask s σ : EReal) * Ideal.div 1 (denom mask s σ : EReal) = (sinkProb mask s σ : EReal) := by
  rw [← EReal.coe_one, div_real (denom_pos mask s σ).ne', ← EReal.coe_mul, mul_one_div]; rfl

theorem prob_of_not_mask {j : ι} (h : ¬ mask j) : prob mask s σ j = 0 := by
  unfold prob expo; rw [if_neg h, zero_div]

theorem gradScore_of_not_mask (gp : ι → ℝ) {j : ι} (h : ¬ mask j) : gradScore mask s σ gp j = 0 := by
  unfold gradScore; rw [prob_of_not_mask mask s σ h, zero_mul]

/-- The kernel's derivative by a score: its `gp'` need agree with `gp` on the mask alone. -/
theorem gradScore_of_agree (gp gp' : ι → ℝ) (h : ∀ j, mask j → gp' j = gp j) (j : ι) :
    prob mask s σ j * (gp' j - mean mask s σ gp) = gradScore mask s σ gp j := by
  by_cases hj : mask j
  · rw [h j hj]; rfl
  · rw [gradScore_of_not_mask mask s σ gp hj, prob_of_not_mask mask s σ hj, zero_mul]

/-! ### The derivative as reverse-mode differentiation writes it -/

/-- The denominator's part of the derivative: minus the sum of `gp * p` over the denominator's square. -/
def back (gp : ι → ℝ) : ℝ := -(∑ j, gp j * (1 / (denom mask s σ * denom mask s σ)) * expo mask s σ j)

theorem back_eq (gp : ι → ℝ) : back mask s σ gp = -(mean mask s σ gp) / denom mask s σ := by
  have hl := (denom_pos mask s σ).ne'
  unfold back mean prob
  rw [neg_div, Finset.sum_div]
  refine congrArg Neg.neg (Finset.sum_congr rfl fun j _ => ?_)
  field_simp

theorem back_coe (gp : ι → ℝ) :
    -(∑ j, (gp j : EReal) * Ideal.div 1 ((denom mask s σ : EReal) * (denom mask s σ : EReal)) * (expo mask s σ j : EReal))
      = (back mask s σ gp : EReal) := by
  have hl := (denom_pos mask s σ).ne'
  rw [← EReal.coe_mul, ← EReal.coe_one, div_real (mul_ne_zero hl hl)]
  simp only [← EReal.coe_mul, ← coe_sum, ← EReal.coe_neg]
  rfl

/-- The derivative by a score through its own exponential. -/
theorem through_exp (gp : ι → ℝ) (j : ι) :
    (Ideal.div (gp j : EReal) (denom mask s σ : EReal) + (back mask s σ gp : EReal)) * (expo mask s σ j : EReal)
      = (gradScore mask s σ gp j : EReal) := by
  have hl := (denom_pos mask s σ).ne'
  rw [div_real hl, ← EReal.coe_add, ← EReal.coe_mul, back_eq]
  refine congrArg _ ?_
  unfold gradScore prob
  field_simp
  ring

/-- The derivative by the sink through its own exponential. -/
theorem back_sink (gp : ι → ℝ) :
    (back mask s σ gp : EReal) * (sinkExpo mask s σ : EReal) = ((-(sinkProb mask s σ * mean mask s σ gp) : ℝ) : EReal) := by
  have hl := (denom_pos mask s σ).ne'
  rw [← EReal.coe_mul, back_eq]
  refine congrArg _ ?_
  unfold sinkProb
  field_simp

/-- The derivative by the shift is zero: a softmax is unchanged when all its scores move together. -/
theorem shift_grad (gp : ι → ℝ) :
    -((-(sinkProb mask s σ * mean mask s σ gp) : ℝ) : EReal) + ∑ j, -(gradScore mask s σ gp j : EReal) = 0 := by
  simp only [← EReal.coe_neg, ← coe_sum, ← EReal.coe_add]
  rw [← EReal.coe_zero]
  refine congrArg _ ?_
  have hl := (denom_pos mask s σ).ne'
  have h1 : (∑ j, prob mask s σ j) + sinkProb mask s σ = 1 := by
    unfold prob sinkProb
    rw [← Finset.sum_div, ← add_div]
    exact div_self hl
  have h2 : ∑ j, gradScore mask s σ gp j = mean mask s σ gp - (∑ j, prob mask s σ j) * mean mask s σ gp := by
    unfold gradScore
    simp only [mul_sub, Finset.sum_sub_distrib, ← Finset.sum_mul]
    rfl
  rw [Finset.sum_neg_distrib, h2]
  linear_combination (mean mask s σ gp) * h1

/-- Some score is the largest one, so the count of the largest is not zero. -/
theorem exists_eq_top [Nonempty ι] : ∃ j, score mask s j = top mask s := by
  obtain ⟨j, -, hj⟩ := Finset.exists_max_image Finset.univ (score mask s) Finset.univ_nonempty
  refine ⟨j, le_antisymm ?_ ?_⟩
  · exact (Finset.le_fold_max _).mpr (Or.inr ⟨j, Finset.mem_univ _, le_refl _⟩)
  · exact (Finset.fold_max_le _).mpr ⟨bot_le, fun k hk => hj k hk⟩

/-- The count of the largest scores, each counted as the one or zero `w`, is not zero. -/
theorem count_ne_zero [Nonempty ι] (w : ι → EReal) (h0 : ∀ j, 0 ≤ w j)
    (h1 : ∀ j, score mask s j = top mask s → w j = 1) : ∑ j, w j ≠ 0 := by
  obtain ⟨j, hj⟩ := exists_eq_top mask s
  refine (lt_of_lt_of_le zero_lt_one ?_).ne'
  rw [← h1 j hj]
  exact Finset.single_le_sum (f := w) (fun k _ => h0 k) (Finset.mem_univ j)

/-- Nothing of a zero derivative passes through the maximum, however the ties are shared. -/
theorem zero_through_max (a c w : EReal) (hc : c ≠ 0) : Ideal.div (0 * a) c * w = 0 := by
  rw [zero_mul, Ideal.div, if_neg hc, zero_mul, zero_mul]

end Cert.Proof.Row

end
-- ==== Proof.Spec.lean ====
/-
  WHAT THE CLAIM'S PROGRAMS COMPUTE, over the real numbers: the gradients of a sliding-window attention with sinks.

  A sequence of 4096 tokens is cut in 32 blocks of 128; 32 query heads in 4 groups of 8, each with one head of keys and
  values. A query at position `i` of block `n` sees the keys `j` of the 256 of blocks `n - 1` and `n` that lie at most
  127 positions before it, of its own block alone if `n = 0`. No program is mentioned here.
-/
module

public import proofs.«01_k».proof.Proof.Row

@[expose] public section

noncomputable section

namespace Cert.Proof.Spec

open Idealize.ShloMosaic

/-- The five arguments as real numbers: queries, keys, values, sinks and the derivative by the attention's output. -/
structure Data where
  q : Fin 4096 → Fin 32 → Fin 64 → ℝ
  k : Fin 4096 → Fin 4 → Fin 64 → ℝ
  v : Fin 4096 → Fin 4 → Fin 64 → ℝ
  sink : Fin 32 → ℝ
  ct : Fin 4096 → Fin 32 → Fin 64 → ℝ

/-- Token `i` of block `n`. -/
def tok (n : Fin 32) (i : Fin 128) : Fin 4096 := ⟨n.val * 128 + i.val, by omega⟩

/-- Query head `h` of group `g`. -/
def hd (g : Fin 4) (h : Fin 8) : Fin 32 := ⟨g.val * 8 + h.val, by omega⟩

/-- The block before `n`; of the first block, itself (none of whose keys is seen through it). -/
def prev (n : Fin 32) : Fin 32 := ⟨n.val - 1, by omega⟩

/-- Key `j` of the 256 is seen by the query at position `i` of block `n`. -/
def mask (n : Fin 32) (i : Fin 128) (j : Fin 256) : Prop := i.val < j.val ∧ j.val ≤ i.val + 128 ∧ (0 < n.val ∨ 128 ≤ j.val)

instance (n : Fin 32) (i : Fin 128) : DecidablePred (mask n i) := fun j => by unfold mask; infer_instance

/-- Row `j` of the 256 rows of blocks `n - 1` and `n` of an array of keys or values. -/
def window (a : Fin 4096 → Fin 4 → Fin 64 → ℝ) (n : Fin 32) (g : Fin 4) (j : Fin 256) (d : Fin 64) : ℝ :=
  if h : j.val < 128 then a (tok (prev n) ⟨j.val, h⟩) g d else a (tok n ⟨j.val - 128, by omega⟩) g d

variable (D : Data) (n : Fin 32) (g : Fin 4) (h : Fin 8) (i : Fin 128)

/-- The scaled query. -/
def query (d : Fin 64) : ℝ := D.q (tok n i) (hd g h) d * (1 / 8)

/-- The score of key `j`. -/
def scores (j : Fin 256) : ℝ := ∑ d, query D n g h i d * window D.k n g j d

/-- The probability of key `j`. -/
def prob (j : Fin 256) : ℝ := Row.prob (mask n i) (scores D n g h i) (D.sink (hd g h)) j

/-- The derivative by key `j`'s probability. -/
def gradProb (j : Fin 256) : ℝ := ∑ d, D.ct (tok n i) (hd g h) d * window D.v n g j d

/-- The derivative by key `j`'s score. -/
def gradScore (j : Fin 256) : ℝ :=
  Row.gradScore (mask n i) (scores D n g h i) (D.sink (hd g h)) (gradProb D n g h i) j

/-- The attention's output. -/
def out (d : Fin 64) : ℝ := ∑ j, prob D n g h i j * window D.v n g j d

/-- The gradient by the scaled query. -/
def gradQuery (d : Fin 64) : ℝ := ∑ j, gradScore D n g h i j * window D.k n g j d

/-- The gradient by row `j` of a block's 256 keys, of this block's queries alone. -/
def gradKey (j : Fin 256) (d : Fin 64) : ℝ := ∑ h, ∑ i, gradScore D n g h i j * query D n g h i d

/-- The gradient by row `j` of a block's 256 values, of this block's queries alone. -/
def gradValue (j : Fin 256) (d : Fin 64) : ℝ := ∑ h, ∑ i, prob D n g h i j * D.ct (tok n i) (hd g h) d

/-- One query's part of the gradient by its head's sink. -/
def gradSink : ℝ :=
  -(Row.sinkProb (mask n i) (scores D n g h i) (D.sink (hd g h))
      * Row.mean (mask n i) (scores D n g h i) (D.sink (hd g h)) (gradProb D n g h i))

/-- The mean of the derivatives by the probabilities is the product of the output and its derivative. -/
theorem mean_eq : ∑ d, D.ct (tok n i) (hd g h) d * out D n g h i d
    = Row.mean (mask n i) (scores D n g h i) (D.sink (hd g h)) (gradProb D n g h i) := by
  unfold Row.mean out gradProb prob
  simp only [Finset.mul_sum]
  rw [Finset.sum_comm]
  exact Finset.sum_congr rfl fun j _ => Finset.sum_congr rfl fun d _ => by ring

/-- A sum over the 1024 queries of a block's group is a sum over its 8 heads and 128 positions. -/
theorem sum_rows {α : Type} [AddCommMonoid α] (f : Fin 8 → Fin 128 → α) :
    ∑ r : Fin 1024, f ⟨r.val / 128, by omega⟩ ⟨r.val % 128, by omega⟩ = ∑ h, ∑ i, f h i := by
  rw [← Fintype.sum_prod_type' (f := f)]
  exact (finProdFinEquiv (m := 8) (n := 128)).symm.sum_comp (fun x : Fin 8 × Fin 128 => f x.1 x.2)

end Cert.Proof.Spec

end
-- ==== Proof.Words.lean ====
/-
  THE MASK'S INTEGER ARITHMETIC, word by word: the kernel computes its mask with 32-bit integers from the numbers of a
  row, a key and a block. Each step is checked for all the numbers that occur.
-/
module

public import Idealize.ShloMosaic.PureOps

@[expose] public section

noncomputable section

namespace Cert.Proof.Words

open Idealize.ShloMosaic

/-- The remainder of a row's number by 128, as the kernel takes it. -/
theorem rem_word : ∀ r : Fin 1024,
    Scalar.select (IntOp.andi (IntOp.xori (IntOp.cmpi .slt (IntOp.remsi .vector (BitVec.ofNat 32 r.val)
        (Scalar.select (Scalar.cmpi .eq 128#32 0#32) 1#32 128#32)) 0#32)
        (Scalar.cmpi .slt (Scalar.select (Scalar.cmpi .eq 128#32 0#32) 1#32 128#32) 0#32))
        (IntOp.cmpi .ne (IntOp.remsi .vector (BitVec.ofNat 32 r.val)
          (Scalar.select (Scalar.cmpi .eq 128#32 0#32) 1#32 128#32)) 0#32))
      (IntOp.addi (IntOp.remsi .vector (BitVec.ofNat 32 r.val)
          (Scalar.select (Scalar.cmpi .eq 128#32 0#32) 1#32 128#32))
        (Scalar.select (Scalar.cmpi .eq 128#32 0#32) 1#32 128#32))
      (IntOp.remsi .vector (BitVec.ofNat 32 r.val) (Scalar.select (Scalar.cmpi .eq 128#32 0#32) 1#32 128#32))
      = BitVec.ofNat 32 (r.val % 128) := by decide +kernel

/-- The band of the mask as the kernel computes it. -/
theorem band_word : ∀ (i : Fin 128) (j : Fin 256),
    IntOp.andi (IntOp.cmpi .sge (IntOp.subi (IntOp.addi (BitVec.ofNat 32 i.val) 128#32) (BitVec.ofNat 32 j.val)) 0#32)
      (IntOp.cmpi .slt (IntOp.subi (IntOp.addi (BitVec.ofNat 32 i.val) 128#32) (BitVec.ofNat 32 j.val)) 128#32)
      = if i.val < j.val ∧ j.val ≤ i.val + 128 then 1#1 else 0#1 := by decide +kernel

/-- The first block sees none of the keys before it, as the kernel computes it. -/
theorem first_word : ∀ (n : Fin 32) (j : Fin 256),
    IntOp.ori (Scalar.cmpi .sgt (BitVec.ofNat 32 n.val) 0#32) (IntOp.cmpi .sge (BitVec.ofNat 32 j.val) 128#32)
      = if 0 < n.val ∨ 128 ≤ j.val then 1#1 else 0#1 := by decide +kernel

end Cert.Proof.Words

end
-- ==== Proof.Head.lean ====
/-
  WHAT ONE GROUP OF HEADS COMPUTES at one point of the kernel's grid: the four groups of the kernel's body do the same,
  so their computation is written here once, over the blocks a group reads, and each result is read at an index.
-/
module

public import proofs.«01_k».proof.Proof.Gen.KernelIdeal.Skeleton
public import proofs.«01_k».proof.Proof.Spec
public import proofs.«01_k».proof.Proof.Words
public import Idealize.ShloMosaic.Lib.Pointwise

@[expose] public section

noncomputable section

namespace Cert.Proof.Head

open Idealize.ShloMosaic Cert.KernelIdeal Cert.KernelIdeal.Gen

section Generic

variable {F : FTy → Type} [FloatOps F] [Named F]
variable (w : BitVec 32) (a : Fin 8 → Elt F .f32) (q : Vec F S8x128x64 .bf16) (kp kc vp vc : Vec F S1x128x64 .bf16)
  (o ct : Vec F S8x128x64 .f32)

/-- The exponentials of the shifted scores. -/
def expos : FVec F S1024x256 .f32 :=
  k0_pay10 w (k0_pay5 q kp kc) k0_pay6 (a 0) (a 1) (a 2) (a 3) (a 4) (a 5) (a 6) (a 7)

/-- The exponential of the shifted sink. -/
def sinkExpos : FVec F S1024x1 .f32 :=
  k0_pay11 w (k0_pay5 q kp kc) k0_pay6 (a 0) (a 1) (a 2) (a 3) (a 4) (a 5) (a 6) (a 7)

/-- The sum of the exponentials of a row. -/
def sums : FVec F S1024x1 .f32 :=
  k0_pay12 w (k0_pay5 q kp kc) k0_pay6 (a 0) (a 1) (a 2) (a 3) (a 4) (a 5) (a 6) (a 7)

/-- The gradient by the queries, as the kernel stores it. -/
def dq : FVec F S8x128x64 .f32 :=
  k0_pay20 (k0_pay3 kp kc) (k0_pay4 vp vc) (expos w a q kp kc) (sinkExpos w a q kp kc) (sums w a q kp kc) ct o

/-- The gradient by the 128 keys of the block before. -/
def dkp : FVec F S1x128x64 .f32 :=
  k0_pay22 (k0_pay2 q) (k0_pay4 vp vc) (expos w a q kp kc) (sinkExpos w a q kp kc) (sums w a q kp kc) ct o

/-- The gradient by the 128 keys of the block. -/
def dkc : FVec F S1x128x64 .f32 :=
  k0_pay23 (k0_pay2 q) (k0_pay4 vp vc) (expos w a q kp kc) (sinkExpos w a q kp kc) (sums w a q kp kc) ct o

/-- The gradient by the 128 values of the block before. -/
def dvp : FVec F S1x128x64 .f32 :=
  k0_pay25 (k0_pay24 (expos w a q kp kc) (sinkExpos w a q kp kc) (sums w a q kp kc) ct)

/-- The gradient by the 128 values of the block. -/
def dvc : FVec F S1x128x64 .f32 :=
  k0_pay26 (k0_pay18 (expos w a q kp kc) (sinkExpos w a q kp kc) (sums w a q kp kc) ct)

/-- The sinks' gradient so far, `acc`, and this block's part. -/
def dsink (acc : Vec F S1x1024x1 .f32) : FVec F S1x1024x1 .f32 :=
  k0_pay27 (sinkExpos w a q kp kc) (k0_pay13 (sinkExpos w a q kp kc) (sums w a q kp kc)) (k0_pay16 ct o) acc

end Generic

open Spec

/-- The group's blocks hold the arrays' parts for block `n` and group `g`. -/
structure Holds (D : Data) (n : Fin 32) (g : Fin 4) (w : BitVec 32) (a : Fin 8 → EReal) (q : Vec Ideal S8x128x64 .bf16)
    (kp kc vp vc : Vec Ideal S1x128x64 .bf16) (o ct : Vec Ideal S8x128x64 .f32) : Prop where
  word : w = BitVec.ofNat 32 n.val
  sink : ∀ h, a h = (D.sink (hd g h) : EReal)
  query : ∀ h i d, q (ix3 h i d) = (query D n g h i d : EReal)
  keyPrev : ∀ j d, kp (ix3 0 j d) = (D.k (tok (prev n) j) g d : EReal)
  keyCur : ∀ j d, kc (ix3 0 j d) = (D.k (tok n j) g d : EReal)
  valPrev : ∀ j d, vp (ix3 0 j d) = (D.v (tok (prev n) j) g d : EReal)
  valCur : ∀ j d, vc (ix3 0 j d) = (D.v (tok n j) g d : EReal)
  out : ∀ h i d, o (ix3 h i d) = (out D n g h i d : EReal)
  ct : ∀ h i d, ct (ix3 h i d) = (D.ct (tok n i) (hd g h) d : EReal)

/-- The mask's constant is `⊥`. -/
theorem named_mask : Named.named (F := Ideal) Cert.KernelIdeal.κ "mask" (φ := .f32) 0xF149F2CA#32 = (⊥ : EReal) := rfl

/-- The pattern of minus infinity. -/
theorem ofBits_neg_inf : Ideal.ofBits FTy.f32 0xFF800000#32 = (⊥ : EReal) := by
  unfold Ideal.ofBits Ideal.ieee; simp

/-- A choice by the conjunction of two bits. -/
theorem select_and {α : Type} (P Q : Prop) [Decidable P] [Decidable Q] (x y : α) :
    Scalar.select (IntOp.andi (if P then 1#1 else 0#1) (if Q then 1#1 else 0#1)) x y = if P ∧ Q then x else y := by
  by_cases hP : P <;> by_cases hQ : Q <;> simp [hP, hQ, Scalar.select, IntOp.andi]

/-- The head within its group of row `r` of the 1024. -/
abbrev rh (r : Fin 1024) : Fin 8 := ⟨r.val / 128, by omega⟩

/-- The position within the block of row `r` of the 1024. -/
abbrev ri (r : Fin 1024) : Fin 128 := ⟨r.val % 128, by omega⟩

section Read

variable {D : Data} {n : Fin 32} {g : Fin 4} {w : BitVec 32} {a : Fin 8 → EReal} {q : Vec Ideal S8x128x64 .bf16}
  {kp kc vp vc : Vec Ideal S1x128x64 .bf16} {o ct : Vec Ideal S8x128x64 .f32} (H : Holds D n g w a q kp kc vp vc o ct)

include H

/-- A row of the 256 keys. -/
theorem read_key (j : Fin 256) (d : Fin 64) : k0_pay3 (F := Ideal) kp kc (ix2 j d) = (window D.k n g j d : EReal) := by
  pointwise [k0_pay3]
  unfold window
  split
  · exact H.keyPrev _ _
  · exact H.keyCur _ _

/-- A row of the 256 values. -/
theorem read_val (j : Fin 256) (d : Fin 64) : k0_pay4 (F := Ideal) vp vc (ix2 j d) = (window D.v n g j d : EReal) := by
  pointwise [k0_pay4]
  unfold window
  split
  · exact H.valPrev _ _
  · exact H.valCur _ _

/-- The scores before the mask. -/
theorem read_scores (r : Fin 1024) (j : Fin 256) :
    k0_pay5 (F := Ideal) q kp kc (ix2 r j) = (scores D n g (rh r) (ri r) j : EReal) := by
  have hk := fun d => read_key H j d
  generalize hK : k0_pay3 (F := Ideal) kp kc = K at hk
  pointwise [k0_pay5, k0_pay2, hK]
  unfold scores
  simp only [hk, H.query, Row.coe_sum, EReal.coe_mul]

/-- The scores behind the mask. -/
theorem read_masked (r : Fin 1024) (j : Fin 256) :
    k0_pay7 w (k0_pay5 q kp kc) k0_pay6 (ix2 r j) = Row.score (mask n (ri r)) (scores D n g (rh r) (ri r)) j := by
  have hs := read_scores H r j
  generalize k0_pay5 (F := Ideal) q kp kc = S at hs
  pointwise [k0_pay7, k0_pay6]
  rw [Words.rem_word r, H.word, Words.first_word n j]
  have hb := Words.band_word (ri r) j
  rw [hb, hs, named_mask]
  rw [select_and]
  exact if_congr and_assoc rfl rfl

/-- The sink's column. -/
theorem read_sink (r : Fin 1024) :
    k0_pay8 (F := Ideal) (a 0) (a 1) (a 2) (a 3) (a 4) (a 5) (a 6) (a 7) (ix2 r 0) = (D.sink (hd g (rh r)) : EReal) := by
  rw [← H.sink]
  pointwise [k0_pay8]
  have h8 : r.val / 128 = 0 ∨ r.val / 128 = 1 ∨ r.val / 128 = 2 ∨ r.val / 128 = 3 ∨ r.val / 128 = 4 ∨ r.val / 128 = 5
      ∨ r.val / 128 = 6 ∨ r.val / 128 = 7 := by omega
  rcases h8 with h | h | h | h | h | h | h | h <;>
    (have e : rh r = ⟨r.val / 128, by omega⟩ := rfl
     simp only [h] at e
     rw [e]
     repeat' split
     all_goals first | rfl | omega)

/-- What the exponents are shifted by. -/
theorem read_shift (r : Fin 1024) :
    k0_pay9 w (k0_pay5 q kp kc) k0_pay6 (a 0) (a 1) (a 2) (a 3) (a 4) (a 5) (a 6) (a 7) (ix2 r 0)
      = (Row.shift (mask n (ri r)) (scores D n g (rh r) (ri r)) (D.sink (hd g (rh r))) : EReal) := by
  have hm := read_masked H r
  have hs := read_sink H r
  generalize hM : k0_pay7 (F := Ideal) w (k0_pay5 q kp kc) k0_pay6 = M at hm
  generalize hS : k0_pay8 (F := Ideal) (a 0) (a 1) (a 2) (a 3) (a 4) (a 5) (a 6) (a 7) = S at hs
  pointwise [k0_pay9, hM, hS]
  rw [hs, ofBits_neg_inf, ← Row.max_eq]
  simp only [hm]
  rfl

/-- The exponentials of the shifted scores. -/
theorem read_expos (r : Fin 1024) (j : Fin 256) : expos w a q kp kc (ix2 r j)
    = (Row.expo (mask n (ri r)) (scores D n g (rh r) (ri r)) (D.sink (hd g (rh r))) j : EReal) := by
  have hm := read_masked H r j
  have hs := read_shift H r
  generalize hM : k0_pay7 (F := Ideal) w (k0_pay5 q kp kc) k0_pay6 = M at hm
  generalize hS : k0_pay9 (F := Ideal) w (k0_pay5 q kp kc) k0_pay6 (a 0) (a 1) (a 2) (a 3) (a 4) (a 5) (a 6) (a 7) = S at hs
  pointwise [expos, k0_pay10, hM, hS]
  rw [hm, hs, Row.exp_score]

/-- The exponential of the shifted sink. -/
theorem read_sinkExpos (r : Fin 1024) : sinkExpos w a q kp kc (ix2 r 0)
    = (Row.sinkExpo (mask n (ri r)) (scores D n g (rh r) (ri r)) (D.sink (hd g (rh r))) : EReal) := by
  have hm := read_sink H r
  have hs := read_shift H r
  generalize hM : k0_pay8 (F := Ideal) (a 0) (a 1) (a 2) (a 3) (a 4) (a 5) (a 6) (a 7) = M at hm
  generalize hS : k0_pay9 (F := Ideal) w (k0_pay5 q kp kc) k0_pay6 (a 0) (a 1) (a 2) (a 3) (a 4) (a 5) (a 6) (a 7) = S at hs
  pointwise [sinkExpos, k0_pay11, hM, hS]
  rw [hm, hs, Row.exp_sink]

/-- The sum of a row's exponentials. -/
theorem read_sums (r : Fin 1024) : sums w a q kp kc (ix2 r 0)
    = ∑ j, (Row.expo (mask n (ri r)) (scores D n g (rh r) (ri r)) (D.sink (hd g (rh r))) j : EReal) := by
  have he := read_expos H r
  have hd : sums w a q kp kc = k0_pay12 w (k0_pay5 q kp kc) k0_pay6 (a 0) (a 1) (a 2) (a 3) (a 4) (a 5) (a 6) (a 7) := rfl
  unfold expos at he
  generalize hM : k0_pay10 (F := Ideal) w (k0_pay5 q kp kc) k0_pay6 (a 0) (a 1) (a 2) (a 3) (a 4) (a 5) (a 6) (a 7) = M at he
  pointwise [hd, k0_pay12, hM]
  simp only [he]

/-- The reciprocal of the softmax's denominator. -/
theorem read_inv (r : Fin 1024) : k0_pay13 (sinkExpos w a q kp kc) (sums w a q kp kc) (ix2 r 0)
    = Ideal.div 1 (Row.denom (mask n (ri r)) (scores D n g (rh r) (ri r)) (D.sink (hd g (rh r))) : EReal) := by
  have h1 := read_sinkExpos H r
  have h2 := read_sums H r
  generalize sinkExpos (F := Ideal) w a q kp kc = S at h1
  generalize sums (F := Ideal) w a q kp kc = T at h2
  pointwise [k0_pay13]
  rw [h1, h2, Row.denom_eq]

/-- The probabilities. -/
theorem read_prob (r : Fin 1024) (j : Fin 256) :
    k0_pay14 (expos w a q kp kc) (sinkExpos w a q kp kc) (sums w a q kp kc) (ix2 r j) = (prob D n g (rh r) (ri r) j : EReal) := by
  have h1 := read_expos H r j
  have h2 := read_inv H r
  generalize hI : k0_pay13 (sinkExpos (F := Ideal) w a q kp kc) (sums w a q kp kc) = I at h2
  generalize expos (F := Ideal) w a q kp kc = E at h1
  pointwise [k0_pay14, hI]
  rw [h1, h2, Row.prob_mul]
  rfl

/-- The product of the output and its derivative: the mean of the derivatives by the probabilities. -/
theorem read_mean (r : Fin 1024) : k0_pay16 (F := Ideal) ct o (ix2 r 0)
    = (Row.mean (mask n (ri r)) (scores D n g (rh r) (ri r)) (D.sink (hd g (rh r))) (gradProb D n g (rh r) (ri r)) : EReal) := by
  pointwise [k0_pay16, k0_pay15]
  rw [← mean_eq]
  simp only [H.ct, H.out, Row.coe_sum, EReal.coe_mul]

/-- The derivatives by the scores. -/
theorem read_gradScore (r : Fin 1024) (j : Fin 256) :
    k0_pay19 (k0_pay4 vp vc) (expos w a q kp kc) (sinkExpos w a q kp kc) (sums w a q kp kc) ct o (ix2 r j)
      = (gradScore D n g (rh r) (ri r) j : EReal) := by
  have h1 := read_prob H r j
  have h2 := read_mean H r
  have h3 := fun d => read_val H j d
  generalize hP : k0_pay14 (expos (F := Ideal) w a q kp kc) (sinkExpos w a q kp kc) (sums w a q kp kc) = P at h1
  generalize hM : k0_pay16 (F := Ideal) ct o = M at h2
  generalize k0_pay4 (F := Ideal) vp vc = V at h3
  pointwise [k0_pay19, k0_pay17, k0_pay15, hP, hM]
  simp only [h1, h2, h3, H.ct, ← EReal.coe_mul, ← Row.coe_sum, ← EReal.coe_sub]
  rfl

/-- The gradient by the queries. -/
theorem read_dq (h : Fin 8) (i : Fin 128) (d : Fin 64) :
    dq w a q kp kc vp vc o ct (ix3 h i d) = (gradQuery D n g h i d : EReal) := by
  have h1 := read_gradScore H ⟨h.val * 128 + i.val, by omega⟩
  have h2 := fun j => read_key H j d
  have e1 : rh ⟨h.val * 128 + i.val, by omega⟩ = h := Fin.ext (by show (h.val * 128 + i.val) / 128 = h.val; omega)
  have e2 : ri ⟨h.val * 128 + i.val, by omega⟩ = i := Fin.ext (by show (h.val * 128 + i.val) % 128 = i.val; omega)
  rw [e1, e2] at h1
  unfold dq
  generalize hP : k0_pay19 (k0_pay4 vp vc) (expos (F := Ideal) w a q kp kc) (sinkExpos w a q kp kc) (sums w a q kp kc) ct o = P at h1
  generalize k0_pay3 (F := Ideal) kp kc = K at h2
  pointwise [k0_pay20, hP]
  simp only [h1, h2, ← EReal.coe_mul, ← Row.coe_sum]
  rfl

/-- The gradient by the 256 keys. -/
theorem read_dk (j : Fin 256) (d : Fin 64) :
    k0_pay21 (k0_pay2 q) (k0_pay4 vp vc) (expos w a q kp kc) (sinkExpos w a q kp kc) (sums w a q kp kc) ct o (ix2 j d)
      = (gradKey D n g j d : EReal) := by
  have h1 := fun r => read_gradScore H r j
  generalize hP : k0_pay19 (k0_pay4 vp vc) (expos (F := Ideal) w a q kp kc) (sinkExpos w a q kp kc) (sums w a q kp kc) ct o = P at h1
  pointwise [k0_pay21, k0_pay2, hP]
  simp only [h1, H.query, ← EReal.coe_mul, ← Row.coe_sum]
  exact congrArg _ (sum_rows fun h i => gradScore D n g h i j * query D n g h i d)

/-- The gradient by the 256 values. -/
theorem read_dv (j : Fin 256) (d : Fin 64) :
    k0_pay18 (expos w a q kp kc) (sinkExpos w a q kp kc) (sums w a q kp kc) ct (ix2 j d) = (gradValue D n g j d : EReal) := by
  have h1 := fun r => read_prob H r j
  generalize hP : k0_pay14 (expos (F := Ideal) w a q kp kc) (sinkExpos w a q kp kc) (sums w a q kp kc) = P at h1
  pointwise [k0_pay18, k0_pay17, k0_pay15, hP]
  simp only [h1, H.ct, ← EReal.coe_mul, ← Row.coe_sum]
  exact congrArg _ (sum_rows fun h i => prob D n g h i j * D.ct (tok n i) (hd g h) d)

/-- The gradient by the keys of the block before. -/
theorem read_dkp (j : Fin 128) (d : Fin 64) :
    dkp w a q kp kc vp vc o ct (ix3 0 j d) = (gradKey D n g ⟨j.val, by omega⟩ d : EReal) := by
  have h1 := fun j => read_dk H j d
  unfold dkp
  generalize hP : k0_pay21 (k0_pay2 q) (k0_pay4 vp vc) (expos (F := Ideal) w a q kp kc) (sinkExpos w a q kp kc) (sums w a q kp kc) ct o = P at h1
  pointwise [k0_pay22, hP]
  simp only [h1]

/-- The gradient by the keys of the block. -/
theorem read_dkc (j : Fin 128) (d : Fin 64) :
    dkc w a q kp kc vp vc o ct (ix3 0 j d) = (gradKey D n g ⟨j.val + 128, by omega⟩ d : EReal) := by
  have h1 := fun j => read_dk H j d
  unfold dkc
  generalize hP : k0_pay21 (k0_pay2 q) (k0_pay4 vp vc) (expos (F := Ideal) w a q kp kc) (sinkExpos w a q kp kc) (sums w a q kp kc) ct o = P at h1
  pointwise [k0_pay23, hP]
  simp only [h1, Nat.add_comm]

/-- The gradient by the values of the block before. -/
theorem read_dvp (j : Fin 128) (d : Fin 64) :
    dvp w a q kp kc ct (ix3 0 j d) = (gradValue D n g ⟨j.val, by omega⟩ d : EReal) := by
  have h1 := fun j => read_dv H j d
  unfold dvp
  generalize hP : k0_pay18 (expos (F := Ideal) w a q kp kc) (sinkExpos w a q kp kc) (sums w a q kp kc) ct = P at h1
  pointwise [k0_pay24, k0_pay25, hP]
  simp only [h1]

/-- The gradient by the values of the block. -/
theorem read_dvc (j : Fin 128) (d : Fin 64) :
    dvc w a q kp kc ct (ix3 0 j d) = (gradValue D n g ⟨j.val + 128, by omega⟩ d : EReal) := by
  have h1 := fun j => read_dv H j d
  unfold dvc
  generalize hP : k0_pay18 (expos (F := Ideal) w a q kp kc) (sinkExpos w a q kp kc) (sums w a q kp kc) ct = P at h1
  pointwise [k0_pay26, hP]
  simp only [h1, Nat.add_comm]

/-- The sinks' gradient so far, and this block's part. -/
theorem read_dsink (acc : Vec Ideal S1x1024x1 .f32) (r : Fin 1024) :
    dsink w a q kp kc o ct acc (ix3 0 r 0) = acc (ix3 0 r 0) + (gradSink D n g (rh r) (ri r) : EReal) := by
  have h1 := read_sinkExpos H r
  have h2 := read_inv H r
  have h3 := read_mean H r
  unfold dsink
  generalize hI : k0_pay13 (sinkExpos (F := Ideal) w a q kp kc) (sums w a q kp kc) = I at h2
  generalize sinkExpos (F := Ideal) w a q kp kc = S at h1
  generalize k0_pay16 (F := Ideal) ct o = M at h3
  pointwise [k0_pay27]
  rw [h1, h2, h3, Row.sinkProb_mul, zero_sub, ← EReal.coe_neg, ← EReal.coe_mul, neg_mul]
  rfl

end Read

end Cert.Proof.Head

end
-- ==== Proof.Block.lean ====
/-
  WHAT THE KERNEL'S BODY LEAVES in its outputs' blocks at one point of its grid, as a function of the blocks it reads:
  each output's block is four pieces, one for each group of heads, and each piece is what `Head` computes of the group.
-/
module

public import proofs.«01_k».proof.Proof.Gen.KernelIdeal.Value
public import proofs.«01_k».proof.Proof.Head

@[expose] public section

noncomputable section

namespace Cert.Proof.Block

open Idealize.ShloMosaic Idealize.ShloMosaic.TcCoe Idealize.ShloMosaic.Tactic
open Idealize.SL Idealize.SL.Sem
open Cert.KernelIdeal Cert.KernelIdeal.Gen

section Groups

variable {F : FTy → Type} [FloatOps F] [Named F]

/-- The eight sinks of group `g`. -/
def sinks (y : Vec F S32 .f32) (g : Fin 4) (h : Fin 8) : Elt F .f32 :=
  View.ld y (Rect.unit (s := S32) ![g.val * 8 + h.val] ![1] (by intro a; fin_cases a; show g.val * 8 + h.val + 1 ≤ 32; omega))
    (fun a => ⟨0, by fin_cases a; exact Nat.one_pos⟩)

/-- The eight heads of group `g` of a block of 32. -/
def blk8 {e : EltTy} (y : Vec F S32x128x64 e) (g : Fin 4) : Vec F S8x128x64 e :=
  View.ld y (Rect.unit (s := S32x128x64) ![g.val * 8, 0, 0] S8x128x64.size (by
    intro a; fin_cases a
    · show g.val * 8 + 8 ≤ 32; omega
    · show 0 + 128 ≤ 128; omega
    · show 0 + 64 ≤ 64; omega))

/-- The keys or values of group `g` of a block of four. -/
def blk1 {e : EltTy} (y : Vec F S4x128x64 e) (g : Fin 4) : Vec F S1x128x64 e :=
  View.ld y (Rect.unit (s := S4x128x64) ![g.val, 0, 0] S1x128x64.size (by
    intro a; fin_cases a
    · show g.val + 1 ≤ 4; omega
    · show 0 + 128 ≤ 128; omega
    · show 0 + 64 ≤ 64; omega))

variable (i : grid0.Coords) (y0 : Vec F S32 .f32) (y1 : Vec F S32x128x64 .bf16) (y2 y3 y4 y5 : Vec F S4x128x64 .bf16)
  (y6 y7 : Vec F S32x128x64 .f32) (g : Fin 4)

/-- The point's number as the body computes with it. -/
def word : BitVec 32 := BitVec.ofNat 32 (i 0).val

/-- Group `g`'s gradient by the queries. -/
def dq : FVec F S8x128x64 .f32 :=
  Head.dq (word i) (sinks y0 g) (blk8 y1 g) (blk1 y2 g) (blk1 y3 g) (blk1 y4 g) (blk1 y5 g) (blk8 y6 g) (blk8 y7 g)

/-- Group `g`'s gradient by the keys of the block. -/
def dkc : FVec F S1x128x64 .f32 :=
  Head.dkc (word i) (sinks y0 g) (blk8 y1 g) (blk1 y2 g) (blk1 y3 g) (blk1 y4 g) (blk1 y5 g) (blk8 y6 g) (blk8 y7 g)

/-- Group `g`'s gradient by the keys of the block before. -/
def dkp : FVec F S1x128x64 .f32 :=
  Head.dkp (word i) (sinks y0 g) (blk8 y1 g) (blk1 y2 g) (blk1 y3 g) (blk1 y4 g) (blk1 y5 g) (blk8 y6 g) (blk8 y7 g)

/-- Group `g`'s gradient by the values of the block. -/
def dvc : FVec F S1x128x64 .f32 :=
  Head.dvc (word i) (sinks y0 g) (blk8 y1 g) (blk1 y2 g) (blk1 y3 g) (blk8 y7 g)

/-- Group `g`'s gradient by the values of the block before. -/
def dvp : FVec F S1x128x64 .f32 :=
  Head.dvp (word i) (sinks y0 g) (blk8 y1 g) (blk1 y2 g) (blk1 y3 g) (blk8 y7 g)

/-- Group `g`'s sinks' gradient so far, `acc`, and this point's part. -/
def dsink (acc : Vec F S1x1024x1 .f32) : FVec F S1x1024x1 .f32 :=
  Head.dsink (word i) (sinks y0 g) (blk8 y1 g) (blk1 y2 g) (blk1 y3 g) (blk8 y6 g) (blk8 y7 g) acc

/-- Four pieces of eight heads each. -/
def pieces8 (f : Fin 4 → FVec F S8x128x64 .f32) : List (View.Piece (Elt F) S32x128x64 .f32) :=
  [⟨Rect.unit (s := S32x128x64) ![24, 0, 0] S8x128x64.size inb_S32x128x64_S8x128x64_24_0_0, f 3⟩,
   ⟨Rect.unit (s := S32x128x64) ![16, 0, 0] S8x128x64.size inb_S32x128x64_S8x128x64_16_0_0, f 2⟩,
   ⟨Rect.unit (s := S32x128x64) ![8, 0, 0] S8x128x64.size inb_S32x128x64_S8x128x64_8_0_0, f 1⟩,
   ⟨Rect.unit (s := S32x128x64) ![0, 0, 0] S8x128x64.size inb_S32x128x64_S8x128x64_0_0_0, f 0⟩]

/-- Four pieces of one group each. -/
def pieces1 (f : Fin 4 → FVec F S1x128x64 .f32) : List (View.Piece (Elt F) S4x128x64 .f32) :=
  [⟨Rect.unit (s := S4x128x64) ![3, 0, 0] S1x128x64.size inb_S4x128x64_S1x128x64_3_0_0, f 3⟩,
   ⟨Rect.unit (s := S4x128x64) ![2, 0, 0] S1x128x64.size inb_S4x128x64_S1x128x64_2_0_0, f 2⟩,
   ⟨Rect.unit (s := S4x128x64) ![1, 0, 0] S1x128x64.size inb_S4x128x64_S1x128x64_1_0_0, f 1⟩,
   ⟨Rect.unit (s := S4x128x64) ![0, 0, 0] S1x128x64.size inb_S4x128x64_S1x128x64_0_0_0, f 0⟩]

/-- Group `g`'s rows of the sinks' gradient. -/
def rows (g : Fin 4) : Rect S4x1024x1 :=
  Rect.unit (s := S4x1024x1) ![g.val, 0, 0] S1x1024x1.size (by
    intro a; fin_cases a
    · show g.val + 1 ≤ 4; omega
    · show 0 + 1024 ≤ 1024; omega
    · show 0 + 1 ≤ 1; omega)

/-- A piece of group `g`'s rows. -/
def piece (g : Fin 4) (x : Vec F S1x1024x1 .f32) : View.Piece (Elt F) S4x1024x1 .f32 := ⟨rows g, x⟩

/-- The piece of zeros that the first point stores. -/
def zeros : View.Piece (Elt F) S4x1024x1 .f32 :=
  ⟨Rect.unit (s := S4x1024x1) ![0, 0, 0] S4x1024x1.size inb_S4x1024x1_S4x1024x1_0_0_0, k0_pay1 (F := F)⟩

end Groups

variable {F : FTy → Type} [FloatOps F] [Named F]

/-- Output 8's pieces at the first point. -/
theorem pieces_A_8 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : cond0_0 i)
    (x0 : Vec F S32 .f32) (x1 : Vec F S32x128x64 .bf16) (x2 x3 x4 x5 : Vec F S4x128x64 .bf16)
    (x6 x7 : Vec F S32x128x64 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = pieces8 (dq i (View.read (Elt F) arg1.view (harg1.unread x0)) (View.read (Elt F) arg2.view (harg2.unread x1)) (View.read (Elt F) arg3.view (harg3.unread x2)) (View.read (Elt F) arg4.view (harg4.unread x3)) (View.read (Elt F) arg5.view (harg5.unread x4)) (View.read (Elt F) arg6.view (harg6.unread x5)) (View.read (Elt F) arg7.view (harg7.unread x6)) (View.read (Elt F) arg8.view (harg8.unread x7))) := rfl

/-- Output 9's pieces at the first point. -/
theorem pieces_A_9 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : cond0_0 i)
    (x0 : Vec F S32 .f32) (x1 : Vec F S32x128x64 .bf16) (x2 x3 x4 x5 : Vec F S4x128x64 .bf16)
    (x6 x7 : Vec F S32x128x64 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1
      = pieces1 (dkc i (View.read (Elt F) arg1.view (harg1.unread x0)) (View.read (Elt F) arg2.view (harg2.unread x1)) (View.read (Elt F) arg3.view (harg3.unread x2)) (View.read (Elt F) arg4.view (harg4.unread x3)) (View.read (Elt F) arg5.view (harg5.unread x4)) (View.read (Elt F) arg6.view (harg6.unread x5)) (View.read (Elt F) arg7.view (harg7.unread x6)) (View.read (Elt F) arg8.view (harg8.unread x7))) := rfl

/-- Output 10's pieces at the first point. -/
theorem pieces_A_10 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : cond0_0 i)
    (x0 : Vec F S32 .f32) (x1 : Vec F S32x128x64 .bf16) (x2 x3 x4 x5 : Vec F S4x128x64 .bf16)
    (x6 x7 : Vec F S32x128x64 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1
      = pieces1 (dkp i (View.read (Elt F) arg1.view (harg1.unread x0)) (View.read (Elt F) arg2.view (harg2.unread x1)) (View.read (Elt F) arg3.view (harg3.unread x2)) (View.read (Elt F) arg4.view (harg4.unread x3)) (View.read (Elt F) arg5.view (harg5.unread x4)) (View.read (Elt F) arg6.view (harg6.unread x5)) (View.read (Elt F) arg7.view (harg7.unread x6)) (View.read (Elt F) arg8.view (harg8.unread x7))) := rfl

/-- Output 11's pieces at the first point. -/
theorem pieces_A_11 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : cond0_0 i)
    (x0 : Vec F S32 .f32) (x1 : Vec F S32x128x64 .bf16) (x2 x3 x4 x5 : Vec F S4x128x64 .bf16)
    (x6 x7 : Vec F S32x128x64 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1
      = pieces1 (dvc i (View.read (Elt F) arg1.view (harg1.unread x0)) (View.read (Elt F) arg2.view (harg2.unread x1)) (View.read (Elt F) arg3.view (harg3.unread x2)) (View.read (Elt F) arg4.view (harg4.unread x3)) (View.read (Elt F) arg8.view (harg8.unread x7))) := rfl

/-- Output 12's pieces at the first point. -/
theorem pieces_A_12 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : cond0_0 i)
    (x0 : Vec F S32 .f32) (x1 : Vec F S32x128x64 .bf16) (x2 x3 x4 x5 : Vec F S4x128x64 .bf16)
    (x6 x7 : Vec F S32x128x64 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1
      = pieces1 (dvp i (View.read (Elt F) arg1.view (harg1.unread x0)) (View.read (Elt F) arg2.view (harg2.unread x1)) (View.read (Elt F) arg3.view (harg3.unread x2)) (View.read (Elt F) arg4.view (harg4.unread x3)) (View.read (Elt F) arg8.view (harg8.unread x7))) := rfl

/-- Output 13's pieces at the first point: each group adds to what it finds, which are zeros. -/
theorem pieces_A_13 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : cond0_0 i)
    (x0 : Vec F S32 .f32) (x1 : Vec F S32x128x64 .bf16) (x2 x3 x4 x5 : Vec F S4x128x64 .bf16)
    (x6 x7 : Vec F S32x128x64 .f32) :
    let f := dsink i (View.read (Elt F) arg1.view (harg1.unread x0)) (View.read (Elt F) arg2.view (harg2.unread x1)) (View.read (Elt F) arg3.view (harg3.unread x2)) (View.read (Elt F) arg4.view (harg4.unread x3)) (View.read (Elt F) arg7.view (harg7.unread x6)) (View.read (Elt F) arg8.view (harg8.unread x7))
    let L1 := [piece 0 (f 0 (View.readCov arg14.view [zeros] (rows 0).toLoadRect)), zeros (F := F)]
    let L2 := piece 1 (f 1 (View.readCov arg14.view L1 (rows 1).toLoadRect)) :: L1
    let L3 := piece 2 (f 2 (View.readCov arg14.view L2 (rows 2).toLoadRect)) :: L2
    let L4 := piece 3 (f 3 (View.readCov arg14.view L3 (rows 3).toLoadRect)) :: L3
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.2 = L4 := rfl

/-- Output 8's pieces after the first point. -/
theorem pieces_B_8 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13).1
      = pieces8 (dq i (View.read (Elt F) arg1.view (harg1.unread x0)) (View.read (Elt F) arg2.view (harg2.unread x1)) (View.read (Elt F) arg3.view (harg3.unread x2)) (View.read (Elt F) arg4.view (harg4.unread x3)) (View.read (Elt F) arg5.view (harg5.unread x4)) (View.read (Elt F) arg6.view (harg6.unread x5)) (View.read (Elt F) arg7.view (harg7.unread x6)) (View.read (Elt F) arg8.view (harg8.unread x7))) := rfl

/-- Output 9's pieces after the first point. -/
theorem pieces_B_9 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13).2.1
      = pieces1 (dkc i (View.read (Elt F) arg1.view (harg1.unread x0)) (View.read (Elt F) arg2.view (harg2.unread x1)) (View.read (Elt F) arg3.view (harg3.unread x2)) (View.read (Elt F) arg4.view (harg4.unread x3)) (View.read (Elt F) arg5.view (harg5.unread x4)) (View.read (Elt F) arg6.view (harg6.unread x5)) (View.read (Elt F) arg7.view (harg7.unread x6)) (View.read (Elt F) arg8.view (harg8.unread x7))) := rfl

/-- Output 10's pieces after the first point. -/
theorem pieces_B_10 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13).2.2.1
      = pieces1 (dkp i (View.read (Elt F) arg1.view (harg1.unread x0)) (View.read (Elt F) arg2.view (harg2.unread x1)) (View.read (Elt F) arg3.view (harg3.unread x2)) (View.read (Elt F) arg4.view (harg4.unread x3)) (View.read (Elt F) arg5.view (harg5.unread x4)) (View.read (Elt F) arg6.view (harg6.unread x5)) (View.read (Elt F) arg7.view (harg7.unread x6)) (View.read (Elt F) arg8.view (harg8.unread x7))) := rfl

/-- Output 11's pieces after the first point. -/
theorem pieces_B_11 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13).2.2.2.1
      = pieces1 (dvc i (View.read (Elt F) arg1.view (harg1.unread x0)) (View.read (Elt F) arg2.view (harg2.unread x1)) (View.read (Elt F) arg3.view (harg3.unread x2)) (View.read (Elt F) arg4.view (harg4.unread x3)) (View.read (Elt F) arg8.view (harg8.unread x7))) := rfl

/-- Output 12's pieces after the first point. -/
theorem pieces_B_12 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13).2.2.2.2.1
      = pieces1 (dvp i (View.read (Elt F) arg1.view (harg1.unread x0)) (View.read (Elt F) arg2.view (harg2.unread x1)) (View.read (Elt F) arg3.view (harg3.unread x2)) (View.read (Elt F) arg4.view (harg4.unread x3)) (View.read (Elt F) arg8.view (harg8.unread x7))) := rfl

/-- Output 13's pieces after the first point: each group adds to what the point before left. -/
theorem pieces_B_13 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole) (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    let f := fun g => dsink i (View.read (Elt F) arg1.view (harg1.unread x0)) (View.read (Elt F) arg2.view (harg2.unread x1)) (View.read (Elt F) arg3.view (harg3.unread x2)) (View.read (Elt F) arg4.view (harg4.unread x3)) (View.read (Elt F) arg7.view (harg7.unread x6)) (View.read (Elt F) arg8.view (harg8.unread x7)) g
      (View.readAt (Elt F) arg14.view (rows g).toLoadRect (harg14.unread x13))
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13).2.2.2.2.2 = [piece 3 (f 3), piece 2 (f 2), piece 1 (f 1), piece 0 (f 0)] := rfl

end Cert.Proof.Block

end
-- ==== Proof.Point.lean ====
/-
  WHAT ONE POINT OF THE KERNEL'S GRID LEAVES in its outputs' blocks, as functions of the blocks it reads.
-/
module

public import proofs.«01_k».proof.Proof.Block

@[expose] public section

noncomputable section

namespace Cert.Proof.Point

open Idealize.ShloMosaic Idealize.ShloMosaic.TcCoe Idealize.ShloMosaic.Tactic
open Idealize.SL Idealize.SL.Sem
open Cert.KernelIdeal Cert.KernelIdeal.Gen Cert.Proof.Block Cert.Proof.Spec

/-! ## Pieces at an index -/

section Pieces

/-- The newest piece at an index of its rows. -/
theorem canon_here {Val : EltTy → Type} [∀ e, Nonempty (Val e)] {e : EltTy} {A B C m o : Nat}
    (inb : ∀ a, (![o, 0, 0] : Fin 3 → Nat) a + (⟨3, ![m, B, C]⟩ : Shape).size a ≤ (⟨3, ![A, B, C]⟩ : Shape).size a)
    (w : (⟨3, ![m, B, C]⟩ : Shape).Idx → Val e) (L : List (View.Piece Val ⟨3, ![A, B, C]⟩ e))
    (a : Fin A) (a' : Fin m) (b : Fin B) (c : Fin C) (h : a.val = o + a'.val) :
    View.canon ((⟨Rect.unit (s := ⟨3, ![A, B, C]⟩) ![o, 0, 0] (⟨3, ![m, B, C]⟩ : Shape).size inb, w⟩ : View.Piece Val ⟨3, ![A, B, C]⟩ e) :: L)
      (ix3 a b c) = w (ix3 a' b c) := by
  have he : (Rect.unit (s := ⟨3, ![A, B, C]⟩) ![o, 0, 0] (⟨3, ![m, B, C]⟩ : Shape).size inb).emb (ix3 a' b c) = ix3 a b c := by
    funext x; apply Fin.ext
    fin_cases x
    · show o + 1 * a'.val = a.val; omega
    · show 0 + 1 * b.val = b.val; omega
    · show 0 + 1 * c.val = c.val; omega
  exact (congrArg (View.canon _) he.symm).trans
    (View.canon_cons_emb (Rect.unit (s := ⟨3, ![A, B, C]⟩) ![o, 0, 0] (⟨3, ![m, B, C]⟩ : Shape).size inb) w L (ix3 a' b c))

/-- The newest piece at an index of other rows. -/
theorem canon_else {Val : EltTy → Type} [∀ e, Nonempty (Val e)] {e : EltTy} {A B C m o : Nat}
    (inb : ∀ a, (![o, 0, 0] : Fin 3 → Nat) a + (⟨3, ![m, B, C]⟩ : Shape).size a ≤ (⟨3, ![A, B, C]⟩ : Shape).size a)
    (w : (⟨3, ![m, B, C]⟩ : Shape).Idx → Val e) (L : List (View.Piece Val ⟨3, ![A, B, C]⟩ e))
    (a : Fin A) (b : Fin B) (c : Fin C) (h : a.val < o ∨ o + m ≤ a.val) :
    View.canon ((⟨Rect.unit (s := ⟨3, ![A, B, C]⟩) ![o, 0, 0] (⟨3, ![m, B, C]⟩ : Shape).size inb, w⟩ : View.Piece Val ⟨3, ![A, B, C]⟩ e) :: L)
      (ix3 a b c) = View.canon L (ix3 a b c) := by
  refine View.canon_cons_of_not_mem _ L ?_
  rw [Rect.mem_set_unit]
  intro hm
  have h0 : o ≤ a.val ∧ a.val < o + m := hm 0
  omega

variable {F : FTy → Type} [FloatOps F] [Named F]

/-- Four pieces of eight heads at head `h` of group `g`. -/
theorem canon8 (f : Fin 4 → FVec F S8x128x64 .f32) (g : Fin 4) (h : Fin 8) (i : Fin 128) (d : Fin 64) :
    View.canon (pieces8 f) (ix3 (hd g h) i d) = f g (ix3 h i d) := by
  have hh := h.isLt
  fin_cases g
  · exact (canon_else _ _ _ _ _ _ (.inl (by show 0 * 8 + h.val < 24; omega))).trans
      ((canon_else _ _ _ _ _ _ (.inl (by show 0 * 8 + h.val < 16; omega))).trans
        ((canon_else _ _ _ _ _ _ (.inl (by show 0 * 8 + h.val < 8; omega))).trans
          (canon_here _ _ _ _ h _ _ (by show 0 * 8 + h.val = 0 + h.val; omega))))
  · exact (canon_else _ _ _ _ _ _ (.inl (by show 1 * 8 + h.val < 24; omega))).trans
      ((canon_else _ _ _ _ _ _ (.inl (by show 1 * 8 + h.val < 16; omega))).trans
        (canon_here _ _ _ _ h _ _ (by show 1 * 8 + h.val = 8 + h.val; omega)))
  · exact (canon_else _ _ _ _ _ _ (.inl (by show 2 * 8 + h.val < 24; omega))).trans
      (canon_here _ _ _ _ h _ _ (by show 2 * 8 + h.val = 16 + h.val; omega))
  · exact canon_here _ _ _ _ h _ _ (by show 3 * 8 + h.val = 24 + h.val; omega)

/-- Four pieces of one group at group `g`. -/
theorem canon1 (f : Fin 4 → FVec F S1x128x64 .f32) (g : Fin 4) (j : Fin 128) (d : Fin 64) :
    View.canon (pieces1 f) (ix3 g j d) = f g (ix3 0 j d) := by
  fin_cases g
  · exact (canon_else _ _ _ _ _ _ (.inl (by decide))).trans ((canon_else _ _ _ _ _ _ (.inl (by decide))).trans
      ((canon_else _ _ _ _ _ _ (.inl (by decide))).trans (canon_here _ _ _ _ 0 _ _ rfl)))
  · exact (canon_else _ _ _ _ _ _ (.inl (by decide))).trans ((canon_else _ _ _ _ _ _ (.inl (by decide))).trans
      (canon_here _ _ _ _ 0 _ _ rfl))
  · exact (canon_else _ _ _ _ _ _ (.inl (by decide))).trans (canon_here _ _ _ _ 0 _ _ rfl)
  · exact canon_here _ _ _ _ 0 _ _ rfl

/-- A group's rows of the sinks' gradient, newest piece. -/
theorem piece_here (g : Fin 4) (x : Vec F S1x1024x1 .f32) (L : List (View.Piece (Elt F) S4x1024x1 .f32)) (r : Fin 1024) :
    View.canon (piece g x :: L) (ix3 g r 0) = x (ix3 0 r 0) := canon_here _ _ _ _ 0 _ _ rfl

/-- A group's rows under another group's newest piece. -/
theorem piece_else (g g' : Fin 4) (x : Vec F S1x1024x1 .f32) (L : List (View.Piece (Elt F) S4x1024x1 .f32)) (r : Fin 1024)
    (h : g'.val < g.val ∨ g.val + 1 ≤ g'.val) :
    View.canon (piece g x :: L) (ix3 g' r 0) = View.canon L (ix3 g' r 0) := canon_else _ _ _ _ _ _ h

/-- The zeros at an index. -/
theorem zeros_here (g : Fin 4) (r : Fin 1024) : View.canon [zeros (F := F)] (ix3 g r 0) = Scalar.ofBits .f32 0x00000000#32 :=
  canon_here _ _ _ _ g _ _ (Nat.zero_add _).symm

/-- The zeros lie under any pieces. -/
theorem cover_zeros (L : List (View.Piece (Elt F) S4x1024x1 .f32)) (h : zeros (F := F) ∈ L) (y : S4x1024x1.Idx) : ∃ p ∈ L, y ∈ p.1.set := by
  refine ⟨_, h, ?_⟩
  show y ∈ (Rect.unit (s := S4x1024x1) ![0, 0, 0] S4x1024x1.size inb_S4x1024x1_S4x1024x1_0_0_0).set
  rw [Rect.mem_set_unit]
  intro a
  fin_cases a
  · exact ⟨Nat.zero_le _, (y 0).isLt.trans_eq (Nat.zero_add _).symm⟩
  · exact ⟨Nat.zero_le _, (y 1).isLt.trans_eq (Nat.zero_add _).symm⟩
  · exact ⟨Nat.zero_le _, (y 2).isLt.trans_eq (Nat.zero_add _).symm⟩

/-- A load of group `g`'s rows at an index. -/
theorem ld_rows (X : Vec F S4x1024x1 .f32) (g : Fin 4) (r : Fin 1024) : View.ld X (rows g) (ix3 0 r 0) = X (ix3 g r 0) := by
  refine congrArg X ?_
  funext x; apply Fin.ext
  fin_cases x
  · show g.val + 1 * 0 = g.val; omega
  · show 0 + 1 * r.val = r.val; omega
  · rfl

end Pieces

/-! ## The outputs' blocks -/

section Outputs

variable {F : FTy → Type} [FloatOps F] [Named F]

/-- Output 8 at the first point. -/
theorem out_A_8 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : cond0_0 i)
    (x0 : Vec F S32 .f32) (x1 : Vec F S32x128x64 .bf16) (x2 x3 x4 x5 : Vec F S4x128x64 .bf16)
    (x6 x7 : Vec F S32x128x64 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = View.canon (pieces8 (dq i x0 x1 x2 x3 x4 x5 x6 x7)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  rw [pieces_A_8]
  simp only [harg1.read_unread, harg2.read_unread, harg3.read_unread, harg4.read_unread, harg5.read_unread, harg6.read_unread, harg7.read_unread, harg8.read_unread]

/-- Output 9 at the first point. -/
theorem out_A_9 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : cond0_0 i)
    (x0 : Vec F S32 .f32) (x1 : Vec F S32x128x64 .bf16) (x2 x3 x4 x5 : Vec F S4x128x64 .bf16)
    (x6 x7 : Vec F S32x128x64 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = View.canon (pieces1 (dkc i x0 x1 x2 x3 x4 x5 x6 x7)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  rw [pieces_A_9]
  simp only [harg1.read_unread, harg2.read_unread, harg3.read_unread, harg4.read_unread, harg5.read_unread, harg6.read_unread, harg7.read_unread, harg8.read_unread]

/-- Output 10 at the first point. -/
theorem out_A_10 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : cond0_0 i)
    (x0 : Vec F S32 .f32) (x1 : Vec F S32x128x64 .bf16) (x2 x3 x4 x5 : Vec F S4x128x64 .bf16)
    (x6 x7 : Vec F S32x128x64 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = View.canon (pieces1 (dkp i x0 x1 x2 x3 x4 x5 x6 x7)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  rw [pieces_A_10]
  simp only [harg1.read_unread, harg2.read_unread, harg3.read_unread, harg4.read_unread, harg5.read_unread, harg6.read_unread, harg7.read_unread, harg8.read_unread]

/-- Output 11 at the first point. -/
theorem out_A_11 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : cond0_0 i)
    (x0 : Vec F S32 .f32) (x1 : Vec F S32x128x64 .bf16) (x2 x3 x4 x5 : Vec F S4x128x64 .bf16)
    (x6 x7 : Vec F S32x128x64 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = View.canon (pieces1 (dvc i x0 x1 x2 x3 x7)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  rw [pieces_A_11]
  simp only [harg1.read_unread, harg2.read_unread, harg3.read_unread, harg4.read_unread, harg8.read_unread]

/-- Output 12 at the first point. -/
theorem out_A_12 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : cond0_0 i)
    (x0 : Vec F S32 .f32) (x1 : Vec F S32x128x64 .bf16) (x2 x3 x4 x5 : Vec F S4x128x64 .bf16)
    (x6 x7 : Vec F S32x128x64 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = View.canon (pieces1 (dvp i x0 x1 x2 x3 x7)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  rw [pieces_A_12]
  simp only [harg1.read_unread, harg2.read_unread, harg3.read_unread, harg4.read_unread, harg8.read_unread]

/-- Output 8 after the first point. -/
theorem out_B_8 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13
      = View.canon (pieces8 (dq i x0 x1 x2 x3 x4 x5 x6 x7)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13)]
  rw [pieces_B_8]
  simp only [harg1.read_unread, harg2.read_unread, harg3.read_unread, harg4.read_unread, harg5.read_unread, harg6.read_unread, harg7.read_unread, harg8.read_unread]

/-- Output 9 after the first point. -/
theorem out_B_9 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13
      = View.canon (pieces1 (dkc i x0 x1 x2 x3 x4 x5 x6 x7)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13)]
  rw [pieces_B_9]
  simp only [harg1.read_unread, harg2.read_unread, harg3.read_unread, harg4.read_unread, harg5.read_unread, harg6.read_unread, harg7.read_unread, harg8.read_unread]

/-- Output 10 after the first point. -/
theorem out_B_10 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13
      = View.canon (pieces1 (dkp i x0 x1 x2 x3 x4 x5 x6 x7)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13)]
  rw [pieces_B_10]
  simp only [harg1.read_unread, harg2.read_unread, harg3.read_unread, harg4.read_unread, harg5.read_unread, harg6.read_unread, harg7.read_unread, harg8.read_unread]

/-- Output 11 after the first point. -/
theorem out_B_11 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13
      = View.canon (pieces1 (dvc i x0 x1 x2 x3 x7)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13)]
  rw [pieces_B_11]
  simp only [harg1.read_unread, harg2.read_unread, harg3.read_unread, harg4.read_unread, harg8.read_unread]

/-- Output 12 after the first point. -/
theorem out_B_12 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13
      = View.canon (pieces1 (dvp i x0 x1 x2 x3 x7)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13)]
  rw [pieces_B_12]
  simp only [harg1.read_unread, harg2.read_unread, harg3.read_unread, harg4.read_unread, harg8.read_unread]

/-- Output 13 at the first point, group `g`: the group's part is added to zeros. -/
theorem out_A_13 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : cond0_0 i)
    (x0 : Vec F S32 .f32) (x1 : Vec F S32x128x64 .bf16) (x2 x3 x4 x5 : Vec F S4x128x64 .bf16)
    (x6 x7 : Vec F S32x128x64 .f32) (g : Fin 4) (r : Fin 1024) :
    ∃ acc : Vec F S1x1024x1 .f32, (∀ r, acc (ix3 0 r 0) = Scalar.ofBits .f32 0x00000000#32) ∧
      out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 g r 0)
        = dsink i x0 x1 x2 x3 x6 x7 g acc (ix3 0 r 0) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  rw [pieces_A_13]
  simp only [harg1.read_unread, harg2.read_unread, harg3.read_unread, harg4.read_unread, harg7.read_unread, harg8.read_unread]
  have hc : ∀ (L : List (View.Piece (Elt F) S4x1024x1 .f32)) (g : Fin 4), zeros (F := F) ∈ L →
      (∀ r, View.canon L (ix3 g r 0) = Scalar.ofBits .f32 0x00000000#32) →
      ∀ r, View.readCov arg14.view L (rows g).toLoadRect (ix3 0 r 0) = Scalar.ofBits .f32 0x00000000#32 := by
    intro L g hz hL r
    rw [View.readCov_eq_canon_ld _ _ _ (fun y => cover_zeros L hz _), ld_rows, hL]
  fin_cases g
  · exact ⟨_, hc _ 0 (by simp) (fun r => zeros_here 0 r), (piece_else 3 0 _ _ r (by decide)).trans
      ((piece_else 2 0 _ _ r (by decide)).trans ((piece_else 1 0 _ _ r (by decide)).trans (piece_here 0 _ _ r)))⟩
  · exact ⟨_, hc _ 1 (by simp) (fun r => (piece_else 0 1 _ _ r (by decide)).trans (zeros_here 1 r)),
      (piece_else 3 1 _ _ r (by decide)).trans ((piece_else 2 1 _ _ r (by decide)).trans (piece_here 1 _ _ r))⟩
  · exact ⟨_, hc _ 2 (by simp) (fun r => (piece_else 1 2 _ _ r (by decide)).trans
      ((piece_else 0 2 _ _ r (by decide)).trans (zeros_here 2 r))),
      (piece_else 3 2 _ _ r (by decide)).trans (piece_here 2 _ _ r)⟩
  · exact ⟨_, hc _ 3 (by simp) (fun r => (piece_else 2 3 _ _ r (by decide)).trans ((piece_else 1 3 _ _ r (by decide)).trans
      ((piece_else 0 3 _ _ r (by decide)).trans (zeros_here 3 r)))), piece_here 3 _ _ r⟩

/-- Output 13 after the first point, group `g`: the group's part is added to what was there. -/
theorem out_B_13 (c : Dev nD) (i : grid0.Coords) (arg1 : Memref sig .tc .smem S32 .f32) (harg1 : arg1.IsWhole) (arg2 : Memref sig .tc .vmem S32x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S32x128x64 .f32) (harg7 : arg7.IsWhole) (arg8 : Memref sig .tc .vmem S32x128x64 .f32) (harg8 : arg8.IsWhole) (arg9 : Memref sig .tc .vmem S32x128x64 .f32) (harg9 : arg9.IsWhole) (arg10 : Memref sig .tc .vmem S4x128x64 .f32) (harg10 : arg10.IsWhole) (arg11 : Memref sig .tc .vmem S4x128x64 .f32) (harg11 : arg11.IsWhole) (arg12 : Memref sig .tc .vmem S4x128x64 .f32) (harg12 : arg12.IsWhole) (arg13 : Memref sig .tc .vmem S4x128x64 .f32) (harg13 : arg13.IsWhole) (arg14 : Memref sig .tc .vmem S4x1024x1 .f32) (harg14 : arg14.IsWhole)
    (hc0 : ¬cond0_0 i)
    (x0 : Vec F S32 .f32) (x1 : Vec F S32x128x64 .bf16) (x2 x3 x4 x5 : Vec F S4x128x64 .bf16)
    (x6 x7 : Vec F S32x128x64 .f32) (x13 : Vec F S4x1024x1 .f32) (g : Fin 4) (r : Fin 1024) :
    ∃ acc : Vec F S1x1024x1 .f32, (∀ r, acc (ix3 0 r 0) = x13 (ix3 g r 0)) ∧
      out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13 (ix3 g r 0)
        = dsink i x0 x1 x2 x3 x6 x7 g acc (ix3 0 r 0) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x13)]
  rw [pieces_B_13]
  simp only [harg1.read_unread, harg2.read_unread, harg3.read_unread, harg4.read_unread, harg7.read_unread, harg8.read_unread]
  have hc : ∀ (g : Fin 4) r, View.readAt (Elt F) arg14.view (rows g).toLoadRect (harg14.unread x13) (ix3 0 r 0) = x13 (ix3 g r 0) := by
    intro g r
    rw [View.readAt_eq_ld, harg14.read_unread, ld_rows]
  refine ⟨_, hc g, ?_⟩
  fin_cases g
  · exact (piece_else 3 0 _ _ r (by decide)).trans
      ((piece_else 2 0 _ _ r (by decide)).trans ((piece_else 1 0 _ _ r (by decide)).trans (piece_here 0 _ _ r)))
  · exact (piece_else 3 1 _ _ r (by decide)).trans ((piece_else 2 1 _ _ r (by decide)).trans (piece_here 1 _ _ r))
  · exact (piece_else 3 2 _ _ r (by decide)).trans (piece_here 2 _ _ r)
  · exact piece_here 3 _ _ r

end Outputs

end Cert.Proof.Point

end
-- ==== Proof.Arrays.lean ====
/-
  THE KERNEL'S BLOCKS, at an index, as elements of the arrays that its region finds; and what each point of the grid
  leaves in its outputs' blocks, as functions of the blocks it reads.
-/
module

public import proofs.«01_k».proof.Proof.Point
public import Idealize.ShloMosaic.Lib.Pipeline.ValueKit

@[expose] public section

noncomputable section

namespace Cert.Proof.Arrays

open Idealize.ShloMosaic Idealize.ShloMosaic.TcCoe Idealize.ShloMosaic.Tactic Idealize.ShloMosaic.ValueKit
open Idealize.SL Idealize.SL.Sem
open Cert.KernelIdeal Cert.KernelIdeal.Gen Cert.Proof.Block Cert.Proof.Spec

variable {F : FTy → Type} [FloatOps F] [Named F]
variable (m : (ℓ : Loc nD τ sig) → Buf (Elt F) ℓ) (c : Dev nD)

/-! ## Where a point's blocks lie -/

theorem index_0 : ∀ t : Fin cfg0.N, win0_0.index t = ![0] := (by decide +kernel : ∀ t : Fin grid0.N, win0_0.index t = ![0])
theorem index_1 : ∀ t : Fin cfg0.N, win0_1.index t = ![0, t.val, 0] :=
  (by decide +kernel : ∀ t : Fin grid0.N, win0_1.index t = ![0, t.val, 0])
theorem index_2 : ∀ t : Fin cfg0.N, win0_2.index t = ![0, t.val - 1, 0] :=
  (by decide +kernel : ∀ t : Fin grid0.N, win0_2.index t = ![0, t.val - 1, 0])
theorem index_3 : ∀ t : Fin cfg0.N, win0_3.index t = ![0, t.val, 0] :=
  (by decide +kernel : ∀ t : Fin grid0.N, win0_3.index t = ![0, t.val, 0])
theorem index_4 : ∀ t : Fin cfg0.N, win0_4.index t = ![0, t.val - 1, 0] :=
  (by decide +kernel : ∀ t : Fin grid0.N, win0_4.index t = ![0, t.val - 1, 0])
theorem index_5 : ∀ t : Fin cfg0.N, win0_5.index t = ![0, t.val, 0] :=
  (by decide +kernel : ∀ t : Fin grid0.N, win0_5.index t = ![0, t.val, 0])
theorem index_6 : ∀ t : Fin cfg0.N, win0_6.index t = ![0, t.val, 0] :=
  (by decide +kernel : ∀ t : Fin grid0.N, win0_6.index t = ![0, t.val, 0])
theorem index_7 : ∀ t : Fin cfg0.N, win0_7.index t = ![0, t.val, 0] :=
  (by decide +kernel : ∀ t : Fin grid0.N, win0_7.index t = ![0, t.val, 0])
theorem index_8 : ∀ t : Fin cfg0.N, win0_8.index t = ![0, t.val, 0] :=
  (by decide +kernel : ∀ t : Fin grid0.N, win0_8.index t = ![0, t.val, 0])
theorem index_9 : ∀ t : Fin cfg0.N, win0_9.index t = ![0, t.val, 0] :=
  (by decide +kernel : ∀ t : Fin grid0.N, win0_9.index t = ![0, t.val, 0])
theorem index_10 : ∀ t : Fin cfg0.N, win0_10.index t = ![0, t.val, 0] :=
  (by decide +kernel : ∀ t : Fin grid0.N, win0_10.index t = ![0, t.val, 0])
theorem index_11 : ∀ t : Fin cfg0.N, win0_11.index t = ![0, t.val, 0] :=
  (by decide +kernel : ∀ t : Fin grid0.N, win0_11.index t = ![0, t.val, 0])
theorem index_12 : ∀ t : Fin cfg0.N, win0_12.index t = ![0, t.val, 0] :=
  (by decide +kernel : ∀ t : Fin grid0.N, win0_12.index t = ![0, t.val, 0])

/-- Point `t` of the grid, as the number of its block. -/
def num (t : Fin cfg0.N) : Fin 32 := ⟨t.val, t.isLt⟩

/-- The grid's only coordinate is the point's number. -/
theorem coords_val : ∀ t : Fin cfg0.N, (grid0.coords t 0).val = t.val :=
  (by decide +kernel : ∀ t : Fin grid0.N, (grid0.coords t 0).val = t.val)

theorem word_eq (t : Fin cfg0.N) : word (grid0.coords t) = BitVec.ofNat 32 (num t).val :=
  congrArg (BitVec.ofNat 32) (coords_val t)

theorem blk_0 (t : Fin cfg0.N) (h : Fin 32) : iblk m c 0 t (ix1 h) = V m c (Pipeline.arrRef spec0 0) (ix1 h) := by
  blk_simp [iblk]
  refine congrArg (V m c _) ?_
  blk_ext [index_0]

theorem blk_1 (t : Fin cfg0.N) (h : Fin 32) (i : Fin 128) (d : Fin 64) :
    iblk m c 1 t (ix3 h i d) = V m c (Pipeline.arrRef spec0 1) (ix3 h (tok (num t) i) d) := by
  blk_simp [iblk]
  refine congrArg (V m c _) ?_
  blk_ext [index_1]
  rfl

theorem blk_2 (t : Fin cfg0.N) (h : Fin 4) (i : Fin 128) (d : Fin 64) :
    iblk m c 2 t (ix3 h i d) = V m c (Pipeline.arrRef spec0 2) (ix3 h (tok (prev (num t)) i) d) := by
  blk_simp [iblk]
  refine congrArg (V m c _) ?_
  blk_ext [index_2]
  rfl

theorem blk_3 (t : Fin cfg0.N) (h : Fin 4) (i : Fin 128) (d : Fin 64) :
    iblk m c 3 t (ix3 h i d) = V m c (Pipeline.arrRef spec0 3) (ix3 h (tok (num t) i) d) := by
  blk_simp [iblk]
  refine congrArg (V m c _) ?_
  blk_ext [index_3]
  rfl

theorem blk_4 (t : Fin cfg0.N) (h : Fin 4) (i : Fin 128) (d : Fin 64) :
    iblk m c 4 t (ix3 h i d) = V m c (Pipeline.arrRef spec0 4) (ix3 h (tok (prev (num t)) i) d) := by
  blk_simp [iblk]
  refine congrArg (V m c _) ?_
  blk_ext [index_4]
  rfl

theorem blk_5 (t : Fin cfg0.N) (h : Fin 4) (i : Fin 128) (d : Fin 64) :
    iblk m c 5 t (ix3 h i d) = V m c (Pipeline.arrRef spec0 5) (ix3 h (tok (num t) i) d) := by
  blk_simp [iblk]
  refine congrArg (V m c _) ?_
  blk_ext [index_5]
  rfl

theorem blk_6 (t : Fin cfg0.N) (h : Fin 32) (i : Fin 128) (d : Fin 64) :
    iblk m c 6 t (ix3 h i d) = V m c (Pipeline.arrRef spec0 6) (ix3 h (tok (num t) i) d) := by
  blk_simp [iblk]
  refine congrArg (V m c _) ?_
  blk_ext [index_6]
  rfl

theorem blk_7 (t : Fin cfg0.N) (h : Fin 32) (i : Fin 128) (d : Fin 64) :
    iblk m c 7 t (ix3 h i d) = V m c (Pipeline.arrRef spec0 7) (ix3 h (tok (num t) i) d) := by
  blk_simp [iblk]
  refine congrArg (V m c _) ?_
  blk_ext [index_7]
  rfl

/-! ## What each point leaves -/

/-- Output 8 after point `t`. -/
theorem outs_8 (t : Fin cfg0.N) :
    (outsAt0 m c t.val t.isLt).1 = View.canon (pieces8 (dq (grid0.coords t) (iblk m c 0 t) (iblk m c 1 t) (iblk m c 2 t) (iblk m c 3 t) (iblk m c 4 t) (iblk m c 5 t) (iblk m c 6 t) (iblk m c 7 t))) := by
  by_cases h0 : t.val % 32 = 0
  · rw [outsAt0_A m c t h0]
    dsimp only
    exact Point.out_A_8 _ _ _ _ _ _ _ _ _ _ _ _ _ _ _ _ _ _ _ _ _ _ _ _ _ _ _ _ _ _ _  _ _ _ _ _ _ _ _
  · rw [outsAt0_B m c t h0]
    dsimp only
    exact Point.out_B_8 _ _ _ _ _ _ _ _ _ _ _ _ _ _ _ _ _ _ _ _ _ _ _ _ _ _ _ _ _ _ _  _ _ _ _ _ _ _ _ _

/-- Output 9 after point `t`. -/
theorem outs_9 (t : Fin cfg0.N) :
    (outsAt0 m c t.val t.isLt).2.1 = View.canon (pieces1 (dkc (grid0.coords t) (iblk m c 0 t) (iblk m c 1 t) (iblk m c 2 t) (iblk m c 3 t) (iblk m c 4 t) (iblk m c 5 t) (iblk m c 6 t) (iblk m c 7 t))) := by
  by_cases h0 : t.val % 32 = 0
  · rw [outsAt0_A m c t h0]
    dsimp only
    exact Point.out_A_9 _ _ _ _ _ _ _ _ _ _ _ _ _ _ _ _ _ _ _ _ _ _ _ _ _ _ _ _ _ _ _  _ _ _ _ _ _ _ _
  · rw [outsAt0_B m c t h0]
    dsimp only
    exact Point.out_B_9 _ _ _ _ _ _ _ _ _ _ _ _ _ _ _ _ _ _ _ _ _ _ _ _ _ _ _ _ _ _ _  _ _ _ _ _ _ _ _ _

/-- Output 10 after point `t`. -/
theorem outs_10 (t : Fin cfg0.N) :
    (outsAt0 m c t.val t.isLt).2.2.1 = View.canon (pieces1 (dkp (grid0.coords t) (iblk m c 0 t) (iblk m c 1 t) (iblk m c 2 t) (iblk m c 3 t) (iblk m c 4 t) (iblk m c 5 t) (iblk m c 6 t) (iblk m c 7 t))) := by
  by_cases h0 : t.val % 32 = 0
  · rw [outsAt0_A m c t h0]
    dsimp only
    exact Point.out_A_10 _ _ _ _ _ _ _ _ _ _ _ _ _ _ _ _ _ _ _ _ _ _ _ _ _ _ _ _ _ _ _  _ _ _ _ _ _ _ _
  · rw [outsAt0_B m c t h0]
    dsimp only
    exact Point.out_B_10 _ _ _ _ _ _ _ _ _ _ _ _ _ _ _ _ _ _ _ _ _ _ _ _ _ _ _ _ _ _ _  _ _ _ _ _ _ _ _ _

/-- Output 11 after point `t`. -/
theorem outs_11 (t : Fin cfg0.N) :
    (outsAt0 m c t.val t.isLt).2.2.2.1 = View.canon (pieces1 (dvc (grid0.coords t) (iblk m c 0 t) (iblk m c 1 t) (iblk m c 2 t) (iblk m c 3 t) (iblk m c 7 t))) := by
  by_cases h0 : t.val % 32 = 0
  · rw [outsAt0_A m c t h0]
    dsimp only
    exact Point.out_A_11 _ _ _ _ _ _ _ _ _ _ _ _ _ _ _ _ _ _ _ _ _ _ _ _ _ _ _ _ _ _ _  _ _ _ _ _ _ _ _
  · rw [outsAt0_B m c t h0]
    dsimp only
    exact Point.out_B_11 _ _ _ _ _ _ _ _ _ _ _ _ _ _ _ _ _ _ _ _ _ _ _ _ _ _ _ _ _ _ _  _ _ _ _ _ _ _ _ _

/-- Output 12 after point `t`. -/
theorem outs_12 (t : Fin cfg0.N) :
    (outsAt0 m c t.val t.isLt).2.2.2.2.1 = View.canon (pieces1 (dvp (grid0.coords t) (iblk m c 0 t) (iblk m c 1 t) (iblk m c 2 t) (iblk m c 3 t) (iblk m c 7 t))) := by
  by_cases h0 : t.val % 32 = 0
  · rw [outsAt0_A m c t h0]
    dsimp only
    exact Point.out_A_12 _ _ _ _ _ _ _ _ _ _ _ _ _ _ _ _ _ _ _ _ _ _ _ _ _ _ _ _ _ _ _  _ _ _ _ _ _ _ _
  · rw [outsAt0_B m c t h0]
    dsimp only
    exact Point.out_B_12 _ _ _ _ _ _ _ _ _ _ _ _ _ _ _ _ _ _ _ _ _ _ _ _ _ _ _ _ _ _ _  _ _ _ _ _ _ _ _ _

/-- Output 13 after point `t`: group `g`'s part is added to what the point before left, at the first point to zeros. -/
theorem outs_13 (t : Fin cfg0.N) (g : Fin 4) (r : Fin 1024) :
    ∃ acc : Vec F S1x1024x1 .f32,
      (∀ r, acc (ix3 0 r 0) = if t.val % 32 = 0 then Scalar.ofBits .f32 0x00000000#32 else
        (outsAt0 m c (t.val - 1) (Nat.lt_of_le_of_lt (Nat.sub_le _ _) t.isLt)).2.2.2.2.2 (ix3 g r 0)) ∧
      (outsAt0 m c t.val t.isLt).2.2.2.2.2 (ix3 g r 0) = dsink (grid0.coords t) (iblk m c 0 t) (iblk m c 1 t) (iblk m c 2 t) (iblk m c 3 t) (iblk m c 6 t) (iblk m c 7 t) g acc (ix3 0 r 0) := by
  by_cases h0 : t.val % 32 = 0
  · rw [outsAt0_A m c t h0]
    simp only [if_pos h0]
    exact Point.out_A_13 _ _ _ _ _ _ _ _ _ _ _ _ _ _ _ _ _ _ _ _ _ _ _ _ _ _ _ _ _ _ _  _ _ _ _ _ _ _ _  g r
  · rw [outsAt0_B m c t h0]
    simp only [if_neg h0]
    exact Point.out_B_13 _ _ _ _ _ _ _ _ _ _ _ _ _ _ _ _ _ _ _ _ _ _ _ _ _ _ _ _ _ _ _  _ _ _ _ _ _ _ _ _  g r

end Cert.Proof.Arrays

end
-- ==== Proof.Results.lean ====
/-
  THE KERNEL'S RESULTS, where the arrays that its region finds hold the real numbers of `Spec.Data`: each element of the
  six arrays is the gradient that `Spec` defines.
-/
module

public import proofs.«01_k».proof.Proof.Arrays

@[expose] public section

noncomputable section

namespace Cert.Proof.Results

open Idealize.ShloMosaic Idealize.ShloMosaic.TcCoe Idealize.ShloMosaic.Tactic Idealize.ShloMosaic.ValueKit
open Idealize.SL Idealize.SL.Sem
open Cert.KernelIdeal Cert.KernelIdeal.Gen Cert.KernelIdeal.Value Cert.Proof.Block Cert.Proof.Spec Cert.Proof.Arrays

variable (m : (ℓ : Loc nD τ sig) → Buf (Elt Ideal) ℓ) (c : Dev nD)

/-- The arrays that the region finds hold the numbers `D`: the sinks, the scaled queries, the keys and values (each under two
    windows), the attention's output and the derivative by it. -/
structure Entry (D : Data) : Prop where
  sink : ∀ h, V m c (Pipeline.arrRef spec0 0) (ix1 h) = (D.sink h : EReal)
  query : ∀ h t d, V m c (Pipeline.arrRef spec0 1) (ix3 h t d) = ((D.q t h d * (1 / 8) : ℝ) : EReal)
  keyPrev : ∀ g t d, V m c (Pipeline.arrRef spec0 2) (ix3 g t d) = (D.k t g d : EReal)
  keyCur : ∀ g t d, V m c (Pipeline.arrRef spec0 3) (ix3 g t d) = (D.k t g d : EReal)
  valPrev : ∀ g t d, V m c (Pipeline.arrRef spec0 4) (ix3 g t d) = (D.v t g d : EReal)
  valCur : ∀ g t d, V m c (Pipeline.arrRef spec0 5) (ix3 g t d) = (D.v t g d : EReal)
  out : ∀ g h n i d, V m c (Pipeline.arrRef spec0 6) (ix3 (hd g h) (tok n i) d) = (out D n g h i d : EReal)
  ct : ∀ h t d, V m c (Pipeline.arrRef spec0 7) (ix3 h t d) = (D.ct t h d : EReal)

section Loads

variable {F : FTy → Type} [FloatOps F] [Named F]

theorem sinks_apply (y : Vec F S32 .f32) (g : Fin 4) (h : Fin 8) : sinks y g h = y (ix1 (hd g h)) := by
  refine congrArg y ?_
  funext x; apply Fin.ext
  fin_cases x
  show g.val * 8 + h.val + 1 * 0 = g.val * 8 + h.val; omega

theorem blk8_apply {e : EltTy} (y : Vec F S32x128x64 e) (g : Fin 4) (h : Fin 8) (i : Fin 128) (d : Fin 64) :
    blk8 y g (ix3 h i d) = y (ix3 (hd g h) i d) := by
  refine congrArg y ?_
  funext x; apply Fin.ext
  fin_cases x
  · show g.val * 8 + 1 * h.val = g.val * 8 + h.val; omega
  · show 0 + 1 * i.val = i.val; omega
  · show 0 + 1 * d.val = d.val; omega

theorem blk1_apply {e : EltTy} (y : Vec F S4x128x64 e) (g : Fin 4) (i : Fin 128) (d : Fin 64) :
    blk1 y g (ix3 0 i d) = y (ix3 g i d) := by
  refine congrArg y ?_
  funext x; apply Fin.ext
  fin_cases x
  · show g.val + 1 * 0 = g.val; omega
  · show 0 + 1 * i.val = i.val; omega
  · show 0 + 1 * d.val = d.val; omega

end Loads

variable {m c} {D : Data} (E : Entry m c D)
include E

/-- Each group of each point reads the numbers `D`. -/
theorem holds (t : Fin cfg0.N) (g : Fin 4) :
    Head.Holds D (num t) g (word (grid0.coords t)) (sinks (iblk m c 0 t) g) (blk8 (iblk m c 1 t) g) (blk1 (iblk m c 2 t) g)
      (blk1 (iblk m c 3 t) g) (blk1 (iblk m c 4 t) g) (blk1 (iblk m c 5 t) g) (blk8 (iblk m c 6 t) g) (blk8 (iblk m c 7 t) g) where
  word := word_eq t
  sink h := (sinks_apply _ g h).trans ((blk_0 m c t _).trans (E.sink _))
  query h i d := (blk8_apply _ g h i d).trans ((blk_1 m c t _ _ _).trans (E.query _ _ _))
  keyPrev j d := (blk1_apply _ g j d).trans ((blk_2 m c t _ _ _).trans (E.keyPrev _ _ _))
  keyCur j d := (blk1_apply _ g j d).trans ((blk_3 m c t _ _ _).trans (E.keyCur _ _ _))
  valPrev j d := (blk1_apply _ g j d).trans ((blk_4 m c t _ _ _).trans (E.valPrev _ _ _))
  valCur j d := (blk1_apply _ g j d).trans ((blk_5 m c t _ _ _).trans (E.valCur _ _ _))
  out h i d := (blk8_apply _ g h i d).trans ((blk_6 m c t _ _ _).trans (E.out _ _ _ _ _))
  ct h i d := (blk8_apply _ g h i d).trans ((blk_7 m c t _ _ _).trans (E.ct _ _ _))

/-- The gradient by the scaled queries. -/
theorem final_8 (n : Fin 32) (g : Fin 4) (h : Fin 8) (i : Fin 128) (d : Fin 64) :
    (dats m 0 c).arrAt 8 cfg0.N (ix3 (hd g h) (tok n i) d) = (gradQuery D n g h i d : EReal) := by
  have hf : ∀ t : Fin cfg0.N, (cfg0.win 8).flush t = true := (by decide +kernel : ∀ t : Fin grid0.N, win0_8.flush t = true)
  let t : Fin cfg0.N := ⟨n.val, n.isLt⟩
  have ha := (dats m 0 c).arrAt_emb_eq_flushed 8 disjoint8 t (hf t) (ix3 (hd g h) i d)
  have e : ((cfg0.win 8).blk t).view.emb (ix3 (hd g h) i d) = (ix3 (hd g h) (tok n i) d) := by
    blk_ext [index_8]
    rfl
  rw [e] at ha
  refine ha.trans ?_
  blk_simp
  rw [after0_8, outs_8]
  exact (Point.canon8 _ g h i d).trans (Head.read_dq (holds E t g) h i d)

/-- The gradient by the keys of the queries' own block. -/
theorem final_9 (n : Fin 32) (g : Fin 4) (j : Fin 128) (d : Fin 64) :
    (dats m 0 c).arrAt 9 cfg0.N (ix3 g (tok n j) d) = (gradKey D n g ⟨j.val + 128, by omega⟩ d : EReal) := by
  have hf : ∀ t : Fin cfg0.N, (cfg0.win 9).flush t = true := (by decide +kernel : ∀ t : Fin grid0.N, win0_9.flush t = true)
  let t : Fin cfg0.N := ⟨n.val, n.isLt⟩
  have ha := (dats m 0 c).arrAt_emb_eq_flushed 9 disjoint9 t (hf t) (ix3 g j d)
  have e : ((cfg0.win 9).blk t).view.emb (ix3 g j d) = (ix3 g (tok n j) d) := by
    blk_ext [index_9]
    rfl
  rw [e] at ha
  refine ha.trans ?_
  blk_simp
  rw [after0_9, outs_9]
  exact (Point.canon1 _ g j d).trans (Head.read_dkc (holds E t g) j d)

/-- The gradient by the keys of the block before. -/
theorem final_10 (n : Fin 32) (g : Fin 4) (j : Fin 128) (d : Fin 64) :
    (dats m 0 c).arrAt 10 cfg0.N (ix3 g (tok n j) d) = (gradKey D n g ⟨j.val, by omega⟩ d : EReal) := by
  have hf : ∀ t : Fin cfg0.N, (cfg0.win 10).flush t = true := (by decide +kernel : ∀ t : Fin grid0.N, win0_10.flush t = true)
  let t : Fin cfg0.N := ⟨n.val, n.isLt⟩
  have ha := (dats m 0 c).arrAt_emb_eq_flushed 10 disjoint10 t (hf t) (ix3 g j d)
  have e : ((cfg0.win 10).blk t).view.emb (ix3 g j d) = (ix3 g (tok n j) d) := by
    blk_ext [index_10]
    rfl
  rw [e] at ha
  refine ha.trans ?_
  blk_simp
  rw [after0_10, outs_10]
  exact (Point.canon1 _ g j d).trans (Head.read_dkp (holds E t g) j d)

/-- The gradient by the values of the queries' own block. -/
theorem final_11 (n : Fin 32) (g : Fin 4) (j : Fin 128) (d : Fin 64) :
    (dats m 0 c).arrAt 11 cfg0.N (ix3 g (tok n j) d) = (gradValue D n g ⟨j.val + 128, by omega⟩ d : EReal) := by
  have hf : ∀ t : Fin cfg0.N, (cfg0.win 11).flush t = true := (by decide +kernel : ∀ t : Fin grid0.N, win0_11.flush t = true)
  let t : Fin cfg0.N := ⟨n.val, n.isLt⟩
  have ha := (dats m 0 c).arrAt_emb_eq_flushed 11 disjoint11 t (hf t) (ix3 g j d)
  have e : ((cfg0.win 11).blk t).view.emb (ix3 g j d) = (ix3 g (tok n j) d) := by
    blk_ext [index_11]
    rfl
  rw [e] at ha
  refine ha.trans ?_
  blk_simp
  rw [after0_11, outs_11]
  exact (Point.canon1 _ g j d).trans (Head.read_dvc (holds E t g) j d)

/-- The gradient by the values of the block before. -/
theorem final_12 (n : Fin 32) (g : Fin 4) (j : Fin 128) (d : Fin 64) :
    (dats m 0 c).arrAt 12 cfg0.N (ix3 g (tok n j) d) = (gradValue D n g ⟨j.val, by omega⟩ d : EReal) := by
  have hf : ∀ t : Fin cfg0.N, (cfg0.win 12).flush t = true := (by decide +kernel : ∀ t : Fin grid0.N, win0_12.flush t = true)
  let t : Fin cfg0.N := ⟨n.val, n.isLt⟩
  have ha := (dats m 0 c).arrAt_emb_eq_flushed 12 disjoint12 t (hf t) (ix3 g j d)
  have e : ((cfg0.win 12).blk t).view.emb (ix3 g j d) = (ix3 g (tok n j) d) := by
    blk_ext [index_12]
    rfl
  rw [e] at ha
  refine ha.trans ?_
  blk_simp
  rw [after0_12, outs_12]
  exact (Point.canon1 _ g j d).trans (Head.read_dvp (holds E t g) j d)

/-- The sinks' gradient so far, after point `n`: the parts of the blocks up to `n`. -/
theorem sink_sum (g : Fin 4) (r : Fin 1024) : ∀ (n : ℕ) (hn : n < cfg0.N),
    (outsAt0 m c n hn).2.2.2.2.2 (ix3 g r 0)
      = ((∑ k ∈ Finset.range (n + 1), if h : k < 32 then gradSink D ⟨k, h⟩ g (Head.rh r) (Head.ri r) else 0 : ℝ) : EReal) := by
  intro n
  induction n with
  | zero =>
    intro hn
    obtain ⟨acc, ha, ho⟩ := outs_13 m c ⟨0, hn⟩ g r
    refine ho.trans ((Head.read_dsink (holds E ⟨0, hn⟩ g) acc r).trans ?_)
    refine (congrArg (· + _) ((ha r).trans ((if_pos (Nat.zero_mod _)).trans Ideal.ofBits_zero_f32))).trans ?_
    rw [zero_add, Finset.sum_range_one,
      dif_pos (by omega)]
    rfl
  | succ n ih =>
    intro hn
    have h32 : n + 1 < 32 := hn
    obtain ⟨acc, ha, ho⟩ := outs_13 m c ⟨n + 1, hn⟩ g r
    refine ho.trans ((Head.read_dsink (holds E ⟨n + 1, hn⟩ g) acc r).trans ?_)
    refine (congrArg (· + _) ((ha r).trans (if_neg (by show ¬(n + 1) % 32 = 0; omega)))).trans ?_
    rw [Finset.sum_range_succ, dif_pos h32, EReal.coe_add]
    exact congrArg (· + _) (ih (by omega))

/-- The sinks' gradient, still apart for each query of a block. -/
theorem final_13 (g : Fin 4) (r : Fin 1024) :
    (dats m 0 c).arrAt 13 cfg0.N (ix3 g r 0) = ((∑ n, gradSink D n g (Head.rh r) (Head.ri r) : ℝ) : EReal) := by
  let t : Fin cfg0.N := ⟨31, by decide⟩
  have hw : (cfg0.win 13).WholeAt t := by decide +kernel
  have h := (dats m 0 c).arrAt_emb_eq_after_last 13 t hw (ix3 g r 0)
  refine (show _ = (dats m 0 c).after 13 t (ix3 g r 0) from h.trans ?_).trans ?_
  · refine congrArg ((dats m 0 c).after 13 t) ?_
    funext a; fin_cases a <;> rfl
  refine (congrFun (after0_13 m c t) (ix3 g r 0)).trans ?_
  refine (sink_sum E g r 31 _).trans (congrArg _ ?_)
  rw [Finset.sum_range]
  exact Finset.sum_congr rfl fun k _ => dif_pos k.isLt

end Cert.Proof.Results

end
-- ==== Proof.RefScores.lean ====
module

public import proofs.«01_k».proof.Proof.Gen.ReferenceIdeal.Read
public import proofs.«01_k».proof.Proof.Spec
public import proofs.«01_k».proof.Proof.Words
public import Idealize.ShloMosaic.Lib.Pointwise

@[expose] public section

noncomputable section

namespace Cert.Proof.Ref

open Idealize.ShloMosaic Cert.ReferenceIdeal Cert.ReferenceIdeal.Read Cert.Proof.Spec

/-- The pattern of minus infinity. -/
theorem ofBits_neg_inf : Ideal.ofBits FTy.f32 0xFF800000#32 = (⊥ : EReal) := by
  unfold Ideal.ofBits Ideal.ieee; simp

/-- Two truth values' words, and'ed. -/
theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The reference's arguments hold the numbers `D`. -/
structure Args (D : Data) (x0 : (⟨S4096x32x64, .f32⟩ : BufTy).Contents (Elt Ideal)) (x1 x2 : (⟨S4096x4x64, .f32⟩ : BufTy).Contents (Elt Ideal))
    (x3 : (⟨S32, .f32⟩ : BufTy).Contents (Elt Ideal)) (x4 : (⟨S4096x32x64, .f32⟩ : BufTy).Contents (Elt Ideal)) : Prop where
  q : ∀ t h d, x0 (ix3 t h d) = (D.q t h d : EReal)
  k : ∀ t g d, x1 (ix3 t g d) = (D.k t g d : EReal)
  v : ∀ t g d, x2 (ix3 t g d) = (D.v t g d : EReal)
  sink : ∀ h, x3 (ix1 h) = (D.sink h : EReal)
  ct : ∀ t h d, x4 (ix3 t h d) = (D.ct t h d : EReal)

variable {D : Data} {x0 : (⟨S4096x32x64, .f32⟩ : BufTy).Contents (Elt Ideal)} {x1 x2 : (⟨S4096x4x64, .f32⟩ : BufTy).Contents (Elt Ideal)}
    {x3 : (⟨S32, .f32⟩ : BufTy).Contents (Elt Ideal)} {x4 : (⟨S4096x32x64, .f32⟩ : BufTy).Contents (Elt Ideal)}
variable (A : Args D x0 x1 x2 x3 x4)
include A

omit A in
theorem eighth : Ideal.ofBits FTy.f32 0x3E000000#32 = ((1 / 8 : ℝ) : EReal) := by
  simp [Ideal.ofBits, Ideal.ieee, -EReal.coe_mul]; norm_num

theorem r4 (n : Fin 32) (i : Fin 128) (g : Fin 4) (d : Fin 64) : val_main_v4 (F := Ideal) x1 (ix4 n i g d) = (D.k (tok n i) g d : EReal) := by
  pointwise [val_main_v4]
  exact A.k _ _ _

theorem r3 (n : Fin 32) (i : Fin 128) (g : Fin 4) (h : Fin 8) (d : Fin 64) : val_main_v3 (F := Ideal) x0 (ix5 n i g h d) = (query D n g h i d : EReal) := by
  pointwise [val_main_v3, val_main_v1, val_main_v2, val_main_cst]
  rw [A.q, eighth, ← EReal.coe_mul]
  rfl

theorem r0 (n : Fin 32) (i : Fin 128) (g : Fin 4) (h : Fin 8) (d : Fin 64) : val_main_v0 (F := Ideal) x4 (ix5 n i g h d) = (D.ct (tok n i) (hd g h) d : EReal) := by
  pointwise [val_main_v0]
  exact A.ct _ _ _

theorem r7 (g : Fin 4) (h : Fin 8) (i : Fin 128) : val_main_v7 (F := Ideal) x3 (ix5 0 g h i 0) = (D.sink (hd g h) : EReal) := by
  pointwise [val_main_v7, val_main_v6]
  exact A.sink _

/-- Row `j` of the 256 rows that block `n` sees, as the reference makes them: zeros before the first block. -/
def seen (a : Fin 4096 → Fin 4 → Fin 64 → ℝ) (n : Fin 32) (g : Fin 4) (j : Fin 256) (d : Fin 64) : ℝ :=
  if h : j.val < 128 then if n.val < 1 then 0 else a (tok (prev n) ⟨j.val, h⟩) g d else a (tok n ⟨j.val - 128, by omega⟩) g d

omit A in
theorem seen_eq (a : Fin 4096 → Fin 4 → Fin 64 → ℝ) (n : Fin 32) (g : Fin 4) (i : Fin 128) (j : Fin 256) (d : Fin 64) (h : mask n i j) :
    seen a n g j d = window a n g j d := by
  unfold seen window
  obtain ⟨-, -, h⟩ := h
  split
  · rw [if_neg (by omega)]
  · rfl

theorem r16 (n : Fin 32) (j : Fin 256) (g : Fin 4) (d : Fin 64) : val_main_v16 (F := Ideal) x1 (ix4 n j g d) = (seen D.k n g j d : EReal) := by
  pointwise [val_main_v16, val_main_v11, val_main_v10, val_main_v9, val_main_cst_0, val_main_v4]
  simp only [A.k]
  unfold seen
  split
  · split
    · rfl
    · rfl
  · rfl

theorem r18 (n : Fin 32) (g : Fin 4) (j : Fin 256) (i : Fin 128) (h : Fin 8) :
    val_main_v18 (F := Ideal) x0 x1 (ix5 n g j i h) = ((∑ d, query D n g h i d * seen D.k n g j d : ℝ) : EReal) := by
  have h1 := r16 A; have h2 := r3 A
  unfold val_main_v18
  generalize val_main_v16 (F := Ideal) x1 = P1 at h1 ⊢
  generalize val_main_v3 (F := Ideal) x0 = P2 at h2 ⊢
  pointwise
  simp only [h1, h2, ← EReal.coe_mul, ← Row.coe_sum, mul_comm]

omit A in
theorem r50 (n : Fin 32) (i : Fin 128) (j : Fin 256) : val_main_v50 (F := Ideal) (ix5 n 0 0 i j) = if mask n i j then 1#1 else 0#1 := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_c, val_main_c_2, val_main_c_3, val_main_c_4, val_main_c_5]
  refine (congrArg₂ IntOp.andi (Words.band_word i j) (Words.first_word n j)).trans ?_
  exact (and_bits _ _).trans (if_congr and_assoc rfl rfl)

theorem r51 (n : Fin 32) (g : Fin 4) (h : Fin 8) (i : Fin 128) (j : Fin 256) :
    val_main_v51_0 (F := Ideal) x0 x1 (ix5 n g h i j) = Row.score (mask n i) (scores D n g h i) j := by
  have h1 := r50 n i j; have h2 := r18 A n g j i h
  unfold val_main_v51_0 val_main_v51_1 val_main_call0_v2 val_main_call0_v0 val_main_cst_6 val_main_v19
  generalize val_main_v50 (F := Ideal) = P1 at h1 ⊢
  generalize val_main_v18 (F := Ideal) x0 x1 = P2 at h2 ⊢
  dsimp only [id]
  pointwise
  rw [h1, h2]
  unfold Row.score Scalar.select
  by_cases hm : mask n i j
  · rw [if_pos hm, if_pos hm]; refine (if_pos rfl).trans ?_
    refine congrArg _ (Finset.sum_congr rfl fun d _ => ?_)
    rw [seen_eq D.k n g i j d hm]
  · rw [if_neg hm, if_neg hm]
    exact (if_neg (by decide)).trans ofBits_neg_inf

theorem r52 (n : Fin 32) (g : Fin 4) (h : Fin 8) (i : Fin 128) :
    val_main_v52 (F := Ideal) x0 x1 (ix4 n g h i) = Row.top (mask n i) (scores D n g h i) := by
  have h1 := r51 A n g h i
  unfold val_main_v52 val_main_cst_7
  generalize val_main_v51_0 (F := Ideal) x0 x1 = P1 at h1 ⊢
  pointwise
  simp only [h1, ofBits_neg_inf]
  rfl

end Cert.Proof.Ref

end
-- ==== Proof.RefRows.lean ====
module

public import proofs.«01_k».proof.Proof.RefScores

@[expose] public section

noncomputable section

namespace Cert.Proof.Ref

open Idealize.ShloMosaic Cert.ReferenceIdeal Cert.ReferenceIdeal.Read Cert.Proof.Spec

variable {D : Data} {x0 : (⟨S4096x32x64, .f32⟩ : BufTy).Contents (Elt Ideal)} {x1 x2 : (⟨S4096x4x64, .f32⟩ : BufTy).Contents (Elt Ideal)}
    {x3 : (⟨S32, .f32⟩ : BufTy).Contents (Elt Ideal)} {x4 : (⟨S4096x32x64, .f32⟩ : BufTy).Contents (Elt Ideal)}
variable (A : Args D x0 x1 x2 x3 x4)
include A

theorem r58 (n : Fin 32) (g : Fin 4) (h : Fin 8) (i : Fin 128) :
    val_main_v58 (F := Ideal) x0 x1 (ix5 n g h i 0) = Row.top (mask n i) (scores D n g h i) := by
  have h1 := r52 A n g h i
  unfold val_main_v58
  generalize val_main_v52 (F := Ideal) x0 x1 = P1 at h1 ⊢
  pointwise
  exact h1

theorem r59 (n : Fin 32) (g : Fin 4) (h : Fin 8) (i : Fin 128) :
    val_main_v59 (F := Ideal) x3 (ix5 n g h i 0) = (D.sink (hd g h) : EReal) := by
  have h1 := r7 A g h i
  unfold val_main_v59
  generalize val_main_v7 (F := Ideal) x3 = P1 at h1 ⊢
  pointwise
  exact h1

/-- What the exponents are shifted by. -/
theorem r60 (n : Fin 32) (g : Fin 4) (h : Fin 8) (i : Fin 128) :
    val_main_v60 (F := Ideal) x0 x1 x3 (ix5 n g h i 0) = (Row.shift (mask n i) (scores D n g h i) (D.sink (hd g h)) : EReal) := by
  have h1 := r58 A n g h i; have h2 := r59 A n g h i
  rw [val_main_v60_apply, h1, h2]
  exact Row.max_eq _ _ _

/-- The exponential of a shifted score. -/
theorem r81 (n : Fin 32) (g : Fin 4) (h : Fin 8) (i : Fin 128) (j : Fin 256) :
    val_main_v81 (F := Ideal) x0 x1 x3 (ix5 n g h i j) = (Row.expo (mask n i) (scores D n g h i) (D.sink (hd g h)) j : EReal) := by
  have h1 := r51 A n g h i j; have h2 := r60 A n g h i
  unfold val_main_v81 val_main_v80 val_main_v79
  generalize val_main_v51_0 (F := Ideal) x0 x1 = P1 at h1 ⊢
  generalize val_main_v60 (F := Ideal) x0 x1 x3 = P2 at h2 ⊢
  pointwise
  rw [h1, h2, Row.exp_score]

/-- The exponential of the shifted sink. -/
theorem r86 (n : Fin 32) (g : Fin 4) (h : Fin 8) (i : Fin 128) :
    val_main_v86 (F := Ideal) x0 x1 x3 (ix5 n g h i 0) = (Row.sinkExpo (mask n i) (scores D n g h i) (D.sink (hd g h)) : EReal) := by
  have h1 := r7 A g h i; have h2 := r60 A n g h i
  unfold val_main_v86 val_main_v85 val_main_v84
  generalize val_main_v7 (F := Ideal) x3 = P1 at h1 ⊢
  generalize val_main_v60 (F := Ideal) x0 x1 x3 = P2 at h2 ⊢
  pointwise
  rw [h1, h2, Row.exp_sink]

/-- The softmax's denominator. -/
theorem r87 (n : Fin 32) (g : Fin 4) (h : Fin 8) (i : Fin 128) :
    val_main_v87 (F := Ideal) x0 x1 x3 (ix5 n g h i 0) = (Row.denom (mask n i) (scores D n g h i) (D.sink (hd g h)) : EReal) := by
  have h1 := r81 A n g h i; have h2 := r86 A n g h i
  unfold val_main_v87 val_main_v83 val_main_v82 val_main_cst_15
  generalize val_main_v81 (F := Ideal) x0 x1 x3 = P1 at h1 ⊢
  generalize val_main_v86 (F := Ideal) x0 x1 x3 = P2 at h2 ⊢
  pointwise
  simp only [h1, h2, Row.denom_eq]

/-- The probability of a key. -/
theorem r89 (n : Fin 32) (g : Fin 4) (h : Fin 8) (i : Fin 128) (j : Fin 256) :
    val_main_v89 (F := Ideal) x0 x1 x3 (ix5 n g h i j) = (prob D n g h i j : EReal) := by
  have h1 := r81 A n g h i j; have h2 := r87 A n g h i
  unfold val_main_v89 val_main_v88
  generalize val_main_v81 (F := Ideal) x0 x1 x3 = P1 at h1 ⊢
  generalize val_main_v87 (F := Ideal) x0 x1 x3 = P2 at h2 ⊢
  pointwise
  rw [h1, h2, Row.prob_div]; rfl

theorem r5 (n : Fin 32) (i : Fin 128) (g : Fin 4) (d : Fin 64) : val_main_v5 (F := Ideal) x2 (ix4 n i g d) = (D.v (tok n i) g d : EReal) := by
  pointwise [val_main_v5]
  exact A.v _ _ _

omit A in
theorem prob_seen (n : Fin 32) (g : Fin 4) (h : Fin 8) (i : Fin 128) (j : Fin 256) (a : Fin 4096 → Fin 4 → Fin 64 → ℝ) (d : Fin 64) :
    prob D n g h i j * seen a n g j d = prob D n g h i j * window a n g j d := by
  by_cases hm : mask n i j
  · rw [seen_eq a n g i j d hm]
  · rw [show prob D n g h i j = 0 from Row.prob_of_not_mask _ _ _ hm, zero_mul, zero_mul]

omit A in
theorem gradScore_seen (n : Fin 32) (g : Fin 4) (h : Fin 8) (i : Fin 128) (j : Fin 256) (a : Fin 4096 → Fin 4 → Fin 64 → ℝ) (d : Fin 64) :
    gradScore D n g h i j * seen a n g j d = gradScore D n g h i j * window a n g j d := by
  by_cases hm : mask n i j
  · rw [seen_eq a n g i j d hm]
  · rw [show gradScore D n g h i j = 0 from Row.gradScore_of_not_mask _ _ _ _ hm, zero_mul, zero_mul]

/-- The values that a block sees. -/
theorem r17 (n : Fin 32) (j : Fin 256) (g : Fin 4) (d : Fin 64) : val_main_v17 (F := Ideal) x2 (ix4 n j g d) = (seen D.v n g j d : EReal) := by
  pointwise [val_main_v17, val_main_v15, val_main_v14, val_main_v13, val_main_cst_1, val_main_v5]
  simp only [A.v]
  unfold seen
  split
  · split
    · rfl
    · rfl
  · rfl

/-- The attention's output, by token and head. -/
theorem r94 (n : Fin 32) (g : Fin 4) (h : Fin 8) (i : Fin 128) (d : Fin 64) :
    val_main_v94 (F := Ideal) x0 x1 x2 x3 (ix5 n i g h d) = (out D n g h i d : EReal) := by
  have h1 := r17 A n; have h2 := r89 A n g h i
  unfold val_main_v94 val_main_v93
  generalize val_main_v17 (F := Ideal) x2 = P1 at h1 ⊢
  generalize val_main_v89 (F := Ideal) x0 x1 x3 = P2 at h2 ⊢
  pointwise
  simp only [h1, h2, ← EReal.coe_mul, ← Row.coe_sum]
  refine congrArg _ (Finset.sum_congr rfl fun j _ => ?_)
  rw [mul_comm, prob_seen]

end Cert.Proof.Ref

end
-- ==== Proof.Entry.lean ====
module

public import proofs.«01_k».proof.Proof.Results
public import proofs.«01_k».proof.Proof.RefRows
public import Idealize.ShloMosaic.Lib.StableHlo.RunRead

@[expose] public section

noncomputable section

namespace Cert.Proof.Entry

open Idealize.ShloMosaic Idealize.ShloMosaic.TcCoe Idealize.ShloMosaic.Tactic Idealize.ShloMosaic.ValueKit
open Idealize.SL Idealize.SL.Sem
open Cert.KernelIdeal Cert.KernelIdeal.Gen Cert.KernelIdeal.Value Cert.Proof.Spec

variable (m : (ℓ : Loc nD τ sig) → Buf (Elt Ideal) ℓ) (c : Dev nD)

/-- The arguments in the launch memory hold the numbers `D`. -/
abbrev ArgsAt (D : Data) : Prop :=
  Ref.Args D (m ((c : Thread nD τ).loc main_arg0)) (m ((c : Thread nD τ).loc main_arg1)) (m ((c : Thread nD τ).loc main_arg2))
    (m ((c : Thread nD τ).loc main_arg3)) (m ((c : Thread nD τ).loc main_arg4))

variable {m c} {D : Data} (A : ArgsAt m c D)
include A

theorem query (h : Fin 32) (t : Fin 4096) (d : Fin 64) : V m c main_v72 (ix3 h t d) = ((D.q t h d * (1 / 8) : ℝ) : EReal) := by
  have h1 := A.q t h d
  unfold V
  after_reads_simp
  generalize m ((c : Thread nD τ).loc main_arg0) = P1 at h1 ⊢
  pointwise
  rw [h1, Ref.eighth, ← EReal.coe_mul]

theorem key (g : Fin 4) (t : Fin 4096) (d : Fin 64) : V m c main_v74 (ix3 g t d) = (D.k t g d : EReal) := by
  have h1 := A.k t g d
  unfold V
  after_reads_simp
  generalize m ((c : Thread nD τ).loc main_arg1) = P1 at h1 ⊢
  pointwise
  exact h1

theorem value (g : Fin 4) (t : Fin 4096) (d : Fin 64) : V m c main_v76 (ix3 g t d) = (D.v t g d : EReal) := by
  have h1 := A.v t g d
  unfold V
  after_reads_simp
  generalize m ((c : Thread nD τ).loc main_arg2) = P1 at h1 ⊢
  pointwise
  exact h1

theorem cotangent (h : Fin 32) (t : Fin 4096) (d : Fin 64) : V m c main_v78 (ix3 h t d) = (D.ct t h d : EReal) := by
  have h1 := A.ct t h d
  unfold V
  after_reads_simp
  generalize m ((c : Thread nD τ).loc main_arg4) = P1 at h1 ⊢
  pointwise
  exact h1

omit A in
set_option maxHeartbeats 2000000 in
/-- The attention's output is computed by the reference's own operations. -/
theorem output_eq : (V m c main_v77 : (⟨S32x4096x64, .f32⟩ : BufTy).Contents (Elt Ideal))
    = transpose S32x4096x64 [1, 0, 2]
        (shapeCast S4096x32x64 (Cert.ReferenceIdeal.Read.val_main_v94 (F := Ideal) (m ((c : Thread nD τ).loc main_arg0))
          (m ((c : Thread nD τ).loc main_arg1)) (m ((c : Thread nD τ).loc main_arg2)) (m ((c : Thread nD τ).loc main_arg3)))
          shapeCasts_S32x128x4x8x64_S4096x32x64) transposes_S4096x32x64_S32x4096x64_1_0_2 := by
  unfold V
  after_reads_simp
  rfl

theorem output (g : Fin 4) (h : Fin 8) (n : Fin 32) (i : Fin 128) (d : Fin 64) :
    V m c main_v77 (ix3 (hd g h) (tok n i) d) = (out D n g h i d : EReal) := by
  have h1 := Ref.r94 A n g h i d
  refine (congrFun output_eq _).trans ?_
  generalize Cert.ReferenceIdeal.Read.val_main_v94 (F := Ideal) (m ((c : Thread nD τ).loc main_arg0))
    (m ((c : Thread nD τ).loc main_arg1)) (m ((c : Thread nD τ).loc main_arg2)) (m ((c : Thread nD τ).loc main_arg3)) = P1 at h1 ⊢
  pointwise
  have e : ∀ (a : Fin 32) (b : Fin 128) (c : Fin 4) (e : Fin 8), a = n → b = i → c = g → e = h → P1 (ix5 a b c e d) = P1 (ix5 n i g h d) := by
    rintro _ _ _ _ rfl rfl rfl rfl; rfl
  refine (e _ _ _ _ (Fin.ext ?_) (Fin.ext ?_) (Fin.ext ?_) (Fin.ext ?_)).trans h1 <;> simp only [tok, hd] <;> omega

theorem sinks (h : Fin 32) : V m c main_arg3 (ix1 h) = (D.sink h : EReal) := by
  rw [V_main_arg3]
  exact A.sink h

/-- The arrays that the region finds, from the arguments. -/
theorem entry : Results.Entry m c D where
  sink := sinks A
  query := query A
  keyPrev := key A
  keyCur := key A
  valPrev := value A
  valCur := value A
  out := output A
  ct := cotangent A

end Cert.Proof.Entry

end
-- ==== Proof.RefGrad.lean ====
module

public import proofs.«01_k».proof.Proof.RefRows

@[expose] public section

noncomputable section

namespace Cert.Proof.Ref

open Idealize.ShloMosaic Cert.ReferenceIdeal Cert.ReferenceIdeal.Read Cert.Proof.Spec

variable {D : Data} {x0 : (⟨S4096x32x64, .f32⟩ : BufTy).Contents (Elt Ideal)} {x1 x2 : (⟨S4096x4x64, .f32⟩ : BufTy).Contents (Elt Ideal)}
    {x3 : (⟨S32, .f32⟩ : BufTy).Contents (Elt Ideal)} {x4 : (⟨S4096x32x64, .f32⟩ : BufTy).Contents (Elt Ideal)}
variable (A : Args D x0 x1 x2 x3 x4)
include A

omit A in
/-- The derivative by a probability, with the values as the reference sees them. -/
def gradProbSeen (D : Data) (n : Fin 32) (g : Fin 4) (h : Fin 8) (i : Fin 128) (j : Fin 256) : ℝ := ∑ d, D.ct (tok n i) (hd g h) d * seen D.v n g j d

omit A in
theorem gradProb_agree (n : Fin 32) (g : Fin 4) (h : Fin 8) (i : Fin 128) (j : Fin 256) (hm : mask n i j) : gradProbSeen D n g h i j = gradProb D n g h i j := by
  unfold gradProbSeen gradProb
  exact Finset.sum_congr rfl fun d _ => by rw [seen_eq D.v n g i j d hm]

omit A in
theorem mean_agree (n : Fin 32) (g : Fin 4) (h : Fin 8) (i : Fin 128) : Row.mean (mask n i) (scores D n g h i) (D.sink (hd g h)) (gradProbSeen D n g h i) = Row.mean (mask n i) (scores D n g h i) (D.sink (hd g h)) (gradProb D n g h i) := by
  unfold Row.mean
  refine Finset.sum_congr rfl fun j _ => ?_
  by_cases hm : mask n i j
  · rw [gradProb_agree n g h i j hm]
  · rw [Row.prob_of_not_mask _ _ _ hm, zero_mul, zero_mul]

omit A in
theorem gradScore_agree (n : Fin 32) (g : Fin 4) (h : Fin 8) (i : Fin 128) (j : Fin 256) : Row.gradScore (mask n i) (scores D n g h i) (D.sink (hd g h)) (gradProbSeen D n g h i) j = gradScore D n g h i j := by
  rw [gradScore, ← Row.gradScore_of_agree (mask n i) (scores D n g h i) (D.sink (hd g h)) (gradProb D n g h i) (gradProbSeen D n g h i) (gradProb_agree n g h i) j, ← mean_agree n g h i]
  rfl

omit A in
theorem gradSink_agree (n : Fin 32) (g : Fin 4) (h : Fin 8) (i : Fin 128) :
    -(Row.sinkProb (mask n i) (scores D n g h i) (D.sink (hd g h)) * Row.mean (mask n i) (scores D n g h i) (D.sink (hd g h)) (gradProbSeen D n g h i)) = gradSink D n g h i := by
  rw [mean_agree]; rfl

/-- The derivative by a probability. -/
theorem r96 (n : Fin 32) (g : Fin 4) (h : Fin 8) (i : Fin 128) (j : Fin 256) :
    val_main_v96 (F := Ideal) x2 x4 (ix5 n g h i j) = (gradProbSeen D n g h i j : EReal) := by
  have h1 := r17 A n; have h2 := r0 A n i g h
  unfold val_main_v96 val_main_v95
  generalize val_main_v17 (F := Ideal) x2 = P1 at h1 ⊢
  generalize val_main_v0 (F := Ideal) x4 = P2 at h2 ⊢
  pointwise
  simp only [h1, h2, ← EReal.coe_mul, ← Row.coe_sum]
  rfl

/-- The gradient by the values of a block's window. -/
theorem r98 (n : Fin 32) (j : Fin 256) (g : Fin 4) (d : Fin 64) :
    val_main_v98 (F := Ideal) x0 x1 x3 x4 (ix4 n j g d) = (gradValue D n g j d : EReal) := by
  have h1 := fun h i => r89 A n g h i j; have h2 := r0 A n
  unfold val_main_v98 val_main_v97 val_main_v95
  generalize val_main_v89 (F := Ideal) x0 x1 x3 = P1 at h1 ⊢
  generalize val_main_v0 (F := Ideal) x4 = P2 at h2 ⊢
  pointwise
  simp only [h1, h2, ← EReal.coe_mul, ← Row.coe_sum]
  exact congrArg _ (Finset.sum_congr rfl fun h _ => Finset.sum_congr rfl fun i _ => mul_comm _ _)

/-- What every probability's derivative is less, through the denominator. -/
theorem r104 (n : Fin 32) (g : Fin 4) (h : Fin 8) (i : Fin 128) :
    val_main_v104 (F := Ideal) x0 x1 x2 x3 x4 (ix5 n g h i 0) = (Row.back (mask n i) (scores D n g h i) (D.sink (hd g h)) (gradProbSeen D n g h i) : EReal) := by
  have h1 := r96 A n g h i; have h2 := r87 A n g h i; have h3 := r81 A n g h i
  unfold val_main_v104 val_main_v103 val_main_v102 val_main_v101 val_main_v100 val_main_v99 val_main_v92 val_main_v90 val_main_v91 val_main_cst_16 val_main_cst_17
  generalize val_main_v96 (F := Ideal) x2 x4 = P1 at h1 ⊢
  generalize val_main_v87 (F := Ideal) x0 x1 x3 = P2 at h2 ⊢
  generalize val_main_v81 (F := Ideal) x0 x1 x3 = P3 at h3 ⊢
  pointwise
  simp only [h1, h2, h3]
  exact Row.back_coe _ _ _ _

/-- The gradient by a score, through the exponential. -/
theorem r114 (n : Fin 32) (g : Fin 4) (h : Fin 8) (i : Fin 128) (j : Fin 256) :
    val_main_v114 (F := Ideal) x0 x1 x2 x3 x4 (ix5 n g h i j) = (Row.gradScore (mask n i) (scores D n g h i) (D.sink (hd g h)) (gradProbSeen D n g h i) j : EReal) := by
  have h1 := r96 A n g h i j; have h2 := r87 A n g h i; have h3 := r81 A n g h i j; have h4 := r104 A n g h i
  unfold val_main_v114 val_main_v113 val_main_v112 val_main_v111 val_main_v106 val_main_v105 val_main_cst_19
  generalize val_main_v96 (F := Ideal) x2 x4 = P1 at h1 ⊢
  generalize val_main_v87 (F := Ideal) x0 x1 x3 = P2 at h2 ⊢
  generalize val_main_v81 (F := Ideal) x0 x1 x3 = P3 at h3 ⊢
  generalize val_main_v104 (F := Ideal) x0 x1 x2 x3 x4 = P4 at h4 ⊢
  pointwise
  simp only [h1, h2, h3, h4, Fin.isValue, Finset.univ_unique, Finset.sum_singleton, Fin.default_eq_zero]
  exact Row.through_exp _ _ _ _ _

/-- The gradient by a row's sink, through the exponential. -/
theorem r107 (n : Fin 32) (g : Fin 4) (h : Fin 8) (i : Fin 128) :
    val_main_v107 (F := Ideal) x0 x1 x2 x3 x4 (ix5 n g h i 0) = (gradSink D n g h i : EReal) := by
  have h1 := r104 A n g h i; have h2 := r86 A n g h i
  unfold val_main_v107
  generalize val_main_v104 (F := Ideal) x0 x1 x2 x3 x4 = P1 at h1 ⊢
  generalize val_main_v86 (F := Ideal) x0 x1 x3 = P2 at h2 ⊢
  pointwise
  rw [h1, h2, Row.back_sink, gradSink_agree]

/-- The gradients through what the exponents are shifted by cancel. -/
theorem r118 (n : Fin 32) (g : Fin 4) (h : Fin 8) (i : Fin 128) :
    val_main_v118 (F := Ideal) x0 x1 x2 x3 x4 (ix5 n g h i 0) = 0 := by
  have h1 := r107 A n g h i; have h2 := r114 A n g h i
  unfold val_main_v118 val_main_v117 val_main_v116 val_main_v115 val_main_v110 val_main_cst_20
  generalize val_main_v107 (F := Ideal) x0 x1 x2 x3 x4 = P1 at h1 ⊢
  generalize val_main_v114 (F := Ideal) x0 x1 x2 x3 x4 = P2 at h2 ⊢
  pointwise
  simp only [h1, h2]
  rw [← gradSink_agree]
  exact Row.shift_grad _ _ _ _

/-- How many keys attain the largest score is not zero. -/
theorem r57 (n : Fin 32) (g : Fin 4) (h : Fin 8) (i : Fin 128) : val_main_v57 (F := Ideal) x0 x1 (ix4 n g h i) ≠ 0 := by
  have h1 := r51 A n g h i; have h2 := r52 A n g h i
  unfold val_main_v57 val_main_v56 val_main_v55 val_main_v54 val_main_v53 val_main_cst_8
  generalize val_main_v51_0 (F := Ideal) x0 x1 = P1 at h1 ⊢
  generalize val_main_v52 (F := Ideal) x0 x1 = P2 at h2 ⊢
  pointwise
  simp only [h1, h2]
  refine Row.count_ne_zero (mask n i) (scores D n g h i) _ (fun j => ?_) (fun j hj => ?_)
  · exact EReal.coe_nonneg.mpr (Nat.cast_nonneg _)
  · rw [decide_eq_true hj]
    show (((1 : ℕ) : ℝ) : EReal) = 1
    rw [Nat.cast_one, EReal.coe_one]

theorem r123 (n : Fin 32) (g : Fin 4) (h : Fin 8) (i : Fin 128) :
    val_main_v123 (F := Ideal) x0 x1 x2 x3 x4 (ix5 n g h i 0) = 0 := by
  rw [val_main_v123_apply, r118 A n g h i]
  exact zero_mul _

theorem r124 (n : Fin 32) (g : Fin 4) (h : Fin 8) (i : Fin 128) :
    val_main_v124 (F := Ideal) x0 x1 x2 x3 x4 (ix4 n g h i) = 0 := by
  have h1 := r123 A n g h i
  unfold val_main_v124 val_main_cst_22
  generalize val_main_v123 (F := Ideal) x0 x1 x2 x3 x4 = P1 at h1 ⊢
  pointwise
  simp only [h1, Finset.univ_unique, Finset.sum_singleton, Fin.default_eq_zero]

theorem r125 (n : Fin 32) (g : Fin 4) (h : Fin 8) (i : Fin 128) :
    val_main_v125 (F := Ideal) x0 x1 x2 x3 x4 (ix4 n g h i) = 0 := by
  rw [val_main_v125_apply, r124 A n g h i]
  refine (if_neg (r57 A n g h i)).trans ?_
  exact zero_mul _

theorem r126 (n : Fin 32) (g : Fin 4) (h : Fin 8) (i : Fin 128) (j : Fin 256) :
    val_main_v126 (F := Ideal) x0 x1 x2 x3 x4 (ix5 n g h i j) = 0 := by
  have h1 := r125 A n g h i
  unfold val_main_v126
  generalize val_main_v125 (F := Ideal) x0 x1 x2 x3 x4 = P1 at h1 ⊢
  pointwise
  exact h1

/-- Nothing is passed on to the largest score. -/
theorem r127 (n : Fin 32) (g : Fin 4) (h : Fin 8) (i : Fin 128) (j : Fin 256) :
    val_main_v127 (F := Ideal) x0 x1 x2 x3 x4 (ix5 n g h i j) = 0 := by
  rw [val_main_v127_apply, r126 A n g h i j]
  exact zero_mul _

/-- The gradient by a score. -/
theorem r129 (n : Fin 32) (g : Fin 4) (h : Fin 8) (i : Fin 128) (j : Fin 256) :
    val_main_v129 (F := Ideal) x0 x1 x2 x3 x4 (ix5 n g h i j) = (gradScore D n g h i j : EReal) := by
  have h1 := r50 n i j; have h2 := r114 A n g h i j; have h3 := r127 A n g h i j
  unfold val_main_v129 val_main_v128 val_main_v51_1 val_main_call1_v0 val_main_call1_cst
  generalize val_main_v50 (F := Ideal) = P1 at h1 ⊢
  generalize val_main_v114 (F := Ideal) x0 x1 x2 x3 x4 = P2 at h2 ⊢
  generalize val_main_v127 (F := Ideal) x0 x1 x2 x3 x4 = P3 at h3 ⊢
  pointwise
  rw [h1, h2, h3, add_zero, gradScore_agree]
  unfold Scalar.select
  by_cases hm : mask n i j
  · rw [if_pos hm]; exact if_pos rfl
  · rw [if_neg hm, show gradScore D n g h i j = 0 from Row.gradScore_of_not_mask _ _ _ _ hm]
    exact if_neg (by decide)

/-- The gradient by the scaled query. -/
theorem r132 (n : Fin 32) (g : Fin 4) (h : Fin 8) (i : Fin 128) (d : Fin 64) :
    val_main_v132 (F := Ideal) x0 x1 x2 x3 x4 (ix5 n i g h d) = (gradQuery D n g h i d : EReal) := by
  have h1 := r129 A n g h i; have h2 := r16 A n
  unfold val_main_v132 val_main_v131 val_main_v130
  generalize val_main_v129 (F := Ideal) x0 x1 x2 x3 x4 = P1 at h1 ⊢
  generalize val_main_v16 (F := Ideal) x1 = P2 at h2 ⊢
  pointwise
  simp only [h1, h2, ← EReal.coe_mul, ← Row.coe_sum]
  exact congrArg _ (Finset.sum_congr rfl fun j _ => gradScore_seen n g h i j _ d)

/-- The gradient by the keys of a block's window. -/
theorem r134 (n : Fin 32) (j : Fin 256) (g : Fin 4) (d : Fin 64) :
    val_main_v134 (F := Ideal) x0 x1 x2 x3 x4 (ix4 n j g d) = (gradKey D n g j d : EReal) := by
  have h1 := fun h i => r129 A n g h i j; have h2 := r3 A n
  unfold val_main_v134 val_main_v133 val_main_v130
  generalize val_main_v129 (F := Ideal) x0 x1 x2 x3 x4 = P1 at h1 ⊢
  generalize val_main_v3 (F := Ideal) x0 = P2 at h2 ⊢
  pointwise
  simp only [h1, h2, ← EReal.coe_mul, ← Row.coe_sum]
  rw [Finset.sum_comm]
  rfl

theorem r119 (n : Fin 32) (g : Fin 4) (h : Fin 8) (i : Fin 128) :
    val_main_v119 (F := Ideal) x0 x1 x2 x3 x4 (ix5 n g h i 0) = 0 := by
  rw [val_main_v119_apply, r118 A n g h i]
  exact zero_mul _

/-- The sinks' gradient, still apart for each query of a block. -/
theorem r122 (g : Fin 4) (h : Fin 8) (i : Fin 128) :
    val_main_v122 (F := Ideal) x0 x1 x2 x3 x4 (ix5 0 g h i 0) = ((∑ n, gradSink D n g h i : ℝ) : EReal) := by
  have h1 := fun n => r107 A n g h i; have h2 := fun n => r119 A n g h i
  unfold val_main_v122 val_main_v121 val_main_v120 val_main_v109 val_main_v108 val_main_cst_18 val_main_cst_21
  generalize val_main_v107 (F := Ideal) x0 x1 x2 x3 x4 = P1 at h1 ⊢
  generalize val_main_v119 (F := Ideal) x0 x1 x2 x3 x4 = P2 at h2 ⊢
  pointwise
  simp only [h1, h2, ← Row.coe_sum, Finset.sum_const_zero, add_zero]

end Cert.Proof.Ref

end
-- ==== Proof.RefResults.lean ====
module

public import proofs.«01_k».proof.Proof.RefGrad

@[expose] public section

noncomputable section

namespace Cert.Proof.Ref

open Idealize.ShloMosaic Cert.ReferenceIdeal Cert.ReferenceIdeal.Read Cert.Proof.Spec

variable {D : Data} {x0 : (⟨S4096x32x64, .f32⟩ : BufTy).Contents (Elt Ideal)} {x1 x2 : (⟨S4096x4x64, .f32⟩ : BufTy).Contents (Elt Ideal)}
    {x3 : (⟨S32, .f32⟩ : BufTy).Contents (Elt Ideal)} {x4 : (⟨S4096x32x64, .f32⟩ : BufTy).Contents (Elt Ideal)}
variable (A : Args D x0 x1 x2 x3 x4)
include A

/-- The gradient by the scaled queries. -/
theorem dq (n : Fin 32) (g : Fin 4) (h : Fin 8) (i : Fin 128) (d : Fin 64) :
    val_main_v140 (F := Ideal) x0 x1 x2 x3 x4 (ix3 (hd g h) (tok n i) d) = (gradQuery D n g h i d : EReal) := by
  have h1 := r132 A n g h i d
  unfold val_main_v140 val_main_v139
  generalize val_main_v132 (F := Ideal) x0 x1 x2 x3 x4 = P1 at h1 ⊢
  pointwise
  have e : ∀ (a : Fin 32) (b : Fin 128) (c : Fin 4) (e : Fin 8), a = n → b = i → c = g → e = h → P1 (ix5 a b c e d) = P1 (ix5 n i g h d) := by
    rintro _ _ _ _ rfl rfl rfl rfl; rfl
  refine (e _ _ _ _ (Fin.ext ?_) (Fin.ext ?_) (Fin.ext ?_) (Fin.ext ?_)).trans h1 <;> simp only [tok, hd] <;> omega

/-- The gradient by a block's own keys, of its own queries. -/
theorem dkc (n : Fin 32) (g : Fin 4) (j : Fin 128) (d : Fin 64) :
    val_main_v142 (F := Ideal) x0 x1 x2 x3 x4 (ix3 g (tok n j) d) = (gradKey D n g ⟨j.val + 128, by omega⟩ d : EReal) := by
  have h1 := r134 A n ⟨j.val + 128, by omega⟩ g d
  unfold val_main_v142 val_main_v141 val_main_v138
  generalize val_main_v134 (F := Ideal) x0 x1 x2 x3 x4 = P1 at h1 ⊢
  pointwise
  refine Eq.trans (congrArg P1 (congrArg₂ (fun a b => ix4 a b g d) (Fin.ext ?_) (Fin.ext ?_))) h1 <;>
    simp only [tok] <;> omega

/-- The gradient by the keys before a block, of its queries. -/
theorem dkp (n : Fin 32) (g : Fin 4) (j : Fin 128) (d : Fin 64) :
    val_main_v144 (F := Ideal) x0 x1 x2 x3 x4 (ix3 g (tok n j) d) = (gradKey D n g ⟨j.val, by omega⟩ d : EReal) := by
  have h1 := r134 A n ⟨j.val, by omega⟩ g d
  unfold val_main_v144 val_main_v143 val_main_v137
  generalize val_main_v134 (F := Ideal) x0 x1 x2 x3 x4 = P1 at h1 ⊢
  pointwise
  refine Eq.trans (congrArg P1 (congrArg₂ (fun a b => ix4 a b g d) (Fin.ext ?_) (Fin.ext ?_))) h1 <;>
    simp only [tok] <;> omega

/-- The gradient by a block's own values, of its own queries. -/
theorem dvc (n : Fin 32) (g : Fin 4) (j : Fin 128) (d : Fin 64) :
    val_main_v146 (F := Ideal) x0 x1 x3 x4 (ix3 g (tok n j) d) = (gradValue D n g ⟨j.val + 128, by omega⟩ d : EReal) := by
  have h1 := r98 A n ⟨j.val + 128, by omega⟩ g d
  unfold val_main_v146 val_main_v145 val_main_v136
  generalize val_main_v98 (F := Ideal) x0 x1 x3 x4 = P1 at h1 ⊢
  pointwise
  refine Eq.trans (congrArg P1 (congrArg₂ (fun a b => ix4 a b g d) (Fin.ext ?_) (Fin.ext ?_))) h1 <;>
    simp only [tok] <;> omega

/-- The gradient by the values before a block, of its queries. -/
theorem dvp (n : Fin 32) (g : Fin 4) (j : Fin 128) (d : Fin 64) :
    val_main_v148 (F := Ideal) x0 x1 x3 x4 (ix3 g (tok n j) d) = (gradValue D n g ⟨j.val, by omega⟩ d : EReal) := by
  have h1 := r98 A n ⟨j.val, by omega⟩ g d
  unfold val_main_v148 val_main_v147 val_main_v135
  generalize val_main_v98 (F := Ideal) x0 x1 x3 x4 = P1 at h1 ⊢
  pointwise
  refine Eq.trans (congrArg P1 (congrArg₂ (fun a b => ix4 a b g d) (Fin.ext ?_) (Fin.ext ?_))) h1 <;>
    simp only [tok] <;> omega

/-- The sinks' gradient, still apart for each query of a block. -/
theorem ds (g : Fin 4) (r : Fin 1024) :
    val_main_v149 (F := Ideal) x0 x1 x2 x3 x4 (ix3 g r 0) = ((∑ n, gradSink D n g ⟨r.val / 128, by omega⟩ ⟨r.val % 128, by omega⟩ : ℝ) : EReal) := by
  have h1 := r122 A g ⟨r.val / 128, by omega⟩ ⟨r.val % 128, by omega⟩
  unfold val_main_v149
  generalize val_main_v122 (F := Ideal) x0 x1 x2 x3 x4 = P1 at h1 ⊢
  pointwise
  exact h1

end Cert.Proof.Ref

end
-- ==== Proof.Equal.lean ====
/-
  THE EQUATION: from finite arguments, each of the kernel's six arrays is the reference's stage of the same arguments.
-/
module

public import proofs.«01_k».proof.Proof.Entry
public import proofs.«01_k».proof.Proof.RefResults
public import proofs.«01_k».proof.Proof.Gen.Pre_finite
public import proofs.«01_k».proof.Defs

@[expose] public section

noncomputable section

namespace Cert.Proof.Equal

open Idealize.ShloMosaic Idealize.ShloMosaic.TcCoe Idealize.ShloMosaic.ValueKit
open Idealize.SL Idealize.SL.Sem
open Cert.KernelIdeal Cert.KernelIdeal.Gen Cert.KernelIdeal.Value Cert.Proof.Spec Cert.ReferenceIdeal.Read

/-- What the precondition says of one number: it is real. -/
theorem real_of_bit {x : EReal} (h : FloatOps.cmpf (F := Ideal) (φ := .f32) .olt (FloatOps.hostAbsf (F := Ideal) (φ := .f32) x) (Ideal.ofBits .f32 0x7F800000#32) = 1#1) :
    x = ((x.toReal : ℝ) : EReal) := by
  have htop : Ideal.ofBits .f32 0x7F800000#32 = ⊤ := by unfold Ideal.ofBits Ideal.ieee; simp
  rw [htop] at h
  have hlt : max x (-x) < ⊤ := by
    by_contra hn
    have h0 : FloatOps.cmpf (F := Ideal) (φ := .f32) .olt (FloatOps.hostAbsf (F := Ideal) (φ := .f32) x) (⊤ : EReal) = BitVec.ofBool (decide (max x (-x) < ⊤)) := rfl
    rw [h0, decide_eq_false hn] at h
    exact absurd h (by decide)
  have h1 : x ≠ ⊤ := (lt_of_le_of_lt (le_max_left _ _) hlt).ne
  have h2 : x ≠ ⊥ := fun hx => by
    have := lt_of_le_of_lt (le_max_right x (-x)) hlt
    rw [hx, EReal.neg_bot] at this
    exact lt_irrefl _ this
  exact (EReal.coe_toReal h1 h2).symm

variable {m : (ℓ : Loc nD τ sig) → Buf (Elt Ideal) ℓ} {c : Dev nD}

/-- The numbers that the arguments hold. -/
def data (m : (ℓ : Loc nD τ sig) → Buf (Elt Ideal) ℓ) (c : Dev nD) : Data where
  q t h d := EReal.toReal (m ((c : Thread nD τ).loc main_arg0) (ix3 t h d))
  k t g d := EReal.toReal (m ((c : Thread nD τ).loc main_arg1) (ix3 t g d))
  v t g d := EReal.toReal (m ((c : Thread nD τ).loc main_arg2) (ix3 t g d))
  sink h := EReal.toReal (m ((c : Thread nD τ).loc main_arg3) (ix1 h))
  ct t h d := EReal.toReal (m ((c : Thread nD τ).loc main_arg4) (ix3 t h d))

/-- Under the precondition the arguments are those real numbers. -/
theorem args (hpre : Cert.Pre_KernelIdeal_finite m) : Entry.ArgsAt m c (data m c) where
  q t h d := real_of_bit (congrFun (hpre c).1 (ix3 t h d))
  k t g d := real_of_bit (congrFun (hpre c).2.1 (ix3 t g d))
  v t g d := real_of_bit (congrFun (hpre c).2.2.1 (ix3 t g d))
  sink h := real_of_bit (congrFun (hpre c).2.2.2.1 (ix1 h))
  ct t h d := real_of_bit (congrFun (hpre c).2.2.2.2 (ix3 t h d))

/-- Two arrays over heads, tokens and lanes are equal where they are equal at every block's tokens. -/
theorem ext_heads {f f' : (⟨S32x4096x64, .f32⟩ : BufTy).Contents (Elt Ideal)}
    (e : ∀ n g h i d, f (ix3 (hd g h) (tok n i) d) = f' (ix3 (hd g h) (tok n i) d)) : f = f' := by
  funext x
  obtain ⟨a, t, d, rfl⟩ : ∃ a t d, x = ix3 a t d := ⟨x 0, x 1, x 2, eq_ix3 x⟩
  have ha : a = hd ⟨a.val / 8, by have := a.isLt; omega⟩ ⟨a.val % 8, by omega⟩ := Fin.ext (by simp only [hd]; omega)
  have ht : t = tok ⟨t.val / 128, by have := t.isLt; omega⟩ ⟨t.val % 128, by omega⟩ := Fin.ext (by simp only [tok]; omega)
  rw [ha, ht]
  exact e _ _ _ _ _

theorem ext_groups {f f' : (⟨S4x4096x64, .f32⟩ : BufTy).Contents (Elt Ideal)}
    (e : ∀ n g j d, f (ix3 g (tok n j) d) = f' (ix3 g (tok n j) d)) : f = f' := by
  funext x
  obtain ⟨a, t, d, rfl⟩ : ∃ a t d, x = ix3 a t d := ⟨x 0, x 1, x 2, eq_ix3 x⟩
  have ht : t = tok ⟨t.val / 128, by have := t.isLt; omega⟩ ⟨t.val % 128, by omega⟩ := Fin.ext (by simp only [tok]; omega)
  rw [ht]
  exact e _ _ _ _

theorem ext_rows {f f' : (⟨S4x1024x1, .f32⟩ : BufTy).Contents (Elt Ideal)}
    (e : ∀ g r, f (ix3 g r 0) = f' (ix3 g r 0)) : f = f' := by
  funext x
  obtain ⟨a, t, d, rfl⟩ : ∃ a t d, x = ix3 a t d := ⟨x 0, x 1, x 2, eq_ix3 x⟩
  rw [Subsingleton.elim d 0]
  exact e _ _

variable (hpre : Cert.Pre_KernelIdeal_finite m)
include hpre

theorem dq : (dats m 0 c).arrAt 8 cfg0.N = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ext_heads fun n g h i d => (Results.final_8 (Entry.entry (args hpre)) n g h i d).trans (Ref.dq (args hpre) n g h i d).symm

theorem dkc : (dats m 0 c).arrAt 9 cfg0.N = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ext_groups fun n g j d => (Results.final_9 (Entry.entry (args hpre)) n g j d).trans (Ref.dkc (args hpre) n g j d).symm

theorem dkp : (dats m 0 c).arrAt 10 cfg0.N = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ext_groups fun n g j d => (Results.final_10 (Entry.entry (args hpre)) n g j d).trans (Ref.dkp (args hpre) n g j d).symm

theorem dvc : (dats m 0 c).arrAt 11 cfg0.N = val_main_v146 (F := Ideal) (m ((c : Thread nD τ).loc main_arg0)) (m ((c : Thread nD τ).loc main_arg1)) (m ((c : Thread nD τ).loc main_arg3)) (m ((c : Thread nD τ).loc main_arg4)) :=
  ext_groups fun n g j d => (Results.final_11 (Entry.entry (args hpre)) n g j d).trans (Ref.dvc (args hpre) n g j d).symm

theorem dvp : (dats m 0 c).arrAt 12 cfg0.N = val_main_v148 (F := Ideal) (m ((c : Thread nD τ).loc main_arg0)) (m ((c : Thread nD τ).loc main_arg1)) (m ((c : Thread nD τ).loc main_arg3)) (m ((c : Thread nD τ).loc main_arg4)) :=
  ext_groups fun n g j d => (Results.final_12 (Entry.entry (args hpre)) n g j d).trans (Ref.dvp (args hpre) n g j d).symm

theorem ds : (dats m 0 c).arrAt 13 cfg0.N = val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ext_rows fun g r => (Results.final_13 (Entry.entry (args hpre)) g r).trans (Ref.ds (args hpre) g r).symm

end Cert.Proof.Equal

end
-- ==== Proof.Products.lean ====
/-
  SHARED FACTS of the modules on the step's products.
-/
module

public import Idealize.ShloMosaic.Lib.Pipeline.ValueKit
public import Idealize.ShloMosaic.Lib.Pointwise
public import Idealize.ShloMosaic.Lib.StableHlo.RunRead
public import Idealize.ShloMosaic.Lib.Quiescent

@[expose] public section

noncomputable section

namespace Cert.Proof.Products

open Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl

/-- The number two, as the literal that both programs hold. -/
abbrev two : EReal := Ideal.ofBits .f32 0x40000000#32

/-- Column `k` of part `a`, of four parts of 4096 columns. -/
def col (a : Fin 4) (k : Fin 4096) : Fin 16384 := ⟨a.val * 4096 + k.val, by omega⟩

/-- Column `k` of part `a`, of four parts of 1152 columns. -/
def colIn (a : Fin 4) (k : Fin 1152) : Fin 4608 := ⟨a.val * 1152 + k.val, by omega⟩

/-- A sum over all columns is the sum of the four parts, in their order. -/
theorem sum_four {n N : ℕ} (hN : 4 * n = N) (c : Fin 4 → Fin n → Fin N) (hc : ∀ a k, (c a k).val = a.val * n + k.val)
    (f : Fin N → EReal) :
    ∑ k, f k = ((∑ k, f (c 0 k)) + (∑ k, f (c 1 k))) + (∑ k, f (c 2 k)) + (∑ k, f (c 3 k)) := by
  subst hN
  have h : ∑ k, f k = ∑ a : Fin 4, ∑ k : Fin n, f (c a k) := by
    rw [← Fintype.sum_prod_type' (f := fun a k => f (c a k))]
    refine (Fintype.sum_equiv (finProdFinEquiv (m := 4) (n := n)) _ _ fun x => congrArg f (Fin.ext ?_)).symm
    rw [hc]
    show x.1.val * n + x.2.val = x.2.val + n * x.1.val
    ring
  rw [h, Fin.sum_univ_four]

theorem sum_parts (f : Fin 16384 → EReal) :
    ∑ k, f k = ((∑ k, f (col 0 k)) + (∑ k, f (col 1 k))) + (∑ k, f (col 2 k)) + (∑ k, f (col 3 k)) :=
  sum_four rfl col (fun _ _ => rfl) f

theorem sum_partsIn (f : Fin 4608 → EReal) :
    ∑ k, f k = ((∑ k, f (colIn 0 k)) + (∑ k, f (colIn 1 k))) + (∑ k, f (colIn 2 k)) + (∑ k, f (colIn 3 k)) :=
  sum_four rfl colIn (fun _ _ => rfl) f

end Cert.Proof.Products

end
-- ==== Proof.Dff2.lean ====
/-
  THE GRADIENT THROUGH THE SQUARED RELU: the kernel's call, which multiplies the derivative by the MLP's second weight,
  transposed, and scales each element by twice the positive part of the activation, against the derivative of the lines
  of the reference.
-/
module

public import proofs.«01_k».proof.Proof.Gen.KernelDff2Ideal.Value
public import proofs.«01_k».proof.Proof.Gen.ReferenceDff2Ideal.Run
public import proofs.«01_k».proof.Proof.Gen.ReferenceDff2Ideal.Read
public import proofs.«01_k».proof.Proof.Products

@[expose] public section

noncomputable section

namespace Cert.Proof.Dff2

open Idealize.ShloMosaic Idealize.ShloMosaic.TcCoe Idealize.ShloMosaic.Tactic Idealize.ShloMosaic.ValueKit
open Idealize.SL Idealize.SL.Sem
open Cert.KernelDff2Ideal Cert.KernelDff2Ideal.Gen Cert.KernelDff2Ideal.Value Cert.Proof.Products

/-- What one point writes: the block of the product, scaled. -/
theorem out_A (c : Dev nD) (i : grid0.Coords) (a3 h3 a4 h4 a5 h5 a6 h6 a7 h7)
    (x : Vec Ideal S1024x4096 .bf16) (w : Vec Ideal S1024x4096 .bf16) (a : Vec Ideal S1024x1024 .bf16) (p q : Fin 1024) :
    out0_A_3 c i a3 h3 a4 h4 a5 h5 a6 h6 a7 h7 x w a (ix2 p q)
      = (∑ k : Fin 4096, x (ix2 p k) * w (ix2 q k)) * two * max (a (ix2 p q)) 0 := by
  unfold out0_A_3
  rw [View.read_writes_eq_canon _ _ _ (cover0_A_3 c i a3 h3 a4 h4 a5 h5 a6 h6 a7 h7 x w a)]
  unfold kernelRun0_A
  dsimp only
  rw [View.canon_unit_zero (by funext a; fin_cases a <;> rfl)]
  unfold k0_pay1
  simp only [View.readAt_eq_ld, h3.read_unread, h4.read_unread, h5.read_unread, View.ld_unit_zero (S := S1024x4096) hz,
    View.ld_unit_zero (S := S1024x1024) hz, shapeCast_self]
  pointwise

/-! ## The array -/

variable (m : (ℓ : Loc nD τ sig) → Buf (Elt Ideal) ℓ) (c : Dev nD)

theorem index_0 : ∀ t : Fin cfg0.N, win0_0.index t = ![t.val / 16, 0] :=
  (by decide +kernel : ∀ t : Fin grid0.N, win0_0.index t = ![t.val / 16, 0])
theorem index_1 : ∀ t : Fin cfg0.N, win0_1.index t = ![t.val % 16, 0] :=
  (by decide +kernel : ∀ t : Fin grid0.N, win0_1.index t = ![t.val % 16, 0])
theorem index_2 : ∀ t : Fin cfg0.N, win0_2.index t = ![t.val / 16, t.val % 16] :=
  (by decide +kernel : ∀ t : Fin grid0.N, win0_2.index t = ![t.val / 16, t.val % 16])
theorem index_3 : ∀ t : Fin cfg0.N, win0_3.index t = ![t.val / 16, t.val % 16] :=
  (by decide +kernel : ∀ t : Fin grid0.N, win0_3.index t = ![t.val / 16, t.val % 16])

variable (t : Fin cfg0.N) (r : Fin 4096) (s : Fin 16384) (p q : Fin 1024)

theorem blk_0 (k : Fin 4096) (hr : t.val / 16 * 1024 + p.val = r.val) :
    iblk m c 0 t (ix2 p k) = V m c (Pipeline.arrRef spec0 0) (ix2 r k) := by
  blk_simp [iblk]
  refine congrArg (V m c _) ?_
  blk_ext [index_0]

theorem blk_1 (k : Fin 4096) (hs : t.val % 16 * 1024 + q.val = s.val) :
    iblk m c 1 t (ix2 q k) = V m c (Pipeline.arrRef spec0 1) (ix2 s k) := by
  blk_simp [iblk]
  refine congrArg (V m c _) ?_
  blk_ext [index_1]

theorem blk_2 (hr : t.val / 16 * 1024 + p.val = r.val) (hs : t.val % 16 * 1024 + q.val = s.val) :
    iblk m c 2 t (ix2 p q) = V m c (Pipeline.arrRef spec0 2) (ix2 r s) := by
  blk_simp [iblk]
  refine congrArg (V m c _) ?_
  blk_ext [index_2]

/-- The call's array, from the arrays that its region finds. -/
theorem final (X : S4096x4096.Idx → EReal) (W : S16384x4096.Idx → EReal) (A : S4096x16384.Idx → EReal)
    (h0 : V m c main_v0 = X) (h1 : V m c main_v1 = W) (h2 : V m c main_v2 = A) :
    (dats m 0 c).arrAt 3 cfg0.N (ix2 r s) = (∑ k : Fin 4096, X (ix2 r k) * W (ix2 s k)) * two * max (A (ix2 r s)) 0 := by
  have hf : ∀ t : Fin cfg0.N, (cfg0.win 3).flush t = true := (by decide +kernel : ∀ t : Fin grid0.N, win0_3.flush t = true)
  let t : Fin cfg0.N := ⟨r.val / 1024 * 16 + s.val / 1024, by show _ < 64; omega⟩
  let p : Fin 1024 := ⟨r.val % 1024, by omega⟩
  let q : Fin 1024 := ⟨s.val % 1024, by omega⟩
  have hr : t.val / 16 * 1024 + p.val = r.val := by simp only [t, p]; omega
  have hs : t.val % 16 * 1024 + q.val = s.val := by simp only [t, q]; omega
  have ha := (dats m 0 c).arrAt_emb_eq_flushed 3 disjoint3 t (hf t) (ix2 p q)
  have e : ((cfg0.win 3).blk t).view.emb (ix2 p q) = ix2 r s := by
    blk_ext [index_3]
  rw [e] at ha
  refine ha.trans ?_
  blk_simp
  rw [after0_3]
  unfold outsAt0
  rw [out_A]
  simp only [blk_0 m c t r p _ hr, blk_1 m c t s q _ hs, blk_2 m c t r s p q hr hs]
  rw [← h0, ← h1, ← h2]

/-- The same from the program's arguments. -/
theorem value (A : S4096x16384.Idx → EReal) (W : S16384x4096.Idx → EReal) (X : S4096x4096.Idx → EReal)
    (hA : m ((c : Thread nD τ).loc main_arg0) = A) (hW : m ((c : Thread nD τ).loc main_arg1) = W)
    (hX : m ((c : Thread nD τ).loc main_arg2) = X) :
    (dats m 0 c).arrAt 3 cfg0.N (ix2 r s) = (∑ k : Fin 4096, X (ix2 r k) * W (ix2 s k)) * two * max (A (ix2 r s)) 0 := by
  refine final m c r s X W A ?_ ?_ ?_
  · unfold V; after_reads_simp; rw [hX]; rfl
  · unfold V; after_reads_simp; rw [hW]; rfl
  · unfold V; after_reads_simp; rw [hA]; rfl

/-! ## The reference -/

open Cert.ReferenceDff2Ideal.Read in
theorem reference (x0 : S4096x16384.Idx → EReal) (x1 : S16384x4096.Idx → EReal) (x2 : S4096x4096.Idx → EReal) :
    val_main_v12 (F := Ideal) x0 x1 x2 (ix2 r s)
      = (∑ k : Fin 4096, x2 (ix2 r k) * x1 (ix2 s k)) * two * max (x0 (ix2 r s)) 0 := by
  rw [val_main_v12_apply, val_main_v11_apply, val_main_v9_apply, val_main_v8_apply]
  have e0 : ∀ k, lidx_main_v8 (ix2 r s) k = ix2 r k := fun k => by funext a; fin_cases a <;> rfl
  have e1 : ∀ k, ridx_main_v8 (ix2 r s) k = ix2 s k := fun k => by funext a; fin_cases a <;> rfl
  have h2 : val_main_v2 (F := Ideal) x0 (ix2 r s) = BitVec.ofBool (decide (0 < x0 (ix2 r s))) := by
    unfold val_main_v2 val_main_v1 val_main_cst; pointwise
  have h6 : val_main_v6 (F := Ideal) x0 (ix2 r s) = two * max (x0 (ix2 r s)) 0 := by
    unfold val_main_v6 val_main_v5 val_main_cst_1 val_main_v0 val_main_call0_v0 val_main_call0_cst; pointwise
  simp only [e0, e1, h6, h2]
  have h10 : val_main_v10 (F := Ideal) (ix2 r s) = (0 : EReal) := by
    unfold val_main_v10 val_main_cst_2; pointwise
  rw [h10]
  by_cases h : 0 < x0 (ix2 r s)
  · simp only [h, decide_true]
    exact (mul_assoc _ _ _).symm
  · simp only [h, decide_false]
    rw [max_eq_right (not_lt.mp h), mul_zero, mul_zero]
    rfl

/-- The two programs' arrays are equal. -/
theorem equal : (dats m 0 c).arrAt 3 cfg0.N = Cert.ReferenceDff2Ideal.Read.val_main_v12 (F := Ideal) (m ((c : Thread nD τ).loc main_arg0))
    (m ((c : Thread nD τ).loc main_arg1)) (m ((c : Thread nD τ).loc main_arg2)) := by
  funext i
  obtain ⟨r, s, rfl⟩ : ∃ (r : Fin 4096) (s : Fin 16384), i = ix2 r s := ⟨i 0, i 1, by funext a; fin_cases a <;> rfl⟩
  exact (value m c r s _ _ _ rfl rfl rfl).trans (reference r s _ _ _).symm

end Cert.Proof.Dff2

end
-- ==== Proof.GwFf2.lean ====
/-
  THE GRADIENT BY THE MLP'S SECOND WEIGHT: the kernel's call, the transpose of the squared activation times the
  derivative, against the derivative of the lines of the reference.
-/
module

public import proofs.«01_k».proof.Proof.Gen.KernelGwFf2Ideal.Value
public import proofs.«01_k».proof.Proof.Gen.ReferenceGwFf2Ideal.Run
public import proofs.«01_k».proof.Proof.Gen.ReferenceGwFf2Ideal.Read
public import proofs.«01_k».proof.Proof.Products

@[expose] public section

noncomputable section

namespace Cert.Proof.GwFf2

open Idealize.ShloMosaic Idealize.ShloMosaic.TcCoe Idealize.ShloMosaic.Tactic Idealize.ShloMosaic.ValueKit
open Idealize.SL Idealize.SL.Sem
open Cert.KernelGwFf2Ideal Cert.KernelGwFf2Ideal.Gen Cert.KernelGwFf2Ideal.Value Cert.Proof.Products

/-- What one point writes: a block of the product. -/
theorem out_A (c : Dev nD) (i : grid0.Coords) (a3 h3 a4 h4 a5 h5 a6 h6)
    (x : Vec Ideal S4096x1024 .bf16) (w : Vec Ideal S4096x1024 .bf16) (p q : Fin 1024) :
    out0_A_2 c i a3 h3 a4 h4 a5 h5 a6 h6 x w (ix2 p q) = ∑ k : Fin 4096, x (ix2 k p) * w (ix2 k q) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S4096x1024) hz, shapeCast_self]
  pointwise

/-! ## The array -/

variable (m : (ℓ : Loc nD τ sig) → Buf (Elt Ideal) ℓ) (c : Dev nD)

theorem index_0 : ∀ t : Fin cfg0.N, win0_0.index t = ![0, t.val / 4] :=
  (by decide +kernel : ∀ t : Fin grid0.N, win0_0.index t = ![0, t.val / 4])
theorem index_1 : ∀ t : Fin cfg0.N, win0_1.index t = ![0, t.val % 4] :=
  (by decide +kernel : ∀ t : Fin grid0.N, win0_1.index t = ![0, t.val % 4])
theorem index_2 : ∀ t : Fin cfg0.N, win0_2.index t = ![t.val / 4, t.val % 4] :=
  (by decide +kernel : ∀ t : Fin grid0.N, win0_2.index t = ![t.val / 4, t.val % 4])

variable (t : Fin cfg0.N) (r : Fin 16384) (s : Fin 4096) (p q : Fin 1024)

theorem blk_0 (k : Fin 4096) (hr : t.val / 4 * 1024 + p.val = r.val) :
    iblk m c 0 t (ix2 k p) = V m c (Pipeline.arrRef spec0 0) (ix2 k r) := by
  blk_simp [iblk]
  refine congrArg (V m c _) ?_
  blk_ext [index_0]

theorem blk_1 (k : Fin 4096) (hs : t.val % 4 * 1024 + q.val = s.val) :
    iblk m c 1 t (ix2 k q) = V m c (Pipeline.arrRef spec0 1) (ix2 k s) := by
  blk_simp [iblk]
  refine congrArg (V m c _) ?_
  blk_ext [index_1]

/-- The call's array, from the arrays that its region finds. -/
theorem final (X : S4096x16384.Idx → EReal) (W : S4096x4096.Idx → EReal)
    (h0 : V m c (Pipeline.arrRef spec0 0) = X) (h1 : V m c (Pipeline.arrRef spec0 1) = W) :
    (dats m 0 c).arrAt 2 cfg0.N (ix2 r s) = ∑ k : Fin 4096, X (ix2 k r) * W (ix2 k s) := by
  have hf : ∀ t : Fin cfg0.N, (cfg0.win 2).flush t = true := (by decide +kernel : ∀ t : Fin grid0.N, win0_2.flush t = true)
  let t : Fin cfg0.N := ⟨r.val / 1024 * 4 + s.val / 1024, by show _ < 64; omega⟩
  let p : Fin 1024 := ⟨r.val % 1024, by omega⟩
  let q : Fin 1024 := ⟨s.val % 1024, by omega⟩
  have hr : t.val / 4 * 1024 + p.val = r.val := by simp only [t, p]; omega
  have hs : t.val % 4 * 1024 + q.val = s.val := by simp only [t, q]; omega
  have ha := (dats m 0 c).arrAt_emb_eq_flushed 2 disjoint2 t (hf t) (ix2 p q)
  have e : ((cfg0.win 2).blk t).view.emb (ix2 p q) = ix2 r s := by
    blk_ext [index_2]
  rw [e] at ha
  refine ha.trans ?_
  blk_simp
  rw [after0_2]
  unfold outsAt0
  rw [out_A]
  simp only [blk_0 m c t r p _ hr, blk_1 m c t s q _ hs]
  rw [← h0, ← h1]

open Cert.ReferenceGwFf2Ideal.Read

/-- The region finds the squared activation, as the reference computes it, and the derivative. -/
theorem entry_0 : V m c (Pipeline.arrRef spec0 0) = val_main_v1 (F := Ideal) (m ((c : Thread nD τ).loc main_arg0)) := by
  unfold V; after_reads_simp; rfl
theorem entry_1 : (V m c (Pipeline.arrRef spec0 1) : S4096x4096.Idx → EReal) = m ((c : Thread nD τ).loc main_arg2) := by
  unfold V; after_reads_simp; rfl

/-! ## The reference -/

theorem reference (x0 : S4096x16384.Idx → EReal) (x2 : S4096x4096.Idx → EReal) :
    val_main_v5 (F := Ideal) x0 x2 (ix2 r s) = ∑ k : Fin 4096, val_main_v1 (F := Ideal) x0 (ix2 k r) * x2 (ix2 k s) := by
  have h : val_main_v3 (F := Ideal) x0 x2 (ix2 s r) = ∑ k : Fin 4096, val_main_v1 (F := Ideal) x0 (ix2 k r) * x2 (ix2 k s) := by
    rw [val_main_v3_apply]
    refine Finset.sum_congr rfl fun k _ => (mul_comm _ _).trans ?_
    have e0 : lidx_main_v3 (ix2 s r) k = ix2 k s := by funext a; fin_cases a <;> rfl
    have e1 : ridx_main_v3 (ix2 s r) k = ix2 k r := by funext a; fin_cases a <;> rfl
    rw [e0, e1]
  rw [← h]
  unfold val_main_v5 val_main_v4
  generalize val_main_v3 (F := Ideal) x0 x2 = y
  pointwise

/-- The two programs' arrays are equal. -/
theorem equal : (dats m 0 c).arrAt 2 cfg0.N
    = val_main_v5 (F := Ideal) (m ((c : Thread nD τ).loc main_arg0)) (m ((c : Thread nD τ).loc main_arg2)) := by
  funext i
  obtain ⟨r, s, rfl⟩ : ∃ (r : Fin 16384) (s : Fin 4096), i = ix2 r s := ⟨i 0, i 1, by funext a; fin_cases a <;> rfl⟩
  exact (final m c r s _ _ (entry_0 m c) (entry_1 m c)).trans (reference r s _ _).symm

end Cert.Proof.GwFf2

end
-- ==== Proof.GwFf1.lean ====
/-
  THE GRADIENT BY THE MLP'S FIRST WEIGHT: the kernel's call, the transpose of the input times the derivative by
  the activation, in four parts by columns, against the derivative of the lines of the reference.
-/
module

public import proofs.«01_k».proof.Proof.Gen.KernelGwFf1Ideal.Value
public import proofs.«01_k».proof.Proof.Gen.ReferenceGwFf1Ideal.Run
public import proofs.«01_k».proof.Proof.Gen.ReferenceGwFf1Ideal.Read
public import proofs.«01_k».proof.Proof.Products

@[expose] public section

noncomputable section

namespace Cert.Proof.GwFf1

open Idealize.ShloMosaic Idealize.ShloMosaic.TcCoe Idealize.ShloMosaic.Tactic Idealize.ShloMosaic.ValueKit
open Idealize.SL Idealize.SL.Sem
open Cert.KernelGwFf1Ideal Cert.KernelGwFf1Ideal.Gen Cert.KernelGwFf1Ideal.Value Cert.Proof.Products

/-- What one point writes: a block of the product. -/
theorem out_A (c : Dev nD) (i : grid0.Coords) (a3 h3 a4 h4 a5 h5 a6 h6)
    (x : Vec Ideal S4096x1024 .bf16) (w : Vec Ideal S4096x1024 .bf16) (p q : Fin 1024) :
    out0_A_2 c i a3 h3 a4 h4 a5 h5 a6 h6 x w (ix3 0 p q) = ∑ k : Fin 4096, x (ix2 k p) * w (ix2 k q) := by
  unfold out0_A_2
  rw [View.read_writes_eq_canon _ _ _ (cover0_A_2 c i a3 h3 a4 h4 a5 h5 a6 h6 x w)]
  unfold kernelRun0_A
  dsimp only
  rw [View.canon_unit_zero hz3]
  unfold k0_pay1
  simp only [View.readAt_eq_ld, h3.read_unread, h4.read_unread, View.ld_unit_zero (S := S4096x1024) hz, shapeCast_self]
  pointwise

/-! ## The array -/

variable (m : (ℓ : Loc nD τ sig) → Buf (Elt Ideal) ℓ) (c : Dev nD)

theorem index_0 : ∀ t : Fin cfg0.N, win0_0.index t = ![0, t.val / 16] :=
  (by decide +kernel : ∀ t : Fin grid0.N, win0_0.index t = ![0, t.val / 16])
theorem index_1 : ∀ t : Fin cfg0.N, win0_1.index t = ![0, t.val % 16] :=
  (by decide +kernel : ∀ t : Fin grid0.N, win0_1.index t = ![0, t.val % 16])
theorem index_2 : ∀ t : Fin cfg0.N, win0_2.index t = ![t.val % 16 / 4, t.val / 16, t.val % 4] :=
  (by decide +kernel : ∀ t : Fin grid0.N, win0_2.index t = ![t.val % 16 / 4, t.val / 16, t.val % 4])

variable (t : Fin cfg0.N) (a : Fin 4) (r : Fin 4096) (s : Fin 4096) (p q : Fin 1024)

theorem blk_0 (k : Fin 4096) (hr : t.val / 16 * 1024 + p.val = r.val) :
    iblk m c 0 t (ix2 k p) = V m c (Pipeline.arrRef spec0 0) (ix2 k r) := by
  blk_simp [iblk]
  refine congrArg (V m c _) ?_
  blk_ext [index_0]

theorem blk_1 (k : Fin 4096) (hs : t.val % 16 * 1024 + q.val = (col a s).val) :
    iblk m c 1 t (ix2 k q) = V m c (Pipeline.arrRef spec0 1) (ix2 k (col a s)) := by
  blk_simp [iblk]
  refine congrArg (V m c _) ?_
  blk_ext [index_1]

/-- The call's array, from the arrays that its region finds. -/
theorem final (X : S4096x4096.Idx → EReal) (W : S4096x16384.Idx → EReal)
    (h0 : V m c (Pipeline.arrRef spec0 0) = X) (h1 : V m c (Pipeline.arrRef spec0 1) = W) :
    (dats m 0 c).arrAt 2 cfg0.N (ix3 a r s) = ∑ k : Fin 4096, X (ix2 k r) * W (ix2 k (col a s)) := by
  have hf : ∀ t : Fin cfg0.N, (cfg0.win 2).flush t = true := (by decide +kernel : ∀ t : Fin grid0.N, win0_2.flush t = true)
  let t : Fin cfg0.N := ⟨r.val / 1024 * 16 + a.val * 4 + s.val / 1024, by show _ < 64; omega⟩
  let p : Fin 1024 := ⟨r.val % 1024, by omega⟩
  let q : Fin 1024 := ⟨s.val % 1024, by omega⟩
  have hr : t.val / 16 * 1024 + p.val = r.val := by simp only [t, p]; omega
  have hs : t.val % 16 * 1024 + q.val = (col a s).val := by simp only [t, q, col]; omega
  have hs' : t.val % 4 * 1024 + q.val = s.val := by simp only [t, q]; omega
  have ha' : t.val % 16 / 4 = a.val := by simp only [t]; omega
  have ha := (dats m 0 c).arrAt_emb_eq_flushed 2 disjoint2 t (hf t) (ix3 0 p q)
  have e : ((cfg0.win 2).blk t).view.emb (ix3 0 p q) = ix3 a r s := by
    blk_ext [index_2]
  rw [e] at ha
  refine ha.trans ?_
  blk_simp
  rw [after0_2]
  unfold outsAt0
  rw [out_A]
  simp only [blk_0 m c t r p _ hr, blk_1 m c t a s q _ hs]
  rw [← h0, ← h1]

open Cert.ReferenceGwFf1Ideal.Read

/-- The region finds the arguments. -/
theorem entry_0 : (V m c (Pipeline.arrRef spec0 0) : S4096x4096.Idx → EReal) = m ((c : Thread nD τ).loc main_arg0) := by
  unfold V; after_reads_simp; rfl
theorem entry_1 : (V m c (Pipeline.arrRef spec0 1) : S4096x16384.Idx → EReal) = m ((c : Thread nD τ).loc main_arg2) := by
  unfold V; after_reads_simp; rfl

/-! ## The reference -/

theorem reference (x0 : S4096x4096.Idx → EReal) (x2 : S4096x16384.Idx → EReal) :
    val_main_v5 (F := Ideal) x0 x2 (ix3 a r s) = ∑ k : Fin 4096, x0 (ix2 k r) * x2 (ix2 k (col a s)) := by
  have h : val_main_v2 (F := Ideal) x0 x2 (ix2 r (col a s)) = ∑ k : Fin 4096, x0 (ix2 k r) * x2 (ix2 k (col a s)) := by
    rw [val_main_v2_apply, val_main_v1_apply]
    refine Finset.sum_congr rfl fun k _ => (mul_comm _ _).trans ?_
    have e0 : lidx_main_v1 (idx_main_v2 (ix2 r (col a s))) k = ix2 k (col a s) := by funext b; fin_cases b <;> rfl
    have e1 : ridx_main_v1 (idx_main_v2 (ix2 r (col a s))) k = ix2 k r := by funext b; fin_cases b <;> rfl
    rw [e0, e1]
  have e : idx_main_v3 (idx_main_v4 (ix3 a r s)) = ix2 r (col a s) := by
    funext b
    fin_cases b
    · refine Fin.ext ?_
      show ((r.val * 4 + a.val) * 4096 + s.val) / 16384 = r.val
      omega
    · refine Fin.ext ?_
      show ((r.val * 4 + a.val) * 4096 + s.val) % 16384 = a.val * 4096 + s.val
      omega
  rw [← h, val_main_v5_apply, val_main_v4_apply, val_main_v3_apply, e]
  rfl

/-- The two programs' arrays are equal. -/
theorem equal : (dats m 0 c).arrAt 2 cfg0.N
    = val_main_v5 (F := Ideal) (m ((c : Thread nD τ).loc main_arg0)) (m ((c : Thread nD τ).loc main_arg2)) := by
  funext i
  obtain ⟨a, r, s, rfl⟩ : ∃ (a : Fin 4) (r s : Fin 4096), i = ix3 a r s :=
    ⟨i 0, i 1, i 2, by funext b; fin_cases b <;> rfl⟩
  exact (final m c a r s _ _ (entry_0 m c) (entry_1 m c)).trans (reference a r s _ _).symm

end Cert.Proof.GwFf1

end
-- ==== Proof.Dff1.lean ====
/-
  THE GRADIENT BY THE MLP'S INPUT: the kernel's call, which adds four parts of the product in its scratch, against the
  derivative of the lines of the reference.
-/
module

public import proofs.«01_k».proof.Proof.Gen.KernelDff1Ideal.Value
public import proofs.«01_k».proof.Proof.Gen.ReferenceDff1Ideal.Run
public import proofs.«01_k».proof.Proof.Gen.ReferenceDff1Ideal.Read
public import proofs.«01_k».proof.Proof.Products

@[expose] public section

noncomputable section

namespace Cert.Proof.Dff1

open Idealize.ShloMosaic Idealize.ShloMosaic.TcCoe Idealize.ShloMosaic.Tactic Idealize.ShloMosaic.ValueKit
open Idealize.SL Idealize.SL.Sem
open Cert.KernelDff1Ideal Cert.KernelDff1Ideal.Gen Cert.KernelDff1Ideal.Value Cert.Proof.Products

/-! ## One point -/

/-- A block of one part of the product. -/
def part (x : Vec Ideal S1024x4096 .bf16) (w : Vec Ideal S1x1024x4096 .bf16) (p q : Fin 1024) : EReal :=
  ∑ k : Fin 4096, x (ix2 p k) * w (ix3 0 q k)

theorem pay1_apply (x : Vec Ideal S1024x4096 .bf16) (w : Vec Ideal S1x1024x4096 .bf16) (p q : Fin 1024) :
    k0_pay1 (F := Ideal) x w (ix2 p q) = part x w p q := by
  unfold k0_pay1 part
  pointwise

/-- The first point of a block puts its part into the scratch. -/
theorem sout_A (c : Dev nD) (i : grid0.Coords) (a3 h3 a4 h4 a5 h5 a6 h6 g0 g1 g2)
    (x : Vec Ideal S1024x4096 .bf16) (w : Vec Ideal S1x1024x4096 .bf16) (p q : Fin 1024) :
    sout0_A_0 c i a3 h3 a4 h4 a5 h5 a6 h6 g0 g1 g2 x w (ix2 p q) = part x w p q := by
  unfold sout0_A_0
  rw [View.read_writes_eq_canon _ _ _ (scover0_A_0 c i a3 h3 a4 h4 a5 h5 a6 h6 g0 g1 g2 x w)]
  unfold kernelRun0_A
  dsimp only
  rw [View.canon_unit_zero hz]
  unfold k0_pay2
  simp only [View.readAt_eq_ld, h3.read_unread, h4.read_unread, View.ld_unit_zero (S := S1024x4096) hz,
    View.ld_unit_zero (S := S1x1024x4096) hz3, shapeCast_self]
  exact pay1_apply x w p q

/-- A later point adds its part to the scratch. -/
theorem sout_B (c : Dev nD) (i : grid0.Coords) (a3 h3 a4 h4 a5 h5 a6 h6 g0 g1 g2)
    (x : Vec Ideal S1024x4096 .bf16) (w : Vec Ideal S1x1024x4096 .bf16) (y : Vec Ideal S1024x1024 .f32) (p q : Fin 1024) :
    sout0_B_0 c i a3 h3 a4 h4 a5 h5 a6 h6 g0 g1 g2 x w y (ix2 p q) = y (ix2 p q) + part x w p q := by
  unfold sout0_B_0
  rw [View.read_writes_eq_canon _ _ _ (scover0_B_0 c i a3 h3 a4 h4 a5 h5 a6 h6 g0 g1 g2 x w y)]
  unfold kernelRun0_B
  dsimp only
  rw [View.canon_unit_zero hz]
  unfold k0_pay3
  simp only [View.readAt_eq_ld, h3.read_unread, h4.read_unread, h6.read_unread, View.ld_unit_zero (S := S1024x4096) hz,
    View.ld_unit_zero (S := S1x1024x4096) hz3, View.ld_unit_zero (S := S1024x1024) hz, shapeCast_self]
  rw [← pay1_apply x w p q]
  rfl

/-- The last point of a block writes the sum. -/
theorem out_C (c : Dev nD) (i : grid0.Coords) (a3 h3 a4 h4 a5 h5 a6 h6 g0 g1 g2)
    (x : Vec Ideal S1024x4096 .bf16) (w : Vec Ideal S1x1024x4096 .bf16) (y : Vec Ideal S1024x1024 .f32) (p q : Fin 1024) :
    out0_C_2 c i a3 h3 a4 h4 a5 h5 a6 h6 g0 g1 g2 x w y (ix2 p q) = y (ix2 p q) + part x w p q := by
  unfold out0_C_2
  rw [View.read_writes_eq_canon _ _ _ (cover0_C_2 c i a3 h3 a4 h4 a5 h5 a6 h6 g0 g1 g2 x w y)]
  unfold kernelRun0_C
  dsimp only
  rw [View.canon_unit_zero hz]
  sl_unfold_words
  rw [View.readCov_unit_zero _ hz]
  unfold k0_pay3
  simp only [View.readAt_eq_ld, h3.read_unread, h4.read_unread, h6.read_unread, View.ld_unit_zero (S := S1024x4096) hz,
    View.ld_unit_zero (S := S1x1024x4096) hz3, View.ld_unit_zero (S := S1024x1024) hz, shapeCast_self]
  rw [← pay1_apply x w p q]
  rfl

/-! ## The four points of a block -/

variable (m : (ℓ : Loc nD τ sig) → Buf (Elt Ideal) ℓ) (c : Dev nD)

/-- What the point `t` adds. -/
def partAt (t : Fin cfg0.N) (p q : Fin 1024) : EReal := part (iblk m c 0 t) (iblk m c 1 t) p q

theorem step_A (t : Fin cfg0.N) (h : t.val % 4 = 0) (p q : Fin 1024) :
    (outsAt0 m c t.val t.isLt).2 (ix2 p q) = partAt m c t p q := by
  rw [outsAt0_A m c t h (by omega) (by omega)]
  dsimp only
  rw [sout_A]
  rfl

theorem step_B (t u : Fin cfg0.N) (hu : u.val + 1 = t.val) (h : 1 ≤ t.val % 4) (h' : t.val % 4 ≠ 3) (p q : Fin 1024) :
    (outsAt0 m c t.val t.isLt).2 (ix2 p q) = (outsAt0 m c u.val u.isLt).2 (ix2 p q) + partAt m c t p q := by
  rw [outsAt0_B m c t (by omega) h h']
  obtain ⟨u, h⟩ := u
  obtain rfl : u = t.val - 1 := by dsimp only at hu; omega
  dsimp only
  rw [sout_B]
  rfl

theorem step_C (t u : Fin cfg0.N) (hu : u.val + 1 = t.val) (h : t.val % 4 = 3) (p q : Fin 1024) :
    (outsAt0 m c t.val t.isLt).1 (ix2 p q) = (outsAt0 m c u.val u.isLt).2 (ix2 p q) + partAt m c t p q := by
  rw [outsAt0_C m c t (by omega) (by omega) h]
  obtain ⟨u, h⟩ := u
  obtain rfl : u = t.val - 1 := by dsimp only at hu; omega
  dsimp only
  rw [out_C]
  rfl

/-! ## The array -/

theorem index_0 : ∀ t : Fin cfg0.N, win0_0.index t = ![t.val / 16, t.val % 4] :=
  (by decide +kernel : ∀ t : Fin grid0.N, win0_0.index t = ![t.val / 16, t.val % 4])
theorem index_1 : ∀ t : Fin cfg0.N, win0_1.index t = ![t.val % 4, t.val / 4 % 4, 0] :=
  (by decide +kernel : ∀ t : Fin grid0.N, win0_1.index t = ![t.val % 4, t.val / 4 % 4, 0])
theorem index_2 : ∀ t : Fin cfg0.N, win0_2.index t = ![t.val / 16, t.val / 4 % 4] :=
  (by decide +kernel : ∀ t : Fin grid0.N, win0_2.index t = ![t.val / 16, t.val / 4 % 4])

/-- Two points that write back write different blocks. -/
theorem disjoint2 (t t' : Fin cfg0.N) (hf : (cfg0.win 2).flush t = true) (hf' : (cfg0.win 2).flush t' = true) (h : t ≠ t') :
    Disjoint ((cfg0.win 2).blk t).view.set ((cfg0.win 2).blk t').view.set := by
  refine (cfg0.win 2).disjoint_blk fun e => h (Fin.ext ?_)
  have e' : win0_2.index t = win0_2.index t' := e
  rw [index_2 t, index_2 t'] at e'
  have e0 := congrFun e' 0
  have e1 := congrFun e' 1
  have f := (flush0_2 t).mp hf
  have f' := (flush0_2 t').mp hf'
  simp only [Matrix.cons_val_zero, Matrix.cons_val_one] at e0 e1
  omega

variable (t : Fin cfg0.N) (a : Fin 4) (r s : Fin 4096) (p q : Fin 1024)

theorem blk_0 (k : Fin 4096) (ha : t.val % 4 = a.val) (hr : t.val / 16 * 1024 + p.val = r.val) :
    iblk m c 0 t (ix2 p k) = V m c (Pipeline.arrRef spec0 0) (ix2 r (col a k)) := by
  blk_simp [iblk]
  refine congrArg (V m c _) ?_
  have := (col a k).isLt
  have e : (col a k).val = a.val * 4096 + k.val := rfl
  blk_ext [index_0]

theorem blk_1 (k : Fin 4096) (ha : t.val % 4 = a.val) (hs : t.val / 4 % 4 * 1024 + q.val = s.val) :
    iblk m c 1 t (ix3 0 q k) = V m c (Pipeline.arrRef spec0 1) (ix3 a s k) := by
  blk_simp [iblk]
  refine congrArg (V m c _) ?_
  blk_ext [index_1]

theorem partAt_eq (X : S4096x16384.Idx → EReal) (W : S4x4096x4096.Idx → EReal)
    (h0 : V m c (Pipeline.arrRef spec0 0) = X) (h1 : V m c (Pipeline.arrRef spec0 1) = W)
    (ha : t.val % 4 = a.val) (hr : t.val / 16 * 1024 + p.val = r.val) (hs : t.val / 4 % 4 * 1024 + q.val = s.val) :
    partAt m c t p q = ∑ k : Fin 4096, X (ix2 r (col a k)) * W (ix3 a s k) := by
  unfold partAt part
  simp only [blk_0 m c t a r p _ ha hr, blk_1 m c t a s q _ ha hs]
  rw [← h0, ← h1]

/-- The call's array, from the arrays that its region finds. -/
theorem final (X : S4096x16384.Idx → EReal) (W : S4x4096x4096.Idx → EReal) (w : S4096x16384.Idx → EReal)
    (h0 : V m c (Pipeline.arrRef spec0 0) = X) (h1 : V m c (Pipeline.arrRef spec0 1) = W)
    (hw : ∀ a s k, W (ix3 a s k) = w (ix2 s (col a k))) :
    (dats m 0 c).arrAt 2 cfg0.N (ix2 r s) = ∑ k : Fin 16384, X (ix2 r k) * w (ix2 s k) := by
  let t (a : Fin 4) : Fin cfg0.N := ⟨r.val / 1024 * 16 + s.val / 1024 * 4 + a.val, by show _ < 64; omega⟩
  let p : Fin 1024 := ⟨r.val % 1024, by omega⟩
  let q : Fin 1024 := ⟨s.val % 1024, by omega⟩
  have ht : ∀ a, (t a).val % 4 = a.val := fun a => by simp only [t]; omega
  have hr : ∀ a, (t a).val / 16 * 1024 + p.val = r.val := fun a => by simp only [t, p]; omega
  have hs : ∀ a, (t a).val / 4 % 4 * 1024 + q.val = s.val := fun a => by simp only [t, q]; omega
  have hp : ∀ a, partAt m c (t a) p q = ∑ k : Fin 4096, X (ix2 r (col a k)) * w (ix2 s (col a k)) := fun a => by
    rw [partAt_eq m c (t a) a r s p q X W h0 h1 (ht a) (hr a) (hs a)]
    simp only [hw]
  have ha := (dats m 0 c).arrAt_emb_eq_flushed 2 disjoint2 (t 3) ((flush0_2 (t 3)).mpr (ht 3)) (ix2 p q)
  have hr3 := hr 3
  have hs3 := hs 3
  have e : ((cfg0.win 2).blk (t 3)).view.emb (ix2 p q) = ix2 r s := by
    blk_ext [index_2]
  rw [e] at ha
  refine ha.trans ?_
  blk_simp
  rw [after0_2, step_C m c (t 3) (t 2) rfl (ht 3), step_B m c (t 2) (t 1) rfl (by rw [ht]; decide) (by rw [ht]; decide),
    step_B m c (t 1) (t 0) rfl (by rw [ht]; decide) (by rw [ht]; decide), step_A m c (t 0) (ht 0), hp, hp, hp, hp, sum_parts]

/-- The region finds the derivative, and the weight in four parts. -/
theorem entry_0 : (V m c (Pipeline.arrRef spec0 0) : S4096x16384.Idx → EReal) = m ((c : Thread nD τ).loc main_arg2) := by
  unfold V; after_reads_simp; rfl

theorem entry_1 (w : S4096x16384.Idx → EReal) (hw : m ((c : Thread nD τ).loc main_arg1) = w) (k : Fin 4096) :
    (V m c (Pipeline.arrRef spec0 1) : S4x4096x4096.Idx → EReal) (ix3 a s k) = w (ix2 s (col a k)) := by
  unfold V; after_reads_simp; rw [hw]
  pointwise
  rfl

/-! ## The reference -/

open Cert.ReferenceDff1Ideal.Read

theorem reference (x1 x2 : S4096x16384.Idx → EReal) :
    val_main_v1 (F := Ideal) x1 x2 (ix2 r s) = ∑ k : Fin 16384, x2 (ix2 r k) * x1 (ix2 s k) := by
  rw [val_main_v1_apply]
  refine Finset.sum_congr rfl fun k _ => ?_
  have e0 : lidx_main_v1 (ix2 r s) k = ix2 r k := by funext b; fin_cases b <;> rfl
  have e1 : ridx_main_v1 (ix2 r s) k = ix2 s k := by funext b; fin_cases b <;> rfl
  rw [e0, e1]

/-- The two programs' arrays are equal. -/
theorem equal : (dats m 0 c).arrAt 2 cfg0.N
    = val_main_v1 (F := Ideal) (m ((c : Thread nD τ).loc main_arg1)) (m ((c : Thread nD τ).loc main_arg2)) := by
  funext i
  obtain ⟨r, s, rfl⟩ : ∃ r s : Fin 4096, i = ix2 r s := ⟨i 0, i 1, by funext b; fin_cases b <;> rfl⟩
  exact (final m c r s _ _ _ (entry_0 m c) rfl (fun a s k => entry_1 m c a s _ rfl k)).trans (reference r s _ _).symm

end Cert.Proof.Dff1

end
-- ==== Proof.Norm.lean ====
/-
  THE GRADIENT OF A ROW'S NORM: the reciprocal root of the mean square, what the kernel computes of a row, what the
  derivative of the reference's lines is, and that the two agree. Sums over the tokens, by blocks of rows.
-/
module

public import proofs.«01_k».proof.Proof.Products

@[expose] public section

noncomputable section

namespace Cert.Proof.Norm

open Idealize.ShloMosaic

/-! ## The literals -/

/-- The number of lanes of a row, as the literal that both programs hold. -/
abbrev lanes : EReal := Ideal.ofBits .f32 0x45800000#32
/-- The number of lanes of one half of the mixer's output. -/
abbrev lanesHalf : EReal := Ideal.ofBits .f32 0x45000000#32
/-- The small number that is added to the mean square. -/
abbrev eps : EReal := Ideal.ofBits .f32 0x358637BD#32
/-- The reference's factor of minus one half. -/
abbrev minusHalf : EReal := Ideal.ofBits .f32 0xBF000000#32
/-- The number one. -/
abbrev one : EReal := Ideal.ofBits .f32 0x3F800000#32

theorem lanes_eq : lanes = ((4096 : ℝ) : EReal) := by
  unfold lanes Ideal.ofBits Ideal.ieee
  simp
  rw [← EReal.coe_mul]
  norm_num

theorem lanesHalf_eq : lanesHalf = ((2048 : ℝ) : EReal) := by
  unfold lanesHalf Ideal.ofBits Ideal.ieee
  simp
  rw [← EReal.coe_mul]
  norm_num

theorem minusHalf_eq : minusHalf = ((-1 / 2 : ℝ) : EReal) := by
  unfold minusHalf Ideal.ofBits Ideal.ieee
  simp
  rw [← EReal.coe_mul]
  norm_num

theorem one_eq : one = ((1 : ℝ) : EReal) := by
  unfold one Ideal.ofBits Ideal.ieee
  simp
  rw [← EReal.coe_mul, ← EReal.coe_one]
  norm_num

theorem eps_eq : ∃ e : ℝ, 0 < e ∧ eps = (e : EReal) := by
  unfold eps Ideal.ofBits Ideal.ieee
  simp
  exact ⟨_, by positivity, rfl⟩

/-! ## One row -/

section Row

variable {n : ℕ} (L : EReal)

/-- The mean square of a row of `L` lanes, and the small number. -/
def meanSqBy (x : Fin n → EReal) : EReal := Ideal.div (∑ k, x k * x k) L + eps
/-- The reciprocal root of the mean square of a row. -/
def rstdBy (x : Fin n → EReal) : EReal := Ideal.rsqrt (meanSqBy L x)
/-- The kernel's gradient of a row's norm, of the derivative `a` by the normed row. -/
def backBy (x a : Fin n → EReal) (q : Fin n) : EReal :=
  rstdBy L x * (a q - x q * rstdBy L x * Ideal.div (∑ k, a k * (x k * rstdBy L x)) L)
/-- The reference's factor that the mean square sends back. -/
def throughBy (x a : Fin n → EReal) : EReal :=
  Ideal.div ((∑ k, x k * a k) * (minusHalf * Ideal.div (rstdBy L x) (meanSqBy L x))) L

end Row

/-- The same of a row as wide as the model. -/
abbrev meanSq (x : Fin 4096 → EReal) : EReal := meanSqBy lanes x
abbrev rstd (x : Fin 4096 → EReal) : EReal := rstdBy lanes x
abbrev back (x a : Fin 4096 → EReal) (q : Fin 4096) : EReal := backBy lanes x a q
abbrev through (x a : Fin 4096 → EReal) : EReal := throughBy lanes x a

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- A row's mean square, with the small number, is above zero. -/
theorem meanSqBy_pos {n : ℕ} {L : EReal} {l : ℝ} (hL : L = (l : EReal)) (hl : 0 < l) (x : Fin n → EReal) : 0 < meanSqBy L x := by
  obtain ⟨e, he, hE⟩ := eps_eq
  unfold meanSqBy
  rw [hL, hE, Ideal.div_coe hl.ne']
  refine lt_of_lt_of_le (EReal.coe_pos.mpr he) (le_add_of_nonneg_left (mul_nonneg ?_ (EReal.coe_nonneg.mpr (by positivity))))
  exact Finset.sum_nonneg fun k _ => mul_self_nonneg' _

theorem mul_add_real (r : ℝ) (h : 0 ≤ r) (x y : EReal) : (r : EReal) * (x + y) = r * x + r * y :=
  EReal.left_distrib_of_nonneg_of_ne_top (EReal.coe_nonneg.mpr h) (EReal.coe_ne_top r) x y

theorem mul_sum_real (r : ℝ) (h : 0 ≤ r) {ι : Type} (s : Finset ι) (f : ι → EReal) : (r : EReal) * ∑ k ∈ s, f k = ∑ k ∈ s, r * f k := by
  classical
  induction s using Finset.induction_on with
  | empty => simp
  | insert a s ha ih => rw [Finset.sum_insert ha, Finset.sum_insert ha, mul_add_real r h, ih]

/-- The reference's gradient of a row is the kernel's, with what arrives beside the norm: the two equal halves that the mean square
    sends back are the kernel's one term. Where the mean square is infinite, nothing comes back in either. -/
theorem backBy_eq {n : ℕ} {L : EReal} {l : ℝ} (hL : L = (l : EReal)) (hl : 0 < l) (x a : Fin n → EReal) (d : EReal) (q : Fin n) :
    d + a q * rstdBy L x + x q * throughBy L x a + throughBy L x a * x q = d + backBy L x a q := by
  have hpos := meanSqBy_pos hL hl x
  unfold backBy throughBy rstdBy
  generalize meanSqBy L x = m at hpos ⊢
  rw [hL, minusHalf_eq, Ideal.div_coe hl.ne', Ideal.div_coe hl.ne']
  induction m with
  | bot => exact absurd hpos (by simp)
  | top => simp [Ideal.div]
  | coe v =>
    have hv : 0 < v := EReal.coe_pos.mp hpos
    have hs : Real.sqrt v * Real.sqrt v = v := Real.mul_self_sqrt hv.le
    have hs0 : 0 < Real.sqrt v := Real.sqrt_pos.mpr hv
    rw [Ideal.rsqrt_coe, if_neg hv.not_gt, if_neg hv.ne', Ideal.div_coe hv.ne']
    generalize Real.sqrt v = w at hs hs0
    have h1 : ∑ k, a k * (x k * ((w⁻¹ : ℝ) : EReal)) = ((w⁻¹ : ℝ) : EReal) * ∑ k, x k * a k := by
      rw [mul_sum_real _ (inv_pos.mpr hs0).le]
      exact Finset.sum_congr rfl fun k _ => by ac_rfl
    rw [h1]
    generalize ∑ k, x k * a k = S
    have hk : (0 : ℝ) ≤ w⁻¹ * (1 / v) * (1 / 2) * (1 / l) := by positivity
    -- one half
    have half : x q * (S * (((-1 / 2 : ℝ) : EReal) * (((w⁻¹ : ℝ) : EReal) * ((1 / v : ℝ) : EReal))) * ((1 / l : ℝ) : EReal))
        = ((w⁻¹ * (1 / v) * (1 / 2) * (1 / l) : ℝ) : EReal) * -(x q * S) := by
      rw [mul_neg, ← neg_mul, ← EReal.coe_neg]
      have : (-(w⁻¹ * (1 / v) * (1 / 2) * (1 / l)) : ℝ) = (-1 / 2) * (w⁻¹ * (1 / v)) * (1 / l) := by ring
      rw [this]
      simp only [EReal.coe_mul]
      ac_rfl
    -- the kernel's term
    have whole : ((w⁻¹ : ℝ) : EReal) * -(x q * ((w⁻¹ : ℝ) : EReal) * (((w⁻¹ : ℝ) : EReal) * S * ((1 / l : ℝ) : EReal)))
        = ((w⁻¹ * (1 / v) * (1 / l) : ℝ) : EReal) * -(x q * S) := by
      have : (w⁻¹ * (1 / v) * (1 / l) : ℝ) = w⁻¹ * w⁻¹ * w⁻¹ * (1 / l) := by
        subst hs
        field_simp
      rw [this, mul_neg, mul_neg]
      simp only [EReal.coe_mul]
      congr 1
      ac_rfl
    have two : ((w⁻¹ * (1 / v) * (1 / l) : ℝ) : EReal)
        = ((w⁻¹ * (1 / v) * (1 / 2) * (1 / l) : ℝ) : EReal) + ((w⁻¹ * (1 / v) * (1 / 2) * (1 / l) : ℝ) : EReal) := by
      rw [← EReal.coe_add]
      congr 1
      ring
    rw [mul_comm _ (x q), half, sub_eq_add_neg, mul_add_real _ (inv_pos.mpr hs0).le, whole, two,
      EReal.right_distrib_of_nonneg (EReal.coe_nonneg.mpr hk) (EReal.coe_nonneg.mpr hk), mul_comm (a q)]
    simp only [add_assoc]

theorem back_eq (x a : Fin 4096 → EReal) (d : EReal) (q : Fin 4096) :
    d + a q * rstd x + x q * through x a + through x a * x q = d + back x a q :=
  backBy_eq lanes_eq (by norm_num) x a d q

/-! ## Sums over the tokens -/

/-- The token in row `p` of block `n`. -/
def token (n : Fin 32) (p : Fin 128) : Fin 4096 := ⟨n.val * 128 + p.val, by omega⟩

/-- A sum that starts with the first block's rows and takes one block after the other ends as the sum over all tokens. -/
theorem sum_blocks (f : Fin 4096 → EReal) (acc : (n : ℕ) → n < 32 → EReal)
    (h0 : acc 0 (by decide) = ∑ p, f (token 0 p))
    (hs : ∀ n (h : n + 1 < 32), acc (n + 1) h = acc n (by omega) + ∑ p, f (token ⟨n + 1, h⟩ p)) :
    acc 31 (by decide) = ∑ k, f k := by
  have h : ∀ n (hn : n < 32), acc n hn = ∑ b : Fin (n + 1), ∑ p, f (token ⟨b.val, by omega⟩ p) := by
    intro n
    induction n with
    | zero => intro _; rw [h0, Fin.sum_univ_one]; rfl
    | succ n ih => intro hn; rw [hs n hn, ih (by omega), Fin.sum_univ_castSucc (n := n + 1)]; rfl
  rw [h 31 (by omega), ← Fintype.sum_prod_type' (f := fun (b : Fin 32) p => f (token b p))]
  refine Fintype.sum_equiv (finProdFinEquiv (m := 32) (n := 128)) _ _ fun y => congrArg f (Fin.ext ?_)
  show y.1.val * 128 + y.2.val = y.2.val + 128 * y.1.val
  omega

/-- The same of what the points of a grid leave. -/
theorem sum_points {N : ℕ} (hN : N = 32) (f : Fin 4096 → EReal) (acc : (n : ℕ) → n < N → EReal)
    (first : ∀ (t : Fin N) (b : Fin 32), t.val % 32 = 0 → t.val = b.val → acc t.val t.isLt = ∑ p, f (token b p))
    (next : ∀ (t u : Fin N) (b : Fin 32), ¬ t.val % 32 = 0 → u.val + 1 = t.val → t.val = b.val →
      acc t.val t.isLt = acc u.val u.isLt + ∑ p, f (token b p))
    (t : Fin N) (ht : t.val = 31) : acc t.val t.isLt = ∑ k, f k := by
  subst hN
  obtain rfl : t = ⟨31, by decide⟩ := Fin.ext ht
  exact sum_blocks f acc (first ⟨0, by decide⟩ 0 rfl rfl)
    fun n h => next ⟨n + 1, h⟩ ⟨n, by omega⟩ ⟨n + 1, h⟩ (by dsimp only; omega) rfl rfl

end Cert.Proof.Norm

end
-- ==== Proof.Norm1.lean ====
/-
  THE GRADIENT OF THE FIRST ADAPTIVE NORM: the kernel's call, which adds the gradients by the vectors over the blocks of
  rows, against the derivative of the lines of the reference.
-/
module

public import proofs.«01_k».proof.Proof.Gen.KernelNorm1Ideal.Value
public import proofs.«01_k».proof.Proof.Gen.ReferenceNorm1Ideal.Run
public import proofs.«01_k».proof.Proof.Gen.ReferenceNorm1Ideal.Read
public import proofs.«01_k».proof.Proof.Norm

@[expose] public section

noncomputable section

namespace Cert.Proof.Norm1

open Idealize.ShloMosaic Idealize.ShloMosaic.TcCoe Idealize.ShloMosaic.Tactic Idealize.ShloMosaic.ValueKit
open Idealize.SL Idealize.SL.Sem
open Cert.KernelNorm1Ideal Cert.KernelNorm1Ideal.Gen Cert.KernelNorm1Ideal.Value Cert.Proof.Products Cert.Proof.Norm

/-! ## One point -/

section Point

variable (x dh d : Vec Ideal S128x4096 .f32) (g sc acc : Vec Ideal S1x4096 .f32) (p : Fin 128) (q : Fin 4096)

/-- A row's reciprocal root. -/
def rs : EReal := rstd fun k => x (ix2 p k)

theorem pay7_apply : k0_pay7 (F := Ideal) x (ix2 p 0) = rs x p := by
  unfold k0_pay7 rs rstd rstdBy meanSqBy
  pointwise

theorem pay8_apply : k0_pay8 (F := Ideal) x (ix2 p q) = x (ix2 p q) * rs x p := by
  rw [← pay7_apply]
  unfold k0_pay8
  generalize k0_pay7 (F := Ideal) x = y
  pointwise

theorem pay9_apply : k0_pay9 (F := Ideal) dh acc (ix2 0 q) = acc (ix2 0 q) + ∑ p : Fin 128, dh (ix2 p q) := by
  unfold k0_pay9
  pointwise

theorem pay10_apply : k0_pay10 (F := Ideal) x dh acc g (ix2 0 q)
    = acc (ix2 0 q) + ∑ p : Fin 128, dh (ix2 p q) * (x (ix2 p q) * rs x p) * g (ix2 0 q) := by
  unfold k0_pay10
  have e := pay8_apply x
  generalize k0_pay8 (F := Ideal) x = y at e ⊢
  pointwise
  simp only [e]

theorem pay1_apply : k0_pay1 (F := Ideal) dh sc one (ix2 p q) = dh (ix2 p q) * (1 + sc (ix2 0 q)) := by
  unfold k0_pay1
  pointwise

theorem pay2_apply : k0_pay2 (F := Ideal) dh (k0_pay8 x) sc one acc (ix2 0 q)
    = acc (ix2 0 q) + ∑ p : Fin 128, dh (ix2 p q) * (1 + sc (ix2 0 q)) * (x (ix2 p q) * rs x p) := by
  unfold k0_pay2
  have e := pay8_apply x
  have e' := pay1_apply dh sc
  generalize k0_pay8 (F := Ideal) x = y at e ⊢
  generalize k0_pay1 (F := Ideal) dh sc _ = z at e' ⊢
  pointwise
  simp only [e, e']

theorem pay3_apply : k0_pay3 (F := Ideal) dh (k0_pay7 x) (k0_pay8 x) sc one d g (ix2 p q)
    = d (ix2 p q) + back (fun k => x (ix2 p k)) (fun k => dh (ix2 p k) * (1 + sc (ix2 0 k)) * g (ix2 0 k)) q := by
  unfold k0_pay3
  have e := pay8_apply x
  have e' := pay1_apply dh sc
  have e'' := pay7_apply x
  generalize k0_pay8 (F := Ideal) x = y at e ⊢
  generalize k0_pay7 (F := Ideal) x = r at e'' ⊢
  generalize k0_pay1 (F := Ideal) dh sc _ = z at e' ⊢
  pointwise
  simp only [e, e', e'']
  rfl

end Point

/-! ## One point's outputs -/

section Out

variable (c : Dev nD) (i : grid0.Coords)
  (a1 : Memref sig .tc .vmem S128x4096 .f32) (h1 : a1.IsWhole) (a2 : Memref sig .tc .vmem S128x4096 .f32) (h2 : a2.IsWhole)
  (a3 : Memref sig .tc .vmem S128x4096 .f32) (h3 : a3.IsWhole) (a4 : Memref sig .tc .vmem S1x4096 .f32) (h4 : a4.IsWhole)
  (a5 : Memref sig .tc .vmem S1x4096 .f32) (h5 : a5.IsWhole) (a6 : Memref sig .tc .vmem S128x4096 .f32) (h6 : a6.IsWhole)
  (a7 : Memref sig .tc .vmem S1x4096 .f32) (h7 : a7.IsWhole) (a8 : Memref sig .tc .vmem S1x4096 .f32) (h8 : a8.IsWhole)
  (a9 : Memref sig .tc .vmem S1x4096 .f32) (h9 : a9.IsWhole)
  (x dh d : Vec Ideal S128x4096 .f32) (g sc y6 y7 y8 : Vec Ideal S1x4096 .f32) (p : Fin 128) (q : Fin 4096)

theorem out_A_6 (g0 : cond0_0 i) :
    out0_A_6 c i a1 h1 a2 h2 a3 h3 a4 h4 a5 h5 a6 h6 a7 h7 a8 h8 a9 h9 g0 x dh d g sc (ix2 0 q) = ∑ p : Fin 128, dh (ix2 p q) := by
  unfold out0_A_6
  rw [View.read_writes_eq_canon _ _ _ (cover0_A_6 c i a1 h1 a2 h2 a3 h3 a4 h4 a5 h5 a6 h6 a7 h7 a8 h8 a9 h9 g0 x dh d g sc)]
  unfold kernelRun0_A
  dsimp only
  sl_unfold_words
  rw [View.canon_cons_unit_zero hz, View.readCov_unit_zero _ hz, pay9_apply]
  simp only [View.readAt_eq_ld, h2.read_unread, View.ld_unit_zero (S := S128x4096) hz]
  unfold k0_pay4
  pointwise

theorem out_A_7 (g0 : cond0_0 i) :
    out0_A_7 c i a1 h1 a2 h2 a3 h3 a4 h4 a5 h5 a6 h6 a7 h7 a8 h8 a9 h9 g0 x dh d g sc (ix2 0 q)
      = ∑ p : Fin 128, dh (ix2 p q) * (x (ix2 p q) * rs x p) * g (ix2 0 q) := by
  unfold out0_A_7
  rw [View.read_writes_eq_canon _ _ _ (cover0_A_7 c i a1 h1 a2 h2 a3 h3 a4 h4 a5 h5 a6 h6 a7 h7 a8 h8 a9 h9 g0 x dh d g sc)]
  unfold kernelRun0_A
  dsimp only
  sl_unfold_words
  rw [View.canon_cons_unit_zero hz, View.readCov_unit_zero _ hz, pay10_apply]
  simp only [View.readAt_eq_ld, h1.read_unread, h2.read_unread, h4.read_unread, View.ld_unit_zero (S := S128x4096) hz,
    View.ld_unit_zero (S := S1x4096) hz]
  unfold k0_pay5
  pointwise

theorem out_A_8 (g0 : cond0_0 i) :
    out0_A_8 c i a1 h1 a2 h2 a3 h3 a4 h4 a5 h5 a6 h6 a7 h7 a8 h8 a9 h9 g0 x dh d g sc (ix2 0 q)
      = ∑ p : Fin 128, dh (ix2 p q) * (1 + sc (ix2 0 q)) * (x (ix2 p q) * rs x p) := by
  unfold out0_A_8
  rw [View.read_writes_eq_canon _ _ _ (cover0_A_8 c i a1 h1 a2 h2 a3 h3 a4 h4 a5 h5 a6 h6 a7 h7 a8 h8 a9 h9 g0 x dh d g sc)]
  unfold kernelRun0_A
  dsimp only
  sl_unfold_words
  rw [View.canon_cons_unit_zero hz, View.readCov_unit_zero _ hz]
  simp only [View.readAt_eq_ld, h1.read_unread, h2.read_unread, h5.read_unread, View.ld_unit_zero (S := S128x4096) hz,
    View.ld_unit_zero (S := S1x4096) hz]
  refine (pay2_apply ..).trans ?_
  unfold k0_pay6
  pointwise

theorem out_A_5 (g0 : cond0_0 i) :
    out0_A_5 c i a1 h1 a2 h2 a3 h3 a4 h4 a5 h5 a6 h6 a7 h7 a8 h8 a9 h9 g0 x dh d g sc (ix2 p q)
      = d (ix2 p q) + back (fun k => x (ix2 p k)) (fun k => dh (ix2 p k) * (1 + sc (ix2 0 k)) * g (ix2 0 k)) q := by
  unfold out0_A_5
  rw [View.read_writes_eq_canon _ _ _ (cover0_A_5 c i a1 h1 a2 h2 a3 h3 a4 h4 a5 h5 a6 h6 a7 h7 a8 h8 a9 h9 g0 x dh d g sc)]
  unfold kernelRun0_A
  dsimp only
  sl_unfold_words
  rw [View.canon_cons_unit_zero hz]
  simp only [View.readAt_eq_ld, h1.read_unread, h2.read_unread, h3.read_unread, h4.read_unread, h5.read_unread,
    View.ld_unit_zero (S := S128x4096) hz, View.ld_unit_zero (S := S1x4096) hz]
  exact pay3_apply ..

theorem out_B_6 (g0 : ¬ cond0_0 i) :
    out0_B_6 c i a1 h1 a2 h2 a3 h3 a4 h4 a5 h5 a6 h6 a7 h7 a8 h8 a9 h9 g0 x dh d g sc y6 y7 y8 (ix2 0 q)
      = y6 (ix2 0 q) + ∑ p : Fin 128, dh (ix2 p q) := by
  unfold out0_B_6
  rw [View.read_writes_eq_canon _ _ _
    (cover0_B_6 c i a1 h1 a2 h2 a3 h3 a4 h4 a5 h5 a6 h6 a7 h7 a8 h8 a9 h9 g0 x dh d g sc y6 y7 y8)]
  unfold kernelRun0_B
  dsimp only
  sl_unfold_words
  rw [View.canon_cons_unit_zero hz]
  simp only [View.readAt_eq_ld, h2.read_unread, h7.read_unread, View.ld_unit_zero (S := S128x4096) hz,
    View.ld_unit_zero (S := S1x4096) hz]
  exact pay9_apply ..

theorem out_B_7 (g0 : ¬ cond0_0 i) :
    out0_B_7 c i a1 h1 a2 h2 a3 h3 a4 h4 a5 h5 a6 h6 a7 h7 a8 h8 a9 h9 g0 x dh d g sc y6 y7 y8 (ix2 0 q)
      = y7 (ix2 0 q) + ∑ p : Fin 128, dh (ix2 p q) * (x (ix2 p q) * rs x p) * g (ix2 0 q) := by
  unfold out0_B_7
  rw [View.read_writes_eq_canon _ _ _
    (cover0_B_7 c i a1 h1 a2 h2 a3 h3 a4 h4 a5 h5 a6 h6 a7 h7 a8 h8 a9 h9 g0 x dh d g sc y6 y7 y8)]
  unfold kernelRun0_B
  dsimp only
  sl_unfold_words
  rw [View.canon_cons_unit_zero hz]
  simp only [View.readAt_eq_ld, h1.read_unread, h2.read_unread, h4.read_unread, h8.read_unread,
    View.ld_unit_zero (S := S128x4096) hz, View.ld_unit_zero (S := S1x4096) hz]
  exact pay10_apply ..

theorem out_B_8 (g0 : ¬ cond0_0 i) :
    out0_B_8 c i a1 h1 a2 h2 a3 h3 a4 h4 a5 h5 a6 h6 a7 h7 a8 h8 a9 h9 g0 x dh d g sc y6 y7 y8 (ix2 0 q)
      = y8 (ix2 0 q) + ∑ p : Fin 128, dh (ix2 p q) * (1 + sc (ix2 0 q)) * (x (ix2 p q) * rs x p) := by
  unfold out0_B_8
  rw [View.read_writes_eq_canon _ _ _
    (cover0_B_8 c i a1 h1 a2 h2 a3 h3 a4 h4 a5 h5 a6 h6 a7 h7 a8 h8 a9 h9 g0 x dh d g sc y6 y7 y8)]
  unfold kernelRun0_B
  dsimp only
  sl_unfold_words
  rw [View.canon_cons_unit_zero hz]
  simp only [View.readAt_eq_ld, h1.read_unread, h2.read_unread, h5.read_unread, h9.read_unread,
    View.ld_unit_zero (S := S128x4096) hz, View.ld_unit_zero (S := S1x4096) hz]
  exact pay2_apply ..

theorem out_B_5 (g0 : ¬ cond0_0 i) :
    out0_B_5 c i a1 h1 a2 h2 a3 h3 a4 h4 a5 h5 a6 h6 a7 h7 a8 h8 a9 h9 g0 x dh d g sc y6 y7 y8 (ix2 p q)
      = d (ix2 p q) + back (fun k => x (ix2 p k)) (fun k => dh (ix2 p k) * (1 + sc (ix2 0 k)) * g (ix2 0 k)) q := by
  unfold out0_B_5
  rw [View.read_writes_eq_canon _ _ _
    (cover0_B_5 c i a1 h1 a2 h2 a3 h3 a4 h4 a5 h5 a6 h6 a7 h7 a8 h8 a9 h9 g0 x dh d g sc y6 y7 y8)]
  unfold kernelRun0_B
  dsimp only
  sl_unfold_words
  rw [View.canon_cons_unit_zero hz]
  simp only [View.readAt_eq_ld, h1.read_unread, h2.read_unread, h3.read_unread, h4.read_unread, h5.read_unread,
    View.ld_unit_zero (S := S128x4096) hz, View.ld_unit_zero (S := S1x4096) hz]
  exact pay3_apply ..

end Out

/-! ## The points of the grid -/

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 0] :=
  (by decide +kernel : ∀ t : Fin grid0.N, win0_1.index t = ![t.val, 0])
theorem index_2 : ∀ t : Fin cfg0.N, win0_2.index t = ![t.val, 0] :=
  (by decide +kernel : ∀ t : Fin grid0.N, win0_2.index t = ![t.val, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![t.val, 0] :=
  (by decide +kernel : ∀ t : Fin grid0.N, win0_5.index t = ![t.val, 0])
theorem index_6 : ∀ t : Fin cfg0.N, win0_6.index t = ![0, 0] :=
  (by decide +kernel : ∀ t : Fin grid0.N, win0_6.index t = ![0, 0])
theorem index_7 : ∀ t : Fin cfg0.N, win0_7.index t = ![0, 0] :=
  (by decide +kernel : ∀ t : Fin grid0.N, win0_7.index t = ![0, 0])
theorem index_8 : ∀ t : Fin cfg0.N, win0_8.index t = ![0, 0] :=
  (by decide +kernel : ∀ t : Fin grid0.N, win0_8.index t = ![0, 0])

/-- Only the last point writes back an output that all points add to. -/
theorem one_flush (t t' : Fin cfg0.N) (h : t.val % 32 = 31) (h' : t'.val % 32 = 31) : t = t' := by
  have := t.isLt; have := t'.isLt
  have : cfg0.N = 32 := by decide
  exact Fin.ext (by omega)
theorem disjoint6 (t t' : Fin cfg0.N) (hf : (cfg0.win 6).flush t = true) (hf' : (cfg0.win 6).flush t' = true) (h : t ≠ t') :
    Disjoint ((cfg0.win 6).blk t).view.set ((cfg0.win 6).blk t').view.set :=
  absurd (one_flush t t' ((flush0_6 t).mp hf) ((flush0_6 t').mp hf')) h
theorem disjoint7 (t t' : Fin cfg0.N) (hf : (cfg0.win 7).flush t = true) (hf' : (cfg0.win 7).flush t' = true) (h : t ≠ t') :
    Disjoint ((cfg0.win 7).blk t).view.set ((cfg0.win 7).blk t').view.set :=
  absurd (one_flush t t' ((flush0_7 t).mp hf) ((flush0_7 t').mp hf')) h
theorem disjoint8 (t t' : Fin cfg0.N) (hf : (cfg0.win 8).flush t = true) (hf' : (cfg0.win 8).flush t' = true) (h : t ≠ t') :
    Disjoint ((cfg0.win 8).blk t).view.set ((cfg0.win 8).blk t').view.set :=
  absurd (one_flush t t' ((flush0_8 t).mp hf) ((flush0_8 t').mp hf')) h

section Arrays

variable (m : (ℓ : Loc nD τ sig) → Buf (Elt Ideal) ℓ) (c : Dev nD)
variable (X DH D : S4096x4096.Idx → EReal) (G SC : S1x4096.Idx → EReal)
variable (h0 : V m c (Pipeline.arrRef spec0 0) = X) (h1 : V m c (Pipeline.arrRef spec0 1) = DH)
  (h2 : V m c (Pipeline.arrRef spec0 2) = D) (h3 : V m c (Pipeline.arrRef spec0 3) = G) (h4 : V m c (Pipeline.arrRef spec0 4) = SC)
variable (t : Fin cfg0.N) (p : Fin 128) (r k q : Fin 4096)

include h0 in
theorem blk_0 (hr : t.val * 128 + p.val = r.val) : iblk m c 0 t (ix2 p k) = X (ix2 r k) := by
  rw [← h0]
  blk_simp [iblk]
  refine congrArg (V m c _) ?_
  blk_ext [index_0]

include h1 in
theorem blk_1 (hr : t.val * 128 + p.val = r.val) : iblk m c 1 t (ix2 p k) = DH (ix2 r k) := by
  rw [← h1]
  blk_simp [iblk]
  refine congrArg (V m c _) ?_
  blk_ext [index_1]

include h2 in
theorem blk_2 (hr : t.val * 128 + p.val = r.val) : iblk m c 2 t (ix2 p k) = D (ix2 r k) := by
  rw [← h2]
  blk_simp [iblk]
  refine congrArg (V m c _) ?_
  blk_ext [index_2]

include h3 in
theorem blk_3 : iblk m c 3 t (ix2 0 k) = G (ix2 0 k) := by
  rw [← h3]
  blk_simp [iblk]
  refine congrArg (V m c _) ?_
  blk_ext [index_3]

include h4 in
theorem blk_4 : iblk m c 4 t (ix2 0 k) = SC (ix2 0 k) := by
  rw [← h4]
  blk_simp [iblk]
  refine congrArg (V m c _) ?_
  blk_ext [index_4]

/-- The reciprocal root of a token's row. -/
def rt (X : S4096x4096.Idx → EReal) (r : Fin 4096) : EReal := rstd fun k => X (ix2 r k)

include h0 in
theorem rs_eq (hr : t.val * 128 + p.val = r.val) : rs (iblk m c 0 t) p = rt X r := by
  unfold rs rt
  simp only [blk_0 m c X h0 t p r _ hr]

/-- A token's gradient. -/
def rowGrad (X DH D : S4096x4096.Idx → EReal) (G SC : S1x4096.Idx → EReal) (r q : Fin 4096) : EReal :=
  D (ix2 r q) + back (fun k => X (ix2 r k)) (fun k => DH (ix2 r k) * (1 + SC (ix2 0 k)) * G (ix2 0 k)) q

include h0 h1 h2 h3 h4 in
theorem point_5 (hr : t.val * 128 + p.val = r.val) :
    (outsAt0 m c t.val t.isLt).1 (ix2 p q) = rowGrad X DH D G SC r q := by
  unfold rowGrad
  by_cases h : t.val % 32 = 0
  · rw [outsAt0_A m c t h]
    dsimp only
    rw [out_A_5]
    simp only [blk_0 m c X h0 t p r _ hr, blk_1 m c DH h1 t p r _ hr, blk_2 m c D h2 t p r _ hr, blk_3 m c G h3 t, blk_4 m c SC h4 t]
  · rw [outsAt0_B m c t h]
    dsimp only
    rw [out_B_5]
    simp only [blk_0 m c X h0 t p r _ hr, blk_1 m c DH h1 t p r _ hr, blk_2 m c D h2 t p r _ hr, blk_3 m c G h3 t, blk_4 m c SC h4 t]

include h0 h1 h2 h3 h4 in
theorem final_5 : (dats m 0 c).arrAt 5 cfg0.N (ix2 r q) = rowGrad X DH D G SC r q := by
  let t : Fin cfg0.N := ⟨r.val / 128, by show _ < 32; omega⟩
  let p : Fin 128 := ⟨r.val % 128, by omega⟩
  have hr : t.val * 128 + p.val = r.val := by simp only [t, p]; omega
  have ha := (dats m 0 c).arrAt_emb_eq_flushed 5 disjoint5 t (flush0_5 t) (ix2 p q)
  have e : ((cfg0.win 5).blk t).view.emb (ix2 p q) = ix2 r q := by
    blk_ext [index_5]
  rw [e] at ha
  refine ha.trans ?_
  blk_simp
  rw [after0_5]
  exact point_5 m c X DH D G SC h0 h1 h2 h3 h4 t p r q hr

/-! The three outputs by the vectors are sums over all tokens. -/

/-- What a token adds to the gradient by `g`'s scale, and by `g`. -/
def scaleTerm (X DH : S4096x4096.Idx → EReal) (G : S1x4096.Idx → EReal) (q k : Fin 4096) : EReal :=
  DH (ix2 k q) * (X (ix2 k q) * rt X k) * G (ix2 0 q)
def gTerm (X DH : S4096x4096.Idx → EReal) (SC : S1x4096.Idx → EReal) (q k : Fin 4096) : EReal :=
  DH (ix2 k q) * (1 + SC (ix2 0 q)) * (X (ix2 k q) * rt X k)

variable (u : Fin cfg0.N) (b : Fin 32)

include h1 in
theorem first_6 (ht : t.val % 32 = 0) (hb : t.val = b.val) :
    (outsAt0 m c t.val t.isLt).2.1 (ix2 0 q) = ∑ p, DH (ix2 (token b p) q) := by
  rw [outsAt0_A m c t ht]
  dsimp only
  rw [out_A_6]
  exact Finset.sum_congr rfl fun p _ => blk_1 m c DH h1 t p _ q (by rw [hb]; rfl)

include h1 in
theorem next_6 (ht : ¬ t.val % 32 = 0) (hu : u.val + 1 = t.val) (hb : t.val = b.val) :
    (outsAt0 m c t.val t.isLt).2.1 (ix2 0 q) = (outsAt0 m c u.val u.isLt).2.1 (ix2 0 q) + ∑ p, DH (ix2 (token b p) q) := by
  rw [outsAt0_B m c t ht]
  obtain ⟨u, h⟩ := u
  obtain rfl : u = t.val - 1 := by dsimp only at hu; omega
  dsimp only
  rw [out_B_6]
  exact congrArg _ (Finset.sum_congr rfl fun p _ => blk_1 m c DH h1 t p _ q (by rw [hb]; rfl))

include h0 h1 h3 in
theorem first_7 (ht : t.val % 32 = 0) (hb : t.val = b.val) :
    (outsAt0 m c t.val t.isLt).2.2.1 (ix2 0 q) = ∑ p, scaleTerm X DH G q (token b p) := by
  have e (p : Fin 128) : t.val * 128 + p.val = (token b p).val := by rw [hb]; rfl
  rw [outsAt0_A m c t ht]
  dsimp only
  rw [out_A_7]
  unfold scaleTerm
  simp only [fun p => blk_0 m c X h0 t p _ q (e p), fun p => blk_1 m c DH h1 t p _ q (e p), fun p => rs_eq m c X h0 t p _ (e p), blk_3 m c G h3 t q]

include h0 h1 h3 in
theorem next_7 (ht : ¬ t.val % 32 = 0) (hu : u.val + 1 = t.val) (hb : t.val = b.val) :
    (outsAt0 m c t.val t.isLt).2.2.1 (ix2 0 q)
      = (outsAt0 m c u.val u.isLt).2.2.1 (ix2 0 q) + ∑ p, scaleTerm X DH G q (token b p) := by
  have e (p : Fin 128) : t.val * 128 + p.val = (token b p).val := by rw [hb]; rfl
  rw [outsAt0_B m c t ht]
  obtain ⟨u, h⟩ := u
  obtain rfl : u = t.val - 1 := by dsimp only at hu; omega
  dsimp only
  rw [out_B_7]
  unfold scaleTerm
  simp only [fun p => blk_0 m c X h0 t p _ q (e p), fun p => blk_1 m c DH h1 t p _ q (e p), fun p => rs_eq m c X h0 t p _ (e p), blk_3 m c G h3 t q]

include h0 h1 h4 in
theorem first_8 (ht : t.val % 32 = 0) (hb : t.val = b.val) :
    (outsAt0 m c t.val t.isLt).2.2.2 (ix2 0 q) = ∑ p, gTerm X DH SC q (token b p) := by
  have e (p : Fin 128) : t.val * 128 + p.val = (token b p).val := by rw [hb]; rfl
  rw [outsAt0_A m c t ht]
  dsimp only
  rw [out_A_8]
  unfold gTerm
  simp only [fun p => blk_0 m c X h0 t p _ q (e p), fun p => blk_1 m c DH h1 t p _ q (e p), fun p => rs_eq m c X h0 t p _ (e p), blk_4 m c SC h4 t q]

include h0 h1 h4 in
theorem next_8 (ht : ¬ t.val % 32 = 0) (hu : u.val + 1 = t.val) (hb : t.val = b.val) :
    (outsAt0 m c t.val t.isLt).2.2.2 (ix2 0 q)
      = (outsAt0 m c u.val u.isLt).2.2.2 (ix2 0 q) + ∑ p, gTerm X DH SC q (token b p) := by
  have e (p : Fin 128) : t.val * 128 + p.val = (token b p).val := by rw [hb]; rfl
  rw [outsAt0_B m c t ht]
  obtain ⟨u, h⟩ := u
  obtain rfl : u = t.val - 1 := by dsimp only at hu; omega
  dsimp only
  rw [out_B_8]
  unfold gTerm
  simp only [fun p => blk_0 m c X h0 t p _ q (e p), fun p => blk_1 m c DH h1 t p _ q (e p), fun p => rs_eq m c X h0 t p _ (e p), blk_4 m c SC h4 t q]

theorem grid_N : cfg0.N = 32 := by decide

/-- The grid's last point. -/
def lastPoint : Fin cfg0.N := ⟨31, by decide⟩

include h1 in
theorem final_6 : (dats m 0 c).arrAt 6 cfg0.N (ix2 0 q) = ∑ k, DH (ix2 k q) := by
  have ha := (dats m 0 c).arrAt_emb_eq_flushed 6 disjoint6 lastPoint ((flush0_6 lastPoint).mpr rfl) (ix2 0 q)
  have e : ((cfg0.win 6).blk lastPoint).view.emb (ix2 0 q) = ix2 0 q := by
    blk_ext [index_6]
  rw [e] at ha
  refine ha.trans ?_
  blk_simp
  rw [after0_6]
  exact sum_points grid_N (fun k => DH (ix2 k q)) (fun n h => (outsAt0 m c n h).2.1 (ix2 0 q))
    (fun t b => first_6 m c DH h1 t q b) (fun t u b => next_6 m c DH h1 t q u b) lastPoint rfl

include h0 h1 h3 in
theorem final_7 : (dats m 0 c).arrAt 7 cfg0.N (ix2 0 q) = ∑ k, scaleTerm X DH G q k := by
  have ha := (dats m 0 c).arrAt_emb_eq_flushed 7 disjoint7 lastPoint ((flush0_7 lastPoint).mpr rfl) (ix2 0 q)
  have e : ((cfg0.win 7).blk lastPoint).view.emb (ix2 0 q) = ix2 0 q := by
    blk_ext [index_7]
  rw [e] at ha
  refine ha.trans ?_
  blk_simp
  rw [after0_7]
  exact sum_points grid_N (scaleTerm X DH G q) (fun n h => (outsAt0 m c n h).2.2.1 (ix2 0 q))
    (fun t b => first_7 m c X DH G h0 h1 h3 t q b) (fun t u b => next_7 m c X DH G h0 h1 h3 t q u b) lastPoint rfl

include h0 h1 h4 in
theorem final_8 : (dats m 0 c).arrAt 8 cfg0.N (ix2 0 q) = ∑ k, gTerm X DH SC q k := by
  have ha := (dats m 0 c).arrAt_emb_eq_flushed 8 disjoint8 lastPoint ((flush0_8 lastPoint).mpr rfl) (ix2 0 q)
  have e : ((cfg0.win 8).blk lastPoint).view.emb (ix2 0 q) = ix2 0 q := by
    blk_ext [index_8]
  rw [e] at ha
  refine ha.trans ?_
  blk_simp
  rw [after0_8]
  exact sum_points grid_N (gTerm X DH SC q) (fun n h => (outsAt0 m c n h).2.2.2 (ix2 0 q))
    (fun t b => first_8 m c X DH SC h0 h1 h4 t q b) (fun t u b => next_8 m c X DH SC h0 h1 h4 t q u b) lastPoint rfl

end Arrays

/-! ## The reference -/

section Reference

open Cert.ReferenceNorm1Ideal.Read

variable (x0 x1 x2 : S4096x4096.Idx → EReal) (x3 x4 : S1x4096.Idx → EReal) (r q : Fin 4096)

theorem ref_meanSq : val_main_v7 (F := Ideal) x0 (ix2 r 0) = meanSq fun k => x0 (ix2 r k) := by
  unfold val_main_v7 val_main_v6 val_main_cst_2 val_main_v5 val_main_v4 val_main_cst_1 val_main_v3 val_main_v2 val_main_cst_0 val_main_v1
  unfold meanSq meanSqBy
  pointwise

theorem ref_rstd : val_main_v8 (F := Ideal) x0 (ix2 r 0) = rt x0 r := by
  rw [val_main_v8_apply, ref_meanSq]
  rfl

theorem ref_normed : val_main_v13 (F := Ideal) x0 (ix2 r q) = x0 (ix2 r q) * rt x0 r := by
  have e := ref_rstd x0
  unfold val_main_v13 val_main_v12
  generalize val_main_v8 (F := Ideal) x0 = y at e ⊢
  pointwise
  rw [e]

theorem ref_same : val_main_v22 (F := Ideal) x1 = x1 := by
  unfold val_main_v22
  exact shapeCast_self _ _

theorem ref_6 : val_main_v24 (F := Ideal) x1 (ix2 0 q) = ∑ k, x1 (ix2 k q) := by
  unfold val_main_v24 val_main_v23 val_main_cst_5
  pointwise

theorem ref_7 : val_main_v27 (F := Ideal) x0 x1 x3 (ix2 0 q) = ∑ k, scaleTerm x0 x1 x3 q k := by
  have e := ref_normed x0
  have e' := ref_same x1
  unfold val_main_v27 val_main_v26 val_main_cst_6 val_main_v25 val_main_v15 val_main_v14
  generalize val_main_v13 (F := Ideal) x0 = y at e ⊢
  pointwise
  simp only [e, e']
  exact Finset.sum_congr rfl fun k _ => by unfold scaleTerm; ac_rfl

theorem ref_modulated : val_main_v29 (F := Ideal) x1 x4 (ix2 r q) = x1 (ix2 r q) * (1 + x4 (ix2 0 q)) := by
  have e := ref_same x1
  unfold val_main_v29 val_main_v28 val_main_v17 val_main_v16 val_main_cst_4
  pointwise
  rw [e]

theorem ref_8 : val_main_v32 (F := Ideal) x0 x1 x4 (ix2 0 q) = ∑ k, gTerm x0 x1 x4 q k := by
  have e := ref_normed x0
  have e' := ref_modulated x1 x4
  unfold val_main_v32 val_main_v31 val_main_cst_7 val_main_v30
  generalize val_main_v13 (F := Ideal) x0 = y at e ⊢
  generalize val_main_v29 (F := Ideal) x1 x4 = z at e' ⊢
  pointwise
  simp only [e, e']
  exact Finset.sum_congr rfl fun k _ => by unfold gTerm; ac_rfl

/-- The derivative by the normed row. -/
theorem ref_scaled : val_main_v34 (F := Ideal) x1 x3 x4 (ix2 r q) = x1 (ix2 r q) * (1 + x4 (ix2 0 q)) * x3 (ix2 0 q) := by
  have e' := ref_modulated x1 x4
  unfold val_main_v34 val_main_v33
  generalize val_main_v29 (F := Ideal) x1 x4 = z at e' ⊢
  pointwise
  rw [e']

theorem ref_through : val_main_v45 (F := Ideal) x0 x1 x3 x4 (ix2 r q)
    = through (fun k => x0 (ix2 r k)) fun k => x1 (ix2 r k) * (1 + x4 (ix2 0 k)) * x3 (ix2 0 k) := by
  have e := ref_scaled x1 x3 x4
  have e' := ref_rstd x0
  have e'' := ref_meanSq x0
  unfold val_main_v45 val_main_v44 val_main_cst_10 val_main_v43 val_main_v42 val_main_cst_9 val_main_v41 val_main_v37 val_main_v36
    val_main_cst_8 val_main_v35 val_main_v11 val_main_v10 val_main_cst_3 val_main_v9
  generalize val_main_v34 (F := Ideal) x1 x3 x4 = z at e ⊢
  generalize val_main_v8 (F := Ideal) x0 = y at e' ⊢
  generalize val_main_v7 (F := Ideal) x0 = w at e'' ⊢
  pointwise
  simp only [Fin.sum_univ_one, e, e', e'']
  rfl

theorem ref_5 : val_main_v49 (F := Ideal) x0 x1 x2 x3 x4 (ix2 r q)
    = x2 (ix2 r q) + x1 (ix2 r q) * (1 + x4 (ix2 0 q)) * x3 (ix2 0 q) * rt x0 r
        + x0 (ix2 r q) * through (fun k => x0 (ix2 r k)) (fun k => x1 (ix2 r k) * (1 + x4 (ix2 0 k)) * x3 (ix2 0 k))
        + through (fun k => x0 (ix2 r k)) (fun k => x1 (ix2 r k) * (1 + x4 (ix2 0 k)) * x3 (ix2 0 k)) * x0 (ix2 r q) := by
  have e := ref_scaled x1 x3 x4
  have e' := ref_rstd x0
  have e'' := ref_through x0 x1 x3 x4
  unfold val_main_v49 val_main_v48 val_main_v47 val_main_v46 val_main_v40 val_main_v39 val_main_v38
  generalize val_main_v34 (F := Ideal) x1 x3 x4 = z at e ⊢
  generalize val_main_v8 (F := Ideal) x0 = y at e' ⊢
  generalize val_main_v45 (F := Ideal) x0 x1 x3 x4 = w at e'' ⊢
  pointwise
  simp only [e, e', e'']

/-- The reference's gradient of a token is the kernel's. -/
theorem ref_row : val_main_v49 (F := Ideal) x0 x1 x2 x3 x4 (ix2 r q) = rowGrad x0 x1 x2 x3 x4 r q := by
  rw [ref_5]
  exact back_eq (fun k => x0 (ix2 r k)) (fun k => x1 (ix2 r k) * (1 + x4 (ix2 0 k)) * x3 (ix2 0 k)) (x2 (ix2 r q)) q

end Reference

/-! ## The arrays are equal -/

section Equal

variable (m : (ℓ : Loc nD τ sig) → Buf (Elt Ideal) ℓ) (c : Dev nD)

theorem entry_0 : (V m c (Pipeline.arrRef spec0 0) : S4096x4096.Idx → EReal) = m ((c : Thread nD τ).loc main_arg0) := by
  unfold V; after_reads_simp
theorem entry_1 : (V m c (Pipeline.arrRef spec0 1) : S4096x4096.Idx → EReal) = m ((c : Thread nD τ).loc main_arg1) := by
  unfold V; after_reads_simp
theorem entry_2 : (V m c (Pipeline.arrRef spec0 2) : S4096x4096.Idx → EReal) = m ((c : Thread nD τ).loc main_arg2) := by
  unfold V; after_reads_simp
theorem entry_3 : (V m c (Pipeline.arrRef spec0 3) : S1x4096.Idx → EReal) = m ((c : Thread nD τ).loc main_arg3) := by
  unfold V; after_reads_simp
theorem entry_4 : (V m c (Pipeline.arrRef spec0 4) : S1x4096.Idx → EReal) = m ((c : Thread nD τ).loc main_arg4) := by
  unfold V; after_reads_simp

open Cert.ReferenceNorm1Ideal.Read

variable (x0 x1 x2 : S4096x4096.Idx → EReal) (x3 x4 : S1x4096.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4)

include e0 e1 e2 e3 e4 in
theorem equal_5 :
    (dats m 0 c).arrAt 5 cfg0.N = val_main_v49 (F := Ideal) x0 x1 x2 x3 x4 := by
  funext i
  obtain ⟨r, s, rfl⟩ : ∃ r s : Fin 4096, i = ix2 r s := ⟨i 0, i 1, by funext b; fin_cases b <;> rfl⟩
  refine Eq.trans ?_ (ref_row x0 x1 x2 x3 x4 r s).symm
  exact final_5 m c x0 x1 x2 x3 x4 ((entry_0 m c).trans e0) ((entry_1 m c).trans e1) ((entry_2 m c).trans e2) ((entry_3 m c).trans e3)
    ((entry_4 m c).trans e4) r s

theorem vector (i : S1x4096.Idx) : ∃ s : Fin 4096, i = ix2 0 s :=
  ⟨i 1, by funext b; fin_cases b; exacts [Fin.ext (Nat.lt_one_iff.mp (i 0).isLt), rfl]⟩

include e1 in
theorem equal_6 : (dats m 0 c).arrAt 6 cfg0.N = val_main_v24 (F := Ideal) x1 := by
  funext i
  obtain ⟨s, rfl⟩ := vector i
  exact (final_6 m c x1 ((entry_1 m c).trans e1) s).trans (ref_6 x1 s).symm

include e0 e1 e3 in
theorem equal_7 : (dats m 0 c).arrAt 7 cfg0.N = val_main_v27 (F := Ideal) x0 x1 x3 := by
  funext i
  obtain ⟨s, rfl⟩ := vector i
  exact (final_7 m c x0 x1 x3 ((entry_0 m c).trans e0) ((entry_1 m c).trans e1) ((entry_3 m c).trans e3) s).trans (ref_7 x0 x1 x3 s).symm

include e0 e1 e4 in
theorem equal_8 : (dats m 0 c).arrAt 8 cfg0.N = val_main_v32 (F := Ideal) x0 x1 x4 := by
  funext i
  obtain ⟨s, rfl⟩ := vector i
  exact (final_8 m c x0 x1 x4 ((entry_0 m c).trans e0) ((entry_1 m c).trans e1) ((entry_4 m c).trans e4) s).trans (ref_8 x0 x1 x4 s).symm

end Equal

end Cert.Proof.Norm1

end
-- ==== Proof.Norm2.lean ====
/-
  THE GRADIENT OF THE SECOND ADAPTIVE NORM: as of the first, with the gate behind it. What the two calls share is reused
  from the first one's modules.
-/
module

public import proofs.«01_k».proof.Proof.Gen.KernelNorm2Ideal.Value
public import proofs.«01_k».proof.Proof.Gen.ReferenceNorm2Ideal.Run
public import proofs.«01_k».proof.Proof.Gen.ReferenceNorm2Ideal.Read
public import proofs.«01_k».proof.Proof.Norm1

@[expose] public section

noncomputable section

namespace Cert.Proof.Norm2

open Idealize.ShloMosaic Idealize.ShloMosaic.TcCoe Idealize.ShloMosaic.Tactic Idealize.ShloMosaic.ValueKit
open Idealize.SL Idealize.SL.Sem
open Cert.KernelNorm2Ideal Cert.KernelNorm2Ideal.Gen Cert.KernelNorm2Ideal.Value Cert.Proof.Products Cert.Proof.Norm
open Cert.Proof.Norm1 (rs rt scaleTerm gTerm rowGrad)

/-! ## One point -/

section Point

variable (x dh d mo : Vec Ideal S128x4096 .f32) (g sc gt acc : Vec Ideal S1x4096 .f32) (p : Fin 128) (q : Fin 4096)

/-- The gradient that a point computes of a row. -/
def blkGrad (x dh d : Vec Ideal S128x4096 .f32) (g sc : Vec Ideal S1x4096 .f32) (p : Fin 128) (q : Fin 4096) : EReal :=
  d (ix2 p q) + back (fun k => x (ix2 p k)) (fun k => dh (ix2 p k) * (1 + sc (ix2 0 k)) * g (ix2 0 k)) q

theorem pay8_apply : k0_pay8 (F := Ideal) dh acc (ix2 0 q) = acc (ix2 0 q) + ∑ p : Fin 128, dh (ix2 p q) :=
  Norm1.pay9_apply dh acc q

theorem pay9_apply : k0_pay9 (F := Ideal) x dh acc g (ix2 0 q)
    = acc (ix2 0 q) + ∑ p : Fin 128, dh (ix2 p q) * (x (ix2 p q) * rs x p) * g (ix2 0 q) :=
  Norm1.pay10_apply x dh g acc q

theorem pay11_apply : k0_pay11 (F := Ideal) dh (k0_pay7 x) sc one acc (ix2 0 q)
    = acc (ix2 0 q) + ∑ p : Fin 128, dh (ix2 p q) * (1 + sc (ix2 0 q)) * (x (ix2 p q) * rs x p) :=
  Norm1.pay2_apply x dh sc acc q

theorem pay12_apply : k0_pay12 (F := Ideal) dh (k0_pay6 x) (k0_pay7 x) sc one d g (ix2 p q) = blkGrad x dh d g sc p q :=
  Norm1.pay3_apply x dh d g sc p q

theorem pay1_apply : k0_pay1 (F := Ideal) (k0_pay12 dh (k0_pay6 x) (k0_pay7 x) sc one d g) gt (ix2 p q)
    = blkGrad x dh d g sc p q * gt (ix2 0 q) := by
  have e := pay12_apply x dh d g sc
  unfold k0_pay1
  generalize k0_pay12 (F := Ideal) dh (k0_pay6 x) (k0_pay7 x) sc one d g = y at e ⊢
  pointwise
  rw [e]

theorem pay13_apply : k0_pay13 (F := Ideal) dh (k0_pay6 x) (k0_pay7 x) sc one d g acc mo (ix2 0 q)
    = acc (ix2 0 q) + ∑ p : Fin 128, blkGrad x dh d g sc p q * mo (ix2 p q) := by
  have e := pay12_apply x dh d g sc
  unfold k0_pay13
  generalize k0_pay12 (F := Ideal) dh (k0_pay6 x) (k0_pay7 x) sc one d g = y at e ⊢
  pointwise
  simp only [e]

end Point

/-! ## One point's outputs -/

section Out

variable (c : Dev nD) (i : grid0.Coords)
  (a1 : Memref sig .tc .vmem S128x4096 .f32) (h1 : a1.IsWhole) (a2 : Memref sig .tc .vmem S128x4096 .f32) (h2 : a2.IsWhole)
  (a3 : Memref sig .tc .vmem S128x4096 .f32) (h3 : a3.IsWhole) (a4 : Memref sig .tc .vmem S128x4096 .f32) (h4 : a4.IsWhole)
  (a5 : Memref sig .tc .vmem S1x4096 .f32) (h5 : a5.IsWhole) (a6 : Memref sig .tc .vmem S1x4096 .f32) (h6 : a6.IsWhole)
  (a7 : Memref sig .tc .vmem S1x4096 .f32) (h7 : a7.IsWhole) (a8 : Memref sig .tc .vmem S128x4096 .f32) (h8 : a8.IsWhole)
  (a9 : Memref sig .tc .vmem S128x4096 .bf16) (h9 : a9.IsWhole) (a10 : Memref sig .tc .vmem S1x4096 .f32) (h10 : a10.IsWhole)
  (a11 : Memref sig .tc .vmem S1x4096 .f32) (h11 : a11.IsWhole) (a12 : Memref sig .tc .vmem S1x4096 .f32) (h12 : a12.IsWhole)
  (a13 : Memref sig .tc .vmem S1x4096 .f32) (h13 : a13.IsWhole)
  (x dh d mo : Vec Ideal S128x4096 .f32) (g sc gt y9 y10 y11 y12 : Vec Ideal S1x4096 .f32) (p : Fin 128) (q : Fin 4096)

/-- At the first point: the four sums start at zero. -/
theorem outs_A (g0 : cond0_0 i) :
    out0_A_7 c i a1 h1 a2 h2 a3 h3 a4 h4 a5 h5 a6 h6 a7 h7 a8 h8 a9 h9 a10 h10 a11 h11 a12 h12 a13 h13 g0 x dh d mo g sc gt
        = k0_pay12 dh (k0_pay6 x) (k0_pay7 x) sc one d g
      ∧ out0_A_8 c i a1 h1 a2 h2 a3 h3 a4 h4 a5 h5 a6 h6 a7 h7 a8 h8 a9 h9 a10 h10 a11 h11 a12 h12 a13 h13 g0 x dh d mo g sc gt
        = k0_pay1 (k0_pay12 dh (k0_pay6 x) (k0_pay7 x) sc one d g) gt
      ∧ out0_A_9 c i a1 h1 a2 h2 a3 h3 a4 h4 a5 h5 a6 h6 a7 h7 a8 h8 a9 h9 a10 h10 a11 h11 a12 h12 a13 h13 g0 x dh d mo g sc gt
        = k0_pay8 dh (k0_pay2 (F := Ideal))
      ∧ out0_A_10 c i a1 h1 a2 h2 a3 h3 a4 h4 a5 h5 a6 h6 a7 h7 a8 h8 a9 h9 a10 h10 a11 h11 a12 h12 a13 h13 g0 x dh d mo g sc gt
        = k0_pay9 x dh (k0_pay3 (F := Ideal)) g
      ∧ out0_A_11 c i a1 h1 a2 h2 a3 h3 a4 h4 a5 h5 a6 h6 a7 h7 a8 h8 a9 h9 a10 h10 a11 h11 a12 h12 a13 h13 g0 x dh d mo g sc gt
        = k0_pay11 dh (k0_pay7 x) sc one (k0_pay4 (F := Ideal))
      ∧ out0_A_12 c i a1 h1 a2 h2 a3 h3 a4 h4 a5 h5 a6 h6 a7 h7 a8 h8 a9 h9 a10 h10 a11 h11 a12 h12 a13 h13 g0 x dh d mo g sc gt
        = k0_pay13 dh (k0_pay6 x) (k0_pay7 x) sc one d g (k0_pay5 (F := Ideal)) mo := by
  refine ⟨(View.read_writes_eq_canon _ _ _ (cover0_A_7 c i a1 h1 a2 h2 a3 h3 a4 h4 a5 h5 a6 h6 a7 h7 a8 h8 a9 h9 a10 h10 a11 h11 a12 h12 a13 h13 g0 x dh d mo g sc gt)).trans ?_,
    (View.read_writes_eq_canon _ _ _ (cover0_A_8 c i a1 h1 a2 h2 a3 h3 a4 h4 a5 h5 a6 h6 a7 h7 a8 h8 a9 h9 a10 h10 a11 h11 a12 h12 a13 h13 g0 x dh d mo g sc gt)).trans ?_,
    (View.read_writes_eq_canon _ _ _ (cover0_A_9 c i a1 h1 a2 h2 a3 h3 a4 h4 a5 h5 a6 h6 a7 h7 a8 h8 a9 h9 a10 h10 a11 h11 a12 h12 a13 h13 g0 x dh d mo g sc gt)).trans ?_,
    (View.read_writes_eq_canon _ _ _ (cover0_A_10 c i a1 h1 a2 h2 a3 h3 a4 h4 a5 h5 a6 h6 a7 h7 a8 h8 a9 h9 a10 h10 a11 h11 a12 h12 a13 h13 g0 x dh d mo g sc gt)).trans ?_,
    (View.read_writes_eq_canon _ _ _ (cover0_A_11 c i a1 h1 a2 h2 a3 h3 a4 h4 a5 h5 a6 h6 a7 h7 a8 h8 a9 h9 a10 h10 a11 h11 a12 h12 a13 h13 g0 x dh d mo g sc gt)).trans ?_,
    (View.read_writes_eq_canon _ _ _ (cover0_A_12 c i a1 h1 a2 h2 a3 h3 a4 h4 a5 h5 a6 h6 a7 h7 a8 h8 a9 h9 a10 h10 a11 h11 a12 h12 a13 h13 g0 x dh d mo g sc gt)).trans ?_⟩
  all_goals
    unfold kernelRun0_A
    dsimp only
    sl_unfold_words
    rw [View.canon_cons_unit_zero hz]
    try rw [View.readCov_unit_zero _ hz]
    simp only [View.readAt_eq_ld, h1.read_unread, h2.read_unread, h3.read_unread, h4.read_unread, h5.read_unread, h6.read_unread,
      h7.read_unread, View.ld_unit_zero (S := S128x4096) hz, View.ld_unit_zero (S := S1x4096) hz]
    try rfl

/-- At a later point: the four sums continue. -/
theorem outs_B (g0 : ¬ cond0_0 i) :
    out0_B_7 c i a1 h1 a2 h2 a3 h3 a4 h4 a5 h5 a6 h6 a7 h7 a8 h8 a9 h9 a10 h10 a11 h11 a12 h12 a13 h13 g0 x dh d mo g sc gt y9 y10 y11 y12
        = k0_pay12 dh (k0_pay6 x) (k0_pay7 x) sc one d g
      ∧ out0_B_8 c i a1 h1 a2 h2 a3 h3 a4 h4 a5 h5 a6 h6 a7 h7 a8 h8 a9 h9 a10 h10 a11 h11 a12 h12 a13 h13 g0 x dh d mo g sc gt y9 y10 y11 y12
        = k0_pay1 (k0_pay12 dh (k0_pay6 x) (k0_pay7 x) sc one d g) gt
      ∧ out0_B_9 c i a1 h1 a2 h2 a3 h3 a4 h4 a5 h5 a6 h6 a7 h7 a8 h8 a9 h9 a10 h10 a11 h11 a12 h12 a13 h13 g0 x dh d mo g sc gt y9 y10 y11 y12
        = k0_pay8 dh y9
      ∧ out0_B_10 c i a1 h1 a2 h2 a3 h3 a4 h4 a5 h5 a6 h6 a7 h7 a8 h8 a9 h9 a10 h10 a11 h11 a12 h12 a13 h13 g0 x dh d mo g sc gt y9 y10 y11 y12
        = k0_pay9 x dh y10 g
      ∧ out0_B_11 c i a1 h1 a2 h2 a3 h3 a4 h4 a5 h5 a6 h6 a7 h7 a8 h8 a9 h9 a10 h10 a11 h11 a12 h12 a13 h13 g0 x dh d mo g sc gt y9 y10 y11 y12
        = k0_pay11 dh (k0_pay7 x) sc one y11
      ∧ out0_B_12 c i a1 h1 a2 h2 a3 h3 a4 h4 a5 h5 a6 h6 a7 h7 a8 h8 a9 h9 a10 h10 a11 h11 a12 h12 a13 h13 g0 x dh d mo g sc gt y9 y10 y11 y12
        = k0_pay13 dh (k0_pay6 x) (k0_pay7 x) sc one d g y12 mo := by
  refine ⟨(View.read_writes_eq_canon _ _ _ (cover0_B_7 c i a1 h1 a2 h2 a3 h3 a4 h4 a5 h5 a6 h6 a7 h7 a8 h8 a9 h9 a10 h10 a11 h11 a12 h12 a13 h13 g0 x dh d mo g sc gt y9 y10 y11 y12)).trans ?_,
    (View.read_writes_eq_canon _ _ _ (cover0_B_8 c i a1 h1 a2 h2 a3 h3 a4 h4 a5 h5 a6 h6 a7 h7 a8 h8 a9 h9 a10 h10 a11 h11 a12 h12 a13 h13 g0 x dh d mo g sc gt y9 y10 y11 y12)).trans ?_,
    (View.read_writes_eq_canon _ _ _ (cover0_B_9 c i a1 h1 a2 h2 a3 h3 a4 h4 a5 h5 a6 h6 a7 h7 a8 h8 a9 h9 a10 h10 a11 h11 a12 h12 a13 h13 g0 x dh d mo g sc gt y9 y10 y11 y12)).trans ?_,
    (View.read_writes_eq_canon _ _ _ (cover0_B_10 c i a1 h1 a2 h2 a3 h3 a4 h4 a5 h5 a6 h6 a7 h7 a8 h8 a9 h9 a10 h10 a11 h11 a12 h12 a13 h13 g0 x dh d mo g sc gt y9 y10 y11 y12)).trans ?_,
    (View.read_writes_eq_canon _ _ _ (cover0_B_11 c i a1 h1 a2 h2 a3 h3 a4 h4 a5 h5 a6 h6 a7 h7 a8 h8 a9 h9 a10 h10 a11 h11 a12 h12 a13 h13 g0 x dh d mo g sc gt y9 y10 y11 y12)).trans ?_,
    (View.read_writes_eq_canon _ _ _ (cover0_B_12 c i a1 h1 a2 h2 a3 h3 a4 h4 a5 h5 a6 h6 a7 h7 a8 h8 a9 h9 a10 h10 a11 h11 a12 h12 a13 h13 g0 x dh d mo g sc gt y9 y10 y11 y12)).trans ?_⟩
  all_goals
    unfold kernelRun0_B
    dsimp only
    sl_unfold_words
    rw [View.canon_cons_unit_zero hz]
    simp only [View.readAt_eq_ld, h1.read_unread, h2.read_unread, h3.read_unread, h4.read_unread, h5.read_unread, h6.read_unread,
      h7.read_unread, h10.read_unread, h11.read_unread, h12.read_unread, h13.read_unread, View.ld_unit_zero (S := S128x4096) hz,
      View.ld_unit_zero (S := S1x4096) hz]
    try rfl

theorem zero_2 : k0_pay2 (F := Ideal) (ix2 0 q) = 0 := by unfold k0_pay2; pointwise

/-- The four zeros are one constant. -/
theorem zeros : k0_pay3 (F := Ideal) = k0_pay2 ∧ k0_pay4 (F := Ideal) = k0_pay2 ∧ k0_pay5 (F := Ideal) = k0_pay2 := ⟨rfl, rfl, rfl⟩

end Out

/-! ## The points of the grid -/

theorem index_rows : ∀ t : Fin cfg0.N, win0_0.index t = ![t.val, 0] ∧ win0_1.index t = ![t.val, 0] ∧ win0_2.index t = ![t.val, 0]
      ∧ win0_3.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0]
      ∧ win0_3.index t = ![t.val, 0] ∧ win0_7.index t = ![t.val, 0] ∧ win0_8.index t = ![t.val, 0])
theorem index_vectors : ∀ t : Fin cfg0.N, win0_4.index t = ![0, 0] ∧ win0_5.index t = ![0, 0] ∧ win0_6.index t = ![0, 0]
      ∧ win0_9.index t = ![0, 0] ∧ win0_10.index t = ![0, 0] ∧ win0_11.index t = ![0, 0] ∧ win0_12.index t = ![0, 0] :=
  (by decide +kernel : ∀ t : Fin grid0.N, win0_4.index t = ![0, 0] ∧ win0_5.index t = ![0, 0] ∧ win0_6.index t = ![0, 0]
      ∧ win0_9.index t = ![0, 0] ∧ win0_10.index t = ![0, 0] ∧ win0_11.index t = ![0, 0] ∧ win0_12.index t = ![0, 0])

/-- Only the last point writes back an output that all points add to. -/
theorem one_flush (t t' : Fin cfg0.N) (h : t.val % 32 = 31) (h' : t'.val % 32 = 31) : t = t' := by
  have := t.isLt; have := t'.isLt
  have : cfg0.N = 32 := by decide
  exact Fin.ext (by omega)

section Arrays

variable (m : (ℓ : Loc nD τ sig) → Buf (Elt Ideal) ℓ) (c : Dev nD)

/-- What the call's region finds in its operands. -/
structure Finds (X DH D MO : S4096x4096.Idx → EReal) (G SC GT : S1x4096.Idx → EReal) : Prop where
  h0 : V m c (Pipeline.arrRef spec0 0) = X
  h1 : V m c (Pipeline.arrRef spec0 1) = DH
  h2 : V m c (Pipeline.arrRef spec0 2) = D
  h3 : V m c (Pipeline.arrRef spec0 3) = MO
  h4 : V m c (Pipeline.arrRef spec0 4) = G
  h5 : V m c (Pipeline.arrRef spec0 5) = SC
  h6 : V m c (Pipeline.arrRef spec0 6) = GT

variable {X DH D MO : S4096x4096.Idx → EReal} {G SC GT : S1x4096.Idx → EReal} (H : Finds m c X DH D MO G SC GT)
variable (t : Fin cfg0.N) (p : Fin 128) (r k q : Fin 4096)
include H

/-- The rows of a point's blocks. -/
theorem rows (hr : t.val * 128 + p.val = r.val) : iblk m c 0 t (ix2 p k) = X (ix2 r k) ∧ iblk m c 1 t (ix2 p k) = DH (ix2 r k)
    ∧ iblk m c 2 t (ix2 p k) = D (ix2 r k) ∧ iblk m c 3 t (ix2 p k) = MO (ix2 r k) := by
  obtain ⟨i0, i1, i2, i3, _⟩ := index_rows t
  rw [← H.h0, ← H.h1, ← H.h2, ← H.h3]
  refine ⟨?_, ?_, ?_, ?_⟩
  all_goals
    blk_simp [iblk]
    refine congrArg (V m c _) ?_
  · blk_ext [i0]
  · blk_ext [i1]
  · blk_ext [i2]
  · blk_ext [i3]

/-- The vectors are in every point's blocks. -/
theorem vectors : iblk m c 4 t (ix2 0 k) = G (ix2 0 k) ∧ iblk m c 5 t (ix2 0 k) = SC (ix2 0 k) ∧ iblk m c 6 t (ix2 0 k) = GT (ix2 0 k) := by
  obtain ⟨i4, i5, i6, _⟩ := index_vectors t
  rw [← H.h4, ← H.h5, ← H.h6]
  refine ⟨?_, ?_, ?_⟩
  all_goals
    blk_simp [iblk]
    refine congrArg (V m c _) ?_
  · blk_ext [i4]
  · blk_ext [i5]
  · blk_ext [i6]

theorem blkGrad_eq (hr : t.val * 128 + p.val = r.val) :
    blkGrad (iblk m c 0 t) (iblk m c 1 t) (iblk m c 2 t) (iblk m c 4 t) (iblk m c 5 t) p q = rowGrad X DH D G SC r q := by
  unfold blkGrad rowGrad
  simp only [(rows m c H t p r _ hr).1, (rows m c H t p r _ hr).2.1, (rows m c H t p r _ hr).2.2.1, (vectors m c H t _).1, (vectors m c H t _).2.1]

theorem rs_eq (hr : t.val * 128 + p.val = r.val) : rs (iblk m c 0 t) p = rt X r := by
  unfold rs rt
  simp only [(rows m c H t p r _ hr).1]

/-- What every point writes of its rows. -/
theorem point_rows (hr : t.val * 128 + p.val = r.val) :
    (outsAt0 m c t.val t.isLt).1 (ix2 p q) = rowGrad X DH D G SC r q
      ∧ (outsAt0 m c t.val t.isLt).2.1 (ix2 p q) = rowGrad X DH D G SC r q * GT (ix2 0 q) := by
  rw [← blkGrad_eq m c H t p r q hr, ← (vectors m c H t q).2.2]
  by_cases h : t.val % 32 = 0
  · rw [outsAt0_A m c t h]
    dsimp only
    rw [(outs_A ..).1, (outs_A ..).2.1]
    exact ⟨pay12_apply .., pay1_apply ..⟩
  · rw [outsAt0_B m c t h]
    dsimp only
    rw [(outs_B ..).1, (outs_B ..).2.1]
    exact ⟨pay12_apply .., pay1_apply ..⟩

/-- What a token adds to the gradient by the gate. -/
def gateTerm (X DH D MO : S4096x4096.Idx → EReal) (G SC : S1x4096.Idx → EReal) (q k : Fin 4096) : EReal :=
  rowGrad X DH D G SC k q * MO (ix2 k q)

variable (u : Fin cfg0.N) (b : Fin 32)

/-- The first point starts the four sums. -/
theorem first (ht : t.val % 32 = 0) (hb : t.val = b.val) :
    (outsAt0 m c t.val t.isLt).2.2.1 (ix2 0 q) = ∑ p, DH (ix2 (token b p) q)
      ∧ (outsAt0 m c t.val t.isLt).2.2.2.1 (ix2 0 q) = ∑ p, scaleTerm X DH G q (token b p)
      ∧ (outsAt0 m c t.val t.isLt).2.2.2.2.1 (ix2 0 q) = ∑ p, gTerm X DH SC q (token b p)
      ∧ (outsAt0 m c t.val t.isLt).2.2.2.2.2 (ix2 0 q) = ∑ p, gateTerm X DH D MO G SC q (token b p) := by
  have e (p : Fin 128) : t.val * 128 + p.val = (token b p).val := by rw [hb]; rfl
  have e' (p : Fin 128) := rows m c H t p _ q (e p)
  have g' (p : Fin 128) := blkGrad_eq m c H t p _ q (e p)
  rw [outsAt0_A m c t ht]
  dsimp only
  rw [(outs_A ..).2.2.1, (outs_A ..).2.2.2.1, (outs_A ..).2.2.2.2.1, (outs_A ..).2.2.2.2.2, zeros.1, zeros.2.1, zeros.2.2, pay8_apply,
    pay9_apply, pay11_apply, pay13_apply, zero_2, zero_add, zero_add, zero_add, zero_add]
  unfold scaleTerm gTerm gateTerm
  simp only [fun p => (e' p).1, fun p => (e' p).2.1, fun p => (e' p).2.2.2, g', fun p => rs_eq m c H t p _ (e p),
    (vectors m c H t q).1, (vectors m c H t q).2.1, and_self]

/-- Every later point continues them. -/
theorem next (ht : ¬ t.val % 32 = 0) (hu : u.val + 1 = t.val) (hb : t.val = b.val) :
    (outsAt0 m c t.val t.isLt).2.2.1 (ix2 0 q) = (outsAt0 m c u.val u.isLt).2.2.1 (ix2 0 q) + ∑ p, DH (ix2 (token b p) q)
      ∧ (outsAt0 m c t.val t.isLt).2.2.2.1 (ix2 0 q)
        = (outsAt0 m c u.val u.isLt).2.2.2.1 (ix2 0 q) + ∑ p, scaleTerm X DH G q (token b p)
      ∧ (outsAt0 m c t.val t.isLt).2.2.2.2.1 (ix2 0 q)
        = (outsAt0 m c u.val u.isLt).2.2.2.2.1 (ix2 0 q) + ∑ p, gTerm X DH SC q (token b p)
      ∧ (outsAt0 m c t.val t.isLt).2.2.2.2.2 (ix2 0 q)
        = (outsAt0 m c u.val u.isLt).2.2.2.2.2 (ix2 0 q) + ∑ p, gateTerm X DH D MO G SC q (token b p) := by
  have e (p : Fin 128) : t.val * 128 + p.val = (token b p).val := by rw [hb]; rfl
  have e' (p : Fin 128) := rows m c H t p _ q (e p)
  have g' (p : Fin 128) := blkGrad_eq m c H t p _ q (e p)
  rw [outsAt0_B m c t ht]
  obtain ⟨u, h⟩ := u
  obtain rfl : u = t.val - 1 := by dsimp only at hu; omega
  dsimp only
  rw [(outs_B ..).2.2.1, (outs_B ..).2.2.2.1, (outs_B ..).2.2.2.2.1, (outs_B ..).2.2.2.2.2, pay8_apply, pay9_apply, pay11_apply, pay13_apply]
  unfold scaleTerm gTerm gateTerm
  simp only [fun p => (e' p).1, fun p => (e' p).2.1, fun p => (e' p).2.2.2, g', fun p => rs_eq m c H t p _ (e p),
    (vectors m c H t q).1, (vectors m c H t q).2.1, and_self]

/-! ## The arrays -/

theorem final_rows : (dats m 0 c).arrAt 7 cfg0.N (ix2 r q) = rowGrad X DH D G SC r q
    ∧ (dats m 0 c).arrAt 8 cfg0.N (ix2 r q) = rowGrad X DH D G SC r q * GT (ix2 0 q) := by
  let t : Fin cfg0.N := ⟨r.val / 128, by show _ < 32; omega⟩
  let p : Fin 128 := ⟨r.val % 128, by omega⟩
  have hr : t.val * 128 + p.val = r.val := by simp only [t, p]; omega
  have a7 := (dats m 0 c).arrAt_emb_eq_flushed 7 disjoint7 t (flush0_7 t) (ix2 p q)
  have a8 := (dats m 0 c).arrAt_emb_eq_flushed 8 disjoint8 t (flush0_8 t) (ix2 p q)
  obtain ⟨_, _, _, _, i7, i8⟩ := index_rows t
  have e7 : ((cfg0.win 7).blk t).view.emb (ix2 p q) = ix2 r q := by
    blk_ext [i7]
  have e8 : ((cfg0.win 8).blk t).view.emb (ix2 p q) = ix2 r q := by
    blk_ext [i8]
  rw [e7] at a7
  rw [e8] at a8
  constructor
  · refine a7.trans ?_
    blk_simp
    rw [after0_7]
    exact (point_rows m c H t p r q hr).1
  · refine a8.trans ?_
    blk_simp
    rw [after0_8]
    exact (point_rows m c H t p r q hr).2

omit H in
theorem grid_N : cfg0.N = 32 := by decide

/-- The grid's last point. -/
def lastPoint : Fin cfg0.N := ⟨31, by decide⟩

theorem final_9 : (dats m 0 c).arrAt 9 cfg0.N (ix2 0 q) = ∑ k, DH (ix2 k q) := by
  have ha := (dats m 0 c).arrAt_emb_eq_flushed 9
    (fun t t' hf hf' h => absurd (one_flush t t' ((flush0_9 t).mp hf) ((flush0_9 t').mp hf')) h) lastPoint ((flush0_9 lastPoint).mpr rfl) (ix2 0 q)
  have i := (index_vectors lastPoint).2.2.2.1
  have e : ((cfg0.win 9).blk lastPoint).view.emb (ix2 0 q) = ix2 0 q := by
    blk_ext [i]
  rw [e] at ha
  refine ha.trans ?_
  blk_simp
  rw [after0_9]
  exact sum_points grid_N (fun k => DH (ix2 k q)) (fun n h => (outsAt0 m c n h).2.2.1 (ix2 0 q))
    (fun t b h h' => (first m c H t q b h h').1) (fun t u b h h' h'' => (next m c H t q u b h h' h'').1) lastPoint rfl

theorem final_10 : (dats m 0 c).arrAt 10 cfg0.N (ix2 0 q) = ∑ k, scaleTerm X DH G q k := by
  have ha := (dats m 0 c).arrAt_emb_eq_flushed 10
    (fun t t' hf hf' h => absurd (one_flush t t' ((flush0_10 t).mp hf) ((flush0_10 t').mp hf')) h) lastPoint ((flush0_10 lastPoint).mpr rfl) (ix2 0 q)
  have i := (index_vectors lastPoint).2.2.2.2.1
  have e : ((cfg0.win 10).blk lastPoint).view.emb (ix2 0 q) = ix2 0 q := by
    blk_ext [i]
  rw [e] at ha
  refine ha.trans ?_
  blk_simp
  rw [after0_10]
  exact sum_points grid_N (scaleTerm X DH G q) (fun n h => (outsAt0 m c n h).2.2.2.1 (ix2 0 q))
    (fun t b h h' => (first m c H t q b h h').2.1) (fun t u b h h' h'' => (next m c H t q u b h h' h'').2.1) lastPoint rfl

theorem final_11 : (dats m 0 c).arrAt 11 cfg0.N (ix2 0 q) = ∑ k, gTerm X DH SC q k := by
  have ha := (dats m 0 c).arrAt_emb_eq_flushed 11
    (fun t t' hf hf' h => absurd (one_flush t t' ((flush0_11 t).mp hf) ((flush0_11 t').mp hf')) h) lastPoint ((flush0_11 lastPoint).mpr rfl) (ix2 0 q)
  have i := (index_vectors lastPoint).2.2.2.2.2.1
  have e : ((cfg0.win 11).blk lastPoint).view.emb (ix2 0 q) = ix2 0 q := by
    blk_ext [i]
  rw [e] at ha
  refine ha.trans ?_
  blk_simp
  rw [after0_11]
  exact sum_points grid_N (gTerm X DH SC q) (fun n h => (outsAt0 m c n h).2.2.2.2.1 (ix2 0 q))
    (fun t b h h' => (first m c H t q b h h').2.2.1) (fun t u b h h' h'' => (next m c H t q u b h h' h'').2.2.1) lastPoint rfl

theorem final_12 : (dats m 0 c).arrAt 12 cfg0.N (ix2 0 q) = ∑ k, gateTerm X DH D MO G SC q k := by
  have ha := (dats m 0 c).arrAt_emb_eq_flushed 12
    (fun t t' hf hf' h => absurd (one_flush t t' ((flush0_12 t).mp hf) ((flush0_12 t').mp hf')) h) lastPoint ((flush0_12 lastPoint).mpr rfl) (ix2 0 q)
  have i := (index_vectors lastPoint).2.2.2.2.2.2
  have e : ((cfg0.win 12).blk lastPoint).view.emb (ix2 0 q) = ix2 0 q := by
    blk_ext [i]
  rw [e] at ha
  refine ha.trans ?_
  blk_simp
  rw [after0_12]
  exact sum_points grid_N (gateTerm X DH D MO G SC q) (fun n h => (outsAt0 m c n h).2.2.2.2.2 (ix2 0 q))
    (fun t b h h' => (first m c H t q b h h').2.2.2) (fun t u b h h' h'' => (next m c H t q u b h h' h'').2.2.2) lastPoint rfl

end Arrays

/-! ## The reference, whose lines up to the gate are the first norm's -/

section Reference

open Cert.ReferenceNorm2Ideal.Read

variable (x0 x1 x2 x3 : S4096x4096.Idx → EReal) (x4 x5 x6 : S1x4096.Idx → EReal) (r q : Fin 4096)

theorem ref_9 : val_main_v24 (F := Ideal) x1 (ix2 0 q) = ∑ k, x1 (ix2 k q) := Norm1.ref_6 x1 q

theorem ref_10 : val_main_v27 (F := Ideal) x0 x1 x4 (ix2 0 q) = ∑ k, scaleTerm x0 x1 x4 q k := Norm1.ref_7 x0 x1 x4 q

theorem ref_11 : val_main_v32 (F := Ideal) x0 x1 x5 (ix2 0 q) = ∑ k, gTerm x0 x1 x5 q k := Norm1.ref_8 x0 x1 x5 q

theorem ref_7 : val_main_v49 (F := Ideal) x0 x1 x2 x4 x5 (ix2 r q) = rowGrad x0 x1 x2 x4 x5 r q :=
  Norm1.ref_row x0 x1 x2 x4 x5 r q

theorem ref_8 : val_main_v57 (F := Ideal) x0 x1 x2 x4 x5 x6 (ix2 r q) = rowGrad x0 x1 x2 x4 x5 r q * x6 (ix2 0 q) := by
  have e := ref_7 x0 x1 x2 x4 x5
  unfold val_main_v57 val_main_v53 val_main_v52
  generalize val_main_v49 (F := Ideal) x0 x1 x2 x4 x5 = y at e ⊢
  pointwise
  rw [e, mul_comm]

theorem ref_12 : val_main_v56 (F := Ideal) x0 x1 x2 x3 x4 x5 (ix2 0 q) = ∑ k, gateTerm x0 x1 x2 x3 x4 x5 q k := by
  have e := ref_7 x0 x1 x2 x4 x5
  unfold val_main_v56 val_main_v55 val_main_cst_11 val_main_v54 gateTerm
  generalize val_main_v49 (F := Ideal) x0 x1 x2 x4 x5 = y at e ⊢
  pointwise
  simp only [e]

end Reference

/-! ## The arrays are equal -/

section Equal

variable (m : (ℓ : Loc nD τ sig) → Buf (Elt Ideal) ℓ) (c : Dev nD)

/-- The region finds the call's arguments. -/
theorem finds : Finds m c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  constructor
  all_goals
    unfold V
    after_reads_simp

open Cert.ReferenceNorm2Ideal.Read

variable (x0 x1 x2 x3 : S4096x4096.Idx → EReal) (x4 x5 x6 : S1x4096.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4) (e5 : m ((c : Thread nD τ).loc main_arg5) = x5)
  (e6 : m ((c : Thread nD τ).loc main_arg6) = x6)

include e0 e1 e2 e3 e4 e5 e6 in
/-- All six results are equal. -/
theorem equal :
    (dats m 0 c).arrAt 7 cfg0.N = val_main_v49 (F := Ideal) x0 x1 x2 x4 x5
      ∧ (dats m 0 c).arrAt 8 cfg0.N = val_main_v57 (F := Ideal) x0 x1 x2 x4 x5 x6
      ∧ (dats m 0 c).arrAt 9 cfg0.N = val_main_v24 (F := Ideal) x1
      ∧ (dats m 0 c).arrAt 10 cfg0.N = val_main_v27 (F := Ideal) x0 x1 x4
      ∧ (dats m 0 c).arrAt 11 cfg0.N = val_main_v32 (F := Ideal) x0 x1 x5
      ∧ (dats m 0 c).arrAt 12 cfg0.N = val_main_v56 (F := Ideal) x0 x1 x2 x3 x4 x5 := by
  have H := finds m c
  rw [e0, e1, e2, e3, e4, e5, e6] at H
  have matrix (i : S4096x4096.Idx) : ∃ r s : Fin 4096, i = ix2 r s := ⟨i 0, i 1, by funext b; fin_cases b <;> rfl⟩
  refine ⟨funext fun i => ?_, funext fun i => ?_, funext fun i => ?_, funext fun i => ?_, funext fun i => ?_, funext fun i => ?_⟩
  · obtain ⟨r, s, rfl⟩ := matrix i
    exact (final_rows m c H r s).1.trans (ref_7 x0 x1 x2 x4 x5 r s).symm
  · obtain ⟨r, s, rfl⟩ := matrix i
    exact (final_rows m c H r s).2.trans (ref_8 x0 x1 x2 x4 x5 x6 r s).symm
  · obtain ⟨s, rfl⟩ := Norm1.vector i
    exact (final_9 m c H s).trans (ref_9 x1 s).symm
  · obtain ⟨s, rfl⟩ := Norm1.vector i
    exact (final_10 m c H s).trans (ref_10 x0 x1 x4 s).symm
  · obtain ⟨s, rfl⟩ := Norm1.vector i
    exact (final_11 m c H s).trans (ref_11 x0 x1 x5 s).symm
  · obtain ⟨s, rfl⟩ := Norm1.vector i
    exact (final_12 m c H s).trans (ref_12 x0 x1 x2 x3 x4 x5 s).symm

end Equal

end Cert.Proof.Norm2

end
-- ==== Proof.Dout.lean ====
/-
  THE GRADIENT BY THE MIXER'S ROWS: the kernel's call, the derivative times the transpose of the output projection's weight,
  against the derivative of the line of the reference.
-/
module

public import proofs.«01_k».proof.Proof.Gen.KernelDoutIdeal.Value
public import proofs.«01_k».proof.Proof.Gen.ReferenceDoutIdeal.Run
public import proofs.«01_k».proof.Proof.Gen.ReferenceDoutIdeal.Read
public import proofs.«01_k».proof.Proof.Products

@[expose] public section

noncomputable section

namespace Cert.Proof.Dout

open Idealize.ShloMosaic Idealize.ShloMosaic.TcCoe Idealize.ShloMosaic.Tactic Idealize.ShloMosaic.ValueKit
open Idealize.SL Idealize.SL.Sem
open Cert.KernelDoutIdeal Cert.KernelDoutIdeal.Gen Cert.KernelDoutIdeal.Value Cert.Proof.Products

/-- What one point writes: a block of the product. -/
theorem out_A (c : Dev nD) (i : grid0.Coords) (a3 h3 a4 h4 a5 h5 a6 h6)
    (x : Vec Ideal S1024x4096 .bf16) (w : Vec Ideal S1024x4096 .bf16) (p q : Fin 1024) :
    out0_A_2 c i a3 h3 a4 h4 a5 h5 a6 h6 x w (ix2 p q) = ∑ k : Fin 4096, x (ix2 p k) * w (ix2 q k) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S1024x4096) hz, shapeCast_self]
  pointwise

/-! ## The array -/

variable (m : (ℓ : Loc nD τ sig) → Buf (Elt Ideal) ℓ) (c : Dev nD)

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![t.val % 4, 0] :=
  (by decide +kernel : ∀ t : Fin grid0.N, win0_1.index t = ![t.val % 4, 0])
theorem index_2 : ∀ t : Fin cfg0.N, win0_2.index t = ![t.val / 4, t.val % 4] :=
  (by decide +kernel : ∀ t : Fin grid0.N, win0_2.index t = ![t.val / 4, t.val % 4])

variable (t : Fin cfg0.N) (r s : Fin 4096) (p q : Fin 1024)

theorem blk_0 (k : Fin 4096) (hr : t.val / 4 * 1024 + p.val = r.val) :
    iblk m c 0 t (ix2 p k) = V m c (Pipeline.arrRef spec0 0) (ix2 r k) := by
  blk_simp [iblk]
  refine congrArg (V m c _) ?_
  blk_ext [index_0]

theorem blk_1 (k : Fin 4096) (hs : t.val % 4 * 1024 + q.val = s.val) :
    iblk m c 1 t (ix2 q k) = V m c (Pipeline.arrRef spec0 1) (ix2 s k) := by
  blk_simp [iblk]
  refine congrArg (V m c _) ?_
  blk_ext [index_1]

/-- The call's array, from the arrays that its region finds. -/
theorem final (X : S4096x4096.Idx → EReal) (W : S4096x4096.Idx → EReal)
    (h0 : V m c (Pipeline.arrRef spec0 0) = X) (h1 : V m c (Pipeline.arrRef spec0 1) = W) :
    (dats m 0 c).arrAt 2 cfg0.N (ix2 r s) = ∑ k : Fin 4096, X (ix2 r k) * W (ix2 s k) := by
  have hf : ∀ t : Fin cfg0.N, (cfg0.win 2).flush t = true := (by decide +kernel : ∀ t : Fin grid0.N, win0_2.flush t = true)
  let t : Fin cfg0.N := ⟨r.val / 1024 * 4 + s.val / 1024, by show _ < 16; omega⟩
  let p : Fin 1024 := ⟨r.val % 1024, by omega⟩
  let q : Fin 1024 := ⟨s.val % 1024, by omega⟩
  have hr : t.val / 4 * 1024 + p.val = r.val := by simp only [t, p]; omega
  have hs : t.val % 4 * 1024 + q.val = s.val := by simp only [t, q]; omega
  have ha := (dats m 0 c).arrAt_emb_eq_flushed 2 disjoint2 t (hf t) (ix2 p q)
  have e : ((cfg0.win 2).blk t).view.emb (ix2 p q) = ix2 r s := by
    blk_ext [index_2]
  rw [e] at ha
  refine ha.trans ?_
  blk_simp
  rw [after0_2]
  unfold outsAt0
  rw [out_A]
  simp only [blk_0 m c t r p _ hr, blk_1 m c t s q _ hs]
  rw [← h0, ← h1]

open Cert.ReferenceDoutIdeal.Read

/-- The region finds the derivative and the weight. -/
theorem entry_0 : (V m c (Pipeline.arrRef spec0 0) : S4096x4096.Idx → EReal) = m ((c : Thread nD τ).loc main_arg2) := by
  unfold V; after_reads_simp; rfl
theorem entry_1 : (V m c (Pipeline.arrRef spec0 1) : S4096x4096.Idx → EReal) = m ((c : Thread nD τ).loc main_arg1) := by
  unfold V; after_reads_simp; rfl

/-! ## The reference -/

theorem reference (x1 x2 : S4096x4096.Idx → EReal) :
    val_main_v1 (F := Ideal) x1 x2 (ix2 r s) = ∑ k : Fin 4096, x2 (ix2 r k) * x1 (ix2 s k) := by
  rw [val_main_v1_apply]
  refine Finset.sum_congr rfl fun k _ => ?_
  have e0 : lidx_main_v1 (ix2 r s) k = ix2 r k := by funext a; fin_cases a <;> rfl
  have e1 : ridx_main_v1 (ix2 r s) k = ix2 s k := by funext a; fin_cases a <;> rfl
  rw [e0, e1]

/-- The two programs' arrays are equal. -/
theorem equal : (dats m 0 c).arrAt 2 cfg0.N
    = val_main_v1 (F := Ideal) (m ((c : Thread nD τ).loc main_arg1)) (m ((c : Thread nD τ).loc main_arg2)) := by
  funext i
  obtain ⟨r, s, rfl⟩ : ∃ r s : Fin 4096, i = ix2 r s := ⟨i 0, i 1, by funext a; fin_cases a <;> rfl⟩
  exact (final m c r s _ _ (entry_0 m c) (entry_1 m c)).trans (reference r s _ _).symm

end Cert.Proof.Dout

end
-- ==== Proof.GwOut.lean ====
/-
  THE GRADIENT BY THE OUTPUT PROJECTION'S WEIGHT: the kernel's call, the transpose of the mixer's rows times the derivative,
  against the derivative of the line of the reference.
-/
module

public import proofs.«01_k».proof.Proof.Gen.KernelGwOutIdeal.Value
public import proofs.«01_k».proof.Proof.Gen.ReferenceGwOutIdeal.Run
public import proofs.«01_k».proof.Proof.Gen.ReferenceGwOutIdeal.Read
public import proofs.«01_k».proof.Proof.Products

@[expose] public section

noncomputable section

namespace Cert.Proof.GwOut

open Idealize.ShloMosaic Idealize.ShloMosaic.TcCoe Idealize.ShloMosaic.Tactic Idealize.ShloMosaic.ValueKit
open Idealize.SL Idealize.SL.Sem
open Cert.KernelGwOutIdeal Cert.KernelGwOutIdeal.Gen Cert.KernelGwOutIdeal.Value Cert.Proof.Products

/-- What one point writes: a block of the product. -/
theorem out_A (c : Dev nD) (i : grid0.Coords) (a3 h3 a4 h4 a5 h5 a6 h6)
    (x : Vec Ideal S4096x1024 .bf16) (w : Vec Ideal S4096x1024 .bf16) (p q : Fin 1024) :
    out0_A_2 c i a3 h3 a4 h4 a5 h5 a6 h6 x w (ix2 p q) = ∑ k : Fin 4096, x (ix2 k p) * w (ix2 k q) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S4096x1024) hz, shapeCast_self]
  pointwise

/-! ## The array -/

variable (m : (ℓ : Loc nD τ sig) → Buf (Elt Ideal) ℓ) (c : Dev nD)

theorem index_0 : ∀ t : Fin cfg0.N, win0_0.index t = ![0, t.val / 4] :=
  (by decide +kernel : ∀ t : Fin grid0.N, win0_0.index t = ![0, t.val / 4])
theorem index_1 : ∀ t : Fin cfg0.N, win0_1.index t = ![0, t.val % 4] :=
  (by decide +kernel : ∀ t : Fin grid0.N, win0_1.index t = ![0, t.val % 4])
theorem index_2 : ∀ t : Fin cfg0.N, win0_2.index t = ![t.val / 4, t.val % 4] :=
  (by decide +kernel : ∀ t : Fin grid0.N, win0_2.index t = ![t.val / 4, t.val % 4])

variable (t : Fin cfg0.N) (r s : Fin 4096) (p q : Fin 1024)

theorem blk_0 (k : Fin 4096) (hr : t.val / 4 * 1024 + p.val = r.val) :
    iblk m c 0 t (ix2 k p) = V m c (Pipeline.arrRef spec0 0) (ix2 k r) := by
  blk_simp [iblk]
  refine congrArg (V m c _) ?_
  blk_ext [index_0]

theorem blk_1 (k : Fin 4096) (hs : t.val % 4 * 1024 + q.val = s.val) :
    iblk m c 1 t (ix2 k q) = V m c (Pipeline.arrRef spec0 1) (ix2 k s) := by
  blk_simp [iblk]
  refine congrArg (V m c _) ?_
  blk_ext [index_1]

/-- The call's array, from the arrays that its region finds. -/
theorem final (X : S4096x4096.Idx → EReal) (W : S4096x4096.Idx → EReal)
    (h0 : V m c (Pipeline.arrRef spec0 0) = X) (h1 : V m c (Pipeline.arrRef spec0 1) = W) :
    (dats m 0 c).arrAt 2 cfg0.N (ix2 r s) = ∑ k : Fin 4096, X (ix2 k r) * W (ix2 k s) := by
  have hf : ∀ t : Fin cfg0.N, (cfg0.win 2).flush t = true := (by decide +kernel : ∀ t : Fin grid0.N, win0_2.flush t = true)
  let t : Fin cfg0.N := ⟨r.val / 1024 * 4 + s.val / 1024, by show _ < 16; omega⟩
  let p : Fin 1024 := ⟨r.val % 1024, by omega⟩
  let q : Fin 1024 := ⟨s.val % 1024, by omega⟩
  have hr : t.val / 4 * 1024 + p.val = r.val := by simp only [t, p]; omega
  have hs : t.val % 4 * 1024 + q.val = s.val := by simp only [t, q]; omega
  have ha := (dats m 0 c).arrAt_emb_eq_flushed 2 disjoint2 t (hf t) (ix2 p q)
  have e : ((cfg0.win 2).blk t).view.emb (ix2 p q) = ix2 r s := by
    blk_ext [index_2]
  rw [e] at ha
  refine ha.trans ?_
  blk_simp
  rw [after0_2]
  unfold outsAt0
  rw [out_A]
  simp only [blk_0 m c t r p _ hr, blk_1 m c t s q _ hs]
  rw [← h0, ← h1]

open Cert.ReferenceGwOutIdeal.Read

/-- The region finds the arguments. -/
theorem entry_0 : (V m c (Pipeline.arrRef spec0 0) : S4096x4096.Idx → EReal) = m ((c : Thread nD τ).loc main_arg0) := by
  unfold V; after_reads_simp; rfl
theorem entry_1 : (V m c (Pipeline.arrRef spec0 1) : S4096x4096.Idx → EReal) = m ((c : Thread nD τ).loc main_arg2) := by
  unfold V; after_reads_simp; rfl

/-! ## The reference -/

theorem reference (x0 x2 : S4096x4096.Idx → EReal) :
    val_main_v3 (F := Ideal) x0 x2 (ix2 r s) = ∑ k : Fin 4096, x0 (ix2 k r) * x2 (ix2 k s) := by
  refine (show val_main_v3 (F := Ideal) x0 x2 (ix2 r s) = val_main_v2 (F := Ideal) x0 x2 (ix2 r s) from rfl).trans ?_
  rw [val_main_v2_apply, val_main_v1_apply]
  refine Finset.sum_congr rfl fun k _ => (mul_comm _ _).trans ?_
  have e0 : lidx_main_v1 (idx_main_v2 (ix2 r s)) k = ix2 k s := by funext a; fin_cases a <;> rfl
  have e1 : ridx_main_v1 (idx_main_v2 (ix2 r s)) k = ix2 k r := by funext a; fin_cases a <;> rfl
  rw [e0, e1]

/-- The two programs' arrays are equal. -/
theorem equal : (dats m 0 c).arrAt 2 cfg0.N
    = val_main_v3 (F := Ideal) (m ((c : Thread nD τ).loc main_arg0)) (m ((c : Thread nD τ).loc main_arg2)) := by
  funext i
  obtain ⟨r, s, rfl⟩ : ∃ r s : Fin 4096, i = ix2 r s := ⟨i 0, i 1, by funext a; fin_cases a <;> rfl⟩
  exact (final m c r s _ _ (entry_0 m c) (entry_1 m c)).trans (reference r s _ _).symm

end Cert.Proof.GwOut

end
-- ==== Proof.GwIn.lean ====
/-
  THE GRADIENT BY THE INPUT PROJECTION'S WEIGHT, in the four parts by columns: the kernel's call against the derivative of the
  line of the reference.
-/
module

public import proofs.«01_k».proof.Proof.Gen.KernelGwInIdeal.Value
public import proofs.«01_k».proof.Proof.Gen.ReferenceGwInIdeal.Run
public import proofs.«01_k».proof.Proof.Gen.ReferenceGwInIdeal.Read
public import proofs.«01_k».proof.Proof.Products

@[expose] public section

noncomputable section

namespace Cert.Proof.GwIn

open Idealize.ShloMosaic Idealize.ShloMosaic.TcCoe Idealize.ShloMosaic.Tactic Idealize.ShloMosaic.ValueKit
open Idealize.SL Idealize.SL.Sem
open Cert.KernelGwInIdeal Cert.KernelGwInIdeal.Gen Cert.KernelGwInIdeal.Value Cert.Proof.Products

/-- What one point writes: a block of the product. -/
theorem out_A (c : Dev nD) (i : grid0.Coords) (a3 h3 a4 h4 a5 h5 a6 h6)
    (x : Vec Ideal S4096x1024 .bf16) (w : Vec Ideal S4096x1152 .bf16) (p : Fin 1024) (q : Fin 1152) :
    out0_A_2 c i a3 h3 a4 h4 a5 h5 a6 h6 x w (ix3 0 p q) = ∑ k : Fin 4096, x (ix2 k p) * w (ix2 k q) := by
  unfold out0_A_2
  rw [View.read_writes_eq_canon _ _ _ (cover0_A_2 c i a3 h3 a4 h4 a5 h5 a6 h6 x w)]
  unfold kernelRun0_A
  dsimp only
  rw [View.canon_unit_zero hz3]
  unfold k0_pay1
  simp only [View.readAt_eq_ld, h3.read_unread, h4.read_unread, View.ld_unit_zero (S := S4096x1024) hz,
    View.ld_unit_zero (S := S4096x1152) hz, shapeCast_self]
  pointwise

/-! ## The array -/

variable (m : (ℓ : Loc nD τ sig) → Buf (Elt Ideal) ℓ) (c : Dev nD)

theorem index_0 : ∀ t : Fin cfg0.N, win0_0.index t = ![0, t.val / 4] :=
  (by decide +kernel : ∀ t : Fin grid0.N, win0_0.index t = ![0, t.val / 4])
theorem index_1 : ∀ t : Fin cfg0.N, win0_1.index t = ![0, t.val % 4] :=
  (by decide +kernel : ∀ t : Fin grid0.N, win0_1.index t = ![0, t.val % 4])
theorem index_2 : ∀ t : Fin cfg0.N, win0_2.index t = ![t.val % 4, t.val / 4, 0] :=
  (by decide +kernel : ∀ t : Fin grid0.N, win0_2.index t = ![t.val % 4, t.val / 4, 0])

variable (t : Fin cfg0.N) (a : Fin 4) (r : Fin 4096) (s : Fin 1152) (p : Fin 1024)

theorem blk_0 (k : Fin 4096) (hr : t.val / 4 * 1024 + p.val = r.val) :
    iblk m c 0 t (ix2 k p) = V m c (Pipeline.arrRef spec0 0) (ix2 k r) := by
  blk_simp [iblk]
  refine congrArg (V m c _) ?_
  blk_ext [index_0]

theorem blk_1 (k : Fin 4096) (hs : t.val % 4 * 1152 + s.val = (colIn a s).val) :
    iblk m c 1 t (ix2 k s) = V m c (Pipeline.arrRef spec0 1) (ix2 k (colIn a s)) := by
  blk_simp [iblk]
  refine congrArg (V m c _) ?_
  blk_ext [index_1]

/-- The call's array, from the arrays that its region finds. -/
theorem final (X : S4096x4096.Idx → EReal) (W : S4096x4608.Idx → EReal)
    (h0 : V m c (Pipeline.arrRef spec0 0) = X) (h1 : V m c (Pipeline.arrRef spec0 1) = W) :
    (dats m 0 c).arrAt 2 cfg0.N (ix3 a r s) = ∑ k : Fin 4096, X (ix2 k r) * W (ix2 k (colIn a s)) := by
  have hf : ∀ t : Fin cfg0.N, (cfg0.win 2).flush t = true := (by decide +kernel : ∀ t : Fin grid0.N, win0_2.flush t = true)
  let t : Fin cfg0.N := ⟨r.val / 1024 * 4 + a.val, by show _ < 16; omega⟩
  let p : Fin 1024 := ⟨r.val % 1024, by omega⟩
  have hr : t.val / 4 * 1024 + p.val = r.val := by simp only [t, p]; omega
  have hs : t.val % 4 * 1152 + s.val = (colIn a s).val := by simp only [t, colIn]; omega
  have ha' : t.val % 4 = a.val := by simp only [t]; omega
  have ha := (dats m 0 c).arrAt_emb_eq_flushed 2 disjoint2 t (hf t) (ix3 0 p s)
  have e : ((cfg0.win 2).blk t).view.emb (ix3 0 p s) = ix3 a r s := by
    blk_ext [index_2]
  rw [e] at ha
  refine ha.trans ?_
  blk_simp
  rw [after0_2]
  unfold outsAt0
  rw [out_A]
  simp only [blk_0 m c t r p _ hr, blk_1 m c t a s _ hs]
  rw [← h0, ← h1]

open Cert.ReferenceGwInIdeal.Read

/-- The region finds the arguments. -/
theorem entry_0 : (V m c (Pipeline.arrRef spec0 0) : S4096x4096.Idx → EReal) = m ((c : Thread nD τ).loc main_arg0) := by
  unfold V; after_reads_simp; rfl
theorem entry_1 : (V m c (Pipeline.arrRef spec0 1) : S4096x4608.Idx → EReal) = m ((c : Thread nD τ).loc main_arg2) := by
  unfold V; after_reads_simp; rfl

/-! ## The reference -/

theorem reference (x0 : S4096x4096.Idx → EReal) (x2 : S4096x4608.Idx → EReal) :
    val_main_v5 (F := Ideal) x0 x2 (ix3 a r s) = ∑ k : Fin 4096, x0 (ix2 k r) * x2 (ix2 k (colIn a s)) := by
  have h : val_main_v2 (F := Ideal) x0 x2 (ix2 r (colIn a s)) = ∑ k : Fin 4096, x0 (ix2 k r) * x2 (ix2 k (colIn a s)) := by
    rw [val_main_v2_apply, val_main_v1_apply]
    refine Finset.sum_congr rfl fun k _ => (mul_comm _ _).trans ?_
    have e0 : lidx_main_v1 (idx_main_v2 (ix2 r (colIn a s))) k = ix2 k (colIn a s) := by funext b; fin_cases b <;> rfl
    have e1 : ridx_main_v1 (idx_main_v2 (ix2 r (colIn a s))) k = ix2 k r := by funext b; fin_cases b <;> rfl
    rw [e0, e1]
  have e : idx_main_v3 (idx_main_v4 (ix3 a r s)) = ix2 r (colIn a s) := by
    funext b
    fin_cases b
    · refine Fin.ext ?_
      show ((r.val * 4 + a.val) * 1152 + s.val) / 4608 = r.val
      omega
    · refine Fin.ext ?_
      show ((r.val * 4 + a.val) * 1152 + s.val) % 4608 = a.val * 1152 + s.val
      omega
  rw [← h, val_main_v5_apply, val_main_v4_apply, val_main_v3_apply, e]
  rfl

/-- The two programs' arrays are equal. -/
theorem equal : (dats m 0 c).arrAt 2 cfg0.N
    = val_main_v5 (F := Ideal) (m ((c : Thread nD τ).loc main_arg0)) (m ((c : Thread nD τ).loc main_arg2)) := by
  funext i
  obtain ⟨a, r, s, rfl⟩ : ∃ (a : Fin 4) (r : Fin 4096) (s : Fin 1152), i = ix3 a r s :=
    ⟨i 0, i 1, i 2, by funext b; fin_cases b <;> rfl⟩
  exact (final m c a r s _ _ (entry_0 m c) (entry_1 m c)).trans (reference a r s _ _).symm

end Cert.Proof.GwIn

end
-- ==== Proof.Din.lean ====
/-
  THE GRADIENT BY THE MIXER'S INPUT: the kernel's call, which adds four parts of the product in its scratch, against the
  derivative of the line of the reference.
-/
module

public import proofs.«01_k».proof.Proof.Gen.KernelDinIdeal.Value
public import proofs.«01_k».proof.Proof.Gen.ReferenceDinIdeal.Run
public import proofs.«01_k».proof.Proof.Gen.ReferenceDinIdeal.Read
public import proofs.«01_k».proof.Proof.Products

@[expose] public section

noncomputable section

namespace Cert.Proof.Din

open Idealize.ShloMosaic Idealize.ShloMosaic.TcCoe Idealize.ShloMosaic.Tactic Idealize.ShloMosaic.ValueKit
open Idealize.SL Idealize.SL.Sem
open Cert.KernelDinIdeal Cert.KernelDinIdeal.Gen Cert.KernelDinIdeal.Value Cert.Proof.Products

/-! ## One point -/

/-- A block of one part of the product. -/
def part (x : Vec Ideal S1024x1152 .bf16) (w : Vec Ideal S1x1024x1152 .bf16) (p q : Fin 1024) : EReal :=
  ∑ k : Fin 1152, x (ix2 p k) * w (ix3 0 q k)

theorem pay1_apply (x : Vec Ideal S1024x1152 .bf16) (w : Vec Ideal S1x1024x1152 .bf16) (p q : Fin 1024) :
    k0_pay1 (F := Ideal) x w (ix2 p q) = part x w p q := by
  unfold k0_pay1 part
  pointwise

/-- The first point of a block puts its part into the scratch. -/
theorem sout_A (c : Dev nD) (i : grid0.Coords) (a3 h3 a4 h4 a5 h5 a6 h6 g0 g1 g2)
    (x : Vec Ideal S1024x1152 .bf16) (w : Vec Ideal S1x1024x1152 .bf16) (p q : Fin 1024) :
    sout0_A_0 c i a3 h3 a4 h4 a5 h5 a6 h6 g0 g1 g2 x w (ix2 p q) = part x w p q := by
  unfold sout0_A_0
  rw [View.read_writes_eq_canon _ _ _ (scover0_A_0 c i a3 h3 a4 h4 a5 h5 a6 h6 g0 g1 g2 x w)]
  unfold kernelRun0_A
  dsimp only
  rw [View.canon_unit_zero hz]
  unfold k0_pay2
  simp only [View.readAt_eq_ld, h3.read_unread, h4.read_unread, View.ld_unit_zero (S := S1024x1152) hz,
    View.ld_unit_zero (S := S1x1024x1152) hz3, shapeCast_self]
  exact pay1_apply x w p q

/-- A later point adds its part to the scratch. -/
theorem sout_B (c : Dev nD) (i : grid0.Coords) (a3 h3 a4 h4 a5 h5 a6 h6 g0 g1 g2)
    (x : Vec Ideal S1024x1152 .bf16) (w : Vec Ideal S1x1024x1152 .bf16) (y : Vec Ideal S1024x1024 .f32) (p q : Fin 1024) :
    sout0_B_0 c i a3 h3 a4 h4 a5 h5 a6 h6 g0 g1 g2 x w y (ix2 p q) = y (ix2 p q) + part x w p q := by
  unfold sout0_B_0
  rw [View.read_writes_eq_canon _ _ _ (scover0_B_0 c i a3 h3 a4 h4 a5 h5 a6 h6 g0 g1 g2 x w y)]
  unfold kernelRun0_B
  dsimp only
  rw [View.canon_unit_zero hz]
  unfold k0_pay3
  simp only [View.readAt_eq_ld, h3.read_unread, h4.read_unread, h6.read_unread, View.ld_unit_zero (S := S1024x1152) hz,
    View.ld_unit_zero (S := S1x1024x1152) hz3, View.ld_unit_zero (S := S1024x1024) hz, shapeCast_self]
  rw [← pay1_apply x w p q]
  rfl

/-- The last point of a block writes the sum. -/
theorem out_C (c : Dev nD) (i : grid0.Coords) (a3 h3 a4 h4 a5 h5 a6 h6 g0 g1 g2)
    (x : Vec Ideal S1024x1152 .bf16) (w : Vec Ideal S1x1024x1152 .bf16) (y : Vec Ideal S1024x1024 .f32) (p q : Fin 1024) :
    out0_C_2 c i a3 h3 a4 h4 a5 h5 a6 h6 g0 g1 g2 x w y (ix2 p q) = y (ix2 p q) + part x w p q := by
  unfold out0_C_2
  rw [View.read_writes_eq_canon _ _ _ (cover0_C_2 c i a3 h3 a4 h4 a5 h5 a6 h6 g0 g1 g2 x w y)]
  unfold kernelRun0_C
  dsimp only
  rw [View.canon_unit_zero hz]
  sl_unfold_words
  rw [View.readCov_unit_zero _ hz]
  unfold k0_pay3
  simp only [View.readAt_eq_ld, h3.read_unread, h4.read_unread, h6.read_unread, View.ld_unit_zero (S := S1024x1152) hz,
    View.ld_unit_zero (S := S1x1024x1152) hz3, View.ld_unit_zero (S := S1024x1024) hz, shapeCast_self]
  rw [← pay1_apply x w p q]
  rfl

/-! ## The four points of a block -/

variable (m : (ℓ : Loc nD τ sig) → Buf (Elt Ideal) ℓ) (c : Dev nD)

/-- What the point `t` adds. -/
def partAt (t : Fin cfg0.N) (p q : Fin 1024) : EReal := part (iblk m c 0 t) (iblk m c 1 t) p q

theorem step_A (t : Fin cfg0.N) (h : t.val % 4 = 0) (p q : Fin 1024) :
    (outsAt0 m c t.val t.isLt).2 (ix2 p q) = partAt m c t p q := by
  rw [outsAt0_A m c t h (by omega) (by omega)]
  dsimp only
  rw [sout_A]
  rfl

theorem step_B (t u : Fin cfg0.N) (hu : u.val + 1 = t.val) (h : 1 ≤ t.val % 4) (h' : t.val % 4 ≠ 3) (p q : Fin 1024) :
    (outsAt0 m c t.val t.isLt).2 (ix2 p q) = (outsAt0 m c u.val u.isLt).2 (ix2 p q) + partAt m c t p q := by
  rw [outsAt0_B m c t (by omega) h h']
  obtain ⟨u, h⟩ := u
  obtain rfl : u = t.val - 1 := by dsimp only at hu; omega
  dsimp only
  rw [sout_B]
  rfl

theorem step_C (t u : Fin cfg0.N) (hu : u.val + 1 = t.val) (h : t.val % 4 = 3) (p q : Fin 1024) :
    (outsAt0 m c t.val t.isLt).1 (ix2 p q) = (outsAt0 m c u.val u.isLt).2 (ix2 p q) + partAt m c t p q := by
  rw [outsAt0_C m c t (by omega) (by omega) h]
  obtain ⟨u, h⟩ := u
  obtain rfl : u = t.val - 1 := by dsimp only at hu; omega
  dsimp only
  rw [out_C]
  rfl

/-! ## The array -/

theorem index_0 : ∀ t : Fin cfg0.N, win0_0.index t = ![t.val / 16, t.val % 4] :=
  (by decide +kernel : ∀ t : Fin grid0.N, win0_0.index t = ![t.val / 16, t.val % 4])
theorem index_1 : ∀ t : Fin cfg0.N, win0_1.index t = ![t.val % 4, t.val / 4 % 4, 0] :=
  (by decide +kernel : ∀ t : Fin grid0.N, win0_1.index t = ![t.val % 4, t.val / 4 % 4, 0])
theorem index_2 : ∀ t : Fin cfg0.N, win0_2.index t = ![t.val / 16, t.val / 4 % 4] :=
  (by decide +kernel : ∀ t : Fin grid0.N, win0_2.index t = ![t.val / 16, t.val / 4 % 4])

/-- Two points that write back write different blocks. -/
theorem disjoint2 (t t' : Fin cfg0.N) (hf : (cfg0.win 2).flush t = true) (hf' : (cfg0.win 2).flush t' = true) (h : t ≠ t') :
    Disjoint ((cfg0.win 2).blk t).view.set ((cfg0.win 2).blk t').view.set := by
  refine (cfg0.win 2).disjoint_blk fun e => h (Fin.ext ?_)
  have e' : win0_2.index t = win0_2.index t' := e
  rw [index_2 t, index_2 t'] at e'
  have e0 := congrFun e' 0
  have e1 := congrFun e' 1
  have f := (flush0_2 t).mp hf
  have f' := (flush0_2 t').mp hf'
  simp only [Matrix.cons_val_zero, Matrix.cons_val_one] at e0 e1
  omega

variable (t : Fin cfg0.N) (a : Fin 4) (r s : Fin 4096) (p q : Fin 1024)

theorem blk_0 (k : Fin 1152) (ha : t.val % 4 = a.val) (hr : t.val / 16 * 1024 + p.val = r.val) :
    iblk m c 0 t (ix2 p k) = V m c (Pipeline.arrRef spec0 0) (ix2 r (colIn a k)) := by
  blk_simp [iblk]
  refine congrArg (V m c _) ?_
  have := (colIn a k).isLt
  have e : (colIn a k).val = a.val * 1152 + k.val := rfl
  blk_ext [index_0]

theorem blk_1 (k : Fin 1152) (ha : t.val % 4 = a.val) (hs : t.val / 4 % 4 * 1024 + q.val = s.val) :
    iblk m c 1 t (ix3 0 q k) = V m c (Pipeline.arrRef spec0 1) (ix3 a s k) := by
  blk_simp [iblk]
  refine congrArg (V m c _) ?_
  blk_ext [index_1]

theorem partAt_eq (X : S4096x4608.Idx → EReal) (W : S4x4096x1152.Idx → EReal)
    (h0 : V m c (Pipeline.arrRef spec0 0) = X) (h1 : V m c (Pipeline.arrRef spec0 1) = W)
    (ha : t.val % 4 = a.val) (hr : t.val / 16 * 1024 + p.val = r.val) (hs : t.val / 4 % 4 * 1024 + q.val = s.val) :
    partAt m c t p q = ∑ k : Fin 1152, X (ix2 r (colIn a k)) * W (ix3 a s k) := by
  unfold partAt part
  simp only [blk_0 m c t a r p _ ha hr, blk_1 m c t a s q _ ha hs]
  rw [← h0, ← h1]

/-- The call's array, from the arrays that its region finds. -/
theorem final (X : S4096x4608.Idx → EReal) (W : S4x4096x1152.Idx → EReal) (w : S4096x4608.Idx → EReal)
    (h0 : V m c (Pipeline.arrRef spec0 0) = X) (h1 : V m c (Pipeline.arrRef spec0 1) = W)
    (hw : ∀ a s k, W (ix3 a s k) = w (ix2 s (colIn a k))) :
    (dats m 0 c).arrAt 2 cfg0.N (ix2 r s) = ∑ k : Fin 4608, X (ix2 r k) * w (ix2 s k) := by
  let t (a : Fin 4) : Fin cfg0.N := ⟨r.val / 1024 * 16 + s.val / 1024 * 4 + a.val, by show _ < 64; omega⟩
  let p : Fin 1024 := ⟨r.val % 1024, by omega⟩
  let q : Fin 1024 := ⟨s.val % 1024, by omega⟩
  have ht : ∀ a, (t a).val % 4 = a.val := fun a => by simp only [t]; omega
  have hr : ∀ a, (t a).val / 16 * 1024 + p.val = r.val := fun a => by simp only [t, p]; omega
  have hs : ∀ a, (t a).val / 4 % 4 * 1024 + q.val = s.val := fun a => by simp only [t, q]; omega
  have hp : ∀ a, partAt m c (t a) p q = ∑ k : Fin 1152, X (ix2 r (colIn a k)) * w (ix2 s (colIn a k)) := fun a => by
    rw [partAt_eq m c (t a) a r s p q X W h0 h1 (ht a) (hr a) (hs a)]
    simp only [hw]
  have ha := (dats m 0 c).arrAt_emb_eq_flushed 2 disjoint2 (t 3) ((flush0_2 (t 3)).mpr (ht 3)) (ix2 p q)
  have hr3 := hr 3
  have hs3 := hs 3
  have e : ((cfg0.win 2).blk (t 3)).view.emb (ix2 p q) = ix2 r s := by
    blk_ext [index_2]
  rw [e] at ha
  refine ha.trans ?_
  blk_simp
  rw [after0_2, step_C m c (t 3) (t 2) rfl (ht 3), step_B m c (t 2) (t 1) rfl (by rw [ht]; decide) (by rw [ht]; decide),
    step_B m c (t 1) (t 0) rfl (by rw [ht]; decide) (by rw [ht]; decide), step_A m c (t 0) (ht 0), hp, hp, hp, hp, sum_partsIn]

/-- The region finds the derivative, and the weight in four parts. -/
theorem entry_0 : (V m c (Pipeline.arrRef spec0 0) : S4096x4608.Idx → EReal) = m ((c : Thread nD τ).loc main_arg2) := by
  unfold V; after_reads_simp; rfl

theorem entry_1 (w : S4096x4608.Idx → EReal) (hw : m ((c : Thread nD τ).loc main_arg1) = w) (k : Fin 1152) :
    (V m c (Pipeline.arrRef spec0 1) : S4x4096x1152.Idx → EReal) (ix3 a s k) = w (ix2 s (colIn a k)) := by
  unfold V; after_reads_simp; rw [hw]
  pointwise
  rfl

/-! ## The reference -/

open Cert.ReferenceDinIdeal.Read

theorem reference (x1 x2 : S4096x4608.Idx → EReal) :
    val_main_v1 (F := Ideal) x1 x2 (ix2 r s) = ∑ k : Fin 4608, x2 (ix2 r k) * x1 (ix2 s k) := by
  rw [val_main_v1_apply]
  refine Finset.sum_congr rfl fun k _ => ?_
  have e0 : lidx_main_v1 (ix2 r s) k = ix2 r k := by funext b; fin_cases b <;> rfl
  have e1 : ridx_main_v1 (ix2 r s) k = ix2 s k := by funext b; fin_cases b <;> rfl
  rw [e0, e1]

/-- The two programs' arrays are equal. -/
theorem equal : (dats m 0 c).arrAt 2 cfg0.N
    = val_main_v1 (F := Ideal) (m ((c : Thread nD τ).loc main_arg1)) (m ((c : Thread nD τ).loc main_arg2)) := by
  funext i
  obtain ⟨r, s, rfl⟩ : ∃ r s : Fin 4096, i = ix2 r s := ⟨i 0, i 1, by funext b; fin_cases b <;> rfl⟩
  exact (final m c r s _ _ _ (entry_0 m c) rfl (fun a s k => entry_1 m c a s _ rfl k)).trans (reference r s _ _).symm

end Cert.Proof.Din

end
-- ==== Proof.GwGlu.lean ====
/-
  THE GRADIENT BY THE GATED UNIT'S WEIGHT: the kernel's call, the transpose of the activation times the derivative, against the
  derivative of the line of the reference.
-/
module

public import proofs.«01_k».proof.Proof.Gen.KernelGwGluIdeal.Value
public import proofs.«01_k».proof.Proof.Gen.ReferenceGwGluIdeal.Run
public import proofs.«01_k».proof.Proof.Gen.ReferenceGwGluIdeal.Read
public import proofs.«01_k».proof.Proof.Products

@[expose] public section

noncomputable section

namespace Cert.Proof.GwGlu

open Idealize.ShloMosaic Idealize.ShloMosaic.TcCoe Idealize.ShloMosaic.Tactic Idealize.ShloMosaic.ValueKit
open Idealize.SL Idealize.SL.Sem
open Cert.KernelGwGluIdeal Cert.KernelGwGluIdeal.Gen Cert.KernelGwGluIdeal.Value Cert.Proof.Products

/-- What one point writes: a block of the product. -/
theorem out_A (c : Dev nD) (i : grid0.Coords) (a3 h3 a4 h4 a5 h5 a6 h6)
    (x : Vec Ideal S4096x1024 .bf16) (w : Vec Ideal S4096x1024 .bf16) (p q : Fin 1024) :
    out0_A_2 c i a3 h3 a4 h4 a5 h5 a6 h6 x w (ix2 p q) = ∑ k : Fin 4096, x (ix2 k p) * w (ix2 k q) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S4096x1024) hz, shapeCast_self]
  pointwise

/-! ## The array -/

variable (m : (ℓ : Loc nD τ sig) → Buf (Elt Ideal) ℓ) (c : Dev nD)

theorem index_0 : ∀ t : Fin cfg0.N, win0_0.index t = ![0, t.val / 2] :=
  (by decide +kernel : ∀ t : Fin grid0.N, win0_0.index t = ![0, t.val / 2])
theorem index_1 : ∀ t : Fin cfg0.N, win0_1.index t = ![0, t.val % 2] :=
  (by decide +kernel : ∀ t : Fin grid0.N, win0_1.index t = ![0, t.val % 2])
theorem index_2 : ∀ t : Fin cfg0.N, win0_2.index t = ![t.val / 2, t.val % 2] :=
  (by decide +kernel : ∀ t : Fin grid0.N, win0_2.index t = ![t.val / 2, t.val % 2])

variable (t : Fin cfg0.N) (r s : Fin 2048) (p q : Fin 1024)

theorem blk_0 (k : Fin 4096) (hr : t.val / 2 * 1024 + p.val = r.val) :
    iblk m c 0 t (ix2 k p) = V m c (Pipeline.arrRef spec0 0) (ix2 k r) := by
  blk_simp [iblk]
  refine congrArg (V m c _) ?_
  blk_ext [index_0]

theorem blk_1 (k : Fin 4096) (hs : t.val % 2 * 1024 + q.val = s.val) :
    iblk m c 1 t (ix2 k q) = V m c (Pipeline.arrRef spec0 1) (ix2 k s) := by
  blk_simp [iblk]
  refine congrArg (V m c _) ?_
  blk_ext [index_1]

/-- The call's array, from the arrays that its region finds. -/
theorem final (X : S4096x2048.Idx → EReal) (W : S4096x2048.Idx → EReal)
    (h0 : V m c (Pipeline.arrRef spec0 0) = X) (h1 : V m c (Pipeline.arrRef spec0 1) = W) :
    (dats m 0 c).arrAt 2 cfg0.N (ix2 r s) = ∑ k : Fin 4096, X (ix2 k r) * W (ix2 k s) := by
  have hf : ∀ t : Fin cfg0.N, (cfg0.win 2).flush t = true := (by decide +kernel : ∀ t : Fin grid0.N, win0_2.flush t = true)
  let t : Fin cfg0.N := ⟨r.val / 1024 * 2 + s.val / 1024, by show _ < 4; omega⟩
  let p : Fin 1024 := ⟨r.val % 1024, by omega⟩
  let q : Fin 1024 := ⟨s.val % 1024, by omega⟩
  have hr : t.val / 2 * 1024 + p.val = r.val := by simp only [t, p]; omega
  have hs : t.val % 2 * 1024 + q.val = s.val := by simp only [t, q]; omega
  have ha := (dats m 0 c).arrAt_emb_eq_flushed 2 disjoint2 t (hf t) (ix2 p q)
  have e : ((cfg0.win 2).blk t).view.emb (ix2 p q) = ix2 r s := by
    blk_ext [index_2]
  rw [e] at ha
  refine ha.trans ?_
  blk_simp
  rw [after0_2]
  unfold outsAt0
  rw [out_A]
  simp only [blk_0 m c t r p _ hr, blk_1 m c t s q _ hs]
  rw [← h0, ← h1]

open Cert.ReferenceGwGluIdeal.Read

/-- The region finds the arguments. -/
theorem entry_0 : (V m c (Pipeline.arrRef spec0 0) : S4096x2048.Idx → EReal) = m ((c : Thread nD τ).loc main_arg0) := by
  unfold V; after_reads_simp; rfl
theorem entry_1 : (V m c (Pipeline.arrRef spec0 1) : S4096x2048.Idx → EReal) = m ((c : Thread nD τ).loc main_arg2) := by
  unfold V; after_reads_simp; rfl

/-! ## The reference -/

theorem reference (x0 x2 : S4096x2048.Idx → EReal) :
    val_main_v3 (F := Ideal) x0 x2 (ix2 r s) = ∑ k : Fin 4096, x0 (ix2 k r) * x2 (ix2 k s) := by
  refine (show val_main_v3 (F := Ideal) x0 x2 (ix2 r s) = val_main_v2 (F := Ideal) x0 x2 (ix2 r s) from rfl).trans ?_
  rw [val_main_v2_apply, val_main_v1_apply]
  refine Finset.sum_congr rfl fun k _ => (mul_comm _ _).trans ?_
  have e0 : lidx_main_v1 (idx_main_v2 (ix2 r s)) k = ix2 k s := by funext a; fin_cases a <;> rfl
  have e1 : ridx_main_v1 (idx_main_v2 (ix2 r s)) k = ix2 k r := by funext a; fin_cases a <;> rfl
  rw [e0, e1]

/-- The two programs' arrays are equal. -/
theorem equal : (dats m 0 c).arrAt 2 cfg0.N
    = val_main_v3 (F := Ideal) (m ((c : Thread nD τ).loc main_arg0)) (m ((c : Thread nD τ).loc main_arg2)) := by
  funext i
  obtain ⟨r, s, rfl⟩ : ∃ r s : Fin 2048, i = ix2 r s := ⟨i 0, i 1, by funext a; fin_cases a <;> rfl⟩
  exact (final m c r s _ _ (entry_0 m c) (entry_1 m c)).trans (reference r s _ _).symm

end Cert.Proof.GwGlu

end
-- ==== Proof.Ff1.lean ====
/-
  THE MLP'S FIRST PRODUCT: the kernel's call, which also squares what the ReLU leaves, against the lines of the reference.
-/
module

public import proofs.«01_k».proof.Proof.Gen.KernelFf1Ideal.Value
public import proofs.«01_k».proof.Proof.Gen.ReferenceFf1Ideal.Run
public import proofs.«01_k».proof.Proof.Gen.ReferenceFf1Ideal.Read
public import proofs.«01_k».proof.Proof.Products

@[expose] public section

noncomputable section

namespace Cert.Proof.Ff1

open Idealize.ShloMosaic Idealize.ShloMosaic.TcCoe Idealize.ShloMosaic.Tactic Idealize.ShloMosaic.ValueKit
open Idealize.SL Idealize.SL.Sem
open Cert.KernelFf1Ideal Cert.KernelFf1Ideal.Gen Cert.KernelFf1Ideal.Value Cert.Proof.Products

/-! ## One point -/

/-- A block of the product. -/
def prod (x : Vec Ideal S1024x4096 .bf16) (w : Vec Ideal S1x4096x1024 .bf16) (p q : Fin 1024) : EReal :=
  ∑ k : Fin 4096, x (ix2 p k) * w (ix3 0 k q)

theorem pay1_apply (x : Vec Ideal S1024x4096 .bf16) (w : Vec Ideal S1x4096x1024 .bf16) (p q : Fin 1024) :
    k0_pay1 (F := Ideal) x w (ix2 p q) = prod x w p q := by
  unfold k0_pay1 prod
  pointwise

/-- One point writes the block of the product, -/
theorem out_A_2 (c : Dev nD) (i : grid0.Coords) (a3 h3 a4 h4 a5 h5 a6 h6 a7 h7)
    (x : Vec Ideal S1024x4096 .bf16) (w : Vec Ideal S1x4096x1024 .bf16) (p q : Fin 1024) :
    out0_A_2 c i a3 h3 a4 h4 a5 h5 a6 h6 a7 h7 x w (ix2 p q) = prod x w p q := by
  unfold out0_A_2
  rw [View.read_writes_eq_canon _ _ _ (cover0_A_2 c i a3 h3 a4 h4 a5 h5 a6 h6 a7 h7 x w)]
  unfold kernelRun0_A
  dsimp only
  rw [View.canon_unit_zero hz]
  simp only [View.readAt_eq_ld, h3.read_unread, h4.read_unread, View.ld_unit_zero (S := S1024x4096) hz,
    View.ld_unit_zero (S := S1x4096x1024) hz3]
  exact pay1_apply x w p q

/-- and the square of what the ReLU leaves of it. -/
theorem out_A_3 (c : Dev nD) (i : grid0.Coords) (a3 h3 a4 h4 a5 h5 a6 h6 a7 h7)
    (x : Vec Ideal S1024x4096 .bf16) (w : Vec Ideal S1x4096x1024 .bf16) (p q : Fin 1024) :
    out0_A_3 c i a3 h3 a4 h4 a5 h5 a6 h6 a7 h7 x w (ix2 p q) = max (prod x w p q) 0 * max (prod x w p q) 0 := by
  unfold out0_A_3
  rw [View.read_writes_eq_canon _ _ _ (cover0_A_3 c i a3 h3 a4 h4 a5 h5 a6 h6 a7 h7 x w)]
  unfold kernelRun0_A
  dsimp only
  rw [View.canon_unit_zero hz]
  simp only [View.readAt_eq_ld, h3.read_unread, h4.read_unread, View.ld_unit_zero (S := S1024x4096) hz,
    View.ld_unit_zero (S := S1x4096x1024) hz3]
  unfold k0_pay3
  have e := pay1_apply x w p q
  generalize k0_pay1 (F := Ideal) x w = y at e ⊢
  pointwise
  simp only [e]

/-! ## The arrays -/

variable (m : (ℓ : Loc nD τ sig) → Buf (Elt Ideal) ℓ) (c : Dev nD)

theorem index_0 : ∀ t : Fin cfg0.N, win0_0.index t = ![t.val / 16, 0] :=
  (by decide +kernel : ∀ t : Fin grid0.N, win0_0.index t = ![t.val / 16, 0])
theorem index_1 : ∀ t : Fin cfg0.N, win0_1.index t = ![t.val % 16 / 4, 0, t.val % 4] :=
  (by decide +kernel : ∀ t : Fin grid0.N, win0_1.index t = ![t.val % 16 / 4, 0, t.val % 4])
theorem index_2 : ∀ t : Fin cfg0.N, win0_2.index t = ![t.val / 16, t.val % 16] :=
  (by decide +kernel : ∀ t : Fin grid0.N, win0_2.index t = ![t.val / 16, t.val % 16])
theorem index_3 : ∀ t : Fin cfg0.N, win0_3.index t = ![t.val / 16, t.val % 16] :=
  (by decide +kernel : ∀ t : Fin grid0.N, win0_3.index t = ![t.val / 16, t.val % 16])

variable (t : Fin cfg0.N) (a : Fin 4) (r s : Fin 4096) (p q : Fin 1024)

theorem blk_0 (k : Fin 4096) (hr : t.val / 16 * 1024 + p.val = r.val) :
    iblk m c 0 t (ix2 p k) = V m c (Pipeline.arrRef spec0 0) (ix2 r k) := by
  blk_simp [iblk]
  refine congrArg (V m c _) ?_
  blk_ext [index_0]

theorem blk_1 (k : Fin 4096) (ha : t.val % 16 / 4 = a.val) (hs : t.val % 4 * 1024 + q.val = s.val) :
    iblk m c 1 t (ix3 0 k q) = V m c (Pipeline.arrRef spec0 1) (ix3 a k s) := by
  blk_simp [iblk]
  refine congrArg (V m c _) ?_
  blk_ext [index_1]

theorem prod_blk (X : S4096x4096.Idx → EReal) (W : S4x4096x4096.Idx → EReal) (w : S4096x16384.Idx → EReal)
    (h0 : V m c (Pipeline.arrRef spec0 0) = X) (h1 : V m c (Pipeline.arrRef spec0 1) = W)
    (hw : ∀ a k s, W (ix3 a k s) = w (ix2 k (col a s)))
    (hr : t.val / 16 * 1024 + p.val = r.val) (ha : t.val % 16 / 4 = a.val) (hs : t.val % 4 * 1024 + q.val = s.val) :
    prod (iblk m c 0 t) (iblk m c 1 t) p q = ∑ k : Fin 4096, X (ix2 r k) * w (ix2 k (col a s)) := by
  unfold prod
  simp only [blk_0 m c t r p _ hr, blk_1 m c t a s q _ ha hs]
  rw [h0, h1]
  simp only [hw]

/-- The call's two arrays, from the arrays that its region finds. -/
theorem final (X : S4096x4096.Idx → EReal) (W : S4x4096x4096.Idx → EReal) (w : S4096x16384.Idx → EReal)
    (h0 : V m c (Pipeline.arrRef spec0 0) = X) (h1 : V m c (Pipeline.arrRef spec0 1) = W)
    (hw : ∀ a k s, W (ix3 a k s) = w (ix2 k (col a s))) (A : EReal) (hA : A = ∑ k : Fin 4096, X (ix2 r k) * w (ix2 k (col a s))) :
    (dats m 0 c).arrAt 2 cfg0.N (ix2 r (col a s)) = A ∧ (dats m 0 c).arrAt 3 cfg0.N (ix2 r (col a s)) = max A 0 * max A 0 := by
  let t : Fin cfg0.N := ⟨r.val / 1024 * 16 + a.val * 4 + s.val / 1024, by show _ < 64; omega⟩
  let p : Fin 1024 := ⟨r.val % 1024, by omega⟩
  let q : Fin 1024 := ⟨s.val % 1024, by omega⟩
  have hr : t.val / 16 * 1024 + p.val = r.val := by simp only [t, p]; omega
  have hs : t.val % 4 * 1024 + q.val = s.val := by simp only [t, q]; omega
  have ha : t.val % 16 / 4 = a.val := by simp only [t]; omega
  have hc : t.val % 16 * 1024 + q.val = (col a s).val := by simp only [t, q, col]; omega
  have hp := (prod_blk m c t a r s p q X W w h0 h1 hw hr ha hs).trans hA.symm
  have a2 := (dats m 0 c).arrAt_emb_eq_flushed 2 disjoint2 t (flush0_2 t) (ix2 p q)
  have a3 := (dats m 0 c).arrAt_emb_eq_flushed 3 disjoint3 t (flush0_3 t) (ix2 p q)
  have e2 : ((cfg0.win 2).blk t).view.emb (ix2 p q) = ix2 r (col a s) := by
    blk_ext [index_2]
  have e3 : ((cfg0.win 3).blk t).view.emb (ix2 p q) = ix2 r (col a s) := by
    blk_ext [index_3]
  rw [e2] at a2
  rw [e3] at a3
  refine ⟨a2.trans ?_, a3.trans ?_⟩
  · blk_simp
    rw [after0_2]
    unfold outsAt0
    dsimp only
    rw [out_A_2, hp]
  · blk_simp
    rw [after0_3]
    unfold outsAt0
    dsimp only
    rw [out_A_3, hp]

/-- The region finds the input, and the weight in four parts. -/
theorem entry_0 : (V m c (Pipeline.arrRef spec0 0) : S4096x4096.Idx → EReal) = m ((c : Thread nD τ).loc main_arg0) := by
  unfold V; after_reads_simp; rfl

theorem entry_1 (w : S4096x16384.Idx → EReal) (hw : m ((c : Thread nD τ).loc main_arg1) = w) (k : Fin 4096) :
    (V m c (Pipeline.arrRef spec0 1) : S4x4096x4096.Idx → EReal) (ix3 a k s) = w (ix2 k (col a s)) := by
  unfold V; after_reads_simp; rw [hw]
  pointwise
  rfl

/-! ## The reference -/

open Cert.ReferenceFf1Ideal.Read

theorem reference (x0 : S4096x4096.Idx → EReal) (x1 : S4096x16384.Idx → EReal) (u : Fin 16384) :
    val_main_v1 (F := Ideal) x0 x1 (ix2 r u) = (∑ k : Fin 4096, x0 (ix2 r k) * x1 (ix2 k u) : EReal)
      ∧ val_main_v4 (F := Ideal) x0 x1 (ix2 r u)
        = (max (∑ k : Fin 4096, x0 (ix2 r k) * x1 (ix2 k u)) 0 * max (∑ k : Fin 4096, x0 (ix2 r k) * x1 (ix2 k u)) 0 : EReal) := by
  have h : val_main_v0 (F := Ideal) x0 x1 (ix2 r u) = (∑ k : Fin 4096, x0 (ix2 r k) * x1 (ix2 k u) : EReal) := by
    rw [val_main_v0_apply]
    refine Finset.sum_congr rfl fun k _ => ?_
    have e0 : lidx_main_v0 (ix2 r u) k = ix2 r k := by funext b; fin_cases b <;> rfl
    have e1 : ridx_main_v0 (ix2 r u) k = ix2 k u := by funext b; fin_cases b <;> rfl
    rw [e0, e1]
  unfold val_main_v1 val_main_v4 val_main_v3 val_main_v2 val_main_call0_v0 val_main_call0_cst
  generalize val_main_v0 (F := Ideal) x0 x1 = y at h ⊢
  refine ⟨?_, ?_⟩
  · pointwise
    exact h
  · pointwise
    simp only [h]

/-- The two programs' arrays are equal. -/
theorem equal :
    (dats m 0 c).arrAt 2 cfg0.N = val_main_v1 (F := Ideal) (m ((c : Thread nD τ).loc main_arg0)) (m ((c : Thread nD τ).loc main_arg1))
      ∧ (dats m 0 c).arrAt 3 cfg0.N = val_main_v4 (F := Ideal) (m ((c : Thread nD τ).loc main_arg0)) (m ((c : Thread nD τ).loc main_arg1)) := by
  have matrix (i : S4096x16384.Idx) : ∃ (a : Fin 4) (r s : Fin 4096), i = ix2 r (col a s) :=
    ⟨⟨(i 1).val / 4096, by have : (i 1).val < 16384 := (i 1).isLt; omega⟩, i 0, ⟨(i 1).val % 4096, by omega⟩, by
      funext b
      fin_cases b
      · rfl
      · refine Fin.ext ?_
        show (i 1).val = (i 1).val / 4096 * 4096 + (i 1).val % 4096
        omega⟩
  have k := fun a r s => final m c a r s _ _ _ (entry_0 m c) rfl (fun a k s => entry_1 m c a s _ rfl k) _ rfl
  refine ⟨funext fun i => ?_, funext fun i => ?_⟩
  · obtain ⟨a, r, s, rfl⟩ := matrix i
    exact (k a r s).1.trans (reference r _ _ _).1.symm
  · obtain ⟨a, r, s, rfl⟩ := matrix i
    exact (k a r s).2.trans (reference r _ _ _).2.symm

end Cert.Proof.Ff1

end
-- ==== Proof.Ff2.lean ====
/-
  THE MLP'S SECOND PRODUCT: the kernel's call, which adds four parts of the product in its scratch, against the lines of the
  reference.
-/
module

public import proofs.«01_k».proof.Proof.Gen.KernelFf2Ideal.Value
public import proofs.«01_k».proof.Proof.Gen.ReferenceFf2Ideal.Run
public import proofs.«01_k».proof.Proof.Gen.ReferenceFf2Ideal.Read
public import proofs.«01_k».proof.Proof.Products

@[expose] public section

noncomputable section

namespace Cert.Proof.Ff2

open Idealize.ShloMosaic Idealize.ShloMosaic.TcCoe Idealize.ShloMosaic.Tactic Idealize.ShloMosaic.ValueKit
open Idealize.SL Idealize.SL.Sem
open Cert.KernelFf2Ideal Cert.KernelFf2Ideal.Gen Cert.KernelFf2Ideal.Value Cert.Proof.Products

/-! ## One point -/

/-- A block of one part of the product. -/
def part (x : Vec Ideal S1024x4096 .bf16) (w : Vec Ideal S4096x1024 .bf16) (p q : Fin 1024) : EReal :=
  ∑ k : Fin 4096, x (ix2 p k) * w (ix2 k q)

theorem pay1_apply (x : Vec Ideal S1024x4096 .bf16) (w : Vec Ideal S4096x1024 .bf16) (p q : Fin 1024) :
    k0_pay1 (F := Ideal) x w (ix2 p q) = part x w p q := by
  unfold k0_pay1 part
  pointwise

/-- The first point of a block puts its part into the scratch. -/
theorem sout_A (c : Dev nD) (i : grid0.Coords) (a3 h3 a4 h4 a5 h5 a6 h6 g0 g1 g2)
    (x : Vec Ideal S1024x4096 .bf16) (w : Vec Ideal S4096x1024 .bf16) (p q : Fin 1024) :
    sout0_A_0 c i a3 h3 a4 h4 a5 h5 a6 h6 g0 g1 g2 x w (ix2 p q) = part x w p q := by
  unfold sout0_A_0
  rw [View.read_writes_eq_canon _ _ _ (scover0_A_0 c i a3 h3 a4 h4 a5 h5 a6 h6 g0 g1 g2 x w)]
  unfold kernelRun0_A
  dsimp only
  rw [View.canon_unit_zero hz]
  unfold k0_pay2
  simp only [View.readAt_eq_ld, h3.read_unread, h4.read_unread, View.ld_unit_zero (S := S1024x4096) hz,
    View.ld_unit_zero (S := S4096x1024) hz, shapeCast_self]
  exact pay1_apply x w p q

/-- A later point adds its part to the scratch. -/
theorem sout_B (c : Dev nD) (i : grid0.Coords) (a3 h3 a4 h4 a5 h5 a6 h6 g0 g1 g2)
    (x : Vec Ideal S1024x4096 .bf16) (w : Vec Ideal S4096x1024 .bf16) (y : Vec Ideal S1024x1024 .f32) (p q : Fin 1024) :
    sout0_B_0 c i a3 h3 a4 h4 a5 h5 a6 h6 g0 g1 g2 x w y (ix2 p q) = y (ix2 p q) + part x w p q := by
  unfold sout0_B_0
  rw [View.read_writes_eq_canon _ _ _ (scover0_B_0 c i a3 h3 a4 h4 a5 h5 a6 h6 g0 g1 g2 x w y)]
  unfold kernelRun0_B
  dsimp only
  rw [View.canon_unit_zero hz]
  unfold k0_pay3
  simp only [View.readAt_eq_ld, h3.read_unread, h4.read_unread, h6.read_unread, View.ld_unit_zero (S := S1024x4096) hz,
    View.ld_unit_zero (S := S4096x1024) hz, View.ld_unit_zero (S := S1024x1024) hz, shapeCast_self]
  rw [← pay1_apply x w p q]
  rfl

/-- The last point of a block writes the sum. -/
theorem out_C (c : Dev nD) (i : grid0.Coords) (a3 h3 a4 h4 a5 h5 a6 h6 g0 g1 g2)
    (x : Vec Ideal S1024x4096 .bf16) (w : Vec Ideal S4096x1024 .bf16) (y : Vec Ideal S1024x1024 .f32) (p q : Fin 1024) :
    out0_C_2 c i a3 h3 a4 h4 a5 h5 a6 h6 g0 g1 g2 x w y (ix2 p q) = y (ix2 p q) + part x w p q := by
  unfold out0_C_2
  rw [View.read_writes_eq_canon _ _ _ (cover0_C_2 c i a3 h3 a4 h4 a5 h5 a6 h6 g0 g1 g2 x w y)]
  unfold kernelRun0_C
  dsimp only
  rw [View.canon_unit_zero hz]
  sl_unfold_words
  rw [View.readCov_unit_zero _ hz]
  unfold k0_pay3
  simp only [View.readAt_eq_ld, h3.read_unread, h4.read_unread, h6.read_unread, View.ld_unit_zero (S := S1024x4096) hz,
    View.ld_unit_zero (S := S4096x1024) hz, View.ld_unit_zero (S := S1024x1024) hz, shapeCast_self]
  rw [← pay1_apply x w p q]
  rfl

/-! ## The four points of a block -/

variable (m : (ℓ : Loc nD τ sig) → Buf (Elt Ideal) ℓ) (c : Dev nD)

/-- What the point `t` adds. -/
def partAt (t : Fin cfg0.N) (p q : Fin 1024) : EReal := part (iblk m c 0 t) (iblk m c 1 t) p q

theorem step_A (t : Fin cfg0.N) (h : t.val % 4 = 0) (p q : Fin 1024) :
    (outsAt0 m c t.val t.isLt).2 (ix2 p q) = partAt m c t p q := by
  rw [outsAt0_A m c t h (by omega) (by omega)]
  dsimp only
  rw [sout_A]
  rfl

theorem step_B (t u : Fin cfg0.N) (hu : u.val + 1 = t.val) (h : 1 ≤ t.val % 4) (h' : t.val % 4 ≠ 3) (p q : Fin 1024) :
    (outsAt0 m c t.val t.isLt).2 (ix2 p q) = (outsAt0 m c u.val u.isLt).2 (ix2 p q) + partAt m c t p q := by
  rw [outsAt0_B m c t (by omega) h h']
  obtain ⟨u, h⟩ := u
  obtain rfl : u = t.val - 1 := by dsimp only at hu; omega
  dsimp only
  rw [sout_B]
  rfl

theorem step_C (t u : Fin cfg0.N) (hu : u.val + 1 = t.val) (h : t.val % 4 = 3) (p q : Fin 1024) :
    (outsAt0 m c t.val t.isLt).1 (ix2 p q) = (outsAt0 m c u.val u.isLt).2 (ix2 p q) + partAt m c t p q := by
  rw [outsAt0_C m c t (by omega) (by omega) h]
  obtain ⟨u, h⟩ := u
  obtain rfl : u = t.val - 1 := by dsimp only at hu; omega
  dsimp only
  rw [out_C]
  rfl

/-! ## The array -/

theorem index_0 : ∀ t : Fin cfg0.N, win0_0.index t = ![t.val / 16, t.val % 4] :=
  (by decide +kernel : ∀ t : Fin grid0.N, win0_0.index t = ![t.val / 16, t.val % 4])
theorem index_1 : ∀ t : Fin cfg0.N, win0_1.index t = ![t.val % 4, t.val / 4 % 4] :=
  (by decide +kernel : ∀ t : Fin grid0.N, win0_1.index t = ![t.val % 4, t.val / 4 % 4])
theorem index_2 : ∀ t : Fin cfg0.N, win0_2.index t = ![t.val / 16, t.val / 4 % 4] :=
  (by decide +kernel : ∀ t : Fin grid0.N, win0_2.index t = ![t.val / 16, t.val / 4 % 4])

/-- Two points that write back write different blocks. -/
theorem disjoint2 (t t' : Fin cfg0.N) (hf : (cfg0.win 2).flush t = true) (hf' : (cfg0.win 2).flush t' = true) (h : t ≠ t') :
    Disjoint ((cfg0.win 2).blk t).view.set ((cfg0.win 2).blk t').view.set := by
  refine (cfg0.win 2).disjoint_blk fun e => h (Fin.ext ?_)
  have e' : win0_2.index t = win0_2.index t' := e
  rw [index_2 t, index_2 t'] at e'
  have e0 := congrFun e' 0
  have e1 := congrFun e' 1
  have f := (flush0_2 t).mp hf
  have f' := (flush0_2 t').mp hf'
  simp only [Matrix.cons_val_zero, Matrix.cons_val_one] at e0 e1
  omega

variable (t : Fin cfg0.N) (a : Fin 4) (r s : Fin 4096) (p q : Fin 1024)

theorem blk_0 (k : Fin 4096) (ha : t.val % 4 = a.val) (hr : t.val / 16 * 1024 + p.val = r.val) :
    iblk m c 0 t (ix2 p k) = V m c (Pipeline.arrRef spec0 0) (ix2 r (col a k)) := by
  blk_simp [iblk]
  refine congrArg (V m c _) ?_
  have := (col a k).isLt
  have e : (col a k).val = a.val * 4096 + k.val := rfl
  blk_ext [index_0]

theorem blk_1 (k : Fin 4096) (ha : t.val % 4 = a.val) (hs : t.val / 4 % 4 * 1024 + q.val = s.val) :
    iblk m c 1 t (ix2 k q) = V m c (Pipeline.arrRef spec0 1) (ix2 (col a k) s) := by
  blk_simp [iblk]
  refine congrArg (V m c _) ?_
  have := (col a k).isLt
  have e : (col a k).val = a.val * 4096 + k.val := rfl
  blk_ext [index_1]

theorem partAt_eq (X : S4096x16384.Idx → EReal) (W : S16384x4096.Idx → EReal)
    (h0 : V m c (Pipeline.arrRef spec0 0) = X) (h1 : V m c (Pipeline.arrRef spec0 1) = W)
    (ha : t.val % 4 = a.val) (hr : t.val / 16 * 1024 + p.val = r.val) (hs : t.val / 4 % 4 * 1024 + q.val = s.val) :
    partAt m c t p q = ∑ k : Fin 4096, X (ix2 r (col a k)) * W (ix2 (col a k) s) := by
  unfold partAt part
  simp only [blk_0 m c t a r p _ ha hr, blk_1 m c t a s q _ ha hs]
  rw [← h0, ← h1]

/-- The call's array, from the arrays that its region finds. -/
theorem final (X : S4096x16384.Idx → EReal) (W : S16384x4096.Idx → EReal)
    (h0 : V m c (Pipeline.arrRef spec0 0) = X) (h1 : V m c (Pipeline.arrRef spec0 1) = W) :
    (dats m 0 c).arrAt 2 cfg0.N (ix2 r s) = ∑ k : Fin 16384, X (ix2 r k) * W (ix2 k s) := by
  let t (a : Fin 4) : Fin cfg0.N := ⟨r.val / 1024 * 16 + s.val / 1024 * 4 + a.val, by show _ < 64; omega⟩
  let p : Fin 1024 := ⟨r.val % 1024, by omega⟩
  let q : Fin 1024 := ⟨s.val % 1024, by omega⟩
  have ht : ∀ a, (t a).val % 4 = a.val := fun a => by simp only [t]; omega
  have hr : ∀ a, (t a).val / 16 * 1024 + p.val = r.val := fun a => by simp only [t, p]; omega
  have hs : ∀ a, (t a).val / 4 % 4 * 1024 + q.val = s.val := fun a => by simp only [t, q]; omega
  have hp : ∀ a, partAt m c (t a) p q = ∑ k : Fin 4096, X (ix2 r (col a k)) * W (ix2 (col a k) s) := fun a =>
    partAt_eq m c (t a) a r s p q X W h0 h1 (ht a) (hr a) (hs a)
  have ha := (dats m 0 c).arrAt_emb_eq_flushed 2 disjoint2 (t 3) ((flush0_2 (t 3)).mpr (ht 3)) (ix2 p q)
  have hr3 := hr 3
  have hs3 := hs 3
  have e : ((cfg0.win 2).blk (t 3)).view.emb (ix2 p q) = ix2 r s := by
    blk_ext [index_2]
  rw [e] at ha
  refine ha.trans ?_
  blk_simp
  rw [after0_2, step_C m c (t 3) (t 2) rfl (ht 3), step_B m c (t 2) (t 1) rfl (by rw [ht]; decide) (by rw [ht]; decide),
    step_B m c (t 1) (t 0) rfl (by rw [ht]; decide) (by rw [ht]; decide), step_A m c (t 0) (ht 0), hp, hp, hp, hp, sum_parts]

open Cert.ReferenceFf2Ideal.Read

/-- The region finds the squared activation, as the reference computes it, and the weight. -/
theorem entry_0 : V m c (Pipeline.arrRef spec0 0) = val_main_v1 (F := Ideal) (m ((c : Thread nD τ).loc main_arg0)) := by
  unfold V; after_reads_simp; rfl
theorem entry_1 : (V m c (Pipeline.arrRef spec0 1) : S16384x4096.Idx → EReal) = m ((c : Thread nD τ).loc main_arg1) := by
  unfold V; after_reads_simp; rfl

/-! ## The reference -/

theorem reference (x0 : S4096x16384.Idx → EReal) (x1 : S16384x4096.Idx → EReal) :
    val_main_v2 (F := Ideal) x0 x1 (ix2 r s) = ∑ k : Fin 16384, val_main_v1 (F := Ideal) x0 (ix2 r k) * x1 (ix2 k s) := by
  rw [val_main_v2_apply]
  refine Finset.sum_congr rfl fun k _ => ?_
  have e0 : lidx_main_v2 (ix2 r s) k = ix2 r k := by funext b; fin_cases b <;> rfl
  have e1 : ridx_main_v2 (ix2 r s) k = ix2 k s := by funext b; fin_cases b <;> rfl
  rw [e0, e1]

/-- The two programs' arrays are equal. -/
theorem equal : (dats m 0 c).arrAt 2 cfg0.N
    = val_main_v2 (F := Ideal) (m ((c : Thread nD τ).loc main_arg0)) (m ((c : Thread nD τ).loc main_arg1)) := by
  funext i
  obtain ⟨r, s, rfl⟩ : ∃ r s : Fin 4096, i = ix2 r s := ⟨i 0, i 1, by funext b; fin_cases b <;> rfl⟩
  exact (final m c r s _ _ (entry_0 m c) (entry_1 m c)).trans (reference r s _ _).symm

end Cert.Proof.Ff2

end
-- ==== Proof.In.lean ====
/-
  THE INPUT PROJECTION: the kernel's call against the line of the reference.
-/
module

public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Products

@[expose] public section

noncomputable section

namespace Cert.Proof.In

open Idealize.ShloMosaic Idealize.ShloMosaic.TcCoe Idealize.ShloMosaic.Tactic Idealize.ShloMosaic.ValueKit
open Idealize.SL Idealize.SL.Sem
open Cert.KernelInIdeal Cert.KernelInIdeal.Gen Cert.KernelInIdeal.Value Cert.Proof.Products

/-- What one point writes: a block of the product. -/
theorem out_A (c : Dev nD) (i : grid0.Coords) (a3 h3 a4 h4 a5 h5 a6 h6)
    (x : Vec Ideal S1024x4096 .bf16) (w : Vec Ideal S1x4096x1152 .bf16) (p : Fin 1024) (q : Fin 1152) :
    out0_A_2 c i a3 h3 a4 h4 a5 h5 a6 h6 x w (ix2 p q) = ∑ k : Fin 4096, x (ix2 p k) * w (ix3 0 k q) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S1024x4096) hz,
    View.ld_unit_zero (S := S1x4096x1152) hz3]
  pointwise

/-! ## The array -/

variable (m : (ℓ : Loc nD τ sig) → Buf (Elt Ideal) ℓ) (c : Dev nD)

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![t.val % 4, 0, 0] :=
  (by decide +kernel : ∀ t : Fin grid0.N, win0_1.index t = ![t.val % 4, 0, 0])
theorem index_2 : ∀ t : Fin cfg0.N, win0_2.index t = ![t.val / 4, t.val % 4] :=
  (by decide +kernel : ∀ t : Fin grid0.N, win0_2.index t = ![t.val / 4, t.val % 4])

variable (t : Fin cfg0.N) (a : Fin 4) (r : Fin 4096) (s : Fin 1152) (p : Fin 1024)

theorem blk_0 (k : Fin 4096) (hr : t.val / 4 * 1024 + p.val = r.val) :
    iblk m c 0 t (ix2 p k) = V m c (Pipeline.arrRef spec0 0) (ix2 r k) := by
  blk_simp [iblk]
  refine congrArg (V m c _) ?_
  blk_ext [index_0]

theorem blk_1 (k : Fin 4096) (ha : t.val % 4 = a.val) :
    iblk m c 1 t (ix3 0 k s) = V m c (Pipeline.arrRef spec0 1) (ix3 a k s) := by
  blk_simp [iblk]
  refine congrArg (V m c _) ?_
  blk_ext [index_1]

/-- The call's array, from the arrays that its region finds. -/
theorem final (X : S4096x4096.Idx → EReal) (W : S4x4096x1152.Idx → EReal) (w : S4096x4608.Idx → EReal)
    (h0 : V m c (Pipeline.arrRef spec0 0) = X) (h1 : V m c (Pipeline.arrRef spec0 1) = W)
    (hw : ∀ a k s, W (ix3 a k s) = w (ix2 k (colIn a s))) :
    (dats m 0 c).arrAt 2 cfg0.N (ix2 r (colIn a s)) = ∑ k : Fin 4096, X (ix2 r k) * w (ix2 k (colIn a s)) := by
  have hf : ∀ t : Fin cfg0.N, (cfg0.win 2).flush t = true := (by decide +kernel : ∀ t : Fin grid0.N, win0_2.flush t = true)
  let t : Fin cfg0.N := ⟨r.val / 1024 * 4 + a.val, by show _ < 16; omega⟩
  let p : Fin 1024 := ⟨r.val % 1024, by omega⟩
  have hr : t.val / 4 * 1024 + p.val = r.val := by simp only [t, p]; omega
  have hs : t.val % 4 = a.val := by simp only [t]; omega
  have hc : t.val % 4 * 1152 + s.val = (colIn a s).val := by rw [hs, colIn]
  have ha := (dats m 0 c).arrAt_emb_eq_flushed 2 disjoint2 t (hf t) (ix2 p s)
  have e : ((cfg0.win 2).blk t).view.emb (ix2 p s) = ix2 r (colIn a s) := by
    blk_ext [index_2]
  rw [e] at ha
  refine ha.trans ?_
  blk_simp
  rw [after0_2]
  unfold outsAt0
  rw [out_A]
  simp only [blk_0 m c t r p _ hr, blk_1 m c t a s _ hs]
  rw [h0, h1]
  simp only [hw]

open Cert.ReferenceInIdeal.Read

/-- The region finds the rows, and the weight in four parts. -/
theorem entry_0 : (V m c (Pipeline.arrRef spec0 0) : S4096x4096.Idx → EReal) = m ((c : Thread nD τ).loc main_arg0) := by
  unfold V; after_reads_simp; rfl
theorem entry_1 (w : S4096x4608.Idx → EReal) (hw : m ((c : Thread nD τ).loc main_arg1) = w) (k : Fin 4096) :
    (V m c (Pipeline.arrRef spec0 1) : S4x4096x1152.Idx → EReal) (ix3 a k s) = w (ix2 k (colIn a s)) := by
  unfold V; after_reads_simp; rw [hw]
  pointwise
  rfl

/-! ## The reference -/

theorem reference (x0 : S4096x4096.Idx → EReal) (x1 : S4096x4608.Idx → EReal) (u : Fin 4608) :
    val_main_v0 (F := Ideal) x0 x1 (ix2 r u) = ∑ k : Fin 4096, x0 (ix2 r k) * x1 (ix2 k u) := by
  rw [val_main_v0_apply]
  refine Finset.sum_congr rfl fun k _ => ?_
  have e0 : lidx_main_v0 (ix2 r u) k = ix2 r k := by funext b; fin_cases b <;> rfl
  have e1 : ridx_main_v0 (ix2 r u) k = ix2 k u := by funext b; fin_cases b <;> rfl
  rw [e0, e1]

/-- The two programs' arrays are equal. -/
theorem equal : (dats m 0 c).arrAt 2 cfg0.N
    = val_main_v0 (F := Ideal) (m ((c : Thread nD τ).loc main_arg0)) (m ((c : Thread nD τ).loc main_arg1)) := by
  funext i
  obtain ⟨a, r, s, rfl⟩ : ∃ (a : Fin 4) (r : Fin 4096) (s : Fin 1152), i = ix2 r (colIn a s) :=
    ⟨⟨(i 1).val / 1152, by have : (i 1).val < 4608 := (i 1).isLt; omega⟩, i 0, ⟨(i 1).val % 1152, by omega⟩, by
      funext b
      fin_cases b
      · rfl
      · refine Fin.ext ?_
        show (i 1).val = (i 1).val / 1152 * 1152 + (i 1).val % 1152
        omega⟩
  exact (final m c a r s _ _ _ (entry_0 m c) rfl (fun a k s => entry_1 m c a s _ rfl k)).trans (reference r _ _ _).symm

end Cert.Proof.In

end
-- ==== Proof.Glu.lean ====
/-
  THE GATED UNIT'S PRODUCT: the kernel's call against the line of the reference.
-/
module

public import proofs.«01_k».proof.Proof.Gen.KernelGluIdeal.Value
public import proofs.«01_k».proof.Proof.Gen.ReferenceGluIdeal.Run
public import proofs.«01_k».proof.Proof.Gen.ReferenceGluIdeal.Read
public import proofs.«01_k».proof.Proof.Products

@[expose] public section

noncomputable section

namespace Cert.Proof.Glu

open Idealize.ShloMosaic Idealize.ShloMosaic.TcCoe Idealize.ShloMosaic.Tactic Idealize.ShloMosaic.ValueKit
open Idealize.SL Idealize.SL.Sem
open Cert.KernelGluIdeal Cert.KernelGluIdeal.Gen Cert.KernelGluIdeal.Value Cert.Proof.Products

/-- What one point writes: a block of the product. -/
theorem out_A (c : Dev nD) (i : grid0.Coords) (a3 h3 a4 h4 a5 h5 a6 h6)
    (x : Vec Ideal S1024x2048 .bf16) (w : Vec Ideal S2048x1024 .bf16) (p q : Fin 1024) :
    out0_A_2 c i a3 h3 a4 h4 a5 h5 a6 h6 x w (ix2 p q) = ∑ k : Fin 2048, x (ix2 p k) * w (ix2 k q) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S1024x2048) hz,
    View.ld_unit_zero (S := S2048x1024) hz, shapeCast_self]
  pointwise

/-! ## The array -/

variable (m : (ℓ : Loc nD τ sig) → Buf (Elt Ideal) ℓ) (c : Dev nD)

theorem index_0 : ∀ t : Fin cfg0.N, win0_0.index t = ![t.val / 2, 0] :=
  (by decide +kernel : ∀ t : Fin grid0.N, win0_0.index t = ![t.val / 2, 0])
theorem index_1 : ∀ t : Fin cfg0.N, win0_1.index t = ![0, t.val % 2] :=
  (by decide +kernel : ∀ t : Fin grid0.N, win0_1.index t = ![0, t.val % 2])
theorem index_2 : ∀ t : Fin cfg0.N, win0_2.index t = ![t.val / 2, t.val % 2] :=
  (by decide +kernel : ∀ t : Fin grid0.N, win0_2.index t = ![t.val / 2, t.val % 2])

variable (t : Fin cfg0.N) (r : Fin 4096) (s : Fin 2048) (p q : Fin 1024)

theorem blk_0 (k : Fin 2048) (hr : t.val / 2 * 1024 + p.val = r.val) :
    iblk m c 0 t (ix2 p k) = V m c (Pipeline.arrRef spec0 0) (ix2 r k) := by
  blk_simp [iblk]
  refine congrArg (V m c _) ?_
  blk_ext [index_0]

theorem blk_1 (k : Fin 2048) (hs : t.val % 2 * 1024 + q.val = s.val) :
    iblk m c 1 t (ix2 k q) = V m c (Pipeline.arrRef spec0 1) (ix2 k s) := by
  blk_simp [iblk]
  refine congrArg (V m c _) ?_
  blk_ext [index_1]

/-- The call's array, from the arrays that its region finds. -/
theorem final (X : S4096x2048.Idx → EReal) (W : S2048x2048.Idx → EReal)
    (h0 : V m c (Pipeline.arrRef spec0 0) = X) (h1 : V m c (Pipeline.arrRef spec0 1) = W) :
    (dats m 0 c).arrAt 2 cfg0.N (ix2 r s) = ∑ k : Fin 2048, X (ix2 r k) * W (ix2 k s) := by
  have hf : ∀ t : Fin cfg0.N, (cfg0.win 2).flush t = true := (by decide +kernel : ∀ t : Fin grid0.N, win0_2.flush t = true)
  let t : Fin cfg0.N := ⟨r.val / 1024 * 2 + s.val / 1024, by show _ < 8; omega⟩
  let p : Fin 1024 := ⟨r.val % 1024, by omega⟩
  let q : Fin 1024 := ⟨s.val % 1024, by omega⟩
  have hr : t.val / 2 * 1024 + p.val = r.val := by simp only [t, p]; omega
  have hs : t.val % 2 * 1024 + q.val = s.val := by simp only [t, q]; omega
  have ha := (dats m 0 c).arrAt_emb_eq_flushed 2 disjoint2 t (hf t) (ix2 p q)
  have e : ((cfg0.win 2).blk t).view.emb (ix2 p q) = ix2 r s := by
    blk_ext [index_2]
  rw [e] at ha
  refine ha.trans ?_
  blk_simp
  rw [after0_2]
  unfold outsAt0
  rw [out_A]
  simp only [blk_0 m c t r p _ hr, blk_1 m c t s q _ hs]
  rw [← h0, ← h1]

open Cert.ReferenceGluIdeal.Read

/-- The region finds the arguments. -/
theorem entry_0 : (V m c (Pipeline.arrRef spec0 0) : S4096x2048.Idx → EReal) = m ((c : Thread nD τ).loc main_arg0) := by
  unfold V; after_reads_simp; rfl
theorem entry_1 : (V m c (Pipeline.arrRef spec0 1) : S2048x2048.Idx → EReal) = m ((c : Thread nD τ).loc main_arg1) := by
  unfold V; after_reads_simp; rfl

/-! ## The reference -/

theorem reference (x0 : S4096x2048.Idx → EReal) (x1 : S2048x2048.Idx → EReal) :
    val_main_v0 (F := Ideal) x0 x1 (ix2 r s) = ∑ k : Fin 2048, x0 (ix2 r k) * x1 (ix2 k s) := by
  rw [val_main_v0_apply]
  refine Finset.sum_congr rfl fun k _ => ?_
  have e0 : lidx_main_v0 (ix2 r s) k = ix2 r k := by funext b; fin_cases b <;> rfl
  have e1 : ridx_main_v0 (ix2 r s) k = ix2 k s := by funext b; fin_cases b <;> rfl
  rw [e0, e1]

/-- The two programs' arrays are equal. -/
theorem equal : (dats m 0 c).arrAt 2 cfg0.N
    = val_main_v0 (F := Ideal) (m ((c : Thread nD τ).loc main_arg0)) (m ((c : Thread nD τ).loc main_arg1)) := by
  funext i
  obtain ⟨r, s, rfl⟩ : ∃ (r : Fin 4096) (s : Fin 2048), i = ix2 r s := ⟨i 0, i 1, by funext b; fin_cases b <;> rfl⟩
  exact (final m c r s _ _ (entry_0 m c) (entry_1 m c)).trans (reference r s _ _).symm

end Cert.Proof.Glu

end
-- ==== Proof.Out.lean ====
/-
  THE OUTPUT PROJECTION: the kernel's call against the line of the reference.
-/
module

public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Products

@[expose] public section

noncomputable section

namespace Cert.Proof.Out

open Idealize.ShloMosaic Idealize.ShloMosaic.TcCoe Idealize.ShloMosaic.Tactic Idealize.ShloMosaic.ValueKit
open Idealize.SL Idealize.SL.Sem
open Cert.KernelOutIdeal Cert.KernelOutIdeal.Gen Cert.KernelOutIdeal.Value Cert.Proof.Products

/-- What one point writes: a block of the product. -/
theorem out_A (c : Dev nD) (i : grid0.Coords) (a3 h3 a4 h4 a5 h5 a6 h6)
    (x : Vec Ideal S1024x4096 .bf16) (w : Vec Ideal S4096x1024 .bf16) (p q : Fin 1024) :
    out0_A_2 c i a3 h3 a4 h4 a5 h5 a6 h6 x w (ix2 p q) = ∑ k : Fin 4096, x (ix2 p k) * w (ix2 k q) := by
  unfold out0_A_2
  rw [View.read_writes_eq_canon _ _ _ (cover0_A_2 c i a3 h3 a4 h4 a5 h5 a6 h6 x w)]
  unfold kernelRun0_A
  dsimp only
  rw [View.canon_unit_zero hz]
  unfold k0_pay1
  simp only [View.readAt_eq_ld, h3.read_unread, h4.read_unread, View.ld_unit_zero (S := S1024x4096) hz,
    View.ld_unit_zero (S := S4096x1024) hz, shapeCast_self]
  pointwise

/-! ## The array -/

variable (m : (ℓ : Loc nD τ sig) → Buf (Elt Ideal) ℓ) (c : Dev nD)

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![0, t.val % 4] :=
  (by decide +kernel : ∀ t : Fin grid0.N, win0_1.index t = ![0, t.val % 4])
theorem index_2 : ∀ t : Fin cfg0.N, win0_2.index t = ![t.val / 4, t.val % 4] :=
  (by decide +kernel : ∀ t : Fin grid0.N, win0_2.index t = ![t.val / 4, t.val % 4])

variable (t : Fin cfg0.N) (r s : Fin 4096) (p q : Fin 1024)

theorem blk_0 (k : Fin 4096) (hr : t.val / 4 * 1024 + p.val = r.val) :
    iblk m c 0 t (ix2 p k) = V m c (Pipeline.arrRef spec0 0) (ix2 r k) := by
  blk_simp [iblk]
  refine congrArg (V m c _) ?_
  blk_ext [index_0]

theorem blk_1 (k : Fin 4096) (hs : t.val % 4 * 1024 + q.val = s.val) :
    iblk m c 1 t (ix2 k q) = V m c (Pipeline.arrRef spec0 1) (ix2 k s) := by
  blk_simp [iblk]
  refine congrArg (V m c _) ?_
  blk_ext [index_1]

/-- The call's array, from the arrays that its region finds. -/
theorem final (X : S4096x4096.Idx → EReal) (W : S4096x4096.Idx → EReal)
    (h0 : V m c (Pipeline.arrRef spec0 0) = X) (h1 : V m c (Pipeline.arrRef spec0 1) = W) :
    (dats m 0 c).arrAt 2 cfg0.N (ix2 r s) = ∑ k : Fin 4096, X (ix2 r k) * W (ix2 k s) := by
  have hf : ∀ t : Fin cfg0.N, (cfg0.win 2).flush t = true := (by decide +kernel : ∀ t : Fin grid0.N, win0_2.flush t = true)
  let t : Fin cfg0.N := ⟨r.val / 1024 * 4 + s.val / 1024, by show _ < 16; omega⟩
  let p : Fin 1024 := ⟨r.val % 1024, by omega⟩
  let q : Fin 1024 := ⟨s.val % 1024, by omega⟩
  have hr : t.val / 4 * 1024 + p.val = r.val := by simp only [t, p]; omega
  have hs : t.val % 4 * 1024 + q.val = s.val := by simp only [t, q]; omega
  have ha := (dats m 0 c).arrAt_emb_eq_flushed 2 disjoint2 t (hf t) (ix2 p q)
  have e : ((cfg0.win 2).blk t).view.emb (ix2 p q) = ix2 r s := by
    blk_ext [index_2]
  rw [e] at ha
  refine ha.trans ?_
  blk_simp
  rw [after0_2]
  unfold outsAt0
  rw [out_A]
  simp only [blk_0 m c t r p _ hr, blk_1 m c t s q _ hs]
  rw [← h0, ← h1]

open Cert.ReferenceOutIdeal.Read

/-- The region finds the arguments. -/
theorem entry_0 : (V m c (Pipeline.arrRef spec0 0) : S4096x4096.Idx → EReal) = m ((c : Thread nD τ).loc main_arg0) := by
  unfold V; after_reads_simp; rfl
theorem entry_1 : (V m c (Pipeline.arrRef spec0 1) : S4096x4096.Idx → EReal) = m ((c : Thread nD τ).loc main_arg1) := by
  unfold V; after_reads_simp; rfl

/-! ## The reference -/

theorem reference (x0 : S4096x4096.Idx → EReal) (x1 : S4096x4096.Idx → EReal) :
    val_main_v0 (F := Ideal) x0 x1 (ix2 r s) = ∑ k : Fin 4096, x0 (ix2 r k) * x1 (ix2 k s) := by
  rw [val_main_v0_apply]
  refine Finset.sum_congr rfl fun k _ => ?_
  have e0 : lidx_main_v0 (ix2 r s) k = ix2 r k := by funext b; fin_cases b <;> rfl
  have e1 : ridx_main_v0 (ix2 r s) k = ix2 k s := by funext b; fin_cases b <;> rfl
  rw [e0, e1]

/-- The two programs' arrays are equal. -/
theorem equal : (dats m 0 c).arrAt 2 cfg0.N
    = val_main_v0 (F := Ideal) (m ((c : Thread nD τ).loc main_arg0)) (m ((c : Thread nD τ).loc main_arg1)) := by
  funext i
  obtain ⟨r, s, rfl⟩ : ∃ (r s : Fin 4096), i = ix2 r s := ⟨i 0, i 1, by funext b; fin_cases b <;> rfl⟩
  exact (final m c r s _ _ (entry_0 m c) (entry_1 m c)).trans (reference r s _ _).symm

end Cert.Proof.Out

end
-- ==== Proof.Final.lean ====
/-
  THE LOSS AND ITS GRADIENTS: the call that ends the forward pass and begins the backward one, against the derivative of
  the reference's lines for the loss. What a token contributes is stated once, of its row.
-/
module

public import proofs.«01_k».proof.Proof.Gen.KernelFinalIdeal.Value
public import proofs.«01_k».proof.Proof.Gen.ReferenceFinalIdeal.Run
public import proofs.«01_k».proof.Proof.Gen.ReferenceFinalIdeal.Read
public import proofs.«01_k».proof.Proof.Norm1

@[expose] public section

noncomputable section

namespace Cert.Proof.Final

open Idealize.ShloMosaic Idealize.ShloMosaic.TcCoe Idealize.ShloMosaic.Tactic Idealize.ShloMosaic.ValueKit
open Idealize.SL Idealize.SL.Sem
open Cert.KernelFinalIdeal Cert.KernelFinalIdeal.Gen Cert.KernelFinalIdeal.Value Cert.Proof.Products Cert.Proof.Norm

/-! ## The literals -/

/-- The kernel's factor: one part of a row's mean. -/
abbrev part : EReal := Ideal.ofBits .f32 0x39800000#32
/-- The reference's factors, of the loss and of a square's derivative. -/
abbrev half : EReal := Ideal.ofBits .f32 0x3F000000#32
abbrev two : EReal := Ideal.ofBits .f32 0x40000000#32

theorem part_eq : part = ((1 / 4096 : ℝ) : EReal) := by
  unfold part Ideal.ofBits Ideal.ieee
  simp
  rw [← EReal.coe_mul]
  norm_num

theorem half_eq : half = ((1 / 2 : ℝ) : EReal) := by
  unfold half Ideal.ofBits Ideal.ieee
  simp
  rw [← EReal.coe_mul]
  norm_num

theorem two_eq : two = ((2 : ℝ) : EReal) := by
  unfold two Ideal.ofBits Ideal.ieee
  simp
  rw [← EReal.coe_mul]
  norm_num

/-- Half of twice an error's part of the mean is its part of the mean. -/
theorem factor_eq (e : EReal) : Ideal.div half lanes * (two * e) = e * part := by
  rw [part_eq, half_eq, two_eq, lanes_eq, Ideal.div_coe (by norm_num), ← mul_assoc, mul_comm e, ← EReal.coe_mul, ← EReal.coe_mul]
  norm_num

/-! ## One token -/

/-- The rows of a token, and the two vectors. -/
structure Row where
  x : Fin 4096 → EReal
  ff : Fin 4096 → EReal
  tgt : Fin 4096 → EReal
  gt : Fin 4096 → EReal
  g : Fin 4096 → EReal

/-- The row after the second gate. -/
def Row.y (w : Row) (q : Fin 4096) : EReal := w.x q + w.gt q * w.ff q
/-- The normed row. -/
def Row.normed (w : Row) (q : Fin 4096) : EReal := w.y q * rstd w.y
/-- The error against the target. -/
def Row.err (w : Row) (q : Fin 4096) : EReal := w.normed q * w.g q - w.tgt q
/-- The loss's derivative by the output. -/
def Row.dy (w : Row) (q : Fin 4096) : EReal := w.err q * part
/-- The loss's derivative by the row after the second gate. -/
def Row.grad (w : Row) (q : Fin 4096) : EReal := back w.y (fun k => w.dy k * w.g k) q
/-- What the token adds to the squared errors. -/
def Row.errTerm (w : Row) (q : Fin 4096) : EReal := w.err q * w.err q
/-- What it adds to the gradient by the norm's vector. -/
def Row.gTerm (w : Row) (q : Fin 4096) : EReal := w.dy q * w.normed q
/-- What it adds to the gradient by the gate. -/
def Row.gateTerm (w : Row) (q : Fin 4096) : EReal := w.grad q * w.ff q

/-! ## One point -/

section Point

variable (x ff tgt : Vec Ideal S128x4096 .f32) (gt g acc : Vec Ideal S1x4096 .f32) (p : Fin 128) (q : Fin 4096)

/-- A token of a point's blocks. -/
def blkRow : Row :=
  ⟨fun k => x (ix2 p k), fun k => ff (ix2 p k), fun k => tgt (ix2 p k), fun k => gt (ix2 0 k), fun k => g (ix2 0 k)⟩

theorem pay8_apply : k0_pay8 (F := Ideal) ff x gt (ix2 p q) = (blkRow x ff tgt gt g p).y q := by
  unfold k0_pay8
  pointwise
  rfl

theorem pay9_apply : k0_pay9 (F := Ideal) ff x gt (ix2 p 0) = rstd (blkRow x ff tgt gt g p).y := by
  have e := pay8_apply x ff tgt gt g
  unfold k0_pay9 rstd rstdBy meanSqBy
  generalize k0_pay8 (F := Ideal) ff x gt = z at e ⊢
  pointwise
  simp only [e]

theorem pay10_apply : k0_pay10 (F := Ideal) ff x gt (ix2 p q) = (blkRow x ff tgt gt g p).normed q := by
  have e := pay8_apply x ff tgt gt g
  have e' := pay9_apply x ff tgt gt g
  unfold k0_pay10 Row.normed
  generalize k0_pay8 (F := Ideal) ff x gt = z at e ⊢
  generalize k0_pay9 (F := Ideal) ff x gt = r at e' ⊢
  pointwise
  rw [e, e']

theorem pay11_apply : k0_pay11 (F := Ideal) ff x gt g tgt (ix2 p q) = (blkRow x ff tgt gt g p).err q := by
  have e := pay10_apply x ff tgt gt g
  unfold k0_pay11 Row.err
  generalize k0_pay10 (F := Ideal) ff x gt = z at e ⊢
  pointwise
  rw [e]
  rfl

theorem pay12_apply : k0_pay12 (F := Ideal) ff x gt g tgt acc (ix2 0 q) = acc (ix2 0 q) + ∑ p, (blkRow x ff tgt gt g p).errTerm q := by
  have e := pay11_apply x ff tgt gt g
  unfold k0_pay12 Row.errTerm
  generalize k0_pay11 (F := Ideal) ff x gt g tgt = z at e ⊢
  pointwise
  simp only [e]

theorem pay13_apply : k0_pay13 (F := Ideal) ff x gt g tgt (ix2 p q) = (blkRow x ff tgt gt g p).dy q := by
  have e := pay11_apply x ff tgt gt g
  unfold k0_pay13 Row.dy
  generalize k0_pay11 (F := Ideal) ff x gt g tgt = z at e ⊢
  pointwise
  rw [e]

theorem pay1_apply : k0_pay1 (F := Ideal) (k0_pay10 ff x gt) (k0_pay13 ff x gt g tgt) acc (ix2 0 q)
    = acc (ix2 0 q) + ∑ p, (blkRow x ff tgt gt g p).gTerm q := by
  have e := pay10_apply x ff tgt gt g
  have e' := pay13_apply x ff tgt gt g
  unfold k0_pay1 Row.gTerm
  generalize k0_pay10 (F := Ideal) ff x gt = z at e ⊢
  generalize k0_pay13 (F := Ideal) ff x gt g tgt = w at e' ⊢
  pointwise
  simp only [e, e']

theorem pay2_apply : k0_pay2 (F := Ideal) (k0_pay9 ff x gt) (k0_pay10 ff x gt) (k0_pay13 ff x gt g tgt) g (ix2 p q)
    = (blkRow x ff tgt gt g p).grad q := by
  have e := pay10_apply x ff tgt gt g
  have e' := pay13_apply x ff tgt gt g
  have e'' := pay9_apply x ff tgt gt g
  unfold k0_pay2
  generalize k0_pay10 (F := Ideal) ff x gt = z at e ⊢
  generalize k0_pay13 (F := Ideal) ff x gt g tgt = w at e' ⊢
  generalize k0_pay9 (F := Ideal) ff x gt = r at e'' ⊢
  pointwise
  simp only [e, e', e'']
  rfl

theorem pay4_apply : k0_pay4 (F := Ideal) (k0_pay9 ff x gt) (k0_pay10 ff x gt) (k0_pay13 ff x gt g tgt) g gt (ix2 p q)
    = (blkRow x ff tgt gt g p).grad q * gt (ix2 0 q) := by
  have e := pay2_apply x ff tgt gt g
  unfold k0_pay4
  generalize k0_pay2 (F := Ideal) (k0_pay9 ff x gt) _ _ g = z at e ⊢
  pointwise
  rw [e]

theorem pay3_apply : k0_pay3 (F := Ideal) ff (k0_pay9 ff x gt) (k0_pay10 ff x gt) (k0_pay13 ff x gt g tgt) g acc (ix2 0 q)
    = acc (ix2 0 q) + ∑ p, (blkRow x ff tgt gt g p).gateTerm q := by
  have e := pay2_apply x ff tgt gt g
  unfold k0_pay3 Row.gateTerm
  generalize k0_pay2 (F := Ideal) (k0_pay9 ff x gt) _ _ g = z at e ⊢
  pointwise
  simp only [e]
  rfl

theorem zero_5 : k0_pay5 (F := Ideal) (ix2 0 q) = 0 := by unfold k0_pay5; pointwise

/-- The three zeros are one constant. -/
theorem zeros : k0_pay6 (F := Ideal) = k0_pay5 ∧ k0_pay7 (F := Ideal) = k0_pay5 := ⟨rfl, rfl⟩

end Point

/-! ## One point's outputs -/

section Out

variable (c : Dev nD) (i : grid0.Coords)
  (a1 : Memref sig .tc .vmem S128x4096 .f32) (h1 : a1.IsWhole) (a2 : Memref sig .tc .vmem S128x4096 .f32) (h2 : a2.IsWhole)
  (a3 : Memref sig .tc .vmem S128x4096 .f32) (h3 : a3.IsWhole) (a4 : Memref sig .tc .vmem S1x4096 .f32) (h4 : a4.IsWhole)
  (a5 : Memref sig .tc .vmem S1x4096 .f32) (h5 : a5.IsWhole) (a6 : Memref sig .tc .vmem S128x4096 .f32) (h6 : a6.IsWhole)
  (a7 : Memref sig .tc .vmem S128x4096 .bf16) (h7 : a7.IsWhole) (a8 : Memref sig .tc .vmem S1x4096 .f32) (h8 : a8.IsWhole)
  (a9 : Memref sig .tc .vmem S1x4096 .f32) (h9 : a9.IsWhole) (a10 : Memref sig .tc .vmem S1x4096 .f32) (h10 : a10.IsWhole)
  (x ff tgt : Vec Ideal S128x4096 .f32) (gt g y7 y8 y9 : Vec Ideal S1x4096 .f32)

/-- At the first point: the three sums start at zero. -/
theorem outs_A (g0 : cond0_0 i) :
    out0_A_5 c i a1 h1 a2 h2 a3 h3 a4 h4 a5 h5 a6 h6 a7 h7 a8 h8 a9 h9 a10 h10 g0 x ff tgt gt g
        = k0_pay2 (k0_pay9 ff x gt) (k0_pay10 ff x gt) (k0_pay13 ff x gt g tgt) g
      ∧ out0_A_6 c i a1 h1 a2 h2 a3 h3 a4 h4 a5 h5 a6 h6 a7 h7 a8 h8 a9 h9 a10 h10 g0 x ff tgt gt g
        = k0_pay4 (k0_pay9 ff x gt) (k0_pay10 ff x gt) (k0_pay13 ff x gt g tgt) g gt
      ∧ out0_A_7 c i a1 h1 a2 h2 a3 h3 a4 h4 a5 h5 a6 h6 a7 h7 a8 h8 a9 h9 a10 h10 g0 x ff tgt gt g
        = k0_pay12 ff x gt g tgt (k0_pay5 (F := Ideal))
      ∧ out0_A_8 c i a1 h1 a2 h2 a3 h3 a4 h4 a5 h5 a6 h6 a7 h7 a8 h8 a9 h9 a10 h10 g0 x ff tgt gt g
        = k0_pay1 (k0_pay10 ff x gt) (k0_pay13 ff x gt g tgt) (k0_pay6 (F := Ideal))
      ∧ out0_A_9 c i a1 h1 a2 h2 a3 h3 a4 h4 a5 h5 a6 h6 a7 h7 a8 h8 a9 h9 a10 h10 g0 x ff tgt gt g
        = k0_pay3 ff (k0_pay9 ff x gt) (k0_pay10 ff x gt) (k0_pay13 ff x gt g tgt) g (k0_pay7 (F := Ideal)) := by
  refine ⟨(View.read_writes_eq_canon _ _ _ (cover0_A_5 c i a1 h1 a2 h2 a3 h3 a4 h4 a5 h5 a6 h6 a7 h7 a8 h8 a9 h9 a10 h10 g0 x ff tgt gt g)).trans ?_,
    (View.read_writes_eq_canon _ _ _ (cover0_A_6 c i a1 h1 a2 h2 a3 h3 a4 h4 a5 h5 a6 h6 a7 h7 a8 h8 a9 h9 a10 h10 g0 x ff tgt gt g)).trans ?_,
    (View.read_writes_eq_canon _ _ _ (cover0_A_7 c i a1 h1 a2 h2 a3 h3 a4 h4 a5 h5 a6 h6 a7 h7 a8 h8 a9 h9 a10 h10 g0 x ff tgt gt g)).trans ?_,
    (View.read_writes_eq_canon _ _ _ (cover0_A_8 c i a1 h1 a2 h2 a3 h3 a4 h4 a5 h5 a6 h6 a7 h7 a8 h8 a9 h9 a10 h10 g0 x ff tgt gt g)).trans ?_,
    (View.read_writes_eq_canon _ _ _ (cover0_A_9 c i a1 h1 a2 h2 a3 h3 a4 h4 a5 h5 a6 h6 a7 h7 a8 h8 a9 h9 a10 h10 g0 x ff tgt gt g)).trans ?_⟩
  all_goals
    unfold kernelRun0_A
    dsimp only
    sl_unfold_words
    rw [View.canon_cons_unit_zero hz]
    try rw [View.readCov_unit_zero _ hz]
    simp only [View.readAt_eq_ld, h1.read_unread, h2.read_unread, h3.read_unread, h4.read_unread, h5.read_unread,
      View.ld_unit_zero (S := S128x4096) hz, View.ld_unit_zero (S := S1x4096) hz]
    try rfl

/-- At a later point: the three sums continue. -/
theorem outs_B (g0 : ¬ cond0_0 i) :
    out0_B_5 c i a1 h1 a2 h2 a3 h3 a4 h4 a5 h5 a6 h6 a7 h7 a8 h8 a9 h9 a10 h10 g0 x ff tgt gt g y7 y8 y9
        = k0_pay2 (k0_pay9 ff x gt) (k0_pay10 ff x gt) (k0_pay13 ff x gt g tgt) g
      ∧ out0_B_6 c i a1 h1 a2 h2 a3 h3 a4 h4 a5 h5 a6 h6 a7 h7 a8 h8 a9 h9 a10 h10 g0 x ff tgt gt g y7 y8 y9
        = k0_pay4 (k0_pay9 ff x gt) (k0_pay10 ff x gt) (k0_pay13 ff x gt g tgt) g gt
      ∧ out0_B_7 c i a1 h1 a2 h2 a3 h3 a4 h4 a5 h5 a6 h6 a7 h7 a8 h8 a9 h9 a10 h10 g0 x ff tgt gt g y7 y8 y9
        = k0_pay12 ff x gt g tgt y7
      ∧ out0_B_8 c i a1 h1 a2 h2 a3 h3 a4 h4 a5 h5 a6 h6 a7 h7 a8 h8 a9 h9 a10 h10 g0 x ff tgt gt g y7 y8 y9
        = k0_pay1 (k0_pay10 ff x gt) (k0_pay13 ff x gt g tgt) y8
      ∧ out0_B_9 c i a1 h1 a2 h2 a3 h3 a4 h4 a5 h5 a6 h6 a7 h7 a8 h8 a9 h9 a10 h10 g0 x ff tgt gt g y7 y8 y9
        = k0_pay3 ff (k0_pay9 ff x gt) (k0_pay10 ff x gt) (k0_pay13 ff x gt g tgt) g y9 := by
  refine ⟨(View.read_writes_eq_canon _ _ _ (cover0_B_5 c i a1 h1 a2 h2 a3 h3 a4 h4 a5 h5 a6 h6 a7 h7 a8 h8 a9 h9 a10 h10 g0 x ff tgt gt g y7 y8 y9)).trans ?_,
    (View.read_writes_eq_canon _ _ _ (cover0_B_6 c i a1 h1 a2 h2 a3 h3 a4 h4 a5 h5 a6 h6 a7 h7 a8 h8 a9 h9 a10 h10 g0 x ff tgt gt g y7 y8 y9)).trans ?_,
    (View.read_writes_eq_canon _ _ _ (cover0_B_7 c i a1 h1 a2 h2 a3 h3 a4 h4 a5 h5 a6 h6 a7 h7 a8 h8 a9 h9 a10 h10 g0 x ff tgt gt g y7 y8 y9)).trans ?_,
    (View.read_writes_eq_canon _ _ _ (cover0_B_8 c i a1 h1 a2 h2 a3 h3 a4 h4 a5 h5 a6 h6 a7 h7 a8 h8 a9 h9 a10 h10 g0 x ff tgt gt g y7 y8 y9)).trans ?_,
    (View.read_writes_eq_canon _ _ _ (cover0_B_9 c i a1 h1 a2 h2 a3 h3 a4 h4 a5 h5 a6 h6 a7 h7 a8 h8 a9 h9 a10 h10 g0 x ff tgt gt g y7 y8 y9)).trans ?_⟩
  all_goals
    unfold kernelRun0_B
    dsimp only
    sl_unfold_words
    rw [View.canon_cons_unit_zero hz]
    simp only [View.readAt_eq_ld, h1.read_unread, h2.read_unread, h3.read_unread, h4.read_unread, h5.read_unread,
      h8.read_unread, h9.read_unread, h10.read_unread, View.ld_unit_zero (S := S128x4096) hz, View.ld_unit_zero (S := S1x4096) hz]
    try rfl

end Out

/-! ## The points of the grid -/

theorem index_rows : ∀ t : Fin cfg0.N, win0_0.index t = ![t.val, 0] ∧ win0_1.index t = ![t.val, 0] ∧ win0_2.index t = ![t.val, 0]
      ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
      ∧ win0_5.index t = ![t.val, 0] ∧ win0_6.index t = ![t.val, 0])
theorem index_vectors : ∀ t : Fin cfg0.N, win0_3.index t = ![0, 0] ∧ win0_4.index t = ![0, 0] ∧ win0_7.index t = ![0, 0]
      ∧ win0_8.index t = ![0, 0] ∧ win0_9.index t = ![0, 0] :=
  (by decide +kernel : ∀ t : Fin grid0.N, win0_3.index t = ![0, 0] ∧ win0_4.index t = ![0, 0] ∧ win0_7.index t = ![0, 0]
      ∧ win0_8.index t = ![0, 0] ∧ win0_9.index t = ![0, 0])

theorem grid_N : cfg0.N = 32 := by decide

/-- Only the last point writes back an output that all points add to. -/
theorem one_flush (t t' : Fin cfg0.N) (h : t.val % 32 = 31) (h' : t'.val % 32 = 31) : t = t' := by
  have := t.isLt; have := t'.isLt; have := grid_N
  exact Fin.ext (by omega)

/-- The grid's last point. -/
def lastPoint : Fin cfg0.N := ⟨31, by decide⟩

section Arrays

variable (m : (ℓ : Loc nD τ sig) → Buf (Elt Ideal) ℓ) (c : Dev nD)

/-- What the call's region finds in its operands. -/
structure Finds (X FF TG : S4096x4096.Idx → EReal) (GT G : S1x4096.Idx → EReal) : Prop where
  h0 : V m c (Pipeline.arrRef spec0 0) = X
  h1 : V m c (Pipeline.arrRef spec0 1) = FF
  h2 : V m c (Pipeline.arrRef spec0 2) = TG
  h3 : V m c (Pipeline.arrRef spec0 3) = GT
  h4 : V m c (Pipeline.arrRef spec0 4) = G

variable {X FF TG : S4096x4096.Idx → EReal} {GT G : S1x4096.Idx → EReal} (H : Finds m c X FF TG GT G)
variable (t : Fin cfg0.N) (p : Fin 128) (r k q : Fin 4096)

/-- A token of the arrays. -/
def tokens (X FF TG : S4096x4096.Idx → EReal) (GT G : S1x4096.Idx → EReal) (r : Fin 4096) : Row :=
  ⟨fun k => X (ix2 r k), fun k => FF (ix2 r k), fun k => TG (ix2 r k), fun k => GT (ix2 0 k), fun k => G (ix2 0 k)⟩

include H

/-- The rows of a point's blocks. -/
theorem rows (hr : t.val * 128 + p.val = r.val) : iblk m c 0 t (ix2 p k) = X (ix2 r k) ∧ iblk m c 1 t (ix2 p k) = FF (ix2 r k)
    ∧ iblk m c 2 t (ix2 p k) = TG (ix2 r k) := by
  obtain ⟨i0, i1, i2, _⟩ := index_rows t
  rw [← H.h0, ← H.h1, ← H.h2]
  refine ⟨?_, ?_, ?_⟩
  all_goals
    blk_simp [iblk]
    refine congrArg (V m c _) ?_
  · blk_ext [i0]
  · blk_ext [i1]
  · blk_ext [i2]

/-- The vectors are in every point's blocks. -/
theorem vectors : iblk m c 3 t (ix2 0 k) = GT (ix2 0 k) ∧ iblk m c 4 t (ix2 0 k) = G (ix2 0 k) := by
  obtain ⟨i3, i4, _⟩ := index_vectors t
  rw [← H.h3, ← H.h4]
  refine ⟨?_, ?_⟩
  all_goals
    blk_simp [iblk]
    refine congrArg (V m c _) ?_
  · blk_ext [i3]
  · blk_ext [i4]

/-- A token of a point's blocks is the token of the arrays. -/
theorem blkRow_eq (hr : t.val * 128 + p.val = r.val) :
    blkRow (iblk m c 0 t) (iblk m c 1 t) (iblk m c 2 t) (iblk m c 3 t) (iblk m c 4 t) p = tokens X FF TG GT G r := by
  unfold blkRow tokens
  simp only [(rows m c H t p r _ hr).1, (rows m c H t p r _ hr).2.1, (rows m c H t p r _ hr).2.2, (vectors m c H t _).1, (vectors m c H t _).2]

/-- What every point writes of its rows. -/
theorem point_rows (hr : t.val * 128 + p.val = r.val) :
    (outsAt0 m c t.val t.isLt).1 (ix2 p q) = (tokens X FF TG GT G r).grad q
      ∧ (outsAt0 m c t.val t.isLt).2.1 (ix2 p q) = (tokens X FF TG GT G r).grad q * GT (ix2 0 q) := by
  rw [← blkRow_eq m c H t p r hr, ← (vectors m c H t q).1]
  by_cases h : t.val % 32 = 0
  · rw [outsAt0_A m c t h]
    dsimp only
    rw [(outs_A ..).1, (outs_A ..).2.1]
    exact ⟨pay2_apply .., pay4_apply ..⟩
  · rw [outsAt0_B m c t h]
    dsimp only
    rw [(outs_B ..).1, (outs_B ..).2.1]
    exact ⟨pay2_apply .., pay4_apply ..⟩

variable (u : Fin cfg0.N) (b : Fin 32)

/-- The first point starts the three sums. -/
theorem first (ht : t.val % 32 = 0) (hb : t.val = b.val) :
    (outsAt0 m c t.val t.isLt).2.2.1 (ix2 0 q) = ∑ p, (tokens X FF TG GT G (token b p)).errTerm q
      ∧ (outsAt0 m c t.val t.isLt).2.2.2.1 (ix2 0 q) = ∑ p, (tokens X FF TG GT G (token b p)).gTerm q
      ∧ (outsAt0 m c t.val t.isLt).2.2.2.2 (ix2 0 q) = ∑ p, (tokens X FF TG GT G (token b p)).gateTerm q := by
  have e (p : Fin 128) := blkRow_eq m c H t p (token b p) (by rw [hb]; rfl)
  rw [outsAt0_A m c t ht]
  dsimp only
  rw [(outs_A ..).2.2.1, (outs_A ..).2.2.2.1, (outs_A ..).2.2.2.2, zeros.1, zeros.2, pay12_apply, pay1_apply, pay3_apply, zero_5,
    zero_add, zero_add, zero_add]
  simp only [e, and_self]

/-- Every later point continues them. -/
theorem next (ht : ¬ t.val % 32 = 0) (hu : u.val + 1 = t.val) (hb : t.val = b.val) :
    (outsAt0 m c t.val t.isLt).2.2.1 (ix2 0 q)
        = (outsAt0 m c u.val u.isLt).2.2.1 (ix2 0 q) + ∑ p, (tokens X FF TG GT G (token b p)).errTerm q
      ∧ (outsAt0 m c t.val t.isLt).2.2.2.1 (ix2 0 q)
        = (outsAt0 m c u.val u.isLt).2.2.2.1 (ix2 0 q) + ∑ p, (tokens X FF TG GT G (token b p)).gTerm q
      ∧ (outsAt0 m c t.val t.isLt).2.2.2.2 (ix2 0 q)
        = (outsAt0 m c u.val u.isLt).2.2.2.2 (ix2 0 q) + ∑ p, (tokens X FF TG GT G (token b p)).gateTerm q := by
  have e (p : Fin 128) := blkRow_eq m c H t p (token b p) (by rw [hb]; rfl)
  rw [outsAt0_B m c t ht]
  obtain ⟨u, h⟩ := u
  obtain rfl : u = t.val - 1 := by dsimp only at hu; omega
  dsimp only
  rw [(outs_B ..).2.2.1, (outs_B ..).2.2.2.1, (outs_B ..).2.2.2.2, pay12_apply, pay1_apply, pay3_apply]
  simp only [e, and_self]

/-! ## The arrays -/

theorem final_rows : (dats m 0 c).arrAt 5 cfg0.N (ix2 r q) = (tokens X FF TG GT G r).grad q
    ∧ (dats m 0 c).arrAt 6 cfg0.N (ix2 r q) = (tokens X FF TG GT G r).grad q * GT (ix2 0 q) := by
  let t : Fin cfg0.N := ⟨r.val / 128, by show _ < 32; omega⟩
  let p : Fin 128 := ⟨r.val % 128, by omega⟩
  have hr : t.val * 128 + p.val = r.val := by simp only [t, p]; omega
  have a5 := (dats m 0 c).arrAt_emb_eq_flushed 5 disjoint5 t (flush0_5 t) (ix2 p q)
  have a6 := (dats m 0 c).arrAt_emb_eq_flushed 6 disjoint6 t (flush0_6 t) (ix2 p q)
  obtain ⟨_, _, _, i5, i6⟩ := index_rows t
  have e5 : ((cfg0.win 5).blk t).view.emb (ix2 p q) = ix2 r q := by
    blk_ext [i5]
  have e6 : ((cfg0.win 6).blk t).view.emb (ix2 p q) = ix2 r q := by
    blk_ext [i6]
  rw [e5] at a5
  rw [e6] at a6
  constructor
  · refine a5.trans ?_
    blk_simp
    rw [after0_5]
    exact (point_rows m c H t p r q hr).1
  · refine a6.trans ?_
    blk_simp
    rw [after0_6]
    exact (point_rows m c H t p r q hr).2

theorem final_7 : (dats m 0 c).arrAt 7 cfg0.N (ix2 0 q) = ∑ k, (tokens X FF TG GT G k).errTerm q := by
  have ha := (dats m 0 c).arrAt_emb_eq_flushed 7
    (fun t t' hf hf' h => absurd (one_flush t t' ((flush0_7 t).mp hf) ((flush0_7 t').mp hf')) h) lastPoint ((flush0_7 lastPoint).mpr rfl) (ix2 0 q)
  have i := (index_vectors lastPoint).2.2.1
  have e : ((cfg0.win 7).blk lastPoint).view.emb (ix2 0 q) = ix2 0 q := by
    blk_ext [i]
  rw [e] at ha
  refine ha.trans ?_
  blk_simp
  rw [after0_7]
  exact sum_points grid_N (fun k => (tokens X FF TG GT G k).errTerm q) (fun n h => (outsAt0 m c n h).2.2.1 (ix2 0 q))
    (fun t b h h' => (first m c H t q b h h').1) (fun t u b h h' h'' => (next m c H t q u b h h' h'').1) lastPoint rfl

theorem final_8 : (dats m 0 c).arrAt 8 cfg0.N (ix2 0 q) = ∑ k, (tokens X FF TG GT G k).gTerm q := by
  have ha := (dats m 0 c).arrAt_emb_eq_flushed 8
    (fun t t' hf hf' h => absurd (one_flush t t' ((flush0_8 t).mp hf) ((flush0_8 t').mp hf')) h) lastPoint ((flush0_8 lastPoint).mpr rfl) (ix2 0 q)
  have i := (index_vectors lastPoint).2.2.2.1
  have e : ((cfg0.win 8).blk lastPoint).view.emb (ix2 0 q) = ix2 0 q := by
    blk_ext [i]
  rw [e] at ha
  refine ha.trans ?_
  blk_simp
  rw [after0_8]
  exact sum_points grid_N (fun k => (tokens X FF TG GT G k).gTerm q) (fun n h => (outsAt0 m c n h).2.2.2.1 (ix2 0 q))
    (fun t b h h' => (first m c H t q b h h').2.1) (fun t u b h h' h'' => (next m c H t q u b h h' h'').2.1) lastPoint rfl

theorem final_9 : (dats m 0 c).arrAt 9 cfg0.N (ix2 0 q) = ∑ k, (tokens X FF TG GT G k).gateTerm q := by
  have ha := (dats m 0 c).arrAt_emb_eq_flushed 9
    (fun t t' hf hf' h => absurd (one_flush t t' ((flush0_9 t).mp hf) ((flush0_9 t').mp hf')) h) lastPoint ((flush0_9 lastPoint).mpr rfl) (ix2 0 q)
  have i := (index_vectors lastPoint).2.2.2.2
  have e : ((cfg0.win 9).blk lastPoint).view.emb (ix2 0 q) = ix2 0 q := by
    blk_ext [i]
  rw [e] at ha
  refine ha.trans ?_
  blk_simp
  rw [after0_9]
  exact sum_points grid_N (fun k => (tokens X FF TG GT G k).gateTerm q) (fun n h => (outsAt0 m c n h).2.2.2.2 (ix2 0 q))
    (fun t b h h' => (first m c H t q b h h').2.2) (fun t u b h h' h'' => (next m c H t q u b h h' h'').2.2) lastPoint rfl

end Arrays

/-! ## The reference -/

section Reference

open Cert.ReferenceFinalIdeal.Read

variable (x0 x1 x2 : S4096x4096.Idx → EReal) (x3 x4 : S1x4096.Idx → EReal) (r q : Fin 4096)

theorem ref_y : val_main_v2 (F := Ideal) x0 x1 x3 (ix2 r q) = (tokens x0 x1 x2 x3 x4 r).y q := by
  unfold val_main_v2 val_main_v1 val_main_v0
  pointwise
  rfl

theorem ref_meanSq : val_main_v9 (F := Ideal) x0 x1 x3 (ix2 r 0) = meanSq (tokens x0 x1 x2 x3 x4 r).y := by
  have e := ref_y x0 x1 x2 x3 x4
  unfold val_main_v9 val_main_v8 val_main_cst_1 val_main_v7 val_main_v6 val_main_cst_0 val_main_v5 val_main_v4 val_main_cst val_main_v3 meanSq meanSqBy
  generalize val_main_v2 (F := Ideal) x0 x1 x3 = z at e ⊢
  pointwise
  simp only [e]

theorem ref_rstd : val_main_v10 (F := Ideal) x0 x1 x3 (ix2 r 0) = rstd (tokens x0 x1 x2 x3 x4 r).y := by
  rw [val_main_v10_apply, ref_meanSq x0 x1 x2 x3 x4]
  rfl

theorem ref_normed : val_main_v15 (F := Ideal) x0 x1 x3 (ix2 r q) = (tokens x0 x1 x2 x3 x4 r).normed q := by
  have e := ref_y x0 x1 x2 x3 x4
  have e' := ref_rstd x0 x1 x2 x3 x4
  unfold val_main_v15 val_main_v14 Row.normed
  generalize val_main_v2 (F := Ideal) x0 x1 x3 = z at e ⊢
  generalize val_main_v10 (F := Ideal) x0 x1 x3 = y at e' ⊢
  pointwise
  rw [e, e']

theorem ref_err : val_main_v18 (F := Ideal) x0 x1 x2 x3 x4 (ix2 r q) = (tokens x0 x1 x2 x3 x4 r).err q := by
  have e := ref_normed x0 x1 x2 x3 x4
  unfold val_main_v18 val_main_v17 val_main_v16 Row.err
  generalize val_main_v15 (F := Ideal) x0 x1 x3 = z at e ⊢
  pointwise
  rw [e]
  rfl

theorem ref_7 : val_main_v28 (F := Ideal) x0 x1 x2 x3 x4 (ix2 0 q) = ∑ k, (tokens x0 x1 x2 x3 x4 k).errTerm q := by
  have e := ref_err x0 x1 x2 x3 x4
  unfold val_main_v28 val_main_v27 val_main_cst_8 val_main_v19 Row.errTerm
  generalize val_main_v18 (F := Ideal) x0 x1 x2 x3 x4 = z at e ⊢
  pointwise
  simp only [e]

theorem ref_dy : val_main_v34 (F := Ideal) x0 x1 x2 x3 x4 (ix2 r q) = (tokens x0 x1 x2 x3 x4 r).dy q := by
  have e := ref_err x0 x1 x2 x3 x4
  unfold val_main_v34 val_main_v33 val_main_v32 val_main_v31 val_main_cst_11 val_main_v30 val_main_v29 val_main_cst_9 val_main_cst_10
    val_main_v21 val_main_v20 val_main_cst_3 Row.dy
  generalize val_main_v18 (F := Ideal) x0 x1 x2 x3 x4 = z at e ⊢
  pointwise
  rw [e, ← factor_eq]

theorem ref_8 : val_main_v37 (F := Ideal) x0 x1 x2 x3 x4 (ix2 0 q) = ∑ k, (tokens x0 x1 x2 x3 x4 k).gTerm q := by
  have e := ref_normed x0 x1 x2 x3 x4
  have e' := ref_dy x0 x1 x2 x3 x4
  unfold val_main_v37 val_main_v36 val_main_cst_12 val_main_v35
  generalize val_main_v15 (F := Ideal) x0 x1 x3 = z at e ⊢
  generalize val_main_v34 (F := Ideal) x0 x1 x2 x3 x4 = w at e' ⊢
  pointwise
  simp only [e, e']
  exact Finset.sum_congr rfl fun k _ => mul_comm _ _

/-- The derivative by the normed row. -/
theorem ref_scaled : val_main_v39 (F := Ideal) x0 x1 x2 x3 x4 (ix2 r q) = (tokens x0 x1 x2 x3 x4 r).dy q * (tokens x0 x1 x2 x3 x4 r).g q := by
  have e := ref_dy x0 x1 x2 x3 x4
  unfold val_main_v39 val_main_v38
  generalize val_main_v34 (F := Ideal) x0 x1 x2 x3 x4 = z at e ⊢
  pointwise
  rw [e]
  rfl

theorem ref_through : val_main_v49 (F := Ideal) x0 x1 x2 x3 x4 (ix2 r q)
    = through (tokens x0 x1 x2 x3 x4 r).y fun k => (tokens x0 x1 x2 x3 x4 r).dy k * (tokens x0 x1 x2 x3 x4 r).g k := by
  have e := ref_scaled x0 x1 x2 x3 x4
  have e' := ref_rstd x0 x1 x2 x3 x4
  have e'' := ref_meanSq x0 x1 x2 x3 x4
  have e3 := ref_y x0 x1 x2 x3 x4
  unfold val_main_v49 val_main_v48 val_main_cst_15 val_main_v47 val_main_v46 val_main_cst_14 val_main_v45 val_main_v42 val_main_v41
    val_main_cst_13 val_main_v40 val_main_v13 val_main_v12 val_main_cst_2 val_main_v11
  generalize val_main_v39 (F := Ideal) x0 x1 x2 x3 x4 = z at e ⊢
  generalize val_main_v10 (F := Ideal) x0 x1 x3 = y at e' ⊢
  generalize val_main_v9 (F := Ideal) x0 x1 x3 = w at e'' ⊢
  generalize val_main_v2 (F := Ideal) x0 x1 x3 = v at e3 ⊢
  pointwise
  simp only [Fin.sum_univ_one, e, e', e'', e3]
  rfl

/-- The reference's gradient of a token is the kernel's. -/
theorem ref_5 : val_main_v53 (F := Ideal) x0 x1 x2 x3 x4 (ix2 r q) = (tokens x0 x1 x2 x3 x4 r).grad q := by
  have e := ref_scaled x0 x1 x2 x3 x4
  have e' := ref_rstd x0 x1 x2 x3 x4
  have e'' := ref_through x0 x1 x2 x3 x4
  have e3 := ref_y x0 x1 x2 x3 x4
  unfold val_main_v53 val_main_v52 val_main_v51 val_main_v50 val_main_v44 val_main_v43 Row.grad
  generalize val_main_v39 (F := Ideal) x0 x1 x2 x3 x4 = z at e ⊢
  generalize val_main_v10 (F := Ideal) x0 x1 x3 = y at e' ⊢
  generalize val_main_v49 (F := Ideal) x0 x1 x2 x3 x4 = w at e'' ⊢
  generalize val_main_v2 (F := Ideal) x0 x1 x3 = v at e3 ⊢
  pointwise
  simp only [e, e', e'', e3]
  have b := back_eq (tokens x0 x1 x2 x3 x4 r).y (fun k => (tokens x0 x1 x2 x3 x4 r).dy k * (tokens x0 x1 x2 x3 x4 r).g k) 0 q
  rwa [zero_add, zero_add] at b

theorem ref_6 : val_main_v59 (F := Ideal) x0 x1 x2 x3 x4 (ix2 r q) = (tokens x0 x1 x2 x3 x4 r).grad q * x3 (ix2 0 q) := by
  have e := ref_5 x0 x1 x2 x3 x4
  unfold val_main_v59 val_main_v55 val_main_v54
  generalize val_main_v53 (F := Ideal) x0 x1 x2 x3 x4 = y at e ⊢
  pointwise
  rw [e, mul_comm]

theorem ref_9 : val_main_v58 (F := Ideal) x0 x1 x2 x3 x4 (ix2 0 q) = ∑ k, (tokens x0 x1 x2 x3 x4 k).gateTerm q := by
  have e := ref_5 x0 x1 x2 x3 x4
  unfold val_main_v58 val_main_v57 val_main_cst_16 val_main_v56 Row.gateTerm
  generalize val_main_v53 (F := Ideal) x0 x1 x2 x3 x4 = y at e ⊢
  pointwise
  simp only [e]
  rfl

end Reference

/-! ## The arrays are equal -/

section Equal

variable (m : (ℓ : Loc nD τ sig) → Buf (Elt Ideal) ℓ) (c : Dev nD)

/-- The region finds the call's arguments. -/
theorem finds : Finds m c (m ((c : Thread nD τ).loc main_arg0)) (m ((c : Thread nD τ).loc main_arg1)) (m ((c : Thread nD τ).loc main_arg2))
    (m ((c : Thread nD τ).loc main_arg3)) (m ((c : Thread nD τ).loc main_arg4)) := by
  constructor
  all_goals
    unfold V
    after_reads_simp

open Cert.ReferenceFinalIdeal.Read

variable (x0 x1 x2 : S4096x4096.Idx → EReal) (x3 x4 : S1x4096.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4)

include e0 e1 e2 e3 e4 in
/-- All five results are equal. -/
theorem equal :
    (dats m 0 c).arrAt 5 cfg0.N = val_main_v53 (F := Ideal) x0 x1 x2 x3 x4
      ∧ (dats m 0 c).arrAt 6 cfg0.N = val_main_v59 (F := Ideal) x0 x1 x2 x3 x4
      ∧ (dats m 0 c).arrAt 7 cfg0.N = val_main_v28 (F := Ideal) x0 x1 x2 x3 x4
      ∧ (dats m 0 c).arrAt 8 cfg0.N = val_main_v37 (F := Ideal) x0 x1 x2 x3 x4
      ∧ (dats m 0 c).arrAt 9 cfg0.N = val_main_v58 (F := Ideal) x0 x1 x2 x3 x4 := by
  have H := finds m c
  rw [e0, e1, e2, e3, e4] at H
  have matrix (i : S4096x4096.Idx) : ∃ r s : Fin 4096, i = ix2 r s := ⟨i 0, i 1, by funext b; fin_cases b <;> rfl⟩
  refine ⟨funext fun i => ?_, funext fun i => ?_, funext fun i => ?_, funext fun i => ?_, funext fun i => ?_⟩
  · obtain ⟨r, s, rfl⟩ := matrix i
    exact (final_rows m c H r s).1.trans (ref_5 x0 x1 x2 x3 x4 r s).symm
  · obtain ⟨r, s, rfl⟩ := matrix i
    exact (final_rows m c H r s).2.trans (ref_6 x0 x1 x2 x3 x4 r s).symm
  · obtain ⟨s, rfl⟩ := Norm1.vector i
    exact (final_7 m c H s).trans (ref_7 x0 x1 x2 x3 x4 s).symm
  · obtain ⟨s, rfl⟩ := Norm1.vector i
    exact (final_8 m c H s).trans (ref_8 x0 x1 x2 x3 x4 s).symm
  · obtain ⟨s, rfl⟩ := Norm1.vector i
    exact (final_9 m c H s).trans (ref_9 x0 x1 x2 x3 x4 s).symm

end Equal

end Cert.Proof.Final

end
-- ==== Proof.ResNorm.lean ====
/-
  THE RESIDUAL STREAM AFTER THE MIXER, AND THE SECOND ADAPTIVE NORM OF IT: the forward call, from one point's blocks to
  the equation.
-/
module

public import proofs.«01_k».proof.Proof.Gen.KernelResNormIdeal.Value
public import proofs.«01_k».proof.Proof.Gen.ReferenceResNormIdeal.Run
public import proofs.«01_k».proof.Proof.Gen.ReferenceResNormIdeal.Read
public import proofs.«01_k».proof.Proof.Norm

@[expose] public section

noncomputable section

namespace Cert.Proof.ResNorm

open Idealize.ShloMosaic Idealize.ShloMosaic.TcCoe Idealize.ShloMosaic.Tactic Idealize.ShloMosaic.ValueKit
open Idealize.SL Idealize.SL.Sem
open Cert.KernelResNormIdeal Cert.KernelResNormIdeal.Gen Cert.KernelResNormIdeal.Value Cert.Proof.Products Cert.Proof.Norm

/-- A row of the residual stream. -/
def stream (x mo gt : Fin 4096 → EReal) (q : Fin 4096) : EReal := x q + gt q * mo q
/-- The row's norm, scaled and shifted. -/
def modulated (y g sc sh : Fin 4096 → EReal) (q : Fin 4096) : EReal := y q * rstd y * g q * (1 + sc q) + sh q

/-! ## One point -/

section Point

variable (x mo : Vec Ideal S128x4096 .f32) (gt g sc sh : Vec Ideal S1x4096 .f32) (p : Fin 128) (q : Fin 4096)

/-- A row of the residual stream in a point's blocks. -/
def blkStream : Fin 4096 → EReal := stream (fun k => x (ix2 p k)) (fun k => mo (ix2 p k)) fun k => gt (ix2 0 k)

theorem pay1_apply : k0_pay1 (F := Ideal) x gt mo (ix2 p q) = blkStream x mo gt p q := by
  unfold k0_pay1
  pointwise
  rfl

theorem pay2_apply : k0_pay2 (F := Ideal) x gt mo g sc sh (ix2 p q)
    = modulated (blkStream x mo gt p) (fun k => g (ix2 0 k)) (fun k => sc (ix2 0 k)) (fun k => sh (ix2 0 k)) q := by
  have e := pay1_apply x mo gt
  unfold k0_pay2 modulated rstd rstdBy meanSqBy
  generalize k0_pay1 (F := Ideal) x gt mo = z at e ⊢
  pointwise
  simp only [e]

/-- What one point writes. -/
theorem outs : out0_6 (F := Ideal) x mo gt g sc sh = k0_pay1 x gt mo ∧ out0_7 (F := Ideal) x mo gt g sc sh = k0_pay2 x gt mo g sc sh := by
  unfold out0_6 out0_7
  constructor
  all_goals
    rw [View.canon_unit_zero hz]
    simp only [View.ld_unit_zero (S := S128x4096) hz, View.ld_unit_zero (S := S1x4096) hz]

end Point

/-! ## The arrays -/

theorem index_rows : ∀ t : Fin cfg0.N, win0_0.index t = ![t.val, 0] ∧ win0_1.index t = ![t.val, 0] ∧ win0_6.index t = ![t.val, 0]
      ∧ win0_7.index t = ![t.val, 0] :=
  (by decide +kernel : ∀ t : Fin grid0.N, win0_0.index t = ![t.val, 0] ∧ win0_1.index t = ![t.val, 0] ∧ win0_6.index t = ![t.val, 0]
      ∧ win0_7.index t = ![t.val, 0])
theorem index_vectors : ∀ t : Fin cfg0.N, win0_2.index t = ![0, 0] ∧ win0_3.index t = ![0, 0] ∧ win0_4.index t = ![0, 0]
      ∧ win0_5.index t = ![0, 0] :=
  (by decide +kernel : ∀ t : Fin grid0.N, win0_2.index t = ![0, 0] ∧ win0_3.index t = ![0, 0] ∧ win0_4.index t = ![0, 0]
      ∧ win0_5.index t = ![0, 0])

section Arrays

variable (m : (ℓ : Loc nD τ sig) → Buf (Elt Ideal) ℓ) (c : Dev nD)

/-- What the call's region finds in its operands. -/
structure Finds (X MO : S4096x4096.Idx → EReal) (GT G SC SH : S1x4096.Idx → EReal) : Prop where
  h0 : V m c (Pipeline.arrRef spec0 0) = X
  h1 : V m c (Pipeline.arrRef spec0 1) = MO
  h2 : V m c (Pipeline.arrRef spec0 2) = GT
  h3 : V m c (Pipeline.arrRef spec0 3) = G
  h4 : V m c (Pipeline.arrRef spec0 4) = SC
  h5 : V m c (Pipeline.arrRef spec0 5) = SH

variable {X MO : S4096x4096.Idx → EReal} {GT G SC SH : S1x4096.Idx → EReal} (H : Finds m c X MO GT G SC SH)
variable (t : Fin cfg0.N) (p : Fin 128) (r k q : Fin 4096)

/-- A token of the residual stream. -/
def tokenStream (X MO : S4096x4096.Idx → EReal) (GT : S1x4096.Idx → EReal) (r : Fin 4096) : Fin 4096 → EReal :=
  stream (fun k => X (ix2 r k)) (fun k => MO (ix2 r k)) fun k => GT (ix2 0 k)

include H

/-- The rows of a point's blocks. -/
theorem rows (hr : t.val * 128 + p.val = r.val) : iblk m c 0 t (ix2 p k) = X (ix2 r k) ∧ iblk m c 1 t (ix2 p k) = MO (ix2 r k) := by
  obtain ⟨i0, i1, _⟩ := index_rows t
  rw [← H.h0, ← H.h1]
  refine ⟨?_, ?_⟩
  all_goals
    blk_simp [iblk]
    refine congrArg (V m c _) ?_
  · blk_ext [i0]
  · blk_ext [i1]

/-- The vectors are in every point's blocks. -/
theorem vectors : iblk m c 2 t (ix2 0 k) = GT (ix2 0 k) ∧ iblk m c 3 t (ix2 0 k) = G (ix2 0 k) ∧ iblk m c 4 t (ix2 0 k) = SC (ix2 0 k)
    ∧ iblk m c 5 t (ix2 0 k) = SH (ix2 0 k) := by
  obtain ⟨i2, i3, i4, i5⟩ := index_vectors t
  rw [← H.h2, ← H.h3, ← H.h4, ← H.h5]
  refine ⟨?_, ?_, ?_, ?_⟩
  all_goals
    blk_simp [iblk]
    refine congrArg (V m c _) ?_
  · blk_ext [i2]
  · blk_ext [i3]
  · blk_ext [i4]
  · blk_ext [i5]

theorem blkStream_eq (hr : t.val * 128 + p.val = r.val) :
    blkStream (iblk m c 0 t) (iblk m c 1 t) (iblk m c 2 t) p = tokenStream X MO GT r := by
  unfold blkStream tokenStream
  simp only [(rows m c H t p r _ hr).1, (rows m c H t p r _ hr).2, (vectors m c H t _).1]

theorem final : (dats m 0 c).arrAt 6 cfg0.N (ix2 r q) = tokenStream X MO GT r q
    ∧ (dats m 0 c).arrAt 7 cfg0.N (ix2 r q)
      = modulated (tokenStream X MO GT r) (fun k => G (ix2 0 k)) (fun k => SC (ix2 0 k)) (fun k => SH (ix2 0 k)) q := by
  have hf : ∀ t : Fin cfg0.N, (cfg0.win 6).flush t = true ∧ (cfg0.win 7).flush t = true :=
    (by decide +kernel : ∀ t : Fin grid0.N, win0_6.flush t = true ∧ win0_7.flush t = true)
  let t : Fin cfg0.N := ⟨r.val / 128, by show _ < 32; omega⟩
  let p : Fin 128 := ⟨r.val % 128, by omega⟩
  have hr : t.val * 128 + p.val = r.val := by simp only [t, p]; omega
  have a6 := (dats m 0 c).arrAt_emb_eq_flushed 6 disjoint6 t (hf t).1 (ix2 p q)
  have a7 := (dats m 0 c).arrAt_emb_eq_flushed 7 disjoint7 t (hf t).2 (ix2 p q)
  obtain ⟨_, _, i6, i7⟩ := index_rows t
  have e6 : ((cfg0.win 6).blk t).view.emb (ix2 p q) = ix2 r q := by
    blk_ext [i6]
  have e7 : ((cfg0.win 7).blk t).view.emb (ix2 p q) = ix2 r q := by
    blk_ext [i7]
  rw [e6] at a6
  rw [e7] at a7
  constructor
  · refine a6.trans ?_
    blk_simp
    rw [after0_6, (outs ..).1, pay1_apply, blkStream_eq m c H t p r hr]
  · refine a7.trans ?_
    blk_simp
    rw [after0_7, (outs ..).2, pay2_apply, blkStream_eq m c H t p r hr]
    simp only [(vectors m c H t _).2.1, (vectors m c H t _).2.2.1, (vectors m c H t _).2.2.2]

end Arrays

/-! ## The reference -/

section Reference

open Cert.ReferenceResNormIdeal.Read

variable (x0 x1 : S4096x4096.Idx → EReal) (x2 x3 x4 x5 : S1x4096.Idx → EReal) (r q : Fin 4096)

theorem ref_6 : val_main_v2 (F := Ideal) x0 x1 x2 (ix2 r q) = tokenStream x0 x1 x2 r q := by
  unfold val_main_v2 val_main_v1 val_main_v0
  pointwise
  rfl

theorem ref_rstd : val_main_v10 (F := Ideal) x0 x1 x2 (ix2 r 0) = rstd (tokenStream x0 x1 x2 r) := by
  have e := ref_6 x0 x1 x2
  unfold val_main_v10 val_main_v9 val_main_v8 val_main_cst_1 val_main_v7 val_main_v6 val_main_cst_0 val_main_v5 val_main_v4 val_main_cst
    val_main_v3 rstd rstdBy meanSqBy
  generalize val_main_v2 (F := Ideal) x0 x1 x2 = z at e ⊢
  pointwise
  simp only [e]

theorem ref_7 : val_main_v21 (F := Ideal) x0 x1 x2 x3 x4 x5 (ix2 r q)
    = modulated (tokenStream x0 x1 x2 r) (fun k => x3 (ix2 0 k)) (fun k => x4 (ix2 0 k)) (fun k => x5 (ix2 0 k)) q := by
  have e := ref_6 x0 x1 x2
  have e' := ref_rstd x0 x1 x2
  unfold val_main_v21 val_main_v20 val_main_v19 val_main_v18 val_main_v17 val_main_v16 val_main_v15 val_main_cst_2 val_main_v14
    val_main_v13 val_main_v12 val_main_v11 modulated
  generalize val_main_v2 (F := Ideal) x0 x1 x2 = z at e ⊢
  generalize val_main_v10 (F := Ideal) x0 x1 x2 = y at e' ⊢
  pointwise
  rw [e, e']

end Reference

/-! ## The arrays are equal -/

section Equal

variable (m : (ℓ : Loc nD τ sig) → Buf (Elt Ideal) ℓ) (c : Dev nD)

/-- The region finds the call's arguments. -/
theorem finds : Finds m c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  constructor
  all_goals
    unfold V
    after_reads_simp

open Cert.ReferenceResNormIdeal.Read

/-- Both results are equal. -/
theorem equal :
    (dats m 0 c).arrAt 6 cfg0.N = val_main_v2 (F := Ideal) (m ((c : Thread nD τ).loc main_arg0)) (m ((c : Thread nD τ).loc main_arg1))
        (m ((c : Thread nD τ).loc main_arg2))
      ∧ (dats m 0 c).arrAt 7 cfg0.N = val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have matrix (i : S4096x4096.Idx) : ∃ r s : Fin 4096, i = ix2 r s := ⟨i 0, i 1, by funext b; fin_cases b <;> rfl⟩
  refine ⟨funext fun i => ?_, funext fun i => ?_⟩
  · obtain ⟨r, s, rfl⟩ := matrix i
    exact (final m c (finds m c) r s).1.trans (ref_6 _ _ _ r s).symm
  · obtain ⟨r, s, rfl⟩ := matrix i
    exact (final m c (finds m c) r s).2.trans (ref_7 _ _ _ _ _ _ r s).symm

end Equal

end Cert.Proof.ResNorm

end
-- ==== Proof.Mix.lean ====
/-
  THE MIXER'S OUTPUT NORMS AND ITS GATED UNIT: the backward call, against the derivative of the reference's lines for the two
  halves. A half is as wide as `lanesHalf` says; what a token contributes is stated once, of its row.
-/
module

public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Norm

@[expose] public section

noncomputable section

namespace Cert.Proof.Mix

open Idealize.ShloMosaic Idealize.ShloMosaic.TcCoe Idealize.ShloMosaic.Tactic Idealize.ShloMosaic.ValueKit
open Idealize.SL Idealize.SL.Sem
open Cert.KernelMixIdeal Cert.KernelMixIdeal.Gen Cert.KernelMixIdeal.Value Cert.Proof.Products Cert.Proof.Norm

/-! ## One token -/

/-- The factors of the Gaussian error unit, as the literals that both programs hold. -/
abbrev half : EReal := Ideal.ofBits .f32 0x3F000000#32
abbrev root : EReal := Ideal.ofBits .f32 0x3F3504F3#32

/-- The rows of a token, and the three vectors: the derivative by the two normed halves, the attention's output, the state space
    model's output, the gate before its bias, the bias and the two norms' vectors. -/
structure Row where
  dl : Fin 2048 → EReal
  dr : Fin 2048 → EReal
  att : Fin 2048 → EReal
  y : Fin 2048 → EReal
  gl : Fin 2048 → EReal
  b : Fin 2048 → EReal
  ga : Fin 2048 → EReal
  gs : Fin 2048 → EReal

/-- The Gaussian error unit. -/
def Row.z (w : Row) (q : Fin 2048) : EReal := half * w.y q * (1 + Ideal.erf (w.y q * root))
/-- The gate. -/
def Row.sg (w : Row) (q : Fin 2048) : EReal := Ideal.logistic (w.gl q + w.b q)
/-- The gated unit. -/
def Row.o (w : Row) (q : Fin 2048) : EReal := w.z q * w.sg q
/-- The derivative by the attention's output. -/
def Row.dAt (w : Row) (q : Fin 2048) : EReal := backBy lanesHalf w.att (fun k => w.dl k * w.ga k) q
/-- The derivative by the gated unit. -/
def Row.dO (w : Row) (q : Fin 2048) : EReal := backBy lanesHalf w.o (fun k => w.dr k * w.gs k) q
/-- The derivative by the error unit's value. -/
def Row.dz (w : Row) (q : Fin 2048) : EReal := w.dO q * w.sg q
/-- The derivative by the gate before its bias. -/
def Row.dgl (w : Row) (q : Fin 2048) : EReal := w.dO q * w.z q * w.sg q * (1 - w.sg q)
/-- What the token adds to the gradients by the norms' vectors. -/
def Row.gaTerm (w : Row) (q : Fin 2048) : EReal := w.dl q * (w.att q * rstdBy lanesHalf w.att)
def Row.gsTerm (w : Row) (q : Fin 2048) : EReal := w.dr q * (w.o q * rstdBy lanesHalf w.o)

/-- A lane of the left and of the right half. -/
abbrev lo (q : Fin 2048) : Fin 4096 := ⟨q.val, by omega⟩
abbrev hi (q : Fin 2048) : Fin 4096 := ⟨2048 + q.val, by omega⟩

/-! ## One point -/

/-- The halves of a block's rows. -/
def left (x : Vec Ideal S128x4096 .f32) : Vec Ideal S128x2048 .f32 :=
  View.ld x (Rect.unit (s := S128x4096) ![0, 0] S128x2048.size inb_S128x4096_S128x2048_0_0)
def right (x : Vec Ideal S128x4096 .f32) : Vec Ideal S128x2048 .f32 :=
  View.ld x (Rect.unit (s := S128x4096) ![0, 2048] S128x2048.size inb_S128x4096_S128x2048_0_2048)

section Point

variable (dm : Vec Ideal S128x4096 .f32) (att y gl : Vec Ideal S128x2048 .f32) (b ga gs acc : Vec Ideal S1x2048 .f32)
  (p : Fin 128) (q : Fin 2048)

theorem left_apply : left dm (ix2 p q) = dm (ix2 p (lo q)) :=
  View.ld_unit_apply_of dm _ _ _ _ _ (by intro a; fin_cases a; exacts [(Nat.zero_add _).symm, (Nat.zero_add _).symm])

theorem right_apply : right dm (ix2 p q) = dm (ix2 p (hi q)) :=
  View.ld_unit_apply_of dm _ _ _ _ _ (by intro a; fin_cases a; exacts [(Nat.zero_add _).symm, rfl])

/-- A token of a point's blocks. -/
def blkRow : Row :=
  ⟨fun k => left dm (ix2 p k), fun k => right dm (ix2 p k), fun k => att (ix2 p k), fun k => y (ix2 p k), fun k => gl (ix2 p k),
    fun k => b (ix2 0 k), fun k => ga (ix2 0 k), fun k => gs (ix2 0 k)⟩

theorem pay9_apply : k0_pay9 (F := Ideal) att (ix2 p 0) = rstdBy lanesHalf (blkRow dm att y gl b ga gs p).att := by
  unfold k0_pay9 rstdBy meanSqBy
  pointwise
  rfl

theorem pay10_apply : k0_pay10 (F := Ideal) att (ix2 p q) = att (ix2 p q) * rstdBy lanesHalf (blkRow dm att y gl b ga gs p).att := by
  have e := pay9_apply dm att y gl b ga gs
  unfold k0_pay10
  generalize k0_pay9 (F := Ideal) att = r at e ⊢
  pointwise
  rw [e]

theorem pay11_apply : k0_pay11 (F := Ideal) (left dm) att acc (ix2 0 q) = acc (ix2 0 q) + ∑ p, (blkRow dm att y gl b ga gs p).gaTerm q := by
  have e := pay10_apply dm att y gl b ga gs
  unfold k0_pay11 Row.gaTerm
  generalize k0_pay10 (F := Ideal) att = r at e ⊢
  pointwise
  simp only [e]
  rfl

theorem pay12_apply : k0_pay12 (F := Ideal) (left dm) att ga (ix2 p q) = (blkRow dm att y gl b ga gs p).dAt q := by
  have e := pay9_apply dm att y gl b ga gs
  have e' := pay10_apply dm att y gl b ga gs
  unfold k0_pay12
  generalize k0_pay9 (F := Ideal) att = r at e ⊢
  generalize k0_pay10 (F := Ideal) att = z at e' ⊢
  pointwise
  simp only [e, e']
  rfl

theorem pay13_apply : k0_pay13 (F := Ideal) y (ix2 p q) = (blkRow dm att y gl b ga gs p).z q := by
  unfold k0_pay13
  pointwise
  rfl

theorem pay14_apply : k0_pay14 (F := Ideal) gl b (ix2 p q) = (blkRow dm att y gl b ga gs p).sg q := by
  unfold k0_pay14
  pointwise
  rfl

theorem pay15_apply : k0_pay15 (F := Ideal) y gl b (ix2 p q) = (blkRow dm att y gl b ga gs p).o q := by
  have e := pay13_apply dm att y gl b ga gs
  have e' := pay14_apply dm att y gl b ga gs
  unfold k0_pay15 Row.o
  generalize k0_pay13 (F := Ideal) y = z at e ⊢
  generalize k0_pay14 (F := Ideal) gl b = s at e' ⊢
  pointwise
  rw [e, e']

theorem pay16_apply : k0_pay16 (F := Ideal) y gl b (ix2 p 0) = rstdBy lanesHalf (blkRow dm att y gl b ga gs p).o := by
  have e := pay15_apply dm att y gl b ga gs
  unfold k0_pay16 rstdBy meanSqBy
  generalize k0_pay15 (F := Ideal) y gl b = z at e ⊢
  pointwise
  simp only [e]

theorem pay17_apply : k0_pay17 (F := Ideal) y gl b (ix2 p q) = (blkRow dm att y gl b ga gs p).o q * rstdBy lanesHalf (blkRow dm att y gl b ga gs p).o := by
  have e := pay15_apply dm att y gl b ga gs
  have e' := pay16_apply dm att y gl b ga gs
  unfold k0_pay17
  generalize k0_pay15 (F := Ideal) y gl b = z at e ⊢
  generalize k0_pay16 (F := Ideal) y gl b = r at e' ⊢
  pointwise
  rw [e, e']

theorem pay18_apply : k0_pay18 (F := Ideal) (right dm) y gl b acc (ix2 0 q) = acc (ix2 0 q) + ∑ p, (blkRow dm att y gl b ga gs p).gsTerm q := by
  have e := pay17_apply dm att y gl b ga gs
  unfold k0_pay18 Row.gsTerm
  generalize k0_pay17 (F := Ideal) y gl b = z at e ⊢
  pointwise
  simp only [e]
  rfl

theorem pay19_apply : k0_pay19 (F := Ideal) (right dm) gs (ix2 p q) = (blkRow dm att y gl b ga gs p).dr q * (blkRow dm att y gl b ga gs p).gs q := by
  unfold k0_pay19
  pointwise
  rfl

theorem pay20_apply : k0_pay20 (F := Ideal) (right dm) y gl b gs (ix2 p q)
    = (blkRow dm att y gl b ga gs p).dr q * (blkRow dm att y gl b ga gs p).gs q * ((blkRow dm att y gl b ga gs p).o q * rstdBy lanesHalf (blkRow dm att y gl b ga gs p).o) := by
  have e := pay17_apply dm att y gl b ga gs
  have e' := pay19_apply dm att y gl b ga gs
  unfold k0_pay20
  generalize k0_pay17 (F := Ideal) y gl b = z at e ⊢
  generalize k0_pay19 (F := Ideal) (right dm) gs = d at e' ⊢
  pointwise
  rw [e, e']

/-- The derivative by the gated unit, as the kernel holds it. -/
def unit : Vec Ideal S128x2048 .f32 :=
  k0_pay1 (F := Ideal) (k0_pay16 y gl b) (k0_pay17 y gl b) (k0_pay19 (right dm) gs) (k0_pay20 (right dm) y gl b gs)

theorem pay1_apply : unit dm y gl b gs (ix2 p q) = (blkRow dm att y gl b ga gs p).dO q := by
  have e16 := pay16_apply dm att y gl b ga gs
  have e17 := pay17_apply dm att y gl b ga gs
  have e19 := pay19_apply dm att y gl b ga gs
  have e20 := pay20_apply dm att y gl b ga gs
  unfold unit k0_pay1
  generalize k0_pay16 (F := Ideal) y gl b = r at e16 ⊢
  generalize k0_pay17 (F := Ideal) y gl b = z at e17 ⊢
  generalize k0_pay19 (F := Ideal) (right dm) gs = d at e19 ⊢
  generalize k0_pay20 (F := Ideal) (right dm) y gl b gs = u at e20 ⊢
  pointwise
  simp only [e16, e17, e19, e20]
  rfl

theorem pay2_apply : k0_pay2 (F := Ideal) (k0_pay14 gl b) (k0_pay16 y gl b) (k0_pay17 y gl b) (k0_pay19 (right dm) gs) (k0_pay20 (right dm) y gl b gs) (ix2 p q)
    = (blkRow dm att y gl b ga gs p).dz q := by
  have e := pay1_apply dm att y gl b ga gs
  have e' := pay14_apply dm att y gl b ga gs
  unfold k0_pay2 Row.dz
  unfold unit at e
  generalize k0_pay14 (F := Ideal) gl b = s at e' ⊢
  generalize k0_pay1 (F := Ideal) _ _ _ _ = z at e ⊢
  pointwise
  rw [e, e']

theorem pay3_apply : k0_pay3 (F := Ideal) (k0_pay13 y) (k0_pay14 gl b) (k0_pay16 y gl b) (k0_pay17 y gl b) (k0_pay19 (right dm) gs) (k0_pay20 (right dm) y gl b gs) (ix2 p q)
    = (blkRow dm att y gl b ga gs p).dgl q := by
  have e := pay1_apply dm att y gl b ga gs
  have e' := pay14_apply dm att y gl b ga gs
  have e'' := pay13_apply dm att y gl b ga gs
  unfold k0_pay3 Row.dgl
  unfold unit at e
  generalize k0_pay14 (F := Ideal) gl b = s at e' ⊢
  generalize k0_pay13 (F := Ideal) y = v at e'' ⊢
  generalize k0_pay1 (F := Ideal) _ _ _ _ = z at e ⊢
  pointwise
  rw [e, e', e'']

theorem pay5_apply : k0_pay5 (F := Ideal) (k0_pay13 y) (k0_pay14 gl b) (k0_pay16 y gl b) (k0_pay17 y gl b) (k0_pay19 (right dm) gs) (k0_pay20 (right dm) y gl b gs) (ix2 p q)
    = (blkRow dm att y gl b ga gs p).dgl q := by
  rw [← pay3_apply dm att y gl b ga gs]
  unfold k0_pay5
  pointwise

theorem pay4_apply : k0_pay4 (F := Ideal) (k0_pay13 y) (k0_pay14 gl b) (k0_pay16 y gl b) (k0_pay17 y gl b) (k0_pay19 (right dm) gs) (k0_pay20 (right dm) y gl b gs) acc (ix2 0 q)
    = acc (ix2 0 q) + ∑ p, (blkRow dm att y gl b ga gs p).dgl q := by
  have e := pay3_apply dm att y gl b ga gs
  unfold k0_pay4
  generalize k0_pay3 (F := Ideal) _ _ _ _ _ _ = z at e ⊢
  pointwise
  simp only [e]

theorem zero_6 : k0_pay6 (F := Ideal) (ix2 0 q) = 0 := by unfold k0_pay6; pointwise

/-- The three zeros are one constant. -/
theorem zeros : k0_pay7 (F := Ideal) = k0_pay6 ∧ k0_pay8 (F := Ideal) = k0_pay6 := ⟨rfl, rfl⟩

end Point

/-! ## One point's outputs -/

section Out

variable (c : Dev nD) (i : grid0.Coords)
  (a1 : Memref sig .tc .vmem S128x4096 .f32) (h1 : a1.IsWhole)
  (a2 : Memref sig .tc .vmem S128x2048 .f32) (h2 : a2.IsWhole)
  (a3 : Memref sig .tc .vmem S128x2048 .f32) (h3 : a3.IsWhole)
  (a4 : Memref sig .tc .vmem S128x2048 .f32) (h4 : a4.IsWhole)
  (a5 : Memref sig .tc .vmem S1x2048 .f32) (h5 : a5.IsWhole)
  (a6 : Memref sig .tc .vmem S1x2048 .f32) (h6 : a6.IsWhole)
  (a7 : Memref sig .tc .vmem S1x2048 .f32) (h7 : a7.IsWhole)
  (a8 : Memref sig .tc .vmem S128x2048 .f32) (h8 : a8.IsWhole)
  (a9 : Memref sig .tc .vmem S128x2048 .bf16) (h9 : a9.IsWhole)
  (a10 : Memref sig .tc .vmem S128x2048 .f32) (h10 : a10.IsWhole)
  (a11 : Memref sig .tc .vmem S1x2048 .f32) (h11 : a11.IsWhole)
  (a12 : Memref sig .tc .vmem S1x2048 .f32) (h12 : a12.IsWhole)
  (a13 : Memref sig .tc .vmem S1x2048 .f32) (h13 : a13.IsWhole)
  (dm : Vec Ideal S128x4096 .f32) (att y gl : Vec Ideal S128x2048 .f32) (b ga gs y10 y11 y12 : Vec Ideal S1x2048 .f32)

/-- At the first point: the three sums start at zero. -/
theorem outs_A (g0 : cond0_0 i) :
    out0_A_7 c i a1 h1 a2 h2 a3 h3 a4 h4 a5 h5 a6 h6 a7 h7 a8 h8 a9 h9 a10 h10 a11 h11 a12 h12 a13 h13 g0 dm att y gl b ga gs
        = k0_pay12 (left dm) att ga
      ∧ out0_A_8 c i a1 h1 a2 h2 a3 h3 a4 h4 a5 h5 a6 h6 a7 h7 a8 h8 a9 h9 a10 h10 a11 h11 a12 h12 a13 h13 g0 dm att y gl b ga gs
        = k0_pay5 (k0_pay13 y) (k0_pay14 gl b) (k0_pay16 y gl b) (k0_pay17 y gl b) (k0_pay19 (right dm) gs) (k0_pay20 (right dm) y gl b gs)
      ∧ out0_A_9 c i a1 h1 a2 h2 a3 h3 a4 h4 a5 h5 a6 h6 a7 h7 a8 h8 a9 h9 a10 h10 a11 h11 a12 h12 a13 h13 g0 dm att y gl b ga gs
        = k0_pay2 (k0_pay14 gl b) (k0_pay16 y gl b) (k0_pay17 y gl b) (k0_pay19 (right dm) gs) (k0_pay20 (right dm) y gl b gs)
      ∧ out0_A_10 c i a1 h1 a2 h2 a3 h3 a4 h4 a5 h5 a6 h6 a7 h7 a8 h8 a9 h9 a10 h10 a11 h11 a12 h12 a13 h13 g0 dm att y gl b ga gs
        = k0_pay11 (left dm) att (k0_pay6 (F := Ideal))
      ∧ out0_A_11 c i a1 h1 a2 h2 a3 h3 a4 h4 a5 h5 a6 h6 a7 h7 a8 h8 a9 h9 a10 h10 a11 h11 a12 h12 a13 h13 g0 dm att y gl b ga gs
        = k0_pay18 (right dm) y gl b (k0_pay7 (F := Ideal))
      ∧ out0_A_12 c i a1 h1 a2 h2 a3 h3 a4 h4 a5 h5 a6 h6 a7 h7 a8 h8 a9 h9 a10 h10 a11 h11 a12 h12 a13 h13 g0 dm att y gl b ga gs
        = k0_pay4 (k0_pay13 y) (k0_pay14 gl b) (k0_pay16 y gl b) (k0_pay17 y gl b) (k0_pay19 (right dm) gs) (k0_pay20 (right dm) y gl b gs) (k0_pay8 (F := Ideal)) := by
  refine ⟨(View.read_writes_eq_canon _ _ _ (cover0_A_7 c i a1 h1 a2 h2 a3 h3 a4 h4 a5 h5 a6 h6 a7 h7 a8 h8 a9 h9 a10 h10 a11 h11 a12 h12 a13 h13 g0 dm att y gl b ga gs)).trans ?_,
    (View.read_writes_eq_canon _ _ _ (cover0_A_8 c i a1 h1 a2 h2 a3 h3 a4 h4 a5 h5 a6 h6 a7 h7 a8 h8 a9 h9 a10 h10 a11 h11 a12 h12 a13 h13 g0 dm att y gl b ga gs)).trans ?_,
    (View.read_writes_eq_canon _ _ _ (cover0_A_9 c i a1 h1 a2 h2 a3 h3 a4 h4 a5 h5 a6 h6 a7 h7 a8 h8 a9 h9 a10 h10 a11 h11 a12 h12 a13 h13 g0 dm att y gl b ga gs)).trans ?_,
    (View.read_writes_eq_canon _ _ _ (cover0_A_10 c i a1 h1 a2 h2 a3 h3 a4 h4 a5 h5 a6 h6 a7 h7 a8 h8 a9 h9 a10 h10 a11 h11 a12 h12 a13 h13 g0 dm att y gl b ga gs)).trans ?_,
    (View.read_writes_eq_canon _ _ _ (cover0_A_11 c i a1 h1 a2 h2 a3 h3 a4 h4 a5 h5 a6 h6 a7 h7 a8 h8 a9 h9 a10 h10 a11 h11 a12 h12 a13 h13 g0 dm att y gl b ga gs)).trans ?_,
    (View.read_writes_eq_canon _ _ _ (cover0_A_12 c i a1 h1 a2 h2 a3 h3 a4 h4 a5 h5 a6 h6 a7 h7 a8 h8 a9 h9 a10 h10 a11 h11 a12 h12 a13 h13 g0 dm att y gl b ga gs)).trans ?_⟩
  all_goals
    unfold kernelRun0_A
    dsimp only
    sl_unfold_words
    rw [View.canon_cons_unit_zero hz]
    try rw [View.readCov_unit_zero _ hz]
    simp only [View.readAt_eq_ld, h1.read_unread, h2.read_unread, h3.read_unread, h4.read_unread, h5.read_unread, h6.read_unread, h7.read_unread,
      View.ld_unit_zero (S := S128x2048) hz, View.ld_unit_zero (S := S1x2048) hz]
    try rfl

/-- At a later point: the three sums continue. -/
theorem outs_B (g0 : ¬ cond0_0 i) :
    out0_B_7 c i a1 h1 a2 h2 a3 h3 a4 h4 a5 h5 a6 h6 a7 h7 a8 h8 a9 h9 a10 h10 a11 h11 a12 h12 a13 h13 g0 dm att y gl b ga gs y10 y11 y12
        = k0_pay12 (left dm) att ga
      ∧ out0_B_8 c i a1 h1 a2 h2 a3 h3 a4 h4 a5 h5 a6 h6 a7 h7 a8 h8 a9 h9 a10 h10 a11 h11 a12 h12 a13 h13 g0 dm att y gl b ga gs y10 y11 y12
        = k0_pay5 (k0_pay13 y) (k0_pay14 gl b) (k0_pay16 y gl b) (k0_pay17 y gl b) (k0_pay19 (right dm) gs) (k0_pay20 (right dm) y gl b gs)
      ∧ out0_B_9 c i a1 h1 a2 h2 a3 h3 a4 h4 a5 h5 a6 h6 a7 h7 a8 h8 a9 h9 a10 h10 a11 h11 a12 h12 a13 h13 g0 dm att y gl b ga gs y10 y11 y12
        = k0_pay2 (k0_pay14 gl b) (k0_pay16 y gl b) (k0_pay17 y gl b) (k0_pay19 (right dm) gs) (k0_pay20 (right dm) y gl b gs)
      ∧ out0_B_10 c i a1 h1 a2 h2 a3 h3 a4 h4 a5 h5 a6 h6 a7 h7 a8 h8 a9 h9 a10 h10 a11 h11 a12 h12 a13 h13 g0 dm att y gl b ga gs y10 y11 y12
        = k0_pay11 (left dm) att y10
      ∧ out0_B_11 c i a1 h1 a2 h2 a3 h3 a4 h4 a5 h5 a6 h6 a7 h7 a8 h8 a9 h9 a10 h10 a11 h11 a12 h12 a13 h13 g0 dm att y gl b ga gs y10 y11 y12
        = k0_pay18 (right dm) y gl b y11
      ∧ out0_B_12 c i a1 h1 a2 h2 a3 h3 a4 h4 a5 h5 a6 h6 a7 h7 a8 h8 a9 h9 a10 h10 a11 h11 a12 h12 a13 h13 g0 dm att y gl b ga gs y10 y11 y12
        = k0_pay4 (k0_pay13 y) (k0_pay14 gl b) (k0_pay16 y gl b) (k0_pay17 y gl b) (k0_pay19 (right dm) gs) (k0_pay20 (right dm) y gl b gs) y12 := by
  refine ⟨(View.read_writes_eq_canon _ _ _ (cover0_B_7 c i a1 h1 a2 h2 a3 h3 a4 h4 a5 h5 a6 h6 a7 h7 a8 h8 a9 h9 a10 h10 a11 h11 a12 h12 a13 h13 g0 dm att y gl b ga gs y10 y11 y12)).trans ?_,
    (View.read_writes_eq_canon _ _ _ (cover0_B_8 c i a1 h1 a2 h2 a3 h3 a4 h4 a5 h5 a6 h6 a7 h7 a8 h8 a9 h9 a10 h10 a11 h11 a12 h12 a13 h13 g0 dm att y gl b ga gs y10 y11 y12)).trans ?_,
    (View.read_writes_eq_canon _ _ _ (cover0_B_9 c i a1 h1 a2 h2 a3 h3 a4 h4 a5 h5 a6 h6 a7 h7 a8 h8 a9 h9 a10 h10 a11 h11 a12 h12 a13 h13 g0 dm att y gl b ga gs y10 y11 y12)).trans ?_,
    (View.read_writes_eq_canon _ _ _ (cover0_B_10 c i a1 h1 a2 h2 a3 h3 a4 h4 a5 h5 a6 h6 a7 h7 a8 h8 a9 h9 a10 h10 a11 h11 a12 h12 a13 h13 g0 dm att y gl b ga gs y10 y11 y12)).trans ?_,
    (View.read_writes_eq_canon _ _ _ (cover0_B_11 c i a1 h1 a2 h2 a3 h3 a4 h4 a5 h5 a6 h6 a7 h7 a8 h8 a9 h9 a10 h10 a11 h11 a12 h12 a13 h13 g0 dm att y gl b ga gs y10 y11 y12)).trans ?_,
    (View.read_writes_eq_canon _ _ _ (cover0_B_12 c i a1 h1 a2 h2 a3 h3 a4 h4 a5 h5 a6 h6 a7 h7 a8 h8 a9 h9 a10 h10 a11 h11 a12 h12 a13 h13 g0 dm att y gl b ga gs y10 y11 y12)).trans ?_⟩
  all_goals
    unfold kernelRun0_B
    dsimp only
    sl_unfold_words
    rw [View.canon_cons_unit_zero hz]
    simp only [View.readAt_eq_ld, h1.read_unread, h2.read_unread, h3.read_unread, h4.read_unread, h5.read_unread, h6.read_unread, h7.read_unread,
      h11.read_unread, h12.read_unread, h13.read_unread, View.ld_unit_zero (S := S128x2048) hz, View.ld_unit_zero (S := S1x2048) hz]
    try rfl

end Out

/-! ## The points of the grid -/

theorem index_rows : ∀ t : Fin cfg0.N, win0_0.index t = ![t.val, 0] ∧ win0_1.index t = ![t.val, 0] ∧ win0_2.index t = ![t.val, 0]
      ∧ win0_3.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![t.val, 0]
      ∧ win0_3.index t = ![t.val, 0] ∧ win0_7.index t = ![t.val, 0] ∧ win0_8.index t = ![t.val, 0] ∧ win0_9.index t = ![t.val, 0])
theorem index_vectors : ∀ t : Fin cfg0.N, win0_4.index t = ![0, 0] ∧ win0_5.index t = ![0, 0] ∧ win0_6.index t = ![0, 0]
      ∧ win0_10.index t = ![0, 0] ∧ win0_11.index t = ![0, 0] ∧ win0_12.index t = ![0, 0] :=
  (by decide +kernel : ∀ t : Fin grid0.N, win0_4.index t = ![0, 0] ∧ win0_5.index t = ![0, 0] ∧ win0_6.index t = ![0, 0]
      ∧ win0_10.index t = ![0, 0] ∧ win0_11.index t = ![0, 0] ∧ win0_12.index t = ![0, 0])

theorem grid_N : cfg0.N = 32 := by decide

/-- Only the last point writes back an output that all points add to. -/
theorem one_flush (t t' : Fin cfg0.N) (h : t.val % 32 = 31) (h' : t'.val % 32 = 31) : t = t' := by
  have := t.isLt; have := t'.isLt; have := grid_N
  exact Fin.ext (by omega)

/-- The grid's last point. -/
def lastPoint : Fin cfg0.N := ⟨31, by decide⟩

section Arrays

variable (m : (ℓ : Loc nD τ sig) → Buf (Elt Ideal) ℓ) (c : Dev nD)

/-- What the call's region finds in its operands. -/
structure Finds (DM : S4096x4096.Idx → EReal) (AT Y GT : S4096x2048.Idx → EReal) (B GA GS : S1x2048.Idx → EReal) : Prop where
  h0 : V m c (Pipeline.arrRef spec0 0) = DM
  h1 : V m c (Pipeline.arrRef spec0 1) = AT
  h2 : V m c (Pipeline.arrRef spec0 2) = Y
  h3 : V m c (Pipeline.arrRef spec0 3) = GT
  h4 : V m c (Pipeline.arrRef spec0 4) = B
  h5 : V m c (Pipeline.arrRef spec0 5) = GA
  h6 : V m c (Pipeline.arrRef spec0 6) = GS

variable {DM : S4096x4096.Idx → EReal} {AT Y GT : S4096x2048.Idx → EReal} {B GA GS : S1x2048.Idx → EReal} (H : Finds m c DM AT Y GT B GA GS)
variable (t : Fin cfg0.N) (p : Fin 128) (r : Fin 4096) (k q : Fin 2048)

/-- A token of the arrays. -/
def tokens (DM : S4096x4096.Idx → EReal) (AT Y GT : S4096x2048.Idx → EReal) (B GA GS : S1x2048.Idx → EReal) (r : Fin 4096) : Row :=
  ⟨fun k => DM (ix2 r (lo k)), fun k => DM (ix2 r (hi k)), fun k => AT (ix2 r k), fun k => Y (ix2 r k), fun k => GT (ix2 r k),
    fun k => B (ix2 0 k), fun k => GA (ix2 0 k), fun k => GS (ix2 0 k)⟩

include H

/-- The rows of a point's blocks. -/
theorem rows (hr : t.val * 128 + p.val = r.val) : (∀ k, iblk m c 0 t (ix2 p k) = DM (ix2 r k)) ∧ iblk m c 1 t (ix2 p k) = AT (ix2 r k)
    ∧ iblk m c 2 t (ix2 p k) = Y (ix2 r k) ∧ iblk m c 3 t (ix2 p k) = GT (ix2 r k) := by
  obtain ⟨i0, i1, i2, i3, _⟩ := index_rows t
  rw [← H.h0, ← H.h1, ← H.h2, ← H.h3]
  refine ⟨fun k => ?_, ?_, ?_, ?_⟩
  all_goals
    blk_simp [iblk]
    refine congrArg (V m c _) ?_
  · blk_ext [i0]
  · blk_ext [i1]
  · blk_ext [i2]
  · blk_ext [i3]

/-- The vectors are in every point's blocks. -/
theorem vectors : iblk m c 4 t (ix2 0 k) = B (ix2 0 k) ∧ iblk m c 5 t (ix2 0 k) = GA (ix2 0 k) ∧ iblk m c 6 t (ix2 0 k) = GS (ix2 0 k) := by
  obtain ⟨i4, i5, i6, _⟩ := index_vectors t
  rw [← H.h4, ← H.h5, ← H.h6]
  refine ⟨?_, ?_, ?_⟩
  all_goals
    blk_simp [iblk]
    refine congrArg (V m c _) ?_
  · blk_ext [i4]
  · blk_ext [i5]
  · blk_ext [i6]

/-- A token of a point's blocks is the token of the arrays. -/
theorem blkRow_eq (hr : t.val * 128 + p.val = r.val) :
    blkRow (iblk m c 0 t) (iblk m c 1 t) (iblk m c 2 t) (iblk m c 3 t) (iblk m c 4 t) (iblk m c 5 t) (iblk m c 6 t) p
      = tokens DM AT Y GT B GA GS r := by
  unfold blkRow tokens
  simp only [left_apply, right_apply, (rows m c H t p r 0 hr).1, (rows m c H t p r _ hr).2.1, (rows m c H t p r _ hr).2.2.1,
    (rows m c H t p r _ hr).2.2.2, (vectors m c H t _).1, (vectors m c H t _).2.1, (vectors m c H t _).2.2]

/-- What every point writes of its rows. -/
theorem point_rows (hr : t.val * 128 + p.val = r.val) :
    (outsAt0 m c t.val t.isLt).1 (ix2 p q) = (tokens DM AT Y GT B GA GS r).dAt q
      ∧ (outsAt0 m c t.val t.isLt).2.1 (ix2 p q) = (tokens DM AT Y GT B GA GS r).dgl q
      ∧ (outsAt0 m c t.val t.isLt).2.2.1 (ix2 p q) = (tokens DM AT Y GT B GA GS r).dz q := by
  rw [← blkRow_eq m c H t p r hr]
  by_cases h : t.val % 32 = 0
  · rw [outsAt0_A m c t h]
    dsimp only
    rw [(outs_A ..).1, (outs_A ..).2.1, (outs_A ..).2.2.1]
    exact ⟨pay12_apply .., pay5_apply .., pay2_apply ..⟩
  · rw [outsAt0_B m c t h]
    dsimp only
    rw [(outs_B ..).1, (outs_B ..).2.1, (outs_B ..).2.2.1]
    exact ⟨pay12_apply .., pay5_apply .., pay2_apply ..⟩

variable (u : Fin cfg0.N) (b : Fin 32)

/-- The first point starts the three sums. -/
theorem first (ht : t.val % 32 = 0) (hb : t.val = b.val) :
    (outsAt0 m c t.val t.isLt).2.2.2.1 (ix2 0 q) = ∑ p, (tokens DM AT Y GT B GA GS (token b p)).gaTerm q
      ∧ (outsAt0 m c t.val t.isLt).2.2.2.2.1 (ix2 0 q) = ∑ p, (tokens DM AT Y GT B GA GS (token b p)).gsTerm q
      ∧ (outsAt0 m c t.val t.isLt).2.2.2.2.2 (ix2 0 q) = ∑ p, (tokens DM AT Y GT B GA GS (token b p)).dgl q := by
  have e (p : Fin 128) := blkRow_eq m c H t p (token b p) (by rw [hb]; rfl)
  rw [outsAt0_A m c t ht]
  dsimp only
  rw [(outs_A ..).2.2.2.1, (outs_A ..).2.2.2.2.1, (outs_A ..).2.2.2.2.2, zeros.1, zeros.2,
    pay11_apply (y := iblk m c 2 t) (gl := iblk m c 3 t) (b := iblk m c 4 t) (ga := iblk m c 5 t) (gs := iblk m c 6 t),
    pay18_apply (att := iblk m c 1 t) (ga := iblk m c 5 t) (gs := iblk m c 6 t),
    pay4_apply (att := iblk m c 1 t) (ga := iblk m c 5 t), zero_6, zero_add, zero_add, zero_add]
  simp only [e, and_self]

/-- Every later point continues them. -/
theorem next (ht : ¬ t.val % 32 = 0) (hu : u.val + 1 = t.val) (hb : t.val = b.val) :
    (outsAt0 m c t.val t.isLt).2.2.2.1 (ix2 0 q)
        = (outsAt0 m c u.val u.isLt).2.2.2.1 (ix2 0 q) + ∑ p, (tokens DM AT Y GT B GA GS (token b p)).gaTerm q
      ∧ (outsAt0 m c t.val t.isLt).2.2.2.2.1 (ix2 0 q)
        = (outsAt0 m c u.val u.isLt).2.2.2.2.1 (ix2 0 q) + ∑ p, (tokens DM AT Y GT B GA GS (token b p)).gsTerm q
      ∧ (outsAt0 m c t.val t.isLt).2.2.2.2.2 (ix2 0 q)
        = (outsAt0 m c u.val u.isLt).2.2.2.2.2 (ix2 0 q) + ∑ p, (tokens DM AT Y GT B GA GS (token b p)).dgl q := by
  have e (p : Fin 128) := blkRow_eq m c H t p (token b p) (by rw [hb]; rfl)
  rw [outsAt0_B m c t ht]
  obtain ⟨u, h⟩ := u
  obtain rfl : u = t.val - 1 := by dsimp only at hu; omega
  dsimp only
  rw [(outs_B ..).2.2.2.1, (outs_B ..).2.2.2.2.1, (outs_B ..).2.2.2.2.2,
    pay11_apply (y := iblk m c 2 t) (gl := iblk m c 3 t) (b := iblk m c 4 t) (ga := iblk m c 5 t) (gs := iblk m c 6 t),
    pay18_apply (att := iblk m c 1 t) (ga := iblk m c 5 t) (gs := iblk m c 6 t),
    pay4_apply (att := iblk m c 1 t) (ga := iblk m c 5 t)]
  simp only [e, and_self]

/-! ## The arrays -/

theorem final_rows : (dats m 0 c).arrAt 7 cfg0.N (ix2 r q) = (tokens DM AT Y GT B GA GS r).dAt q
    ∧ (dats m 0 c).arrAt 8 cfg0.N (ix2 r q) = (tokens DM AT Y GT B GA GS r).dgl q
    ∧ (dats m 0 c).arrAt 9 cfg0.N (ix2 r q) = (tokens DM AT Y GT B GA GS r).dz q := by
  let t : Fin cfg0.N := ⟨r.val / 128, by show _ < 32; omega⟩
  let p : Fin 128 := ⟨r.val % 128, by omega⟩
  have hr : t.val * 128 + p.val = r.val := by simp only [t, p]; omega
  have a7 := (dats m 0 c).arrAt_emb_eq_flushed 7 disjoint7 t (flush0_7 t) (ix2 p q)
  have a8 := (dats m 0 c).arrAt_emb_eq_flushed 8 disjoint8 t (flush0_8 t) (ix2 p q)
  have a9 := (dats m 0 c).arrAt_emb_eq_flushed 9 disjoint9 t (flush0_9 t) (ix2 p q)
  obtain ⟨_, _, _, _, i7, i8, i9⟩ := index_rows t
  have e7 : ((cfg0.win 7).blk t).view.emb (ix2 p q) = ix2 r q := by
    blk_ext [i7]
  have e8 : ((cfg0.win 8).blk t).view.emb (ix2 p q) = ix2 r q := by
    blk_ext [i8]
  have e9 : ((cfg0.win 9).blk t).view.emb (ix2 p q) = ix2 r q := by
    blk_ext [i9]
  rw [e7] at a7
  rw [e8] at a8
  rw [e9] at a9
  refine ⟨?_, ?_, ?_⟩
  · refine a7.trans ?_
    blk_simp
    rw [after0_7]
    exact (point_rows m c H t p r q hr).1
  · refine a8.trans ?_
    blk_simp
    rw [after0_8]
    exact (point_rows m c H t p r q hr).2.1
  · refine a9.trans ?_
    blk_simp
    rw [after0_9]
    exact (point_rows m c H t p r q hr).2.2

theorem final_10 : (dats m 0 c).arrAt 10 cfg0.N (ix2 0 q) = ∑ k, (tokens DM AT Y GT B GA GS k).gaTerm q := by
  have ha := (dats m 0 c).arrAt_emb_eq_flushed 10
    (fun t t' hf hf' h => absurd (one_flush t t' ((flush0_10 t).mp hf) ((flush0_10 t').mp hf')) h) lastPoint ((flush0_10 lastPoint).mpr rfl) (ix2 0 q)
  have i := (index_vectors lastPoint).2.2.2.1
  have e : ((cfg0.win 10).blk lastPoint).view.emb (ix2 0 q) = ix2 0 q := by
    blk_ext [i]
  rw [e] at ha
  refine ha.trans ?_
  blk_simp
  rw [after0_10]
  exact sum_points grid_N (fun k => (tokens DM AT Y GT B GA GS k).gaTerm q) (fun n h => (outsAt0 m c n h).2.2.2.1 (ix2 0 q))
    (fun t b h h' => (first m c H t q b h h').1) (fun t u b h h' h'' => (next m c H t q u b h h' h'').1) lastPoint rfl

theorem final_11 : (dats m 0 c).arrAt 11 cfg0.N (ix2 0 q) = ∑ k, (tokens DM AT Y GT B GA GS k).gsTerm q := by
  have ha := (dats m 0 c).arrAt_emb_eq_flushed 11
    (fun t t' hf hf' h => absurd (one_flush t t' ((flush0_11 t).mp hf) ((flush0_11 t').mp hf')) h) lastPoint ((flush0_11 lastPoint).mpr rfl) (ix2 0 q)
  have i := (index_vectors lastPoint).2.2.2.2.1
  have e : ((cfg0.win 11).blk lastPoint).view.emb (ix2 0 q) = ix2 0 q := by
    blk_ext [i]
  rw [e] at ha
  refine ha.trans ?_
  blk_simp
  rw [after0_11]
  exact sum_points grid_N (fun k => (tokens DM AT Y GT B GA GS k).gsTerm q) (fun n h => (outsAt0 m c n h).2.2.2.2.1 (ix2 0 q))
    (fun t b h h' => (first m c H t q b h h').2.1) (fun t u b h h' h'' => (next m c H t q u b h h' h'').2.1) lastPoint rfl

theorem final_12 : (dats m 0 c).arrAt 12 cfg0.N (ix2 0 q) = ∑ k, (tokens DM AT Y GT B GA GS k).dgl q := by
  have ha := (dats m 0 c).arrAt_emb_eq_flushed 12
    (fun t t' hf hf' h => absurd (one_flush t t' ((flush0_12 t).mp hf) ((flush0_12 t').mp hf')) h) lastPoint ((flush0_12 lastPoint).mpr rfl) (ix2 0 q)
  have i := (index_vectors lastPoint).2.2.2.2.2
  have e : ((cfg0.win 12).blk lastPoint).view.emb (ix2 0 q) = ix2 0 q := by
    blk_ext [i]
  rw [e] at ha
  refine ha.trans ?_
  blk_simp
  rw [after0_12]
  exact sum_points grid_N (fun k => (tokens DM AT Y GT B GA GS k).dgl q) (fun n h => (outsAt0 m c n h).2.2.2.2.2 (ix2 0 q))
    (fun t b h h' => (first m c H t q b h h').2.2) (fun t u b h h' h'' => (next m c H t q u b h h' h'').2.2) lastPoint rfl

end Arrays

/-! ## The reference -/

section Reference

open Cert.ReferenceMixIdeal.Read

variable (x0 : S4096x4096.Idx → EReal) (x1 x2 x3 : S4096x2048.Idx → EReal) (x4 x5 x6 : S1x2048.Idx → EReal) (r : Fin 4096) (q : Fin 2048)

theorem ref_halves : val_main_v51 (F := Ideal) x0 (ix2 r q) = (tokens x0 x1 x2 x3 x4 x5 x6 r).dl q ∧ val_main_v52 (F := Ideal) x0 (ix2 r q) = (tokens x0 x1 x2 x3 x4 x5 x6 r).dr q := by
  unfold val_main_v51 val_main_v52
  constructor
  · pointwise
    rfl
  · pointwise
    rfl

theorem ref_z : val_main_v7 (F := Ideal) x2 (ix2 r q) = (tokens x0 x1 x2 x3 x4 x5 x6 r).z q := by
  unfold val_main_v7 val_main_v6 val_main_v5 val_main_cst_1 val_main_v4 val_main_v3 val_main_v2 val_main_cst_0 val_main_v1 val_main_v0 val_main_cst
  pointwise
  rfl

theorem ref_sg : val_main_v15 (F := Ideal) x3 x4 (ix2 r q) = (tokens x0 x1 x2 x3 x4 x5 x6 r).sg q := by
  unfold val_main_v15 val_main_v14 val_main_cst_3 val_main_v13 val_main_v12 val_main_cst_2 val_main_v11 val_main_v10 val_main_v9 val_main_v8
  pointwise
  rfl

theorem ref_o : val_main_v19 (F := Ideal) x2 x3 x4 (ix2 r q) = (tokens x0 x1 x2 x3 x4 x5 x6 r).o q := by
  rw [val_main_v19_apply, ref_z x0 x1 x2 x3 x4 x5 x6, ref_sg x0 x1 x2 x3 x4 x5 x6]
  rfl

theorem ref_slope : val_main_v18 (F := Ideal) x3 x4 (ix2 r q) = (tokens x0 x1 x2 x3 x4 x5 x6 r).sg q * (1 - (tokens x0 x1 x2 x3 x4 x5 x6 r).sg q) := by
  have e := ref_sg x0 x1 x2 x3 x4 x5 x6
  unfold val_main_v18 val_main_v17 val_main_v16 val_main_cst_4
  generalize val_main_v15 (F := Ideal) x3 x4 = z at e ⊢
  pointwise
  rw [e]

/-! ### The attention's half -/

theorem ref_meanSq_at : val_main_v26 (F := Ideal) x1 (ix2 r 0) = meanSqBy lanesHalf (tokens x0 x1 x2 x3 x4 x5 x6 r).att := by
  unfold val_main_v26 val_main_v25 val_main_cst_7 val_main_v24 val_main_v23 val_main_cst_6 val_main_v22 val_main_v21 val_main_cst_5
    val_main_v20 meanSqBy
  pointwise
  rfl

theorem ref_rstd_at : val_main_v27 (F := Ideal) x1 (ix2 r 0) = rstdBy lanesHalf (tokens x0 x1 x2 x3 x4 x5 x6 r).att := by
  rw [val_main_v27_apply, ref_meanSq_at x0 x1 x2 x3 x4 x5 x6]
  rfl

theorem ref_10 : val_main_v74 (F := Ideal) x0 x1 (ix2 0 q) = ∑ k, (tokens x0 x1 x2 x3 x4 x5 x6 k).gaTerm q := by
  have e r q := (ref_halves x0 x1 x2 x3 x4 x5 x6 r q).1
  have e' := ref_rstd_at x0 x1 x2 x3 x4 x5 x6
  unfold val_main_v74 val_main_v73 val_main_cst_17 val_main_v72 val_main_v32 val_main_v31 Row.gaTerm
  generalize val_main_v51 (F := Ideal) x0 = z at e ⊢
  generalize val_main_v27 (F := Ideal) x1 = y at e' ⊢
  pointwise
  simp only [e, e']
  exact Finset.sum_congr rfl fun k _ => mul_comm _ _

theorem ref_scaled_at : val_main_v76 (F := Ideal) x0 x5 (ix2 r q) = (tokens x0 x1 x2 x3 x4 x5 x6 r).dl q * (tokens x0 x1 x2 x3 x4 x5 x6 r).ga q := by
  have e r q := (ref_halves x0 x1 x2 x3 x4 x5 x6 r q).1
  unfold val_main_v76 val_main_v75
  generalize val_main_v51 (F := Ideal) x0 = z at e ⊢
  pointwise
  rw [e]
  rfl

theorem ref_through_at : val_main_v86 (F := Ideal) x0 x1 x5 (ix2 r q)
    = throughBy lanesHalf (tokens x0 x1 x2 x3 x4 x5 x6 r).att fun k => (tokens x0 x1 x2 x3 x4 x5 x6 r).dl k * (tokens x0 x1 x2 x3 x4 x5 x6 r).ga k := by
  have e := ref_scaled_at x0 x1 x2 x3 x4 x5 x6
  have e' := ref_rstd_at x0 x1 x2 x3 x4 x5 x6
  have e'' := ref_meanSq_at x0 x1 x2 x3 x4 x5 x6
  unfold val_main_v86 val_main_v85 val_main_cst_20 val_main_v84 val_main_v83 val_main_cst_19 val_main_v82 val_main_v79 val_main_v78
    val_main_cst_18 val_main_v77 val_main_v30 val_main_v29 val_main_cst_8 val_main_v28
  generalize val_main_v76 (F := Ideal) x0 x5 = z at e ⊢
  generalize val_main_v27 (F := Ideal) x1 = y at e' ⊢
  generalize val_main_v26 (F := Ideal) x1 = w at e'' ⊢
  pointwise
  simp only [Fin.sum_univ_one, e, e', e'']
  rfl

theorem ref_7 : val_main_v90 (F := Ideal) x0 x1 x5 (ix2 r q) = (tokens x0 x1 x2 x3 x4 x5 x6 r).dAt q := by
  have e := ref_scaled_at x0 x1 x2 x3 x4 x5 x6
  have e' := ref_rstd_at x0 x1 x2 x3 x4 x5 x6
  have e'' := ref_through_at x0 x1 x2 x3 x4 x5 x6
  unfold val_main_v90 val_main_v89 val_main_v88 val_main_v87 val_main_v81 val_main_v80 Row.dAt
  generalize val_main_v76 (F := Ideal) x0 x5 = z at e ⊢
  generalize val_main_v27 (F := Ideal) x1 = y at e' ⊢
  generalize val_main_v86 (F := Ideal) x0 x1 x5 = w at e'' ⊢
  pointwise
  simp only [e, e', e'']
  have b := backBy_eq lanesHalf_eq (by norm_num) (tokens x0 x1 x2 x3 x4 x5 x6 r).att (fun k => (tokens x0 x1 x2 x3 x4 x5 x6 r).dl k * (tokens x0 x1 x2 x3 x4 x5 x6 r).ga k) 0 q
  rwa [zero_add, zero_add] at b

/-! ### The gated unit's half -/

theorem ref_meanSq_o : val_main_v41 (F := Ideal) x2 x3 x4 (ix2 r 0) = meanSqBy lanesHalf (tokens x0 x1 x2 x3 x4 x5 x6 r).o := by
  have e := ref_o x0 x1 x2 x3 x4 x5 x6
  unfold val_main_v41 val_main_v40 val_main_cst_11 val_main_v39 val_main_v38 val_main_cst_10 val_main_v37 val_main_v36 val_main_cst_9
    val_main_v35 meanSqBy
  generalize val_main_v19 (F := Ideal) x2 x3 x4 = z at e ⊢
  pointwise
  simp only [e]

theorem ref_rstd_o : val_main_v42 (F := Ideal) x2 x3 x4 (ix2 r 0) = rstdBy lanesHalf (tokens x0 x1 x2 x3 x4 x5 x6 r).o := by
  rw [val_main_v42_apply, ref_meanSq_o x0 x1 x2 x3 x4 x5 x6]
  rfl

theorem ref_11 : val_main_v55 (F := Ideal) x0 x2 x3 x4 (ix2 0 q) = ∑ k, (tokens x0 x1 x2 x3 x4 x5 x6 k).gsTerm q := by
  have e r q := (ref_halves x0 x1 x2 x3 x4 x5 x6 r q).2
  have e' := ref_rstd_o x0 x1 x2 x3 x4 x5 x6
  have e'' := ref_o x0 x1 x2 x3 x4 x5 x6
  unfold val_main_v55 val_main_v54 val_main_cst_13 val_main_v53 val_main_v47 val_main_v46 Row.gsTerm
  generalize val_main_v52 (F := Ideal) x0 = z at e ⊢
  generalize val_main_v42 (F := Ideal) x2 x3 x4 = y at e' ⊢
  generalize val_main_v19 (F := Ideal) x2 x3 x4 = w at e'' ⊢
  pointwise
  simp only [e, e', e'']
  exact Finset.sum_congr rfl fun k _ => mul_comm _ _

theorem ref_scaled_o : val_main_v57 (F := Ideal) x0 x6 (ix2 r q) = (tokens x0 x1 x2 x3 x4 x5 x6 r).dr q * (tokens x0 x1 x2 x3 x4 x5 x6 r).gs q := by
  have e r q := (ref_halves x0 x1 x2 x3 x4 x5 x6 r q).2
  unfold val_main_v57 val_main_v56
  generalize val_main_v52 (F := Ideal) x0 = z at e ⊢
  pointwise
  rw [e]
  rfl

theorem ref_through_o : val_main_v67 (F := Ideal) x0 x2 x3 x4 x6 (ix2 r q)
    = throughBy lanesHalf (tokens x0 x1 x2 x3 x4 x5 x6 r).o fun k => (tokens x0 x1 x2 x3 x4 x5 x6 r).dr k * (tokens x0 x1 x2 x3 x4 x5 x6 r).gs k := by
  have e := ref_scaled_o x0 x1 x2 x3 x4 x5 x6
  have e' := ref_rstd_o x0 x1 x2 x3 x4 x5 x6
  have e'' := ref_meanSq_o x0 x1 x2 x3 x4 x5 x6
  have e3 := ref_o x0 x1 x2 x3 x4 x5 x6
  unfold val_main_v67 val_main_v66 val_main_cst_16 val_main_v65 val_main_v64 val_main_cst_15 val_main_v63 val_main_v60 val_main_v59
    val_main_cst_14 val_main_v58 val_main_v45 val_main_v44 val_main_cst_12 val_main_v43
  generalize val_main_v57 (F := Ideal) x0 x6 = z at e ⊢
  generalize val_main_v42 (F := Ideal) x2 x3 x4 = y at e' ⊢
  generalize val_main_v41 (F := Ideal) x2 x3 x4 = w at e'' ⊢
  generalize val_main_v19 (F := Ideal) x2 x3 x4 = v at e3 ⊢
  pointwise
  simp only [Fin.sum_univ_one, e, e', e'', e3]
  rfl

theorem ref_dO : val_main_v71 (F := Ideal) x0 x2 x3 x4 x6 (ix2 r q) = (tokens x0 x1 x2 x3 x4 x5 x6 r).dO q := by
  have e := ref_scaled_o x0 x1 x2 x3 x4 x5 x6
  have e' := ref_rstd_o x0 x1 x2 x3 x4 x5 x6
  have e'' := ref_through_o x0 x1 x2 x3 x4 x5 x6
  have e3 := ref_o x0 x1 x2 x3 x4 x5 x6
  unfold val_main_v71 val_main_v70 val_main_v69 val_main_v68 val_main_v62 val_main_v61 Row.dO
  generalize val_main_v57 (F := Ideal) x0 x6 = z at e ⊢
  generalize val_main_v42 (F := Ideal) x2 x3 x4 = y at e' ⊢
  generalize val_main_v67 (F := Ideal) x0 x2 x3 x4 x6 = w at e'' ⊢
  generalize val_main_v19 (F := Ideal) x2 x3 x4 = v at e3 ⊢
  pointwise
  simp only [e, e', e'', e3]
  have b := backBy_eq lanesHalf_eq (by norm_num) (tokens x0 x1 x2 x3 x4 x5 x6 r).o (fun k => (tokens x0 x1 x2 x3 x4 x5 x6 r).dr k * (tokens x0 x1 x2 x3 x4 x5 x6 r).gs k) 0 q
  rwa [zero_add, zero_add] at b

theorem ref_9 : val_main_v92 (F := Ideal) x0 x2 x3 x4 x6 (ix2 r q) = (tokens x0 x1 x2 x3 x4 x5 x6 r).dz q := by
  rw [val_main_v92_apply, ref_dO x0 x1 x2 x3 x4 x5 x6, ref_sg x0 x1 x2 x3 x4 x5 x6]
  rfl

theorem ref_dgl : val_main_v93 (F := Ideal) x0 x2 x3 x4 x6 (ix2 r q) = (tokens x0 x1 x2 x3 x4 x5 x6 r).dgl q := by
  rw [val_main_v93_apply, val_main_v91_apply, ref_dO x0 x1 x2 x3 x4 x5 x6, ref_z x0 x1 x2 x3 x4 x5 x6, ref_slope x0 x1 x2 x3 x4 x5 x6]
  unfold Row.dgl
  pointwise
  ac_rfl

theorem ref_8 : val_main_v96 (F := Ideal) x0 x2 x3 x4 x6 (ix2 r q) = (tokens x0 x1 x2 x3 x4 x5 x6 r).dgl q :=
  ref_dgl x0 x1 x2 x3 x4 x5 x6 r q

theorem ref_12 : val_main_v95 (F := Ideal) x0 x2 x3 x4 x6 (ix2 0 q) = ∑ k, (tokens x0 x1 x2 x3 x4 x5 x6 k).dgl q := by
  have e := ref_dgl x0 x1 x2 x3 x4 x5 x6
  unfold val_main_v95 val_main_v94 val_main_cst_21
  generalize val_main_v93 (F := Ideal) x0 x2 x3 x4 x6 = y at e ⊢
  pointwise
  simp only [e]

end Reference

/-! ## The arrays are equal -/

section Equal

variable (m : (ℓ : Loc nD τ sig) → Buf (Elt Ideal) ℓ) (c : Dev nD)

/-- The region finds the call's arguments. -/
theorem finds : Finds m c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  constructor
  all_goals
    unfold V
    after_reads_simp

open Cert.ReferenceMixIdeal.Read

variable (x0 : S4096x4096.Idx → EReal) (x1 x2 x3 : S4096x2048.Idx → EReal) (x4 x5 x6 : S1x2048.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4) (e5 : m ((c : Thread nD τ).loc main_arg5) = x5)
  (e6 : m ((c : Thread nD τ).loc main_arg6) = x6)

include e0 e1 e2 e3 e4 e5 e6 in
/-- All six results are equal. -/
theorem equal :
    (dats m 0 c).arrAt 7 cfg0.N = val_main_v90 (F := Ideal) x0 x1 x5
      ∧ (dats m 0 c).arrAt 8 cfg0.N = val_main_v96 (F := Ideal) x0 x2 x3 x4 x6
      ∧ (dats m 0 c).arrAt 9 cfg0.N = val_main_v92 (F := Ideal) x0 x2 x3 x4 x6
      ∧ (dats m 0 c).arrAt 10 cfg0.N = val_main_v74 (F := Ideal) x0 x1
      ∧ (dats m 0 c).arrAt 11 cfg0.N = val_main_v55 (F := Ideal) x0 x2 x3 x4
      ∧ (dats m 0 c).arrAt 12 cfg0.N = val_main_v95 (F := Ideal) x0 x2 x3 x4 x6 := by
  have H := finds m c
  rw [e0, e1, e2, e3, e4, e5, e6] at H
  have matrix (i : S4096x2048.Idx) : ∃ (r : Fin 4096) (s : Fin 2048), i = ix2 r s := ⟨i 0, i 1, by funext b; fin_cases b <;> rfl⟩
  have vector (i : S1x2048.Idx) : ∃ s : Fin 2048, i = ix2 0 s :=
    ⟨i 1, by funext b; fin_cases b; exacts [Fin.ext (Nat.lt_one_iff.mp (i 0).isLt), rfl]⟩
  refine ⟨funext fun i => ?_, funext fun i => ?_, funext fun i => ?_, funext fun i => ?_, funext fun i => ?_, funext fun i => ?_⟩
  · obtain ⟨r, s, rfl⟩ := matrix i
    exact (final_rows m c H r s).1.trans (ref_7 x0 x1 x2 x3 x4 x5 x6 r s).symm
  · obtain ⟨r, s, rfl⟩ := matrix i
    exact (final_rows m c H r s).2.1.trans (ref_8 x0 x1 x2 x3 x4 x5 x6 r s).symm
  · obtain ⟨r, s, rfl⟩ := matrix i
    exact (final_rows m c H r s).2.2.trans (ref_9 x0 x1 x2 x3 x4 x5 x6 r s).symm
  · obtain ⟨s, rfl⟩ := vector i
    exact (final_10 m c H s).trans (ref_10 x0 x1 x2 x3 x4 x5 x6 s).symm
  · obtain ⟨s, rfl⟩ := vector i
    exact (final_11 m c H s).trans (ref_11 x0 x1 x2 x3 x4 x5 x6 s).symm
  · obtain ⟨s, rfl⟩ := vector i
    exact (final_12 m c H s).trans (ref_12 x0 x1 x2 x3 x4 x5 x6 s).symm

end Equal

end Cert.Proof.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.KernelDff2
public import proofs.«01_k».proof.Proof.Gen.KernelDff2.Skeleton
public import proofs.«01_k».proof.Proof.Gen.KernelDff2.Launch
public import proofs.«01_k».proof.Proof.Gen.KernelDff2.Points
public import proofs.«01_k».proof.Proof.Gen.KernelDff2.Frame
public import proofs.«01_k».proof.Proof.Gen.KernelDff2Ideal
public import proofs.«01_k».proof.Proof.Gen.KernelDff2Ideal.Skeleton
public import proofs.«01_k».proof.Proof.Gen.KernelDff2Ideal.Launch
public import proofs.«01_k».proof.Proof.Gen.KernelDff2Ideal.Points
public import proofs.«01_k».proof.Proof.Gen.KernelDff2Ideal.Frame
public import proofs.«01_k».proof.Proof.Gen.KernelDff2Ideal.Value
public import proofs.«01_k».proof.Proof.Gen.ReferenceDff2Ideal
public import proofs.«01_k».proof.Proof.Gen.ReferenceDff2Ideal.Run
public import proofs.«01_k».proof.Proof.Gen.ReferenceDff2Ideal.Read
public import proofs.«01_k».proof.Proof.Gen.KernelGwFf2
public import proofs.«01_k».proof.Proof.Gen.KernelGwFf2.Skeleton
public import proofs.«01_k».proof.Proof.Gen.KernelGwFf2.Launch
public import proofs.«01_k».proof.Proof.Gen.KernelGwFf2.Points
public import proofs.«01_k».proof.Proof.Gen.KernelGwFf2.Frame
public import proofs.«01_k».proof.Proof.Gen.KernelGwFf2Ideal
public import proofs.«01_k».proof.Proof.Gen.KernelGwFf2Ideal.Skeleton
public import proofs.«01_k».proof.Proof.Gen.KernelGwFf2Ideal.Launch
public import proofs.«01_k».proof.Proof.Gen.KernelGwFf2Ideal.Points
public import proofs.«01_k».proof.Proof.Gen.KernelGwFf2Ideal.Frame
public import proofs.«01_k».proof.Proof.Gen.KernelGwFf2Ideal.Value
public import proofs.«01_k».proof.Proof.Gen.ReferenceGwFf2Ideal
public import proofs.«01_k».proof.Proof.Gen.ReferenceGwFf2Ideal.Run
public import proofs.«01_k».proof.Proof.Gen.ReferenceGwFf2Ideal.Read
public import proofs.«01_k».proof.Proof.Gen.KernelGwFf1
public import proofs.«01_k».proof.Proof.Gen.KernelGwFf1.Skeleton
public import proofs.«01_k».proof.Proof.Gen.KernelGwFf1.Launch
public import proofs.«01_k».proof.Proof.Gen.KernelGwFf1.Points
public import proofs.«01_k».proof.Proof.Gen.KernelGwFf1.Frame
public import proofs.«01_k».proof.Proof.Gen.KernelGwFf1Ideal
public import proofs.«01_k».proof.Proof.Gen.KernelGwFf1Ideal.Skeleton
public import proofs.«01_k».proof.Proof.Gen.KernelGwFf1Ideal.Launch
public import proofs.«01_k».proof.Proof.Gen.KernelGwFf1Ideal.Points
public import proofs.«01_k».proof.Proof.Gen.KernelGwFf1Ideal.Frame
public import proofs.«01_k».proof.Proof.Gen.KernelGwFf1Ideal.Value
public import proofs.«01_k».proof.Proof.Gen.ReferenceGwFf1Ideal
public import proofs.«01_k».proof.Proof.Gen.ReferenceGwFf1Ideal.Run
public import proofs.«01_k».proof.Proof.Gen.ReferenceGwFf1Ideal.Read
public import proofs.«01_k».proof.Proof.Gen.KernelDff1
public import proofs.«01_k».proof.Proof.Gen.KernelDff1.Skeleton
public import proofs.«01_k».proof.Proof.Gen.KernelDff1.Launch
public import proofs.«01_k».proof.Proof.Gen.KernelDff1.Points
public import proofs.«01_k».proof.Proof.Gen.KernelDff1.Frame
public import proofs.«01_k».proof.Proof.Gen.KernelDff1Ideal
public import proofs.«01_k».proof.Proof.Gen.KernelDff1Ideal.Skeleton
public import proofs.«01_k».proof.Proof.Gen.KernelDff1Ideal.Launch
public import proofs.«01_k».proof.Proof.Gen.KernelDff1Ideal.Points
public import proofs.«01_k».proof.Proof.Gen.KernelDff1Ideal.Frame
public import proofs.«01_k».proof.Proof.Gen.KernelDff1Ideal.Value
public import proofs.«01_k».proof.Proof.Gen.ReferenceDff1Ideal
public import proofs.«01_k».proof.Proof.Gen.ReferenceDff1Ideal.Run
public import proofs.«01_k».proof.Proof.Gen.ReferenceDff1Ideal.Read
public import proofs.«01_k».proof.Proof.Gen.KernelNorm1
public import proofs.«01_k».proof.Proof.Gen.KernelNorm1.Skeleton
public import proofs.«01_k».proof.Proof.Gen.KernelNorm1.Launch
public import proofs.«01_k».proof.Proof.Gen.KernelNorm1.Points
public import proofs.«01_k».proof.Proof.Gen.KernelNorm1.Frame
public import proofs.«01_k».proof.Proof.Gen.KernelNorm1Ideal
public import proofs.«01_k».proof.Proof.Gen.KernelNorm1Ideal.Skeleton
public import proofs.«01_k».proof.Proof.Gen.KernelNorm1Ideal.Launch
public import proofs.«01_k».proof.Proof.Gen.KernelNorm1Ideal.Points
public import proofs.«01_k».proof.Proof.Gen.KernelNorm1Ideal.Frame
public import proofs.«01_k».proof.Proof.Gen.KernelNorm1Ideal.Value
public import proofs.«01_k».proof.Proof.Gen.ReferenceNorm1Ideal
public import proofs.«01_k».proof.Proof.Gen.ReferenceNorm1Ideal.Run
public import proofs.«01_k».proof.Proof.Gen.ReferenceNorm1Ideal.Read
public import proofs.«01_k».proof.Proof.Gen.KernelNorm2
public import proofs.«01_k».proof.Proof.Gen.KernelNorm2.Skeleton
public import proofs.«01_k».proof.Proof.Gen.KernelNorm2.Launch
public import proofs.«01_k».proof.Proof.Gen.KernelNorm2.Points
public import proofs.«01_k».proof.Proof.Gen.KernelNorm2.Frame
public import proofs.«01_k».proof.Proof.Gen.KernelNorm2Ideal
public import proofs.«01_k».proof.Proof.Gen.KernelNorm2Ideal.Skeleton
public import proofs.«01_k».proof.Proof.Gen.KernelNorm2Ideal.Launch
public import proofs.«01_k».proof.Proof.Gen.KernelNorm2Ideal.Points
public import proofs.«01_k».proof.Proof.Gen.KernelNorm2Ideal.Frame
public import proofs.«01_k».proof.Proof.Gen.KernelNorm2Ideal.Value
public import proofs.«01_k».proof.Proof.Gen.ReferenceNorm2Ideal
public import proofs.«01_k».proof.Proof.Gen.ReferenceNorm2Ideal.Run
public import proofs.«01_k».proof.Proof.Gen.ReferenceNorm2Ideal.Read
public import proofs.«01_k».proof.Proof.Gen.KernelDout
public import proofs.«01_k».proof.Proof.Gen.KernelDout.Skeleton
public import proofs.«01_k».proof.Proof.Gen.KernelDout.Launch
public import proofs.«01_k».proof.Proof.Gen.KernelDout.Points
public import proofs.«01_k».proof.Proof.Gen.KernelDout.Frame
public import proofs.«01_k».proof.Proof.Gen.KernelDoutIdeal
public import proofs.«01_k».proof.Proof.Gen.KernelDoutIdeal.Skeleton
public import proofs.«01_k».proof.Proof.Gen.KernelDoutIdeal.Launch
public import proofs.«01_k».proof.Proof.Gen.KernelDoutIdeal.Points
public import proofs.«01_k».proof.Proof.Gen.KernelDoutIdeal.Frame
public import proofs.«01_k».proof.Proof.Gen.KernelDoutIdeal.Value
public import proofs.«01_k».proof.Proof.Gen.ReferenceDoutIdeal
public import proofs.«01_k».proof.Proof.Gen.ReferenceDoutIdeal.Run
public import proofs.«01_k».proof.Proof.Gen.ReferenceDoutIdeal.Read
public import proofs.«01_k».proof.Proof.Gen.KernelGwOut
public import proofs.«01_k».proof.Proof.Gen.KernelGwOut.Skeleton
public import proofs.«01_k».proof.Proof.Gen.KernelGwOut.Launch
public import proofs.«01_k».proof.Proof.Gen.KernelGwOut.Points
public import proofs.«01_k».proof.Proof.Gen.KernelGwOut.Frame
public import proofs.«01_k».proof.Proof.Gen.KernelGwOutIdeal
public import proofs.«01_k».proof.Proof.Gen.KernelGwOutIdeal.Skeleton
public import proofs.«01_k».proof.Proof.Gen.KernelGwOutIdeal.Launch
public import proofs.«01_k».proof.Proof.Gen.KernelGwOutIdeal.Points
public import proofs.«01_k».proof.Proof.Gen.KernelGwOutIdeal.Frame
public import proofs.«01_k».proof.Proof.Gen.KernelGwOutIdeal.Value
public import proofs.«01_k».proof.Proof.Gen.ReferenceGwOutIdeal
public import proofs.«01_k».proof.Proof.Gen.ReferenceGwOutIdeal.Run
public import proofs.«01_k».proof.Proof.Gen.ReferenceGwOutIdeal.Read
public import proofs.«01_k».proof.Proof.Gen.KernelGwIn
public import proofs.«01_k».proof.Proof.Gen.KernelGwIn.Skeleton
public import proofs.«01_k».proof.Proof.Gen.KernelGwIn.Launch
public import proofs.«01_k».proof.Proof.Gen.KernelGwIn.Points
public import proofs.«01_k».proof.Proof.Gen.KernelGwIn.Frame
public import proofs.«01_k».proof.Proof.Gen.KernelGwInIdeal
public import proofs.«01_k».proof.Proof.Gen.KernelGwInIdeal.Skeleton
public import proofs.«01_k».proof.Proof.Gen.KernelGwInIdeal.Launch
public import proofs.«01_k».proof.Proof.Gen.KernelGwInIdeal.Points
public import proofs.«01_k».proof.Proof.Gen.KernelGwInIdeal.Frame
public import proofs.«01_k».proof.Proof.Gen.KernelGwInIdeal.Value
public import proofs.«01_k».proof.Proof.Gen.ReferenceGwInIdeal
public import proofs.«01_k».proof.Proof.Gen.ReferenceGwInIdeal.Run
public import proofs.«01_k».proof.Proof.Gen.ReferenceGwInIdeal.Read
public import proofs.«01_k».proof.Proof.Gen.KernelDin
public import proofs.«01_k».proof.Proof.Gen.KernelDin.Skeleton
public import proofs.«01_k».proof.Proof.Gen.KernelDin.Launch
public import proofs.«01_k».proof.Proof.Gen.KernelDin.Points
public import proofs.«01_k».proof.Proof.Gen.KernelDin.Frame
public import proofs.«01_k».proof.Proof.Gen.KernelDinIdeal
public import proofs.«01_k».proof.Proof.Gen.KernelDinIdeal.Skeleton
public import proofs.«01_k».proof.Proof.Gen.KernelDinIdeal.Launch
public import proofs.«01_k».proof.Proof.Gen.KernelDinIdeal.Points
public import proofs.«01_k».proof.Proof.Gen.KernelDinIdeal.Frame
public import proofs.«01_k».proof.Proof.Gen.KernelDinIdeal.Value
public import proofs.«01_k».proof.Proof.Gen.ReferenceDinIdeal
public import proofs.«01_k».proof.Proof.Gen.ReferenceDinIdeal.Run
public import proofs.«01_k».proof.Proof.Gen.ReferenceDinIdeal.Read
public import proofs.«01_k».proof.Proof.Gen.KernelGwGlu
public import proofs.«01_k».proof.Proof.Gen.KernelGwGlu.Skeleton
public import proofs.«01_k».proof.Proof.Gen.KernelGwGlu.Launch
public import proofs.«01_k».proof.Proof.Gen.KernelGwGlu.Points
public import proofs.«01_k».proof.Proof.Gen.KernelGwGlu.Frame
public import proofs.«01_k».proof.Proof.Gen.KernelGwGluIdeal
public import proofs.«01_k».proof.Proof.Gen.KernelGwGluIdeal.Skeleton
public import proofs.«01_k».proof.Proof.Gen.KernelGwGluIdeal.Launch
public import proofs.«01_k».proof.Proof.Gen.KernelGwGluIdeal.Points
public import proofs.«01_k».proof.Proof.Gen.KernelGwGluIdeal.Frame
public import proofs.«01_k».proof.Proof.Gen.KernelGwGluIdeal.Value
public import proofs.«01_k».proof.Proof.Gen.ReferenceGwGluIdeal
public import proofs.«01_k».proof.Proof.Gen.ReferenceGwGluIdeal.Run
public import proofs.«01_k».proof.Proof.Gen.ReferenceGwGluIdeal.Read
public import proofs.«01_k».proof.Proof.Gen.KernelFf1
public import proofs.«01_k».proof.Proof.Gen.KernelFf1.Skeleton
public import proofs.«01_k».proof.Proof.Gen.KernelFf1.Launch
public import proofs.«01_k».proof.Proof.Gen.KernelFf1.Points
public import proofs.«01_k».proof.Proof.Gen.KernelFf1.Frame
public import proofs.«01_k».proof.Proof.Gen.KernelFf1Ideal
public import proofs.«01_k».proof.Proof.Gen.KernelFf1Ideal.Skeleton
public import proofs.«01_k».proof.Proof.Gen.KernelFf1Ideal.Launch
public import proofs.«01_k».proof.Proof.Gen.KernelFf1Ideal.Points
public import proofs.«01_k».proof.Proof.Gen.KernelFf1Ideal.Frame
public import proofs.«01_k».proof.Proof.Gen.KernelFf1Ideal.Value
public import proofs.«01_k».proof.Proof.Gen.ReferenceFf1Ideal
public import proofs.«01_k».proof.Proof.Gen.ReferenceFf1Ideal.Run
public import proofs.«01_k».proof.Proof.Gen.ReferenceFf1Ideal.Read
public import proofs.«01_k».proof.Proof.Gen.KernelFf2
public import proofs.«01_k».proof.Proof.Gen.KernelFf2.Skeleton
public import proofs.«01_k».proof.Proof.Gen.KernelFf2.Launch
public import proofs.«01_k».proof.Proof.Gen.KernelFf2.Points
public import proofs.«01_k».proof.Proof.Gen.KernelFf2.Frame
public import proofs.«01_k».proof.Proof.Gen.KernelFf2Ideal
public import proofs.«01_k».proof.Proof.Gen.KernelFf2Ideal.Skeleton
public import proofs.«01_k».proof.Proof.Gen.KernelFf2Ideal.Launch
public import proofs.«01_k».proof.Proof.Gen.KernelFf2Ideal.Points
public import proofs.«01_k».proof.Proof.Gen.KernelFf2Ideal.Frame
public import proofs.«01_k».proof.Proof.Gen.KernelFf2Ideal.Value
public import proofs.«01_k».proof.Proof.Gen.ReferenceFf2Ideal
public import proofs.«01_k».proof.Proof.Gen.ReferenceFf2Ideal.Run
public import proofs.«01_k».proof.Proof.Gen.ReferenceFf2Ideal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.ReferenceGluIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelFinal
public import proofs.«01_k».proof.Proof.Gen.KernelFinal.Skeleton
public import proofs.«01_k».proof.Proof.Gen.KernelFinal.Launch
public import proofs.«01_k».proof.Proof.Gen.KernelFinal.Points
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.KernelFinalIdeal.Value
public import proofs.«01_k».proof.Proof.Gen.ReferenceFinalIdeal
public import proofs.«01_k».proof.Proof.Gen.ReferenceFinalIdeal.Run
public import proofs.«01_k».proof.Proof.Gen.ReferenceFinalIdeal.Read
public import proofs.«01_k».proof.Proof.Gen.KernelResNorm
public import proofs.«01_k».proof.Proof.Gen.KernelResNorm.Skeleton
public import proofs.«01_k».proof.Proof.Gen.KernelResNorm.Launch
public import proofs.«01_k».proof.Proof.Gen.KernelResNorm.Points
public import proofs.«01_k».proof.Proof.Gen.KernelResNorm.Frame
public import proofs.«01_k».proof.Proof.Gen.KernelResNormIdeal
public import proofs.«01_k».proof.Proof.Gen.KernelResNormIdeal.Skeleton
public import proofs.«01_k».proof.Proof.Gen.KernelResNormIdeal.Launch
public import proofs.«01_k».proof.Proof.Gen.KernelResNormIdeal.Points
public import proofs.«01_k».proof.Proof.Gen.KernelResNormIdeal.Frame
public import proofs.«01_k».proof.Proof.Gen.KernelResNormIdeal.Value
public import proofs.«01_k».proof.Proof.Gen.ReferenceResNormIdeal
public import proofs.«01_k».proof.Proof.Gen.ReferenceResNormIdeal.Run
public import proofs.«01_k».proof.Proof.Gen.ReferenceResNormIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Equal
public import proofs.«01_k».proof.Proof.Dff2
public import proofs.«01_k».proof.Proof.GwFf2
public import proofs.«01_k».proof.Proof.GwFf1
public import proofs.«01_k».proof.Proof.Dff1
public import proofs.«01_k».proof.Proof.Norm1
public import proofs.«01_k».proof.Proof.Norm2
public import proofs.«01_k».proof.Proof.Dout
public import proofs.«01_k».proof.Proof.GwOut
public import proofs.«01_k».proof.Proof.GwIn
public import proofs.«01_k».proof.Proof.Din
public import proofs.«01_k».proof.Proof.GwGlu
public import proofs.«01_k».proof.Proof.Ff1
public import proofs.«01_k».proof.Proof.Ff2
public import proofs.«01_k».proof.Proof.In
public import proofs.«01_k».proof.Proof.Glu
public import proofs.«01_k».proof.Proof.Out
public import proofs.«01_k».proof.Proof.Final
public import proofs.«01_k».proof.Proof.ResNorm
public import proofs.«01_k».proof.Proof.Mix
public import Idealize.ShloMosaic.Adequacy
public import Idealize.ShloMosaic.Init

@[expose] public section

noncomputable section

namespace Cert.Proof

open Idealize.ShloMosaic Idealize.SL.Sem Cert.Kernel

/-- The reference declares no semaphore and writes none of its arguments. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- Kernel and reference end with the same six arrays. -/
theorem algebraic : Cert.algebraic_KernelIdeal_ReferenceIdeal_pre_finite := by
  intro m ρ m' ρ' hpre hargs
  refine ⟨_, _, _, _, _, _, Cert.KernelIdeal.Value.run_blocks m ρ,
    (θ_run Cert.ReferenceIdeal.defs _ _).mono (fun r h c => ?_) (Cert.ReferenceIdeal.Value.run (F := Ideal) m' ρ')⟩
  obtain ⟨e0, e1, e2, e3, e4⟩ := hargs c
  obtain ⟨h0, h1, h2, h3, h4, h5, hk⟩ := h c
  refine ⟨(h0.trans (Cert.ReferenceIdeal.Read.val_main_v140_eq _)).trans ?_, (h1.trans (Cert.ReferenceIdeal.Read.val_main_v142_eq _)).trans ?_,
    (h2.trans (Cert.ReferenceIdeal.Read.val_main_v144_eq _)).trans ?_, (h3.trans (Cert.ReferenceIdeal.Read.val_main_v146_eq _)).trans ?_,
    (h4.trans (Cert.ReferenceIdeal.Read.val_main_v148_eq _)).trans ?_, (h5.trans (Cert.ReferenceIdeal.Read.val_main_v149_eq _)).trans ?_, hk⟩ <;>
  simp only [StableHlo.launchContents_devRef, e0, e1, e2, e3, e4]
  · exact (Equal.dq hpre).symm
  · exact (Equal.dkc hpre).symm
  · exact (Equal.dkp hpre).symm
  · exact (Equal.dvc hpre).symm
  · exact (Equal.dvp hpre).symm
  · exact (Equal.ds hpre).symm

/-- The reference of the gradient by the activation's input. -/
theorem frame_referenceDff2 : Cert.quiescent_ReferenceDff2Ideal := fun m ρ _ =>
  (θ_run Cert.ReferenceDff2Ideal.defs _ _).mono (fun r h => ⟨fun c => (h c).2, sem_eq_zero_of_no_sems (by decide) r.2⟩)
    (Cert.ReferenceDff2Ideal.Value.run (F := Ideal) m ρ)

/-- Kernel and reference end with the same array: the gradient by the activation's input. -/
theorem algebraicDff2 : Cert.algebraic_KernelDff2Ideal_ReferenceDff2Ideal := by
  intro m ρ m' ρ' _ hargs
  refine ⟨_, Cert.KernelDff2Ideal.Value.run_blocks m ρ,
    (θ_run Cert.ReferenceDff2Ideal.defs _ _).mono (fun r h c => ?_) (Cert.ReferenceDff2Ideal.Value.run (F := Ideal) m' ρ')⟩
  obtain ⟨e0, e1, e2⟩ := hargs c
  refine ⟨((h c).1.trans (Cert.ReferenceDff2Ideal.Read.val_main_v12_eq ..)).trans ?_, (h c).2⟩
  simp only [StableHlo.launchContents_devRef, e0, e1, e2]
  exact (Dff2.equal m c).symm

/-- The reference of the gradient by the second weight. -/
theorem frame_referenceGwFf2 : Cert.quiescent_ReferenceGwFf2Ideal := fun m ρ _ =>
  (θ_run Cert.ReferenceGwFf2Ideal.defs _ _).mono (fun r h => ⟨fun c => (h c).2, sem_eq_zero_of_no_sems (by decide) r.2⟩)
    (Cert.ReferenceGwFf2Ideal.Value.run (F := Ideal) m ρ)

/-- Kernel and reference end with the same array: the gradient by the second weight. -/
theorem algebraicGwFf2 : Cert.algebraic_KernelGwFf2Ideal_ReferenceGwFf2Ideal := by
  intro m ρ m' ρ' _ hargs
  refine ⟨_, Cert.KernelGwFf2Ideal.Value.run_blocks m ρ,
    (θ_run Cert.ReferenceGwFf2Ideal.defs _ _).mono (fun r h c => ?_) (Cert.ReferenceGwFf2Ideal.Value.run (F := Ideal) m' ρ')⟩
  obtain ⟨e0, e1, e2⟩ := hargs c
  refine ⟨((h c).1.trans (Cert.ReferenceGwFf2Ideal.Read.val_main_v5_eq ..)).trans ?_, (h c).2⟩
  simp only [StableHlo.launchContents_devRef, e0, e1, e2]
  exact (GwFf2.equal m c).symm

/-- The reference of the gradient by the first weight. -/
theorem frame_referenceGwFf1 : Cert.quiescent_ReferenceGwFf1Ideal := fun m ρ _ =>
  (θ_run Cert.ReferenceGwFf1Ideal.defs _ _).mono (fun r h => ⟨fun c => (h c).2, sem_eq_zero_of_no_sems (by decide) r.2⟩)
    (Cert.ReferenceGwFf1Ideal.Value.run (F := Ideal) m ρ)

/-- Kernel and reference end with the same array: the gradient by the first weight. -/
theorem algebraicGwFf1 : Cert.algebraic_KernelGwFf1Ideal_ReferenceGwFf1Ideal := by
  intro m ρ m' ρ' _ hargs
  refine ⟨_, Cert.KernelGwFf1Ideal.Value.run_blocks m ρ,
    (θ_run Cert.ReferenceGwFf1Ideal.defs _ _).mono (fun r h c => ?_) (Cert.ReferenceGwFf1Ideal.Value.run (F := Ideal) m' ρ')⟩
  obtain ⟨e0, e1, e2⟩ := hargs c
  refine ⟨((h c).1.trans (Cert.ReferenceGwFf1Ideal.Read.val_main_v5_eq ..)).trans ?_, (h c).2⟩
  simp only [StableHlo.launchContents_devRef, e0, e1, e2]
  exact (GwFf1.equal m c).symm

/-- The reference of the gradient by the MLP's input. -/
theorem frame_referenceDff1 : Cert.quiescent_ReferenceDff1Ideal := fun m ρ _ =>
  (θ_run Cert.ReferenceDff1Ideal.defs _ _).mono (fun r h => ⟨fun c => (h c).2, sem_eq_zero_of_no_sems (by decide) r.2⟩)
    (Cert.ReferenceDff1Ideal.Value.run (F := Ideal) m ρ)

/-- Kernel and reference end with the same array: the gradient by the MLP's input. -/
theorem algebraicDff1 : Cert.algebraic_KernelDff1Ideal_ReferenceDff1Ideal := by
  intro m ρ m' ρ' _ hargs
  refine ⟨_, Cert.KernelDff1Ideal.Value.run_blocks m ρ,
    (θ_run Cert.ReferenceDff1Ideal.defs _ _).mono (fun r h c => ?_) (Cert.ReferenceDff1Ideal.Value.run (F := Ideal) m' ρ')⟩
  obtain ⟨e0, e1, e2⟩ := hargs c
  refine ⟨((h c).1.trans (Cert.ReferenceDff1Ideal.Read.val_main_v1_eq ..)).trans ?_, (h c).2⟩
  simp only [StableHlo.launchContents_devRef, e0, e1, e2]
  exact (Dff1.equal m c).symm

/-- The reference of the first norm's gradients. -/
theorem frame_referenceNorm1 : Cert.quiescent_ReferenceNorm1Ideal := fun m ρ _ =>
  (θ_run Cert.ReferenceNorm1Ideal.defs _ _).mono (fun r h => ⟨fun c => (h c).2.2.2.2, sem_eq_zero_of_no_sems (by decide) r.2⟩)
    (Cert.ReferenceNorm1Ideal.Value.run (F := Ideal) m ρ)

/-- Kernel and reference end with the same four arrays: the first norm's gradients. -/
theorem algebraicNorm1 : Cert.algebraic_KernelNorm1Ideal_ReferenceNorm1Ideal := by
  intro m ρ m' ρ' _ hargs
  refine ⟨_, _, _, _, Cert.KernelNorm1Ideal.Value.run_blocks m ρ,
    (θ_run Cert.ReferenceNorm1Ideal.defs _ _).mono (fun r h c => ?_) (Cert.ReferenceNorm1Ideal.Value.run (F := Ideal) m' ρ')⟩
  obtain ⟨e0, e1, e2, e3, e4⟩ := hargs c
  obtain ⟨h0, h1, h2, h3, hk⟩ := h c
  refine ⟨(h0.trans (Cert.ReferenceNorm1Ideal.Read.val_main_v49_eq ..)).trans ?_, (h1.trans (Cert.ReferenceNorm1Ideal.Read.val_main_v24_eq ..)).trans ?_,
    (h2.trans (Cert.ReferenceNorm1Ideal.Read.val_main_v27_eq ..)).trans ?_, (h3.trans (Cert.ReferenceNorm1Ideal.Read.val_main_v32_eq ..)).trans ?_, hk⟩ <;>
  simp only [StableHlo.launchContents_devRef, e0, e1, e2, e3, e4]
  · exact (Norm1.equal_5 m c _ _ _ _ _ rfl rfl rfl rfl rfl).symm
  · exact (Norm1.equal_6 m c _ rfl).symm
  · exact (Norm1.equal_7 m c _ _ _ rfl rfl rfl).symm
  · exact (Norm1.equal_8 m c _ _ _ rfl rfl rfl).symm

/-- The reference of the second norm's gradients. -/
theorem frame_referenceNorm2 : Cert.quiescent_ReferenceNorm2Ideal := fun m ρ _ =>
  (θ_run Cert.ReferenceNorm2Ideal.defs _ _).mono (fun r h => ⟨fun c => (h c).2.2.2.2.2.2, sem_eq_zero_of_no_sems (by decide) r.2⟩)
    (Cert.ReferenceNorm2Ideal.Value.run (F := Ideal) m ρ)

/-- Kernel and reference end with the same six arrays: the second norm's gradients, and the gate's. -/
theorem algebraicNorm2 : Cert.algebraic_KernelNorm2Ideal_ReferenceNorm2Ideal := by
  intro m ρ m' ρ' _ hargs
  refine ⟨_, _, _, _, _, _, Cert.KernelNorm2Ideal.Value.run_blocks m ρ,
    (θ_run Cert.ReferenceNorm2Ideal.defs _ _).mono (fun r h c => ?_) (Cert.ReferenceNorm2Ideal.Value.run (F := Ideal) m' ρ')⟩
  obtain ⟨e0, e1, e2, e3, e4, e5, e6⟩ := hargs c
  obtain ⟨h0, h1, h2, h3, h4, h5, hk⟩ := h c
  have e := Norm2.equal m c _ _ _ _ _ _ _ rfl rfl rfl rfl rfl rfl rfl
  refine ⟨(h0.trans (Cert.ReferenceNorm2Ideal.Read.val_main_v49_eq ..)).trans ?_, (h1.trans (Cert.ReferenceNorm2Ideal.Read.val_main_v57_eq ..)).trans ?_,
    (h2.trans (Cert.ReferenceNorm2Ideal.Read.val_main_v24_eq ..)).trans ?_, (h3.trans (Cert.ReferenceNorm2Ideal.Read.val_main_v27_eq ..)).trans ?_,
    (h4.trans (Cert.ReferenceNorm2Ideal.Read.val_main_v32_eq ..)).trans ?_, (h5.trans (Cert.ReferenceNorm2Ideal.Read.val_main_v56_eq ..)).trans ?_, hk⟩ <;>
  simp only [StableHlo.launchContents_devRef, e0, e1, e2, e3, e4, e5, e6]
  · exact e.1.symm
  · exact e.2.1.symm
  · exact e.2.2.1.symm
  · exact e.2.2.2.1.symm
  · exact e.2.2.2.2.1.symm
  · exact e.2.2.2.2.2.symm

/-- The reference of the gradient by the mixer's rows. -/
theorem frame_referenceDout : Cert.quiescent_ReferenceDoutIdeal := fun m ρ _ =>
  (θ_run Cert.ReferenceDoutIdeal.defs _ _).mono (fun r h => ⟨fun c => (h c).2, sem_eq_zero_of_no_sems (by decide) r.2⟩)
    (Cert.ReferenceDoutIdeal.Value.run (F := Ideal) m ρ)

/-- Kernel and reference end with the same array: the gradient by the mixer's rows. -/
theorem algebraicDout : Cert.algebraic_KernelDoutIdeal_ReferenceDoutIdeal := by
  intro m ρ m' ρ' _ hargs
  refine ⟨_, Cert.KernelDoutIdeal.Value.run_blocks m ρ,
    (θ_run Cert.ReferenceDoutIdeal.defs _ _).mono (fun r h c => ?_) (Cert.ReferenceDoutIdeal.Value.run (F := Ideal) m' ρ')⟩
  obtain ⟨e0, e1, e2⟩ := hargs c
  refine ⟨((h c).1.trans (Cert.ReferenceDoutIdeal.Read.val_main_v1_eq ..)).trans ?_, (h c).2⟩
  simp only [StableHlo.launchContents_devRef, e0, e1, e2]
  exact (Dout.equal m c).symm

/-- The reference of the gradient by the output projection's weight. -/
theorem frame_referenceGwOut : Cert.quiescent_ReferenceGwOutIdeal := fun m ρ _ =>
  (θ_run Cert.ReferenceGwOutIdeal.defs _ _).mono (fun r h => ⟨fun c => (h c).2, sem_eq_zero_of_no_sems (by decide) r.2⟩)
    (Cert.ReferenceGwOutIdeal.Value.run (F := Ideal) m ρ)

/-- Kernel and reference end with the same array: the gradient by the output projection's weight. -/
theorem algebraicGwOut : Cert.algebraic_KernelGwOutIdeal_ReferenceGwOutIdeal := by
  intro m ρ m' ρ' _ hargs
  refine ⟨_, Cert.KernelGwOutIdeal.Value.run_blocks m ρ,
    (θ_run Cert.ReferenceGwOutIdeal.defs _ _).mono (fun r h c => ?_) (Cert.ReferenceGwOutIdeal.Value.run (F := Ideal) m' ρ')⟩
  obtain ⟨e0, e1, e2⟩ := hargs c
  refine ⟨((h c).1.trans (Cert.ReferenceGwOutIdeal.Read.val_main_v3_eq ..)).trans ?_, (h c).2⟩
  simp only [StableHlo.launchContents_devRef, e0, e1, e2]
  exact (GwOut.equal m c).symm

/-- The reference of the gradient by the input projection's weight. -/
theorem frame_referenceGwIn : Cert.quiescent_ReferenceGwInIdeal := fun m ρ _ =>
  (θ_run Cert.ReferenceGwInIdeal.defs _ _).mono (fun r h => ⟨fun c => (h c).2, sem_eq_zero_of_no_sems (by decide) r.2⟩)
    (Cert.ReferenceGwInIdeal.Value.run (F := Ideal) m ρ)

/-- Kernel and reference end with the same array: the gradient by the input projection's weight. -/
theorem algebraicGwIn : Cert.algebraic_KernelGwInIdeal_ReferenceGwInIdeal := by
  intro m ρ m' ρ' _ hargs
  refine ⟨_, Cert.KernelGwInIdeal.Value.run_blocks m ρ,
    (θ_run Cert.ReferenceGwInIdeal.defs _ _).mono (fun r h c => ?_) (Cert.ReferenceGwInIdeal.Value.run (F := Ideal) m' ρ')⟩
  obtain ⟨e0, e1, e2⟩ := hargs c
  refine ⟨((h c).1.trans (Cert.ReferenceGwInIdeal.Read.val_main_v5_eq ..)).trans ?_, (h c).2⟩
  simp only [StableHlo.launchContents_devRef, e0, e1, e2]
  exact (GwIn.equal m c).symm

/-- The reference of the gradient by the input projection's rows. -/
theorem frame_referenceDin : Cert.quiescent_ReferenceDinIdeal := fun m ρ _ =>
  (θ_run Cert.ReferenceDinIdeal.defs _ _).mono (fun r h => ⟨fun c => (h c).2, sem_eq_zero_of_no_sems (by decide) r.2⟩)
    (Cert.ReferenceDinIdeal.Value.run (F := Ideal) m ρ)

/-- Kernel and reference end with the same array: the gradient by the input projection's rows. -/
theorem algebraicDin : Cert.algebraic_KernelDinIdeal_ReferenceDinIdeal := by
  intro m ρ m' ρ' _ hargs
  refine ⟨_, Cert.KernelDinIdeal.Value.run_blocks m ρ,
    (θ_run Cert.ReferenceDinIdeal.defs _ _).mono (fun r h c => ?_) (Cert.ReferenceDinIdeal.Value.run (F := Ideal) m' ρ')⟩
  obtain ⟨e0, e1, e2⟩ := hargs c
  refine ⟨((h c).1.trans (Cert.ReferenceDinIdeal.Read.val_main_v1_eq ..)).trans ?_, (h c).2⟩
  simp only [StableHlo.launchContents_devRef, e0, e1, e2]
  exact (Din.equal m c).symm

/-- The reference of the gradient by the gated unit's weight. -/
theorem frame_referenceGwGlu : Cert.quiescent_ReferenceGwGluIdeal := fun m ρ _ =>
  (θ_run Cert.ReferenceGwGluIdeal.defs _ _).mono (fun r h => ⟨fun c => (h c).2, sem_eq_zero_of_no_sems (by decide) r.2⟩)
    (Cert.ReferenceGwGluIdeal.Value.run (F := Ideal) m ρ)

/-- Kernel and reference end with the same array: the gradient by the gated unit's weight. -/
theorem algebraicGwGlu : Cert.algebraic_KernelGwGluIdeal_ReferenceGwGluIdeal := by
  intro m ρ m' ρ' _ hargs
  refine ⟨_, Cert.KernelGwGluIdeal.Value.run_blocks m ρ,
    (θ_run Cert.ReferenceGwGluIdeal.defs _ _).mono (fun r h c => ?_) (Cert.ReferenceGwGluIdeal.Value.run (F := Ideal) m' ρ')⟩
  obtain ⟨e0, e1, e2⟩ := hargs c
  refine ⟨((h c).1.trans (Cert.ReferenceGwGluIdeal.Read.val_main_v3_eq ..)).trans ?_, (h c).2⟩
  simp only [StableHlo.launchContents_devRef, e0, e1, e2]
  exact (GwGlu.equal m c).symm

/-- The reference of the MLP's first product and its activation. -/
theorem frame_referenceFf1 : Cert.quiescent_ReferenceFf1Ideal := fun m ρ _ =>
  (θ_run Cert.ReferenceFf1Ideal.defs _ _).mono (fun r h => ⟨fun c => (h c).2.2, sem_eq_zero_of_no_sems (by decide) r.2⟩)
    (Cert.ReferenceFf1Ideal.Value.run (F := Ideal) m ρ)

/-- Kernel and reference end with the same two arrays: the MLP's first product and its activation. -/
theorem algebraicFf1 : Cert.algebraic_KernelFf1Ideal_ReferenceFf1Ideal := by
  intro m ρ m' ρ' _ hargs
  refine ⟨_, _, Cert.KernelFf1Ideal.Value.run_blocks m ρ,
    (θ_run Cert.ReferenceFf1Ideal.defs _ _).mono (fun r h c => ?_) (Cert.ReferenceFf1Ideal.Value.run (F := Ideal) m' ρ')⟩
  obtain ⟨e0, e1⟩ := hargs c
  obtain ⟨h0, h1, hk⟩ := h c
  have e := Ff1.equal m c
  refine ⟨(h0.trans (Cert.ReferenceFf1Ideal.Read.val_main_v1_eq ..)).trans ?_,
    (h1.trans (Cert.ReferenceFf1Ideal.Read.val_main_v4_eq ..)).trans ?_, hk⟩ <;>
  simp only [StableHlo.launchContents_devRef, e0, e1]
  · exact e.1.symm
  · exact e.2.symm

/-- The reference of the MLP's second product. -/
theorem frame_referenceFf2 : Cert.quiescent_ReferenceFf2Ideal := fun m ρ _ =>
  (θ_run Cert.ReferenceFf2Ideal.defs _ _).mono (fun r h => ⟨fun c => (h c).2, sem_eq_zero_of_no_sems (by decide) r.2⟩)
    (Cert.ReferenceFf2Ideal.Value.run (F := Ideal) m ρ)

/-- Kernel and reference end with the same array: the MLP's second product. -/
theorem algebraicFf2 : Cert.algebraic_KernelFf2Ideal_ReferenceFf2Ideal := by
  intro m ρ m' ρ' _ hargs
  refine ⟨_, Cert.KernelFf2Ideal.Value.run_blocks m ρ,
    (θ_run Cert.ReferenceFf2Ideal.defs _ _).mono (fun r h c => ?_) (Cert.ReferenceFf2Ideal.Value.run (F := Ideal) m' ρ')⟩
  obtain ⟨e0, e1⟩ := hargs c
  refine ⟨((h c).1.trans (Cert.ReferenceFf2Ideal.Read.val_main_v2_eq ..)).trans ?_, (h c).2⟩
  simp only [StableHlo.launchContents_devRef, e0, e1]
  exact (Ff2.equal m c).symm

/-- The reference of the input projection. -/
theorem frame_referenceIn : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- Kernel and reference end with the same array: the input projection. -/
theorem algebraicIn : Cert.algebraic_KernelInIdeal_ReferenceInIdeal := by
  intro m ρ m' ρ' _ hargs
  refine ⟨_, Cert.KernelInIdeal.Value.run_blocks m ρ,
    (θ_run Cert.ReferenceInIdeal.defs _ _).mono (fun r h c => ?_) (Cert.ReferenceInIdeal.Value.run (F := Ideal) m' ρ')⟩
  obtain ⟨e0, e1⟩ := hargs c
  refine ⟨((h c).1.trans (Cert.ReferenceInIdeal.Read.val_main_v0_eq ..)).trans ?_, (h c).2⟩
  simp only [StableHlo.launchContents_devRef, e0, e1]
  exact (In.equal m c).symm

/-- The reference of the gated unit's product. -/
theorem frame_referenceGlu : Cert.quiescent_ReferenceGluIdeal := fun m ρ _ =>
  (θ_run Cert.ReferenceGluIdeal.defs _ _).mono (fun r h => ⟨fun c => (h c).2, sem_eq_zero_of_no_sems (by decide) r.2⟩)
    (Cert.ReferenceGluIdeal.Value.run (F := Ideal) m ρ)

/-- Kernel and reference end with the same array: the gated unit's product. -/
theorem algebraicGlu : Cert.algebraic_KernelGluIdeal_ReferenceGluIdeal := by
  intro m ρ m' ρ' _ hargs
  refine ⟨_, Cert.KernelGluIdeal.Value.run_blocks m ρ,
    (θ_run Cert.ReferenceGluIdeal.defs _ _).mono (fun r h c => ?_) (Cert.ReferenceGluIdeal.Value.run (F := Ideal) m' ρ')⟩
  obtain ⟨e0, e1⟩ := hargs c
  refine ⟨((h c).1.trans (Cert.ReferenceGluIdeal.Read.val_main_v0_eq ..)).trans ?_, (h c).2⟩
  simp only [StableHlo.launchContents_devRef, e0, e1]
  exact (Glu.equal m c).symm

/-- The reference of the output projection. -/
theorem frame_referenceOut : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- Kernel and reference end with the same array: the output projection. -/
theorem algebraicOut : Cert.algebraic_KernelOutIdeal_ReferenceOutIdeal := by
  intro m ρ m' ρ' _ hargs
  refine ⟨_, Cert.KernelOutIdeal.Value.run_blocks m ρ,
    (θ_run Cert.ReferenceOutIdeal.defs _ _).mono (fun r h c => ?_) (Cert.ReferenceOutIdeal.Value.run (F := Ideal) m' ρ')⟩
  obtain ⟨e0, e1⟩ := hargs c
  refine ⟨((h c).1.trans (Cert.ReferenceOutIdeal.Read.val_main_v0_eq ..)).trans ?_, (h c).2⟩
  simp only [StableHlo.launchContents_devRef, e0, e1]
  exact (Out.equal m c).symm

/-- The reference of the loss. -/
theorem frame_referenceFinal : Cert.quiescent_ReferenceFinalIdeal := fun m ρ _ =>
  (θ_run Cert.ReferenceFinalIdeal.defs _ _).mono (fun r h => ⟨fun c => (h c).2.2.2.2.2, sem_eq_zero_of_no_sems (by decide) r.2⟩)
    (Cert.ReferenceFinalIdeal.Value.run (F := Ideal) m ρ)

/-- Kernel and reference end with the same five arrays: the loss's gradients and the squared errors. -/
theorem algebraicFinal : Cert.algebraic_KernelFinalIdeal_ReferenceFinalIdeal := by
  intro m ρ m' ρ' _ hargs
  refine ⟨_, _, _, _, _, Cert.KernelFinalIdeal.Value.run_blocks m ρ,
    (θ_run Cert.ReferenceFinalIdeal.defs _ _).mono (fun r h c => ?_) (Cert.ReferenceFinalIdeal.Value.run (F := Ideal) m' ρ')⟩
  obtain ⟨e0, e1, e2, e3, e4⟩ := hargs c
  obtain ⟨h0, h1, h2, h3, h4, hk⟩ := h c
  have e := Final.equal m c _ _ _ _ _ rfl rfl rfl rfl rfl
  refine ⟨(h0.trans (Cert.ReferenceFinalIdeal.Read.val_main_v53_eq ..)).trans ?_, (h1.trans (Cert.ReferenceFinalIdeal.Read.val_main_v59_eq ..)).trans ?_,
    (h2.trans (Cert.ReferenceFinalIdeal.Read.val_main_v28_eq ..)).trans ?_, (h3.trans (Cert.ReferenceFinalIdeal.Read.val_main_v37_eq ..)).trans ?_,
    (h4.trans (Cert.ReferenceFinalIdeal.Read.val_main_v58_eq ..)).trans ?_, hk⟩ <;>
  simp only [StableHlo.launchContents_devRef, e0, e1, e2, e3, e4]
  · exact e.1.symm
  · exact e.2.1.symm
  · exact e.2.2.1.symm
  · exact e.2.2.2.1.symm
  · exact e.2.2.2.2.symm

/-- The reference of the residual stream and its norm. -/
theorem frame_referenceResNorm : Cert.quiescent_ReferenceResNormIdeal := fun m ρ _ =>
  (θ_run Cert.ReferenceResNormIdeal.defs _ _).mono (fun r h => ⟨fun c => (h c).2.2, sem_eq_zero_of_no_sems (by decide) r.2⟩)
    (Cert.ReferenceResNormIdeal.Value.run (F := Ideal) m ρ)

/-- Kernel and reference end with the same two arrays: the residual stream and its norm. -/
theorem algebraicResNorm : Cert.algebraic_KernelResNormIdeal_ReferenceResNormIdeal := by
  intro m ρ m' ρ' _ hargs
  refine ⟨_, _, Cert.KernelResNormIdeal.Value.run_blocks m ρ,
    (θ_run Cert.ReferenceResNormIdeal.defs _ _).mono (fun r h c => ?_) (Cert.ReferenceResNormIdeal.Value.run (F := Ideal) m' ρ')⟩
  obtain ⟨e0, e1, e2, e3, e4, e5⟩ := hargs c
  obtain ⟨h0, h1, hk⟩ := h c
  have e := ResNorm.equal m c
  refine ⟨(h0.trans (Cert.ReferenceResNormIdeal.Read.val_main_v2_eq ..)).trans ?_,
    (h1.trans (Cert.ReferenceResNormIdeal.Read.val_main_v21_eq ..)).trans ?_, hk⟩ <;>
  simp only [StableHlo.launchContents_devRef, e0, e1, e2, e3, e4, e5]
  · exact e.1.symm
  · exact e.2.symm

/-- The reference of the mixer's output norms and its gated unit. -/
theorem frame_referenceMix : Cert.quiescent_ReferenceMixIdeal := fun m ρ _ =>
  (θ_run Cert.ReferenceMixIdeal.defs _ _).mono (fun r h => ⟨fun c => (h c).2.2.2.2.2.2, sem_eq_zero_of_no_sems (by decide) r.2⟩)
    (Cert.ReferenceMixIdeal.Value.run (F := Ideal) m ρ)

/-- Kernel and reference end with the same six gradients of the mixer's output norms and its gated unit. -/
theorem algebraicMix : Cert.algebraic_KernelMixIdeal_ReferenceMixIdeal := by
  intro m ρ m' ρ' _ hargs
  refine ⟨_, _, _, _, _, _, Cert.KernelMixIdeal.Value.run_blocks m ρ,
    (θ_run Cert.ReferenceMixIdeal.defs _ _).mono (fun r h c => ?_) (Cert.ReferenceMixIdeal.Value.run (F := Ideal) m' ρ')⟩
  obtain ⟨e0, e1, e2, e3, e4, e5, e6⟩ := hargs c
  obtain ⟨h0, h1, h2, h3, h4, h5, hk⟩ := h c
  have e := Mix.equal m c _ _ _ _ _ _ _ rfl rfl rfl rfl rfl rfl rfl
  refine ⟨(h0.trans (Cert.ReferenceMixIdeal.Read.val_main_v90_eq ..)).trans ?_,
    (h1.trans (Cert.ReferenceMixIdeal.Read.val_main_v96_eq ..)).trans ?_,
    (h2.trans (Cert.ReferenceMixIdeal.Read.val_main_v92_eq ..)).trans ?_,
    (h3.trans (Cert.ReferenceMixIdeal.Read.val_main_v74_eq ..)).trans ?_,
    (h4.trans (Cert.ReferenceMixIdeal.Read.val_main_v55_eq ..)).trans ?_,
    (h5.trans (Cert.ReferenceMixIdeal.Read.val_main_v95_eq ..)).trans ?_, hk⟩ <;>
  simp only [StableHlo.launchContents_devRef, e0, e1, e2, e3, e4, e5, e6]
  · exact e.1.symm
  · exact e.2.1.symm
  · exact e.2.2.1.symm
  · exact e.2.2.2.1.symm
  · exact e.2.2.2.2.1.symm
  · exact e.2.2.2.2.2.symm

theorem claim : Cert.Claim := ⟨Cert.Kernel.Gen.facts, Cert.KernelIdeal.Gen.facts, Cert.ReferenceIdeal.Gen.facts,
  Cert.KernelDff2.Gen.facts, Cert.KernelDff2Ideal.Gen.facts, Cert.ReferenceDff2Ideal.Gen.facts,
  Cert.KernelGwFf2.Gen.facts, Cert.KernelGwFf2Ideal.Gen.facts, Cert.ReferenceGwFf2Ideal.Gen.facts,
  Cert.KernelGwFf1.Gen.facts, Cert.KernelGwFf1Ideal.Gen.facts, Cert.ReferenceGwFf1Ideal.Gen.facts,
  Cert.KernelDff1.Gen.facts, Cert.KernelDff1Ideal.Gen.facts, Cert.ReferenceDff1Ideal.Gen.facts,
  Cert.KernelNorm1.Gen.facts, Cert.KernelNorm1Ideal.Gen.facts, Cert.ReferenceNorm1Ideal.Gen.facts,
  Cert.KernelNorm2.Gen.facts, Cert.KernelNorm2Ideal.Gen.facts, Cert.ReferenceNorm2Ideal.Gen.facts,
  Cert.KernelDout.Gen.facts, Cert.KernelDoutIdeal.Gen.facts, Cert.ReferenceDoutIdeal.Gen.facts,
  Cert.KernelGwOut.Gen.facts, Cert.KernelGwOutIdeal.Gen.facts, Cert.ReferenceGwOutIdeal.Gen.facts,
  Cert.KernelGwIn.Gen.facts, Cert.KernelGwInIdeal.Gen.facts, Cert.ReferenceGwInIdeal.Gen.facts,
  Cert.KernelDin.Gen.facts, Cert.KernelDinIdeal.Gen.facts, Cert.ReferenceDinIdeal.Gen.facts,
  Cert.KernelGwGlu.Gen.facts, Cert.KernelGwGluIdeal.Gen.facts, Cert.ReferenceGwGluIdeal.Gen.facts,
  Cert.KernelFf1.Gen.facts, Cert.KernelFf1Ideal.Gen.facts, Cert.ReferenceFf1Ideal.Gen.facts,
  Cert.KernelFf2.Gen.facts, Cert.KernelFf2Ideal.Gen.facts, Cert.ReferenceFf2Ideal.Gen.facts,
  Cert.KernelIn.Gen.facts, Cert.KernelInIdeal.Gen.facts, Cert.ReferenceInIdeal.Gen.facts,
  Cert.KernelGlu.Gen.facts, Cert.KernelGluIdeal.Gen.facts, Cert.ReferenceGluIdeal.Gen.facts,
  Cert.KernelOut.Gen.facts, Cert.KernelOutIdeal.Gen.facts, Cert.ReferenceOutIdeal.Gen.facts,
  Cert.KernelFinal.Gen.facts, Cert.KernelFinalIdeal.Gen.facts, Cert.ReferenceFinalIdeal.Gen.facts,
  Cert.KernelResNorm.Gen.facts, Cert.KernelResNormIdeal.Gen.facts, Cert.ReferenceResNormIdeal.Gen.facts,
  Cert.KernelMix.Gen.facts, Cert.KernelMixIdeal.Gen.facts, Cert.ReferenceMixIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.KernelDff2.Gen.frame m ρ, fun m ρ _ => Cert.KernelDff2Ideal.Gen.frame m ρ, frame_referenceDff2,
  fun m ρ _ => Cert.KernelGwFf2.Gen.frame m ρ, fun m ρ _ => Cert.KernelGwFf2Ideal.Gen.frame m ρ, frame_referenceGwFf2,
  fun m ρ _ => Cert.KernelGwFf1.Gen.frame m ρ, fun m ρ _ => Cert.KernelGwFf1Ideal.Gen.frame m ρ, frame_referenceGwFf1,
  fun m ρ _ => Cert.KernelDff1.Gen.frame m ρ, fun m ρ _ => Cert.KernelDff1Ideal.Gen.frame m ρ, frame_referenceDff1,
  fun m ρ _ => Cert.KernelNorm1.Gen.frame m ρ, fun m ρ _ => Cert.KernelNorm1Ideal.Gen.frame m ρ, frame_referenceNorm1,
  fun m ρ _ => Cert.KernelNorm2.Gen.frame m ρ, fun m ρ _ => Cert.KernelNorm2Ideal.Gen.frame m ρ, frame_referenceNorm2,
  fun m ρ _ => Cert.KernelDout.Gen.frame m ρ, fun m ρ _ => Cert.KernelDoutIdeal.Gen.frame m ρ, frame_referenceDout,
  fun m ρ _ => Cert.KernelGwOut.Gen.frame m ρ, fun m ρ _ => Cert.KernelGwOutIdeal.Gen.frame m ρ, frame_referenceGwOut,
  fun m ρ _ => Cert.KernelGwIn.Gen.frame m ρ, fun m ρ _ => Cert.KernelGwInIdeal.Gen.frame m ρ, frame_referenceGwIn,
  fun m ρ _ => Cert.KernelDin.Gen.frame m ρ, fun m ρ _ => Cert.KernelDinIdeal.Gen.frame m ρ, frame_referenceDin,
  fun m ρ _ => Cert.KernelGwGlu.Gen.frame m ρ, fun m ρ _ => Cert.KernelGwGluIdeal.Gen.frame m ρ, frame_referenceGwGlu,
  fun m ρ _ => Cert.KernelFf1.Gen.frame m ρ, fun m ρ _ => Cert.KernelFf1Ideal.Gen.frame m ρ, frame_referenceFf1,
  fun m ρ _ => Cert.KernelFf2.Gen.frame m ρ, fun m ρ _ => Cert.KernelFf2Ideal.Gen.frame m ρ, frame_referenceFf2,
  fun m ρ _ => Cert.KernelIn.Gen.frame m ρ, fun m ρ _ => Cert.KernelInIdeal.Gen.frame m ρ, frame_referenceIn,
  fun m ρ _ => Cert.KernelGlu.Gen.frame m ρ, fun m ρ _ => Cert.KernelGluIdeal.Gen.frame m ρ, frame_referenceGlu,
  fun m ρ _ => Cert.KernelOut.Gen.frame m ρ, fun m ρ _ => Cert.KernelOutIdeal.Gen.frame m ρ, frame_referenceOut,
  fun m ρ _ => Cert.KernelFinal.Gen.frame m ρ, fun m ρ _ => Cert.KernelFinalIdeal.Gen.frame m ρ, frame_referenceFinal,
  fun m ρ _ => Cert.KernelResNorm.Gen.frame m ρ, fun m ρ _ => Cert.KernelResNormIdeal.Gen.frame m ρ, frame_referenceResNorm,
  fun m ρ _ => Cert.KernelMix.Gen.frame m ρ, fun m ρ _ => Cert.KernelMixIdeal.Gen.frame m ρ, frame_referenceMix,
  IdealRules.named_const.statement _ _ _ _ _ rfl, algebraic,
  trivial, algebraicDff2,
  trivial, algebraicGwFf2,
  trivial, algebraicGwFf1,
  trivial, algebraicDff1,
  trivial, algebraicNorm1,
  trivial, algebraicNorm2,
  trivial, algebraicDout,
  trivial, algebraicGwOut,
  trivial, algebraicGwIn,
  trivial, algebraicDin,
  trivial, algebraicGwGlu,
  trivial, algebraicFf1,
  trivial, algebraicFf2,
  trivial, algebraicIn,
  trivial, algebraicGlu,
  trivial, algebraicOut,
  trivial, algebraicFinal,
  trivial, algebraicResNorm,
  trivial, algebraicMix⟩

end Cert.Proof

end
